-- ==== Defs.lean ====
def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4)
      ∧ r.2.mem ((c.tc : Thread Cert.AttnFwd.nD Cert.AttnFwd.τ).loc Cert.AttnFwd.main_arg5) = m ((c.tc : Thread Cert.AttnFwd.nD Cert.AttnFwd.τ).loc Cert.AttnFwd.main_arg5)
      ∧ r.2.mem ((c.tc : Thread Cert.AttnFwd.nD Cert.AttnFwd.τ).loc Cert.AttnFwd.main_arg6) = m ((c.tc : Thread Cert.AttnFwd.nD Cert.AttnFwd.τ).loc Cert.AttnFwd.main_arg6))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
      ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
      ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4)
      ∧ r.2.mem ((c.tc : Thread Cert.AttnFwdRefIdeal.nD Cert.AttnFwdRefIdeal.τ).loc Cert.AttnFwdRefIdeal.main_arg5) = m ((c.tc : Thread Cert.AttnFwdRefIdeal.nD Cert.AttnFwdRefIdeal.τ).loc Cert.AttnFwdRefIdeal.main_arg5)
      ∧ r.2.mem ((c.tc : Thread Cert.AttnFwdRefIdeal.nD Cert.AttnFwdRefIdeal.τ).loc Cert.AttnFwdRefIdeal.main_arg6) = m ((c.tc : Thread Cert.AttnFwdRefIdeal.nD Cert.AttnFwdRefIdeal.τ).loc Cert.AttnFwdRefIdeal.main_arg6))
      ∧ r.2.sem = fun _ => 0)

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v18_0)) (v1 : (c : Dev Cert.KvIdeal.nD) → Buf (Elt Ideal) ((c.tc : Thread Cert.KvIdeal.nD Cert.KvIdeal.τ).loc Cert.KvIdeal.main_v18_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v18_0) = v0 c
          ∧ r.2.mem ((c.tc : Thread Cert.KvIdeal.nD Cert.KvIdeal.τ).loc Cert.KvIdeal.main_v18_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v30) = v0 c
          ∧ r.2.mem ((c.tc : Thread Cert.KvRefIdeal.nD Cert.KvRefIdeal.τ).loc Cert.KvRefIdeal.main_v31) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)) (v2 : (c : Dev Cert.FfnIdeal.nD) → Buf (Elt Ideal) ((c.tc : Thread Cert.FfnIdeal.nD Cert.FfnIdeal.τ).loc Cert.FfnIdeal.main_v6_2)) (v3 : (c : Dev Cert.FfnIdeal.nD) → Buf (Elt Ideal) ((c.tc : Thread Cert.FfnIdeal.nD Cert.FfnIdeal.τ).loc Cert.FfnIdeal.main_v6_3)) (v4 : (c : Dev Cert.FfnIdeal.nD) → Buf (Elt Ideal) ((c.tc : Thread Cert.FfnIdeal.nD Cert.FfnIdeal.τ).loc Cert.FfnIdeal.main_v6_4)) (v5 : (c : Dev Cert.FfnIdeal.nD) → Buf (Elt Ideal) ((c.tc : Thread Cert.FfnIdeal.nD Cert.FfnIdeal.τ).loc Cert.FfnIdeal.main_v6_5)) (v6 : (c : Dev Cert.FfnIdeal.nD) → Buf (Elt Ideal) ((c.tc : Thread Cert.FfnIdeal.nD Cert.FfnIdeal.τ).loc Cert.FfnIdeal.main_v6_6)) (v7 : (c : Dev Cert.FfnIdeal.nD) → Buf (Elt Ideal) ((c.tc : Thread Cert.FfnIdeal.nD Cert.FfnIdeal.τ).loc Cert.FfnIdeal.main_v6_7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_v6_2) = v2 c
          ∧ r.2.mem ((c.tc : Thread Cert.FfnIdeal.nD Cert.FfnIdeal.τ).loc Cert.FfnIdeal.main_v6_3) = v3 c
          ∧ r.2.mem ((c.tc : Thread Cert.FfnIdeal.nD Cert.FfnIdeal.τ).loc Cert.FfnIdeal.main_v6_4) = v4 c
          ∧ r.2.mem ((c.tc : Thread Cert.FfnIdeal.nD Cert.FfnIdeal.τ).loc Cert.FfnIdeal.main_v6_5) = v5 c
          ∧ r.2.mem ((c.tc : Thread Cert.FfnIdeal.nD Cert.FfnIdeal.τ).loc Cert.FfnIdeal.main_v6_6) = v6 c
          ∧ r.2.mem ((c.tc : Thread Cert.FfnIdeal.nD Cert.FfnIdeal.τ).loc Cert.FfnIdeal.main_v6_7) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v117) = v0 c
          ∧ r.2.mem ((c.tc : Thread Cert.FfnRefIdeal.nD Cert.FfnRefIdeal.τ).loc Cert.FfnRefIdeal.main_v118) = v1 c
          ∧ r.2.mem ((c.tc : Thread Cert.FfnRefIdeal.nD Cert.FfnRefIdeal.τ).loc Cert.FfnRefIdeal.main_v119) = v2 c
          ∧ r.2.mem ((c.tc : Thread Cert.FfnRefIdeal.nD Cert.FfnRefIdeal.τ).loc Cert.FfnRefIdeal.main_v120) = v3 c
          ∧ r.2.mem ((c.tc : Thread Cert.FfnRefIdeal.nD Cert.FfnRefIdeal.τ).loc Cert.FfnRefIdeal.main_v121) = v4 c
          ∧ r.2.mem ((c.tc : Thread Cert.FfnRefIdeal.nD Cert.FfnRefIdeal.τ).loc Cert.FfnRefIdeal.main_v122) = v5 c
          ∧ r.2.mem ((c.tc : Thread Cert.FfnRefIdeal.nD Cert.FfnRefIdeal.τ).loc Cert.FfnRefIdeal.main_v123) = v6 c
          ∧ r.2.mem ((c.tc : Thread Cert.FfnRefIdeal.nD Cert.FfnRefIdeal.τ).loc Cert.FfnRefIdeal.main_v124) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)) →
    ∃ (v0 : (c : Dev Cert.AttnIdeal.nD) → Buf (Elt Ideal) ((c.tc : Thread Cert.AttnIdeal.nD Cert.AttnIdeal.τ).loc Cert.AttnIdeal.main_v113_0)) (v1 : (c : Dev Cert.AttnIdeal.nD) → Buf (Elt Ideal) ((c.tc : Thread Cert.AttnIdeal.nD Cert.AttnIdeal.τ).loc Cert.AttnIdeal.main_v113_1)) (v2 : (c : Dev Cert.AttnIdeal.nD) → Buf (Elt Ideal) ((c.tc : Thread Cert.AttnIdeal.nD Cert.AttnIdeal.τ).loc Cert.AttnIdeal.main_v113_2)) (v3 : (c : Dev Cert.AttnIdeal.nD) → Buf (Elt Ideal) ((c.tc : Thread Cert.AttnIdeal.nD Cert.AttnIdeal.τ).loc Cert.AttnIdeal.main_v113_3)) (v4 : (c : Dev Cert.AttnIdeal.nD) → Buf (Elt Ideal) ((c.tc : Thread Cert.AttnIdeal.nD Cert.AttnIdeal.τ).loc Cert.AttnIdeal.main_v113_4)) (v5 : (c : Dev Cert.AttnIdeal.nD) → Buf (Elt Ideal) ((c.tc : Thread Cert.AttnIdeal.nD Cert.AttnIdeal.τ).loc Cert.AttnIdeal.main_v113_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v113_0) = v0 c
          ∧ r.2.mem ((c.tc : Thread Cert.AttnIdeal.nD Cert.AttnIdeal.τ).loc Cert.AttnIdeal.main_v113_1) = v1 c
          ∧ r.2.mem ((c.tc : Thread Cert.AttnIdeal.nD Cert.AttnIdeal.τ).loc Cert.AttnIdeal.main_v113_2) = v2 c
          ∧ r.2.mem ((c.tc : Thread Cert.AttnIdeal.nD Cert.AttnIdeal.τ).loc Cert.AttnIdeal.main_v113_3) = v3 c
          ∧ r.2.mem ((c.tc : Thread Cert.AttnIdeal.nD Cert.AttnIdeal.τ).loc Cert.AttnIdeal.main_v113_4) = v4 c
          ∧ r.2.mem ((c.tc : Thread Cert.AttnIdeal.nD Cert.AttnIdeal.τ).loc Cert.AttnIdeal.main_v113_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v129) = v0 c
          ∧ r.2.mem ((c.tc : Thread Cert.AttnRefIdeal.nD Cert.AttnRefIdeal.τ).loc Cert.AttnRefIdeal.main_v104) = v1 c
          ∧ r.2.mem ((c.tc : Thread Cert.AttnRefIdeal.nD Cert.AttnRefIdeal.τ).loc Cert.AttnRefIdeal.main_v132) = v2 c
          ∧ r.2.mem ((c.tc : Thread Cert.AttnRefIdeal.nD Cert.AttnRefIdeal.τ).loc Cert.AttnRefIdeal.main_v133) = v3 c
          ∧ r.2.mem ((c.tc : Thread Cert.AttnRefIdeal.nD Cert.AttnRefIdeal.τ).loc Cert.AttnRefIdeal.main_v134) = v4 c
          ∧ r.2.mem ((c.tc : Thread Cert.AttnRefIdeal.nD Cert.AttnRefIdeal.τ).loc Cert.AttnRefIdeal.main_v135) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v11_0)) (v1 : (c : Dev Cert.MixFwdIdeal.nD) → Buf (Elt Ideal) ((c.tc : Thread Cert.MixFwdIdeal.nD Cert.MixFwdIdeal.τ).loc Cert.MixFwdIdeal.main_v11_1)) (v2 : (c : Dev Cert.MixFwdIdeal.nD) → Buf (Elt Ideal) ((c.tc : Thread Cert.MixFwdIdeal.nD Cert.MixFwdIdeal.τ).loc Cert.MixFwdIdeal.main_v11_2)) (v3 : (c : Dev Cert.MixFwdIdeal.nD) → Buf (Elt Ideal) ((c.tc : Thread Cert.MixFwdIdeal.nD Cert.MixFwdIdeal.τ).loc Cert.MixFwdIdeal.main_v11_3)) (v4 : (c : Dev Cert.MixFwdIdeal.nD) → Buf (Elt Ideal) ((c.tc : Thread Cert.MixFwdIdeal.nD Cert.MixFwdIdeal.τ).loc Cert.MixFwdIdeal.main_v11_4)) (v5 : (c : Dev Cert.MixFwdIdeal.nD) → Buf (Elt Ideal) ((c.tc : Thread Cert.MixFwdIdeal.nD Cert.MixFwdIdeal.τ).loc Cert.MixFwdIdeal.main_v11_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v11_0) = v0 c
          ∧ r.2.mem ((c.tc : Thread Cert.MixFwdIdeal.nD Cert.MixFwdIdeal.τ).loc Cert.MixFwdIdeal.main_v11_1) = v1 c
          ∧ r.2.mem ((c.tc : Thread Cert.MixFwdIdeal.nD Cert.MixFwdIdeal.τ).loc Cert.MixFwdIdeal.main_v11_2) = v2 c
          ∧ r.2.mem ((c.tc : Thread Cert.MixFwdIdeal.nD Cert.MixFwdIdeal.τ).loc Cert.MixFwdIdeal.main_v11_3) = v3 c
          ∧ r.2.mem ((c.tc : Thread Cert.MixFwdIdeal.nD Cert.MixFwdIdeal.τ).loc Cert.MixFwdIdeal.main_v11_4) = v4 c
          ∧ r.2.mem ((c.tc : Thread Cert.MixFwdIdeal.nD Cert.MixFwdIdeal.τ).loc Cert.MixFwdIdeal.main_v11_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v13) = v0 c
          ∧ r.2.mem ((c.tc : Thread Cert.MixFwdRefIdeal.nD Cert.MixFwdRefIdeal.τ).loc Cert.MixFwdRefIdeal.main_v124) = v1 c
          ∧ r.2.mem ((c.tc : Thread Cert.MixFwdRefIdeal.nD Cert.MixFwdRefIdeal.τ).loc Cert.MixFwdRefIdeal.main_v125) = v2 c
          ∧ r.2.mem ((c.tc : Thread Cert.MixFwdRefIdeal.nD Cert.MixFwdRefIdeal.τ).loc Cert.MixFwdRefIdeal.main_v126) = v3 c
          ∧ r.2.mem ((c.tc : Thread Cert.MixFwdRefIdeal.nD Cert.MixFwdRefIdeal.τ).loc Cert.MixFwdRefIdeal.main_v66) = v4 c
          ∧ r.2.mem ((c.tc : Thread Cert.MixFwdRefIdeal.nD Cert.MixFwdRefIdeal.τ).loc Cert.MixFwdRefIdeal.main_v22) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)
      ∧ m' ((c.tc : Thread Cert.AttnFwdRefIdeal.nD Cert.AttnFwdRefIdeal.τ).loc Cert.AttnFwdRefIdeal.main_arg5) = m ((c.tc : Thread Cert.AttnFwdIdeal.nD Cert.AttnFwdIdeal.τ).loc Cert.AttnFwdIdeal.main_arg5)
      ∧ m' ((c.tc : Thread Cert.AttnFwdRefIdeal.nD Cert.AttnFwdRefIdeal.τ).loc Cert.AttnFwdRefIdeal.main_arg6) = m ((c.tc : Thread Cert.AttnFwdIdeal.nD Cert.AttnFwdIdeal.τ).loc Cert.AttnFwdIdeal.main_arg6)) →
    ∃ (v0 : (c : Dev Cert.AttnFwdIdeal.nD) → Buf (Elt Ideal) ((c.tc : Thread Cert.AttnFwdIdeal.nD Cert.AttnFwdIdeal.τ).loc Cert.AttnFwdIdeal.main_v7_0)) (v1 : (c : Dev Cert.AttnFwdIdeal.nD) → Buf (Elt Ideal) ((c.tc : Thread Cert.AttnFwdIdeal.nD Cert.AttnFwdIdeal.τ).loc Cert.AttnFwdIdeal.main_v7_1)) (v2 : (c : Dev Cert.AttnFwdIdeal.nD) → Buf (Elt Ideal) ((c.tc : Thread Cert.AttnFwdIdeal.nD Cert.AttnFwdIdeal.τ).loc Cert.AttnFwdIdeal.main_v7_2)) (v3 : (c : Dev Cert.AttnFwdIdeal.nD) → Buf (Elt Ideal) ((c.tc : Thread Cert.AttnFwdIdeal.nD Cert.AttnFwdIdeal.τ).loc Cert.AttnFwdIdeal.main_v7_3)) (v4 : (c : Dev Cert.AttnFwdIdeal.nD) → Buf (Elt Ideal) ((c.tc : Thread Cert.AttnFwdIdeal.nD Cert.AttnFwdIdeal.τ).loc Cert.AttnFwdIdeal.main_v7_4)) (v5 : (c : Dev Cert.AttnFwdIdeal.nD) → Buf (Elt Ideal) ((c.tc : Thread Cert.AttnFwdIdeal.nD Cert.AttnFwdIdeal.τ).loc Cert.AttnFwdIdeal.main_v7_5)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v7_0) = v0 c
          ∧ r.2.mem ((c.tc : Thread Cert.AttnFwdIdeal.nD Cert.AttnFwdIdeal.τ).loc Cert.AttnFwdIdeal.main_v7_1) = v1 c
          ∧ r.2.mem ((c.tc : Thread Cert.AttnFwdIdeal.nD Cert.AttnFwdIdeal.τ).loc Cert.AttnFwdIdeal.main_v7_2) = v2 c
          ∧ r.2.mem ((c.tc : Thread Cert.AttnFwdIdeal.nD Cert.AttnFwdIdeal.τ).loc Cert.AttnFwdIdeal.main_v7_3) = v3 c
          ∧ r.2.mem ((c.tc : Thread Cert.AttnFwdIdeal.nD Cert.AttnFwdIdeal.τ).loc Cert.AttnFwdIdeal.main_v7_4) = v4 c
          ∧ r.2.mem ((c.tc : Thread Cert.AttnFwdIdeal.nD Cert.AttnFwdIdeal.τ).loc Cert.AttnFwdIdeal.main_v7_5) = v5 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
          ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
          ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v53) = v0 c
          ∧ r.2.mem ((c.tc : Thread Cert.AttnFwdRefIdeal.nD Cert.AttnFwdRefIdeal.τ).loc Cert.AttnFwdRefIdeal.main_v54) = v1 c
          ∧ r.2.mem ((c.tc : Thread Cert.AttnFwdRefIdeal.nD Cert.AttnFwdRefIdeal.τ).loc Cert.AttnFwdRefIdeal.main_v55) = v2 c
          ∧ r.2.mem ((c.tc : Thread Cert.AttnFwdRefIdeal.nD Cert.AttnFwdRefIdeal.τ).loc Cert.AttnFwdRefIdeal.main_v51) = v3 c
          ∧ r.2.mem ((c.tc : Thread Cert.AttnFwdRefIdeal.nD Cert.AttnFwdRefIdeal.τ).loc Cert.AttnFwdRefIdeal.main_v56) = v4 c
          ∧ r.2.mem ((c.tc : Thread Cert.AttnFwdRefIdeal.nD Cert.AttnFwdRefIdeal.τ).loc Cert.AttnFwdRefIdeal.main_v57) = v5 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4)
          ∧ r.2.mem ((c.tc : Thread Cert.AttnFwdRefIdeal.nD Cert.AttnFwdRefIdeal.τ).loc Cert.AttnFwdRefIdeal.main_arg5) = m' ((c.tc : Thread Cert.AttnFwdRefIdeal.nD Cert.AttnFwdRefIdeal.τ).loc Cert.AttnFwdRefIdeal.main_arg5)
          ∧ r.2.mem ((c.tc : Thread Cert.AttnFwdRefIdeal.nD Cert.AttnFwdRefIdeal.τ).loc Cert.AttnFwdRefIdeal.main_arg6) = m' ((c.tc : Thread Cert.AttnFwdRefIdeal.nD Cert.AttnFwdRefIdeal.τ).loc Cert.AttnFwdRefIdeal.main_arg6))

def Claim : Prop :=
  ∃ (hKv : Cert.Kv.Facts) (hKvIdeal : Cert.KvIdeal.Facts) (hKvRefIdeal : Cert.KvRefIdeal.Facts) (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hMixFwd : Cert.MixFwd.Facts) (hMixFwdIdeal : Cert.MixFwdIdeal.Facts) (hMixFwdRefIdeal : Cert.MixFwdRefIdeal.Facts) (hAttnFwd : Cert.AttnFwd.Facts) (hAttnFwdIdeal : Cert.AttnFwdIdeal.Facts) (hAttnFwdRefIdeal : Cert.AttnFwdRefIdeal.Facts) (hPre_ffn_finite : Cert.Pre_ffn_finite.Facts) (hPre_attn_finite : Cert.Pre_attn_finite.Facts),
    quiescent_Kv (hKv := hKv)
    ∧ quiescent_KvIdeal (hKvIdeal := hKvIdeal)
    ∧ quiescent_KvRefIdeal (hKvRefIdeal := hKvRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ preserves_Kv_KvIdeal
    ∧ algebraic_KvIdeal_KvRefIdeal (hKvIdeal := hKvIdeal) (hKvRefIdeal := hKvRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_MixFwd_MixFwdIdeal
    ∧ algebraic_MixFwdIdeal_MixFwdRefIdeal (hMixFwdIdeal := hMixFwdIdeal) (hMixFwdRefIdeal := hMixFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
-- ==== Pre_attn_finite.lean ====
abbrev S4096x1024 : Shape := ⟨2, ![4096, 1024]⟩
abbrev S1024x1024 : Shape := ⟨2, ![1024, 1024]⟩
abbrev S1024 : Shape := ⟨1, ![1024]⟩
abbrev S256x1024 : Shape := ⟨2, ![256, 1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S256x1024 : S_.BroadcastsInDim S256x1024 (![] : Fin 0 → Fin S256x1024.rank)
  bcast_S_S1024x2048 : S_.BroadcastsInDim S1024x2048 (![] : Fin 0 → Fin S1024x2048.rank)

variable [Facts]

def fn_part1 {F : FTy → Type} [FloatOps F] (main_arg6 : FVec F S1024x1024 .f32) (main_arg7 : FVec F S1024x2048 .f32) (main_arg8 : FVec F S1024x1024 .f32) (main_arg9 : FVec F S4096x1024 .f32) (main_v2 : IVec S4096x1024 1) (main_v5 : IVec S4096x1024 1) (main_v8 : IVec S1024x1024 1) (main_v11 : IVec S1024 1) (main_v14 : IVec S256x1024 1) (main_v17 : IVec S1024 1) : IVec S4096x1024 1 × IVec S4096x1024 1 × IVec S1024x1024 1 × IVec S1024 1 × IVec S256x1024 1 × IVec S1024 1 × IVec S1024x1024 1 × IVec S1024x2048 1 × IVec S1024x1024 1 × IVec S4096x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1024x2048 .f32 := Host.absf main_arg7
  let main_cst_6 : FVec F S_ .f32 := constant S_ .f32 0x7F800000#32
  let main_v22 : FVec F S1024x2048 .f32 := broadcastInDim S1024x2048 ![] bcast_S_S1024x2048 main_cst_6
  let main_v23 : IVec S1024x2048 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S4096x1024 .f32) (main_arg2 : FVec F S1024x1024 .f32) (main_arg3 : FVec F S1024 .f32) (main_arg4 : FVec F S256x1024 .f32) (main_arg5 : FVec F S1024 .f32) (main_arg6 : FVec F S1024x1024 .f32) (main_arg7 : FVec F S1024x2048 .f32) (main_arg8 : FVec F S1024x1024 .f32) (main_arg9 : FVec F S4096x1024 .f32) : IVec S4096x1024 1 × IVec S4096x1024 1 × IVec S1024x1024 1 × IVec S1024 1 × IVec S256x1024 1 × IVec S1024 1 × IVec S1024x1024 1 × IVec S1024x2048 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_v2 main_v5 main_v8 main_v11 main_v14 main_v17
-- ==== Pre_ffn_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024 .f32) (main_arg3 : FVec F S4096x1024 .f32) (main_arg4 : FVec F S1024x5632 .f32) (main_arg5 : FVec F S2816x1024 .f32) : IVec S4096x1024 1 × IVec S1024 1 × IVec S1024 1 × IVec S4096x1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kv.lean ====
abbrev S256x1024 : Shape := ⟨2, ![256, 1024]⟩
abbrev S1024 : Shape := ⟨1, ![1024]⟩
abbrev S1024x2048 : Shape := ⟨2, ![1024, 2048]⟩
abbrev S256x2048 : Shape := ⟨2, ![256, 2048]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024x4x512 : Shape := ⟨3, ![1024, 4, 512]⟩
abbrev S4x1024x512 : Shape := ⟨3, ![4, 1024, 512]⟩
abbrev S256x512 : Shape := ⟨2, ![256, 512]⟩
abbrev S1024x512 : Shape := ⟨2, ![1024, 512]⟩
abbrev S1x1024x512 : Shape := ⟨3, ![1, 1024, 512]⟩

abbrev nBuf : Space → Nat
  | .hbm => 27
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x2048, .f32⟩
  | .hbm, ⟨4, _⟩ => ⟨S1x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S1x1024, .f32⟩
  | .hbm, ⟨22, _⟩ => ⟨S1024x2048, .bf16⟩
  | .hbm, ⟨23, _⟩ => ⟨S1024x4x512, .bf16⟩
  | .hbm, ⟨24, _⟩ => ⟨S4x1024x512, .bf16⟩
  | .hbm, ⟨25, _⟩ => ⟨S4x1024x512, .bf16⟩
  | .hbm, ⟨26, _⟩ => ⟨S1x1024, .f32⟩
  | .local _ .vmem, ⟨0, _⟩ => ⟨S256x2048, .f32⟩
  | .local _ .vmem, ⟨1, _⟩ => ⟨S256x1024, .f32⟩
  | .local _ .vmem, ⟨2, _⟩ => ⟨S256x1024, .bf16⟩
  | .local _ .vmem, ⟨3, _⟩ => ⟨S1x1024, .f32⟩
  | .local _ .vmem, ⟨4, _⟩ => ⟨S4x1024x512, .bf16⟩
  | .local _ .vmem, ⟨5, _⟩ => ⟨S4x1024x512, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KvRefIdeal.lean ====
abbrev S256x1024 : Shape := ⟨2, ![256, 1024]⟩
abbrev S1024 : Shape := ⟨1, ![1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S2048x1024, .f32⟩
  | .hbm, ⟨22, _⟩ => ⟨S1024x2048, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1x1024x512, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S4x1024x512, .f32⟩
  | .hbm, ⟨39, _⟩ => ⟨S4x1024x512, .bf16⟩
  | .hbm, ⟨40, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S4096x5632 : Shape := ⟨2, ![4096, 5632]⟩
abbrev S1x1 : Shape := ⟨2, ![1, 1]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩
abbrev S1 : Shape := ⟨1, ![1]⟩

abbrev nBuf : Space → Nat
  | .hbm => 20
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S2816x1024, .bf16⟩
  | .hbm, ⟨12, _⟩ => ⟨S4096x1024, .f32⟩
  | .hbm, ⟨13, _⟩ => ⟨S4096x2816, .bf16⟩
  | .hbm, ⟨14, _⟩ => ⟨S4096x5632, .bf16⟩
  | .hbm, ⟨15, _⟩ => ⟨S4096x1024, .bf16⟩
  | .hbm, ⟨16, _⟩ => ⟨S4096x1024, .bf16⟩
  | .hbm, ⟨17, _⟩ => ⟨S1x1, .f32⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1408, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x5632, .bf16⟩
  | .local _ .vmem, ⟨13, _⟩ => ⟨S256x5632, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1, .f32⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v6_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S1024, .f32⟩
  | 2 => ⟨S1024, .f32⟩
  | 3 => ⟨S4096x1024, .f32⟩
  | 4 => ⟨S1024x5632, .f32⟩
  | 5 => ⟨S2816x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S1x1024, .f32⟩
  | 40 => ⟨S4096x1024, .f32⟩
  | 41 => ⟨S4096x1024, .f32⟩
  | 42 => ⟨S4096x5632, .f32⟩
  | 43 => ⟨S4096x2816, .f32⟩
  | 44 => ⟨S4096x2816, .f32⟩
  | 45 => ⟨S4096x2816, .f32⟩
  | 46 => ⟨S4096x2816, .f32⟩
  | 47 => ⟨S_, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x1024, .f32⟩
  | 72 => ⟨S4096x1024, .f32⟩
  | 73 => ⟨S4096x1024, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x1024, .f32⟩
  | 89 => ⟨S4096x1024, .f32⟩
  | 90 => ⟨S1x1024, .f32⟩
  | 91 => ⟨S4096x1024, .f32⟩
  | 92 => ⟨S4096x1024, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S_, .f32⟩
  | 99 => ⟨S4096, .f32⟩
  | 100 => ⟨S_, .f32⟩
  | 101 => ⟨S4096, .f32⟩
  | 102 => ⟨S4096, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S4096, .f32⟩
  | 111 => ⟨S_, .f32⟩
  | 112 => ⟨S4096, .f32⟩
  | 113 => ⟨S4096, .f32⟩
  | 114 => ⟨S4096x1024, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S_, .f32⟩
  | 123 => ⟨S1024, .f32⟩
  | 124 => ⟨S4096x1024, .f32⟩
  | 125 => ⟨S_, .f32⟩
  | 126 => ⟨S4096, .f32⟩
  | 127 => ⟨S4096x1, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x2816, .f32⟩
  | 14 => ⟨S4096x2816, .f32⟩
  | 15 => ⟨S4096x2816, .f32⟩
  | 16 => ⟨S4096x2816, .f32⟩
  | 17 => ⟨S4096x2816, .f32⟩
  | 18 => ⟨S4096x2816, .f32⟩
  | 19 => ⟨S4096x2816, .f32⟩
  | 20 => ⟨S4096x5632, .f32⟩
  | 21 => ⟨S4096x1024, .f32⟩
  | 22 => ⟨S4096x1024, .f32⟩
  | 23 => ⟨S_, .f32⟩
  | 24 => ⟨S1024, .f32⟩
  | 25 => ⟨S1x1024, .f32⟩
  | 26 => ⟨S4096x1024, .f32⟩
  | 27 => ⟨S4096x1024, .f32⟩
  | 28 => ⟨S_, .f32⟩
  | 29 => ⟨S1024, .f32⟩
  | 30 => ⟨S4096x1024, .f32⟩
  | 31 => ⟨S_, .f32⟩
  | 32 => ⟨S4096, .f32⟩
  | 33 => ⟨S4096x1, .f32⟩
  | 34 => ⟨S4096x1024, .f32⟩
  | 35 => ⟨S4096x1024, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x2816, .bf16⟩
  | 49 => ⟨S4096x5632, .bf16⟩
  | 50 => ⟨S4096x1024, .bf16⟩
  | 51 => ⟨S4096x1024, .bf16⟩
  | 52 => ⟨S1x1, .f32⟩
  | 53 => ⟨S1x1024, .f32⟩
  | 54 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v36_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v36_1 : Ref sig .tc := ⟨.hbm, 68, rfl⟩
abbrev main_v36_0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_6 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_9 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_10 : Ref sig .tc := ⟨.hbm, 95, rfl⟩
abbrev main_v58 : Ref sig .tc := ⟨.hbm, 96, rfl⟩
abbrev main_v59 : Ref sig .tc := ⟨.hbm, 97, rfl⟩
abbrev main_cst_11 : Ref sig .tc := ⟨.hbm, 98, rfl⟩
abbrev main_v60 : Ref sig .tc := ⟨.hbm, 99, rfl⟩
abbrev main_cst_12 : Ref sig .tc := ⟨.hbm, 100, rfl⟩
abbrev main_v61 : Ref sig .tc := ⟨.hbm, 101, rfl⟩
abbrev main_v62 : Ref sig .tc := ⟨.hbm, 102, rfl⟩
abbrev main_cst_13 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_cst_15 : Ref sig .tc := ⟨.hbm, 107, rfl⟩
abbrev main_cst_16 : Ref sig .tc := ⟨.hbm, 108, rfl⟩
abbrev main_v65 : Ref sig .tc := ⟨.hbm, 109, rfl⟩
abbrev main_v66 : Ref sig .tc := ⟨.hbm, 110, rfl⟩
abbrev main_cst_17 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_18 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_19 : Ref sig .tc := ⟨.hbm, 122, rfl⟩
abbrev main_v76 : Ref sig .tc := ⟨.hbm, 123, rfl⟩
abbrev main_v77 : Ref sig .tc := ⟨.hbm, 124, rfl⟩
abbrev main_cst_20 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_21 : Ref sig .tc := ⟨.hbm, 131, rfl⟩
abbrev main_v83 : Ref sig .tc := ⟨.hbm, 132, rfl⟩
abbrev main_v84 : Ref sig .tc := ⟨.hbm, 133, rfl⟩
abbrev main_cst_22 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_23 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_24 : Ref sig .tc := ⟨.hbm, 156, rfl⟩
abbrev main_v102 : Ref sig .tc := ⟨.hbm, 157, rfl⟩
abbrev main_v103 : Ref sig .tc := ⟨.hbm, 158, rfl⟩
abbrev main_cst_25 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_26 : Ref sig .tc := ⟨.hbm, 165, rfl⟩
abbrev main_v109 : Ref sig .tc := ⟨.hbm, 166, rfl⟩
abbrev main_v110 : Ref sig .tc := ⟨.hbm, 167, rfl⟩
abbrev main_cst_27 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩

abbrev nD : Nat := 1
abbrev τ : Topo := Topo.v7x

variable {F : FTy → Type} [FloatOps F]
-- ==== Attn.lean ====
abbrev S4096x1024 : Shape := ⟨2, ![4096, 1024]⟩
abbrev S1024x1024 : Shape := ⟨2, ![1024, 1024]⟩
abbrev S1024 : Shape := ⟨1, ![1024]⟩
abbrev S256x1024 : Shape := ⟨2, ![256, 1024]⟩
abbrev S1024x2048 : Shape := ⟨2, ![1024, 2048]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S4096 : Shape := ⟨1, ![4096]⟩
abbrev S4096x1 : Shape := ⟨2, ![4096, 1]⟩
abbrev S256x256 : Shape := ⟨2, ![256, 256]⟩
abbrev S4096x256 : Shape := ⟨2, ![4096, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩

abbrev nBuf : Space → Nat
  | .hbm => 147
  | .vmem => 26
  | .smem => 0
  | _ => 0

abbrev hbmTy0_0 (i : Nat) : BufTy := match i % 128 with
  | 0 => ⟨S4096x1024, .f32⟩
  | 1 => ⟨S4096x1024, .f32⟩
  | 2 => ⟨S1024x1024, .f32⟩
  | 3 => ⟨S1024, .f32⟩
  | 4 => ⟨S256x1024, .f32⟩
  | 5 => ⟨S1024, .f32⟩
  | 6 => ⟨S1024x1024, .f32⟩
  | 7 => ⟨S1024x2048, .f32⟩
  | 8 => ⟨S1024x1024, .f32⟩
  | 9 => ⟨S4096x1024, .f32⟩
  | 10 => ⟨S1024x1024, .bf16⟩
  | 11 => ⟨S1x1024, .f32⟩
  | 12 => ⟨S4096x1024, .bf16⟩
  | 13 => ⟨S1024x1024, .bf16⟩
  | 14 => ⟨S4096x1024, .f32⟩
  | 15 => ⟨S4096x1024, .f32⟩
  | 16 => ⟨S1x1024, .f32⟩
  | 17 => ⟨S1024x2048, .bf16⟩
  | 18 => ⟨S256x1024, .f32⟩
  | 19 => ⟨S_, .f32⟩
  | 20 => ⟨S256, .f32⟩
  | 21 => ⟨S256x1, .f32⟩
  | 22 => ⟨S_, .f32⟩
  | 23 => ⟨S256x1, .f32⟩
  | 24 => ⟨S256x1, .f32⟩
  | 25 => ⟨S_, .f32⟩
  | 26 => ⟨S256x1, .f32⟩
  | 27 => ⟨S256x1, .f32⟩
  | 28 => ⟨S256x1, .f32⟩
  | 29 => ⟨S256x1024, .f32⟩
  | 30 => ⟨S256x1024, .f32⟩
  | 31 => ⟨S256x1024, .f32⟩
  | 32 => ⟨S256x1024, .f32⟩
  | 33 => ⟨S256x1024, .bf16⟩
  | 34 => ⟨S256x2048, .f32⟩
  | 35 => ⟨S256x2048, .bf16⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x1024, .f32⟩
  | 48 => ⟨S4096x1024, .f32⟩
  | 49 => ⟨S4096x1024, .f32⟩
  | 50 => ⟨S4096x1024, .f32⟩
  | 51 => ⟨S4096x1024, .bf16⟩
  | 52 => ⟨S4096x1024, .f32⟩
  | 53 => ⟨S4096x1024, .bf16⟩
  | 54 => ⟨S256x256, .bf16⟩
  | 55 => ⟨S256x256, .bf16⟩
  | 56 => ⟨S4096x256, .bf16⟩
  | 57 => ⟨S4096x256, .f32⟩
  | 58 => ⟨S_, .f32⟩
  | 59 => ⟨S4096x256, .f32⟩
  | 60 => ⟨S4096x256, .f32⟩
  | 61 => ⟨S_, .f32⟩
  | 62 => ⟨S4096, .f32⟩
  | 63 => ⟨S4096x1, .f32⟩
  | 64 => ⟨S4096x256, .f32⟩
  | 65 => ⟨S4096x256, .f32⟩
  | 66 => ⟨S4096x256, .f32⟩
  | 67 => ⟨S_, .f32⟩
  | 68 => ⟨S4096, .f32⟩
  | 69 => ⟨S4096x1, .f32⟩
  | 70 => ⟨S4096x256, .f32⟩
  | 71 => ⟨S4096x256, .f32⟩
  | 72 => ⟨S4096x256, .bf16⟩
  | 73 => ⟨S4096x256, .f32⟩
  | 74 => ⟨S4096x256, .bf16⟩
  | 75 => ⟨S256x256, .bf16⟩
  | 76 => ⟨S256x256, .bf16⟩
  | 77 => ⟨S4096x256, .bf16⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096, .f32⟩
  | 84 => ⟨S4096x1, .f32⟩
  | 85 => ⟨S4096x256, .f32⟩
  | 86 => ⟨S4096x256, .f32⟩
  | 87 => ⟨S4096x256, .f32⟩
  | 88 => ⟨S_, .f32⟩
  | 89 => ⟨S4096, .f32⟩
  | 90 => ⟨S4096x1, .f32⟩
  | 91 => ⟨S4096x256, .f32⟩
  | 92 => ⟨S4096x256, .f32⟩
  | 93 => ⟨S4096x256, .bf16⟩
  | 94 => ⟨S4096x256, .f32⟩
  | 95 => ⟨S4096x256, .bf16⟩
  | 96 => ⟨S256x256, .bf16⟩
  | 97 => ⟨S256x256, .bf16⟩
  | 98 => ⟨S4096x256, .bf16⟩
  | 99 => ⟨S4096x256, .f32⟩
  | 100 => ⟨S_, .f32⟩
  | 101 => ⟨S4096x256, .f32⟩
  | 102 => ⟨S4096x256, .f32⟩
  | 103 => ⟨S_, .f32⟩
  | 104 => ⟨S4096, .f32⟩
  | 105 => ⟨S4096x1, .f32⟩
  | 106 => ⟨S4096x256, .f32⟩
  | 107 => ⟨S4096x256, .f32⟩
  | 108 => ⟨S4096x256, .f32⟩
  | 109 => ⟨S_, .f32⟩
  | 110 => ⟨S4096, .f32⟩
  | 111 => ⟨S4096x1, .f32⟩
  | 112 => ⟨S4096x256, .f32⟩
  | 113 => ⟨S4096x256, .f32⟩
  | 114 => ⟨S4096x256, .bf16⟩
  | 115 => ⟨S4096x256, .f32⟩
  | 116 => ⟨S4096x256, .bf16⟩
  | 117 => ⟨S256x256, .bf16⟩
  | 118 => ⟨S256x256, .bf16⟩
  | 119 => ⟨S4096x256, .bf16⟩
  | 120 => ⟨S4096x256, .f32⟩
  | 121 => ⟨S_, .f32⟩
  | 122 => ⟨S4096x256, .f32⟩
  | 123 => ⟨S4096x256, .f32⟩
  | 124 => ⟨S_, .f32⟩
  | 125 => ⟨S4096, .f32⟩
  | 126 => ⟨S4096x1, .f32⟩
  | 127 => ⟨S4096x256, .f32⟩
  | _ => ⟨S4096x1024, .f32⟩

abbrev hbmTy0_1 (i : Nat) : BufTy := match i % 128 with
  | 0 => ⟨S4096x256, .f32⟩
  | 1 => ⟨S4096x256, .f32⟩
  | 2 => ⟨S_, .f32⟩
  | 3 => ⟨S4096, .f32⟩
  | 4 => ⟨S4096x1, .f32⟩
  | 5 => ⟨S4096x256, .f32⟩
  | 6 => ⟨S4096x256, .f32⟩
  | 7 => ⟨S4096x256, .bf16⟩
  | 8 => ⟨S4096x256, .f32⟩
  | 9 => ⟨S4096x256, .bf16⟩
  | 10 => ⟨S4096x1024, .bf16⟩
  | 11 => ⟨S4096x1024, .f32⟩
  | 12 => ⟨S1024x1024, .bf16⟩
  | 13 => ⟨S4096x1024, .f32⟩
  | 14 => ⟨S256x2048, .f32⟩
  | 15 => ⟨S1x1024, .f32⟩
  | 16 => ⟨S1024x1024, .bf16⟩
  | 17 => ⟨S1024x1024, .bf16⟩
  | 18 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x1024, .bf16⟩
  | .local _ .vmem, ⟨14, _⟩ => ⟨S256x2048, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S256x2048, .f32⟩
  | .local _ .vmem, ⟨19, _⟩ => ⟨S1x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_14 : Ref sig .tc := ⟨.hbm, 121, rfl⟩
abbrev main_v96 : Ref sig .tc := ⟨.hbm, 122, rfl⟩
abbrev main_v97 : Ref sig .tc := ⟨.hbm, 123, rfl⟩
abbrev main_cst_15 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_16 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113_0 : Ref sig .tc := ⟨.hbm, 141, rfl⟩
abbrev main_v113_1 : Ref sig .tc := ⟨.hbm, 142, rfl⟩
abbrev main_v113_2 : Ref sig .tc := ⟨.hbm, 143, rfl⟩
abbrev main_v113_3 : Ref sig .tc := ⟨.hbm, 144, rfl⟩
abbrev main_v113_4 : Ref sig .tc := ⟨.hbm, 145, rfl⟩
abbrev main_v113_5 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v238 : BitVec 1 := Scalar.cmpi .eq arg0 c7_i32
  let v239 : BitVec 32 := Scalar.extui v238
  let c0_i32_150 : BitVec 32 := 0#32
  let v240 : BitVec 1 := Scalar.cmpi .ne v239 c0_i32_150
  v240

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== AttnRefIdeal.lean ====
abbrev S4096x1024 : Shape := ⟨2, ![4096, 1024]⟩
abbrev S1024x1024 : Shape := ⟨2, ![1024, 1024]⟩
abbrev S1024 : Shape := ⟨1, ![1024]⟩
abbrev S256x1024 : Shape := ⟨2, ![256, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S4096 : Shape := ⟨1, ![4096]⟩
abbrev S4096x1 : Shape := ⟨2, ![4096, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 172
  | .vmem => 0
  | .smem => 0
  | _ => 0

abbrev hbmTy0_0 (i : Nat) : BufTy := match i % 128 with
  | 0 => ⟨S4096x1024, .f32⟩
  | 1 => ⟨S4096x1024, .f32⟩
  | 2 => ⟨S1024x1024, .f32⟩
  | 3 => ⟨S1024, .f32⟩
  | 4 => ⟨S256x1024, .f32⟩
  | 5 => ⟨S1024, .f32⟩
  | 6 => ⟨S1024x1024, .f32⟩
  | 7 => ⟨S1024x2048, .f32⟩
  | 8 => ⟨S1024x1024, .f32⟩
  | 9 => ⟨S4096x1024, .f32⟩
  | 10 => ⟨S4096x1024, .f32⟩
  | 11 => ⟨S4096x1024, .f32⟩
  | 12 => ⟨S256x1024, .f32⟩
  | 13 => ⟨S_, .f32⟩
  | 14 => ⟨S256, .f32⟩
  | 15 => ⟨S256x1, .f32⟩
  | 16 => ⟨S_, .f32⟩
  | 17 => ⟨S256x1, .f32⟩
  | 18 => ⟨S256x1, .f32⟩
  | 19 => ⟨S_, .f32⟩
  | 20 => ⟨S256x1, .f32⟩
  | 21 => ⟨S256x1, .f32⟩
  | 22 => ⟨S256x1, .f32⟩
  | 23 => ⟨S256x1024, .f32⟩
  | 24 => ⟨S256x1024, .f32⟩
  | 25 => ⟨S1x1024, .f32⟩
  | 26 => ⟨S256x1024, .f32⟩
  | 27 => ⟨S256x1024, .f32⟩
  | 28 => ⟨S256x2048, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S4096x1024, .f32⟩
  | 50 => ⟨S4096x4x256, .f32⟩
  | 51 => ⟨S256x1024, .f32⟩
  | 52 => ⟨S256x1024, .f32⟩
  | 53 => ⟨S256x4x256, .f32⟩
  | 54 => ⟨S256x4x256, .f32⟩
  | 55 => ⟨S4x4096x256, .f32⟩
  | 56 => ⟨S_, .f32⟩
  | 57 => ⟨S4x4096x256, .f32⟩
  | 58 => ⟨S4x4096x256, .f32⟩
  | 59 => ⟨S_, .f32⟩
  | 60 => ⟨S4x4096, .f32⟩
  | 61 => ⟨S4x4096x1, .f32⟩
  | 62 => ⟨S4x4096x256, .f32⟩
  | 63 => ⟨S4x4096x256, .i1⟩
  | 64 => ⟨S4x4096x256, .f32⟩
  | 65 => ⟨S_, .f32⟩
  | 66 => ⟨S4x4096, .f32⟩
  | 67 => ⟨S_, .f32⟩
  | 68 => ⟨S4x4096, .f32⟩
  | 69 => ⟨S4x4096, .f32⟩
  | 70 => ⟨S_, .f32⟩
  | 71 => ⟨S4x4096, .f32⟩
  | 72 => ⟨S4x4096, .i1⟩
  | 73 => ⟨S_, .f32⟩
  | 74 => ⟨S4x4096, .f32⟩
  | 75 => ⟨S4x4096, .i1⟩
  | 76 => ⟨S_, .f32⟩
  | 77 => ⟨S4x4096, .f32⟩
  | 78 => ⟨S_, .f32⟩
  | 79 => ⟨S4x4096, .f32⟩
  | 80 => ⟨S_, .f32⟩
  | 81 => ⟨S4x4096, .f32⟩
  | 82 => ⟨S4x4096, .f32⟩
  | 83 => ⟨S4x4096, .f32⟩
  | 84 => ⟨S4x4096x1, .f32⟩
  | 85 => ⟨S4x4096x256, .f32⟩
  | 86 => ⟨S4x4096x256, .f32⟩
  | 87 => ⟨S4x4096x256, .f32⟩
  | 88 => ⟨S_, .f32⟩
  | 89 => ⟨S4x4096, .f32⟩
  | 90 => ⟨S4x4096x1, .f32⟩
  | 91 => ⟨S4x4096x256, .f32⟩
  | 92 => ⟨S4x4096x256, .f32⟩
  | 93 => ⟨S4x4096x1, .f32⟩
  | 94 => ⟨S_, .f32⟩
  | 95 => ⟨S4x4096x1, .f32⟩
  | 96 => ⟨S4x4096x1, .f32⟩
  | 97 => ⟨S4x256x4096, .f32⟩
  | 98 => ⟨S4096x4x256, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S1024x1024, .f32⟩
  | 105 => ⟨S1024x1024, .f32⟩
  | 106 => ⟨S4096x1024, .f32⟩
  | 107 => ⟨S4096x4x256, .f32⟩
  | 108 => ⟨S4x256x4096, .f32⟩
  | 109 => ⟨S4x4096x256, .f32⟩
  | 110 => ⟨S4x256x256, .f32⟩
  | 111 => ⟨S256x4x256, .f32⟩
  | 112 => ⟨S4x4096x256, .f32⟩
  | 113 => ⟨S4x4096x256, .f32⟩
  | 114 => ⟨S4x4096x256, .f32⟩
  | 115 => ⟨S_, .f32⟩
  | 116 => ⟨S4x4096, .f32⟩
  | 117 => ⟨S4x4096x1, .f32⟩
  | 118 => ⟨S4x4096x1, .f32⟩
  | 119 => ⟨S4x4096x256, .f32⟩
  | 120 => ⟨S4x4096x256, .f32⟩
  | 121 => ⟨S_, .f32⟩
  | 122 => ⟨S4x4096, .f32⟩
  | 123 => ⟨S4x4096x256, .f32⟩
  | 124 => ⟨S4x4096x256, .f32⟩
  | 125 => ⟨S4x4096x256, .f32⟩
  | 126 => ⟨S_, .f32⟩
  | 127 => ⟨S4x4096x256, .f32⟩
  | _ => ⟨S4096x1024, .f32⟩

abbrev hbmTy0_1 (i : Nat) : BufTy := match i % 128 with
  | 0 => ⟨S4x4096x256, .f32⟩
  | 1 => ⟨S4x256x256, .f32⟩
  | 2 => ⟨S256x4x256, .f32⟩
  | 3 => ⟨S4x4096x256, .f32⟩
  | 4 => ⟨S4096x4x256, .f32⟩
  | 5 => ⟨S256x1024, .f32⟩
  | 6 => ⟨S256x1024, .f32⟩
  | 7 => ⟨S256x2048, .f32⟩
  | 8 => ⟨S4096x1024, .f32⟩
  | 9 => ⟨S1024x1024, .f32⟩
  | 10 => ⟨S1024x1024, .f32⟩
  | 11 => ⟨S4096x1024, .f32⟩
  | 12 => ⟨S4096x1024, .f32⟩
  | 13 => ⟨S_, .f32⟩
  | 14 => ⟨S1024, .f32⟩
  | 15 => ⟨S1x1024, .f32⟩
  | 16 => ⟨S4096x1024, .f32⟩
  | 17 => ⟨S4096x1024, .f32⟩
  | 18 => ⟨S_, .f32⟩
  | 19 => ⟨S1024, .f32⟩
  | 20 => ⟨S4096x1024, .f32⟩
  | 21 => ⟨S_, .f32⟩
  | 22 => ⟨S4096, .f32⟩
  | 23 => ⟨S4096x1, .f32⟩
  | 24 => ⟨S4096x1024, .f32⟩
  | 25 => ⟨S4096x1024, .f32⟩
  | 26 => ⟨S4096x1024, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S1024x1024, .f32⟩
  | 39 => ⟨S1024x1024, .f32⟩
  | 40 => ⟨S1x1024, .f32⟩
  | 41 => ⟨S1024x1024, .bf16⟩
  | 42 => ⟨S1024x1024, .bf16⟩
  | 43 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_18 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_21 : Ref sig .tc := ⟨.hbm, 146, rfl⟩
abbrev main_v114 : Ref sig .tc := ⟨.hbm, 147, rfl⟩
abbrev main_v115 : Ref sig .tc := ⟨.hbm, 148, rfl⟩
abbrev main_cst_22 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_23 : Ref sig .tc := ⟨.hbm, 156, rfl⟩
abbrev main_v122 : Ref sig .tc := ⟨.hbm, 157, rfl⟩
abbrev main_v123 : Ref sig .tc := ⟨.hbm, 158, rfl⟩
abbrev main_cst_24 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩

abbrev nD : Nat := 1
abbrev τ : Topo := Topo.v7x

variable {F : FTy → Type} [FloatOps F]
-- ==== MixFwd.lean ====
abbrev S4096x1024 : Shape := ⟨2, ![4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S128x4 : Shape := ⟨2, ![128, 4]⟩
abbrev S_ : Shape := ⟨0, ![]⟩
abbrev S128x128 : Shape := ⟨2, ![128, 128]⟩
abbrev S1x1024 : Shape := ⟨2, ![1, 1024]⟩
abbrev S1024x4x640 : Shape := ⟨3, ![1024, 4, 640]⟩
abbrev S4x1024x640 : Shape := ⟨3, ![4, 1024, 640]⟩
abbrev S1x512 : Shape := ⟨2, ![1, 512]⟩
abbrev S4096x2560 : Shape := ⟨2, ![4096, 2560]⟩
abbrev S4096x512 : Shape := ⟨2, ![4096, 512]⟩
abbrev S512x1024 : Shape := ⟨2, ![512, 1024]⟩
abbrev S512x2560 : Shape := ⟨2, ![512, 2560]⟩
abbrev S512x512 : Shape := ⟨2, ![512, 512]⟩
abbrev S8x512 : Shape := ⟨2, ![8, 512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩
abbrev S1x128x128 : Shape := ⟨3, ![1, 128, 128]⟩
abbrev S128x1 : Shape := ⟨2, ![128, 1]⟩

abbrev nBuf : Space → Nat
  | .hbm => 30
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S3x512, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S128x4, .f32⟩
  | .hbm, ⟨12, _⟩ => ⟨S_, .i32⟩
  | .hbm, ⟨13, _⟩ => ⟨S_, .f32⟩
  | .hbm, ⟨14, _⟩ => ⟨S128x128, .f32⟩
  | .hbm, ⟨15, _⟩ => ⟨S1x1024, .f32⟩
  | .hbm, ⟨16, _⟩ => ⟨S1024x2560, .bf16⟩
  | .hbm, ⟨17, _⟩ => ⟨S1024x4x640, .bf16⟩
  | .hbm, ⟨18, _⟩ => ⟨S4x1024x640, .bf16⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1024x1024, .bf16⟩
  | .hbm, ⟨24, _⟩ => ⟨S4096x2560, .f32⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S4096x512, .f32⟩
  | .hbm, ⟨29, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x128, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1024x1024, .bf16⟩
  | .local _ .vmem, ⟨12, _⟩ => ⟨S512x2560, .f32⟩
  | .local _ .vmem, ⟨13, _⟩ => ⟨S512x2560, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S512x1024, .f32⟩
  | .local _ .vmem, ⟨23, _⟩ => ⟨S512x1024, .f32⟩
  | .local _ .vmem, ⟨24, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2560 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixFwdRefIdeal.lean ====
abbrev S4096x1024 : Shape := ⟨2, ![4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S4096x512 : Shape := ⟨2, ![4096, 512]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4096x1536 : Shape := ⟨2, ![4096, 1536]⟩
abbrev S2x512 : Shape := ⟨2, ![2, 512]⟩
abbrev S4098x512 : Shape := ⟨2, ![4098, 512]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S1024, .f32⟩
  | 2 => ⟨S1024x2560, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S512, .f32⟩
  | 9 => ⟨S512, .f32⟩
  | 10 => ⟨S1024x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x2560, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x512, .f32⟩
  | 47 => ⟨S4096x512, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S4096x512, .f32⟩
  | 55 => ⟨S4096x512, .f32⟩
  | 56 => ⟨S4096x512, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S4096x512, .f32⟩
  | 64 => ⟨S4096x512, .f32⟩
  | 65 => ⟨S_, .f32⟩
  | 66 => ⟨S4096x1, .f32⟩
  | 67 => ⟨S4096x1, .f32⟩
  | 68 => ⟨S4096x1, .f32⟩
  | 69 => ⟨S4096x512, .f32⟩
  | 70 => ⟨S4096x512, .f32⟩
  | 71 => ⟨S1x512, .f32⟩
  | 72 => ⟨S4096x512, .f32⟩
  | 73 => ⟨S4096x512, .f32⟩
  | 74 => ⟨S1x512, .f32⟩
  | 75 => ⟨S4096x512, .f32⟩
  | 76 => ⟨S4096x512, .f32⟩
  | 77 => ⟨S32x128x4x128, .f32⟩
  | 78 => ⟨S_, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S1x128x128, .f32⟩
  | 90 => ⟨S4x128x128, .f32⟩
  | 91 => ⟨S4x128x128, .f32⟩
  | 92 => ⟨S4x32x128x128, .f32⟩
  | 93 => ⟨S32x128x4x128, .f32⟩
  | 94 => ⟨S128x4, .f32⟩
  | 95 => ⟨S1x128x4x1, .f32⟩
  | 96 => ⟨S32x128x4x128, .f32⟩
  | 97 => ⟨S32x128x4x128, .f32⟩
  | 98 => ⟨S4096x512, .f32⟩
  | 99 => ⟨S4096x512, .f32⟩
  | 100 => ⟨S4096x512, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x1, .f32⟩
  | 111 => ⟨S4096x512, .f32⟩
  | 112 => ⟨S4096x512, .f32⟩
  | 113 => ⟨S1x512, .f32⟩
  | 114 => ⟨S4096x512, .f32⟩
  | 115 => ⟨S4096x512, .f32⟩
  | 116 => ⟨S4096x1536, .f32⟩
  | 117 => ⟨S4096x512, .f32⟩
  | 118 => ⟨S4096x512, .f32⟩
  | 119 => ⟨S4096x512, .f32⟩
  | 120 => ⟨S4096x512, .f32⟩
  | 121 => ⟨S_, .f32⟩
  | 122 => ⟨S2x512, .f32⟩
  | 123 => ⟨S4098x512, .f32⟩
  | 124 => ⟨S1x512, .f32⟩
  | 125 => ⟨S512, .f32⟩
  | 126 => ⟨S4096x512, .f32⟩
  | 127 => ⟨S1x512, .f32⟩
  | _ => ⟨S4096x1024, .f32⟩

abbrev hbmTy0_1 (i : Nat) : BufTy := match i % 128 with
  | 0 => ⟨S4096x512, .f32⟩
  | 1 => ⟨S4096x512, .f32⟩
  | 2 => ⟨S1x512, .f32⟩
  | 3 => ⟨S512, .f32⟩
  | 4 => ⟨S4096x512, .f32⟩
  | 5 => ⟨S1x512, .f32⟩
  | 6 => ⟨S4096x512, .f32⟩
  | 7 => ⟨S4096x512, .f32⟩
  | 8 => ⟨S4096x512, .f32⟩
  | 9 => ⟨S1x512, .f32⟩
  | 10 => ⟨S512, .f32⟩
  | 11 => ⟨S4096x512, .f32⟩
  | 12 => ⟨S1x512, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x512, .f32⟩
  | 29 => ⟨S4096x512, .f32⟩
  | 30 => ⟨S1x512, .f32⟩
  | 31 => ⟨S4096x512, .f32⟩
  | 32 => ⟨S4096x512, .f32⟩
  | 33 => ⟨S4096x1024, .f32⟩
  | 34 => ⟨S4096x1024, .f32⟩
  | 35 => ⟨S4096x1024, .f32⟩
  | 36 => ⟨S4096x1024, .bf16⟩
  | 37 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_16 : Ref sig .tc := ⟨.hbm, 146, rfl⟩
abbrev main_v110 : Ref sig .tc := ⟨.hbm, 147, rfl⟩
abbrev main_v111 : Ref sig .tc := ⟨.hbm, 148, rfl⟩
abbrev main_cst_17 : Ref sig .tc := ⟨.hbm, 149, rfl⟩
abbrev main_v112 : Ref sig .tc := ⟨.hbm, 150, rfl⟩
abbrev main_v113 : Ref sig .tc := ⟨.hbm, 151, rfl⟩
abbrev main_cst_18 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩

abbrev nD : Nat := 1
abbrev τ : Topo := Topo.v7x

variable {F : FTy → Type} [FloatOps F]
-- ==== AttnFwd.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S256x2048 : Shape := ⟨2, ![256, 2048]⟩
abbrev S512x1024 : Shape := ⟨2, ![512, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S512 : Shape := ⟨1, ![512]⟩
abbrev S512x1 : Shape := ⟨2, ![512, 1]⟩
abbrev S256x256 : Shape := ⟨2, ![256, 256]⟩
abbrev S512x256 : Shape := ⟨2, ![512, 256]⟩

abbrev nBuf : Space → Nat
  | .hbm => 20
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1024x2048, .bf16⟩
  | .hbm, ⟨11, _⟩ => ⟨S1024x4x512, .bf16⟩
  | .hbm, ⟨12, _⟩ => ⟨S4x1024x512, .bf16⟩
  | .hbm, ⟨13, _⟩ => ⟨S1024x1024, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S4096x1024, .f32⟩
  | .hbm, ⟨18, _⟩ => ⟨S256x1024, .bf16⟩
  | .hbm, ⟨19, _⟩ => ⟨S256x2048, .bf16⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S4x1024x512, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S256x1024, .bf16⟩
  | .local _ .vmem, ⟨17, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnFwdRefIdeal.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256 : Shape := ⟨1, ![256]⟩
abbrev S256x1 : Shape := ⟨2, ![256, 1]⟩
abbrev S256x2048 : Shape := ⟨2, ![256, 2048]⟩
abbrev S256x4x256 : Shape := ⟨3, ![256, 4, 256]⟩
abbrev S4096x4x256 : Shape := ⟨3, ![4096, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S256x1024, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S256x2048, .f32⟩
  | .hbm, ⟨41, _⟩ => ⟨S256x1024, .f32⟩
  | .hbm, ⟨42, _⟩ => ⟨S256x1024, .f32⟩
  | .hbm, ⟨43, _⟩ => ⟨S256x4x256, .f32⟩
  | .hbm, ⟨44, _⟩ => ⟨S256x4x256, .f32⟩
  | .hbm, ⟨45, _⟩ => ⟨S4096x4x256, .f32⟩
  | .hbm, ⟨46, _⟩ => ⟨S4x4096x256, .f32⟩
  | .hbm, ⟨47, _⟩ => ⟨S_, .f32⟩
  | .hbm, ⟨48, _⟩ => ⟨S4x4096x256, .f32⟩
  | .hbm, ⟨49, _⟩ => ⟨S4x4096x256, .f32⟩
  | .hbm, ⟨50, _⟩ => ⟨S_, .f32⟩
  | .hbm, ⟨51, _⟩ => ⟨S4x4096, .f32⟩
  | .hbm, ⟨52, _⟩ => ⟨S_, .f32⟩
  | .hbm, ⟨53, _⟩ => ⟨S4x4096, .f32⟩
  | .hbm, ⟨54, _⟩ => ⟨S4x4096, .f32⟩
  | .hbm, ⟨55, _⟩ => ⟨S4x4096x1, .f32⟩
  | .hbm, ⟨56, _⟩ => ⟨S4x4096x256, .f32⟩
  | .hbm, ⟨57, _⟩ => ⟨S4x4096x256, .f32⟩
  | .hbm, ⟨58, _⟩ => ⟨S4x4096x256, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x256, .f32⟩
  | .hbm, ⟨63, _⟩ => ⟨S4x4096x256, .f32⟩
  | .hbm, ⟨64, _⟩ => ⟨S4x256x4096, .f32⟩
  | .hbm, ⟨65, _⟩ => ⟨S4096x4x256, .f32⟩
  | .hbm, ⟨66, _⟩ => ⟨S4096x1024, .f32⟩
  | .hbm, ⟨67, _⟩ => ⟨S4096x4x256, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S4096x1024, .bf16⟩
  | .hbm, ⟨73, _⟩ => ⟨S256x1024, .bf16⟩
  | .hbm, ⟨74, _⟩ => ⟨S256x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.KvPay.lean ====
/- The kernel of the key and value gradients: what its one launch leaves in its two results, index by index over the
   extended reals. -/
module

public import proofs.«01_k».proof.Proof.Gen.KvIdeal.Value
public import Idealize.ShloMosaic.Lib.Pointwise
public import Idealize.ShloMosaic.Lib.Claim
public import Idealize.ShloMosaic.Lib.Tactic.CleanTypes

@[expose] public section

set_option maxRecDepth 16384

noncomputable section

namespace Cert.Proof.Kv

open Idealize.ShloMosaic Idealize.SL.Sem Cert.KvIdeal Cert.KvIdeal.Gen Idealize.ShloMosaic.TcCoe
open Idealize.ShloMosaic.Pipeline (Dat Cfg Window)

/-- The weight gradient: normalised memory against the incoming gradient, column block by column block. -/
def gw (dkv : Vec Ideal S256x2048 .f32) (memn : Vec Ideal S256x1024 .bf16) : Vec Ideal S4x1024x512 .bf16 := fun y =>
  ∑ r : Fin 256, memn (ix2 r (y 1)) * dkv (ix2 r ⟨512 * (y 0).val + (y 2).val, by have := (y 0).isLt; have := (y 2).isLt; simp at *; omega⟩)

/-- The reciprocal root mean square of a row of the memory. -/
def inv (mem : Vec Ideal S256x1024 .f32) (r : Fin 256) : EReal :=
  Ideal.rsqrt (Ideal.div (∑ k : Fin 1024, mem (ix2 r k) * mem (ix2 r k)) (Ideal.ofBits .f32 1149239296#32) + Ideal.ofBits .f32 897988541#32)

/-- The gain gradient: over the rows, the gradient of the normalised memory (one sum per column block) times the memory
    divided by its root mean square. -/
def dg (dkv : Vec Ideal S256x2048 .f32) (mem : Vec Ideal S256x1024 .f32) (w : Vec Ideal S4x1024x512 .bf16) : Vec Ideal S1x1024 .f32 := fun y =>
  ∑ r : Fin 256, (∑ k : Fin 4, ∑ j : Fin 512, dkv (ix2 r ⟨512 * k.val + j.val, by omega⟩) * w (ix3 k (y 1) j)) * (mem (ix2 r (y 1)) * inv mem r)

theorem emb_idx {s : Shape} (r : Rect s) (x : r.shape.Idx) : r.emb x = r.idx x := rfl

theorem out5 (x0 : Vec Ideal S256x2048 .f32) (x1 : Vec Ideal S256x1024 .f32) (x2 : Vec Ideal S256x1024 .bf16)
    (x3 : Vec Ideal S1x1024 .f32) (x4 : Vec Ideal S4x1024x512 .bf16) : out0_5 (F := Ideal) x0 x1 x2 x3 x4 = gw x0 x2 := by
  funext y
  unfold out0_5
  refine View.canon_apply_of_pieces (gw x0 x2) _ ?_ y (cover0_5 _ _ _ _ y)
  simp only [List.forall_mem_cons, List.not_mem_nil, false_imp_iff, implies_true, and_true]
  refine ⟨?_, ?_, ?_, ?_⟩ <;>
  · intro x
    idx_vars x
    unfold_payloads
    pointwise [gw, emb_idx]

theorem out6 (x0 : Vec Ideal S256x2048 .f32) (x1 : Vec Ideal S256x1024 .f32) (x2 : Vec Ideal S256x1024 .bf16)
    (x3 : Vec Ideal S1x1024 .f32) (x4 : Vec Ideal S4x1024x512 .bf16) : out0_6 (F := Ideal) x0 x1 x2 x3 x4 = dg x0 x1 x4 := by
  funext y
  idx_vars y
  unfold out0_6
  rw [View.canon_unit_zero (by funext a; fin_cases a <;> rfl)]
  unfold_payloads
  pointwise [dg, inv, Fin.sum_univ_four]

variable (m : (ℓ : Loc nD τ sig) → Buf (Elt Ideal) ℓ) (ρ : Dev nD → PrngReg)

/-- The one grid point. -/
def t₀ : Fin cfg0.N := ⟨0, by decide⟩

theorem final5 (c : Dev nD) : (dats m 0 c).arrAt 5 cfg0.N = gw (m ((c : Thread nD τ).loc main_arg3)) (V m c main_v13) := by
  have ho := Cert.KvIdeal.Value.blocks5 m c t₀ (by decide)
  rw [Cert.KvIdeal.Value.flushed5, out5] at ho
  have hz : (fun a => (win0_5.index t₀) a * main_v18_0.ty.shape.size a) = fun _ => 0 := funext fun a => by fin_cases a <;> decide
  have hr := fun f => Memref.read_access_unit_zero (Elt Ideal) main_v18_0 hz (fun a => by fin_cases a <;> decide) f
  have hz0 : (fun a => (win0_0.index t₀) a * main_arg3.ty.shape.size a) = fun _ => 0 := funext fun a => by fin_cases a <;> decide
  have hr0 := fun f => Memref.read_access_unit_zero (Elt Ideal) main_arg3 hz0 (fun a => by fin_cases a <;> decide) f
  have hz2 : (fun a => (win0_2.index t₀) a * main_v13.ty.shape.size a) = fun _ => 0 := funext fun a => by fin_cases a <;> decide
  have hr2 := fun f => Memref.read_access_unit_zero (Elt Ideal) main_v13 hz2 (fun a => by fin_cases a <;> decide) f
  rw [hr] at ho
  rw [ho]
  unfold iblk
  rw [hr0, hr2, V_main_arg3]
  rfl

theorem final6 (c : Dev nD) : (dats m 0 c).arrAt 6 cfg0.N
    = dg (m ((c : Thread nD τ).loc main_arg3)) (m ((c : Thread nD τ).loc main_arg0)) (V m c main_v17) := by
  have ho := Cert.KvIdeal.Value.blocks6 m c t₀ (by decide)
  rw [Cert.KvIdeal.Value.flushed6, out6] at ho
  have hz : (fun a => (win0_6.index t₀) a * main_v18_1.ty.shape.size a) = fun _ => 0 := funext fun a => by fin_cases a <;> decide
  have hr := fun f => Memref.read_access_unit_zero (Elt Ideal) main_v18_1 hz (fun a => by fin_cases a <;> decide) f
  have hz0 : (fun a => (win0_0.index t₀) a * main_arg3.ty.shape.size a) = fun _ => 0 := funext fun a => by fin_cases a <;> decide
  have hr0 := fun f => Memref.read_access_unit_zero (Elt Ideal) main_arg3 hz0 (fun a => by fin_cases a <;> decide) f
  have hz1 : (fun a => (win0_1.index t₀) a * main_arg0.ty.shape.size a) = fun _ => 0 := funext fun a => by fin_cases a <;> decide
  have hr1 := fun f => Memref.read_access_unit_zero (Elt Ideal) main_arg0 hz1 (fun a => by fin_cases a <;> decide) f
  have hz4 : (fun a => (win0_4.index t₀) a * main_v17.ty.shape.size a) = fun _ => 0 := funext fun a => by fin_cases a <;> decide
  have hr4 := fun f => Memref.read_access_unit_zero (Elt Ideal) main_v17 hz4 (fun a => by fin_cases a <;> decide) f
  rw [hr] at ho
  rw [ho]
  unfold iblk
  rw [hr0, hr1, hr4, V_main_arg3, V_main_arg0]
  rfl

theorem memn_apply (c : Dev nD) (x0 : Vec Ideal S256x1024 .f32) (x1 : Vec Ideal S1024 .f32) (h0 : m ((c : Thread nD τ).loc main_arg0) = x0)
    (h1 : m ((c : Thread nD τ).loc main_arg1) = x1) (r : Fin 256) (i : Fin 1024) :
    (V m c main_v13 : Vec Ideal S256x1024 .bf16) (ix2 r i) = x0 (ix2 r i) * inv x0 r * x1 (ix1 i) := by
  subst h0 h1
  entry_read
  clean_types
  pointwise [inv]

theorem w_apply (c : Dev nD) (x2 : Vec Ideal S1024x2048 .f32) (h2 : m ((c : Thread nD τ).loc main_arg2) = x2)
    (k : Fin 4) (i : Fin 1024) (j : Fin 512) : (V m c main_v17 : Vec Ideal S4x1024x512 .bf16) (ix3 k i j)
    = x2 (ix2 i ⟨512 * k.val + j.val, by omega⟩) := by
  subst h2
  entry_read
  clean_types
  pointwise
  simp only [Nat.mul_comm 512]

/-- The run: both results in closed form, the arguments unchanged. -/
theorem run : θ_run defs (onTc (τ := τ) (main (F := Ideal))) ⟨m, fun _ => 0, ρ⟩ fun r => ∀ c : Dev nD,
      r.2.mem ((c : Thread nD τ).loc main_v18_0) = gw (m ((c : Thread nD τ).loc main_arg3)) (V m c main_v13)
      ∧ r.2.mem ((c : Thread nD τ).loc main_v18_1)
        = dg (m ((c : Thread nD τ).loc main_arg3)) (m ((c : Thread nD τ).loc main_arg0)) (V m c main_v17)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2.1.trans (final6 m c), (h c).2.2⟩)
    (Cert.KvIdeal.Value.run_blocks m ρ)

end Cert.Proof.Kv

end
-- ==== Proof.Sums.lean ====
/- Finite sums cut into blocks. -/
module

public import Mathlib.Algebra.BigOperators.Fin
public import Mathlib.Logic.Equiv.Fin.Basic
public import Mathlib.Tactic.Ring
public import Mathlib.Tactic.Linarith

@[expose] public section

namespace Cert.Proof

/-- A sum over `a * b` positions, block by block. -/
theorem sum_blocks {M : Type*} [AddCommMonoid M] {N : ℕ} (a b : ℕ) (h : a * b = N) (f : Fin N → M) :
    ∑ q : Fin N, f q = ∑ k : Fin a, ∑ j : Fin b, f ⟨b * k.val + j.val, by
      have h1 := k.isLt
      have h2 := j.isLt
      subst h
      calc b * k.val + j.val < b * k.val + b := by omega
        _ = b * (k.val + 1) := by ring
        _ ≤ b * a := Nat.mul_le_mul_left b h1
        _ = a * b := Nat.mul_comm b a⟩ := by
  subst h
  rw [← Fintype.sum_prod_type', ← Equiv.sum_comp finProdFinEquiv]
  refine Finset.sum_congr rfl fun x _ => congrArg f (Fin.ext ?_)
  simp [finProdFinEquiv, Nat.add_comm]

end Cert.Proof
-- ==== Proof.Kv.lean ====
/- The key and value gradients: the kernel's results are those of the differentiated reference. -/
module

public import proofs.«01_k».proof.Defs
public import proofs.«01_k».proof.Proof.KvPay
public import proofs.«01_k».proof.Proof.Sums
public import proofs.«01_k».proof.Proof.Gen.Kv.Frame
public import proofs.«01_k».proof.Proof.Gen.KvRefIdeal.Run
public import proofs.«01_k».proof.Proof.Gen.KvRefIdeal.Read

@[expose] public section

set_option maxRecDepth 16384

noncomputable section

namespace Cert.Proof.Kv

open Idealize.ShloMosaic Idealize.SL.Sem Cert.KvRefIdeal.Read

abbrev A0 := Vec Ideal Cert.KvIdeal.S256x1024 .f32
abbrev A1 := Vec Ideal Cert.KvIdeal.S1024 .f32
abbrev A2 := Vec Ideal Cert.KvIdeal.S1024x2048 .f32
abbrev A3 := Vec Ideal Cert.KvIdeal.S256x2048 .f32

/-- The reference's memory divided by its root mean square. -/
theorem ref_xh (x0 : A0) (r : Fin 256) (i : Fin 1024) : val_main_v9 (F := Ideal) x0 (ix2 r i) = x0 (ix2 r i) * inv x0 r := by
  pointwise [val_main_v9, val_main_v8, val_main_v7, val_main_v6, val_main_v5, val_main_v4, val_main_v3, val_main_v2, val_main_v1,
    val_main_v0, val_main_cst, val_main_cst_0, val_main_cst_1, inv]

/-- The reference's weight gradient before it is cut into column blocks. -/
theorem ref_dw (x0 : A0) (x1 : A1) (x3 : A3) (i : Fin 1024) (q : Fin 2048) : val_main_v15 (F := Ideal) x0 x1 x3 (ix2 i q)
    = ∑ r : Fin 256, (x0 (ix2 r i) * inv x0 r * x1 (ix1 i)) * x3 (ix2 r q) := by
  pointwise [val_main_v15, val_main_v14, val_main_v12, val_main_v11, val_main_v10, ref_xh]
  exact Finset.sum_congr rfl fun r _ => mul_comm _ _

theorem ref_gw (x0 : A0) (x1 : A1) (x3 : A3) (memn : Vec Ideal Cert.KvIdeal.S256x1024 .bf16)
    (hm : ∀ (r : Fin 256) (i : Fin 1024), memn (ix2 r i) = x0 (ix2 r i) * inv x0 r * x1 (ix1 i)) :
    val_main_v30 (F := Ideal) x0 x1 x3 = gw x3 memn := by
  funext y
  obtain ⟨k, i, j, rfl⟩ : ∃ (k : Fin 4) (i : Fin 1024) (j : Fin 512), y = ix3 k i j := ⟨y 0, y 1, y 2, eq_ix3 y⟩
  pointwise [val_main_v30, val_main_v29, val_main_v28, val_main_v27, val_main_v26, val_main_v25, val_main_v24, val_main_v23,
    val_main_v22, val_main_v21, ref_dw, gw, hm]
  fin_vals k with hk
  all_goals simp only [hk, Nat.reduceSub, Nat.reduceLT, ↓reduceDIte, Nat.reduceMul, Nat.zero_add]

theorem ref_dg (x0 : A0) (x2 : A2) (x3 : A3) (w : Vec Ideal Cert.KvIdeal.S4x1024x512 .bf16)
    (hw : ∀ (k : Fin 4) (i : Fin 1024) (j : Fin 512), w (ix3 k i j) = x2 (ix2 i ⟨512 * k.val + j.val, by omega⟩)) :
    val_main_v31 (F := Ideal) x0 x2 x3 = dg x3 x0 w := by
  funext y
  obtain ⟨a, i, rfl⟩ : ∃ (a : Fin 1) (i : Fin 1024), y = ix2 a i := ⟨y 0, y 1, eq_ix2 y⟩
  pointwise [val_main_v31, val_main_v20, val_main_v19, val_main_v18, val_main_v17, val_main_v16, val_main_cst_2, val_main_cst_3, ref_xh,
    dg, hw]
  rw [Fin.sum_univ_one]
  refine Finset.sum_congr rfl fun r _ => ?_
  rw [sum_blocks 4 512 rfl, mul_comm]

/-- From equal arguments the kernel and the reference leave equal results. -/
theorem algebraic : Cert.algebraic_KvIdeal_KvRefIdeal (hKvIdeal := Cert.KvIdeal.Gen.facts) (hKvRefIdeal := Cert.KvRefIdeal.Gen.facts) := by
  intro m g m' g' _ hag
  refine ⟨_, _, run m g, (θ_run _ _ _).mono (fun r h c => ?_) (Cert.KvRefIdeal.Value.run m' g')⟩
  obtain ⟨h0, h1, h2, h3⟩ := hag c
  obtain ⟨hv, hw, hk⟩ := h c
  refine ⟨hv.trans ((val_main_v30_eq m' c).trans ?_), hw.trans ((val_main_v31_eq _ _ _).trans ?_), hk⟩
  · rw [h0, h1, h3]
    exact ref_gw _ _ _ _ (memn_apply m c _ _ rfl rfl)
  · rw [h0, h2, h3]
    exact ref_dg _ _ _ _ (w_apply m c _ rfl)

end Cert.Proof.Kv

end
-- ==== Proof.Real.lean ====
/- Real numbers among the extended reals: finite arguments, and the operations of the programs on them. -/
module

public import Idealize.ShloMosaic.Lib.Pointwise
public import proofs.«01_k».proof.Proof.Sums

@[expose] public section

noncomputable section

namespace Cert.Proof

open Idealize.ShloMosaic

/-- A value whose absolute value is below infinity is a real number. -/
theorem real_of_finite (x : EReal) (h : max x (-x) < ⊤) : ∃ r : ℝ, x = (r : EReal) := by
  induction x with
  | bot => simp at h
  | top => simp at h
  | coe r => exact ⟨r, rfl⟩

/-- A finite array, written with its real entries. -/
theorem real_array {s : Shape} {φ : FTy} (x : FVec Ideal s φ) (h : ∀ i, ∃ r : ℝ, (x i : EReal) = (r : EReal)) :
    ∃ X : s.Idx → ℝ, ∀ i, (x i : EReal) = (X i : EReal) := ⟨fun i => (h i).choose, fun i => (h i).choose_spec⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lit_1024 : Ideal.ofBits .f32 1149239296#32 = ((1024 : ℝ) : EReal) := by
  simp [Ideal.ofBits, Ideal.ieee, -EReal.coe_mul]; norm_num

/-- The epsilon of the normalisations. -/
def eps : ℝ := 8796093 / 8796093022208

theorem lit_eps : Ideal.ofBits .f32 897988541#32 = ((eps : ℝ) : EReal) := by
  simp [Ideal.ofBits, Ideal.ieee, -EReal.coe_mul, eps]; norm_num

theorem eps_pos : 0 < eps := by unfold eps; norm_num

theorem lit_half : Ideal.ofBits .f32 1056964608#32 = ((1 / 2 : ℝ) : EReal) := by
  simp [Ideal.ofBits, Ideal.ieee, -EReal.coe_mul]; norm_num

theorem lit_neg_half : Ideal.ofBits .f32 3204448256#32 = ((-1 / 2 : ℝ) : EReal) := by
  simp [Ideal.ofBits, Ideal.ieee, -EReal.coe_mul]; norm_num

theorem lit_two : Ideal.ofBits .f32 1073741824#32 = ((2 : ℝ) : EReal) := by
  simp [Ideal.ofBits, Ideal.ieee, -EReal.coe_mul]; norm_num

theorem div_real (x y : ℝ) (h : y ≠ 0) : Ideal.div (x : EReal) (y : EReal) = ((x / y : ℝ) : EReal) := by
  rw [Ideal.div_coe h, ← EReal.coe_mul]; congr 1; ring

theorem div_1024 (x : ℝ) : Ideal.div (x : EReal) ((1024 : ℝ) : EReal) = ((x / 1024 : ℝ) : EReal) := div_real x _ (by norm_num)

theorem rsqrt_real (x : ℝ) (h : 0 < x) : Ideal.rsqrt (x : EReal) = (((√x)⁻¹ : ℝ) : EReal) := by
  rw [Ideal.rsqrt_coe, if_neg (not_lt.mpr h.le), if_neg h.ne']

/-- The mean square of a row, moved off zero. -/
def ms {n : ℕ} (v : Fin n → ℝ) : ℝ := (∑ i, v i * v i) / 1024 + eps

theorem ms_pos {n : ℕ} (v : Fin n → ℝ) : 0 < ms v := by
  have h := eps_pos
  have h2 : 0 ≤ ∑ i, v i * v i := Finset.sum_nonneg fun i _ => mul_self_nonneg _
  unfold ms; positivity

/-- The reciprocal root mean square of a row. -/
def rinv {n : ℕ} (v : Fin n → ℝ) : ℝ := (√(ms v))⁻¹

theorem rsqrt_ms {n : ℕ} (v : Fin n → ℝ) : Ideal.rsqrt ((ms v : ℝ) : EReal) = ((rinv v : ℝ) : EReal) := rsqrt_real _ (ms_pos v)

theorem rinv_sq {n : ℕ} (v : Fin n → ℝ) : rinv v / ms v = rinv v * (rinv v * rinv v) := by
  have h := ms_pos v
  have : rinv v * rinv v = (ms v)⁻¹ := by unfold rinv; rw [← mul_inv, Real.mul_self_sqrt h.le]
  rw [this]; rfl

/-- The reciprocal root mean square, as the programs write it. -/
theorem rsqrt_row {n : ℕ} (v : Fin n → ℝ) :
    Ideal.rsqrt (Ideal.div (∑ k : Fin n, (v k : EReal) * (v k : EReal)) (Ideal.ofBits .f32 1149239296#32) + Ideal.ofBits .f32 897988541#32)
      = ((rinv v : ℝ) : EReal) := by
  simp only [lit_1024, lit_eps, ← EReal.coe_mul, ← coe_sum, div_1024, ← EReal.coe_add]
  exact rsqrt_ms v

/-- The reciprocal root mean square over the mean square, as the differentiated programs write it. -/
theorem rsqrt_row_div {n : ℕ} (v : Fin n → ℝ) :
    Ideal.div ((rinv v : ℝ) : EReal)
      (Ideal.div (∑ k : Fin n, (v k : EReal) * (v k : EReal)) (Ideal.ofBits .f32 1149239296#32) + Ideal.ofBits .f32 897988541#32)
      = ((rinv v * (rinv v * rinv v) : ℝ) : EReal) := by
  simp only [lit_1024, lit_eps, ← EReal.coe_mul, ← coe_sum, div_1024, ← EReal.coe_add]
  rw [← rinv_sq]
  exact div_real _ _ (ms_pos v).ne'

/-- The logistic function. -/
def logi (x : ℝ) : ℝ := 1 / (1 + Real.exp (-x))

theorem logi_row (x : ℝ) : Ideal.div 1 (1 + Ideal.exp (-(x : EReal))) = ((logi x : ℝ) : EReal) := by
  rw [← EReal.coe_neg, Ideal.exp_coe, ← EReal.coe_one, ← EReal.coe_add]
  exact div_real _ _ (by positivity)

/-- A matrix holds the real numbers `X`. -/
abbrev Is {a b : ℕ} (x : Shape.Idx ⟨2, ![a, b]⟩ → EReal) (X : Fin a → Fin b → ℝ) : Prop :=
  ∀ (i : Fin a) (j : Fin b), x (ix2 i j) = (X i j : EReal)

/-- A stack of matrices of height one holds the real numbers `X`. -/
abbrev Is3 {a b : ℕ} (x : Shape.Idx ⟨3, ![1, a, b]⟩ → EReal) (X : Fin a → Fin b → ℝ) : Prop :=
  ∀ (i : Fin a) (j : Fin b), x (ix3 0 i j) = (X i j : EReal)

/-- The logistic function, with the negation written as a difference. -/
theorem logi_sub (x : ℝ) : Ideal.div 1 (1 + Ideal.exp (0 - (x : EReal))) = ((logi x : ℝ) : EReal) := by
  rw [zero_sub, logi_row]

/-- The gradient of a row behind its normalisation, from the gradient `dy` in front of it. -/
def rmsback {n : ℕ} (v dy g : Fin n → ℝ) (i : Fin n) : ℝ :=
  rinv v * (dy i * g i - v i * rinv v * ((∑ j, dy j * g j * (v j * rinv v)) / 1024))

/-- The same in the differentiated form. -/
theorem rmsback_eq {n : ℕ} (v dy g : Fin n → ℝ) (i : Fin n) :
    dy i * g i * rinv v + v i * ((∑ j, v j * (dy j * g j)) * (-1 / 2 * (rinv v * (rinv v * rinv v))) / 1024)
      + (∑ j, v j * (dy j * g j)) * (-1 / 2 * (rinv v * (rinv v * rinv v))) / 1024 * v i = rmsback v dy g i := by
  unfold rmsback
  have h : ∑ j, dy j * g j * (v j * rinv v) = (∑ j, v j * (dy j * g j)) * rinv v := by
    rw [Finset.sum_mul]; exact Finset.sum_congr rfl fun j _ => by ring
  rw [h]; ring

end Cert.Proof

end
-- ==== Proof.FfnReal.lean ====
/- One row of the gated feed-forward layer with the loss behind it, forward and backward, over the real numbers. -/
module

public import proofs.«01_k».proof.Proof.Real

@[expose] public section

noncomputable section

namespace Cert.Proof.Ffn

/-- The weights of the layer: two gains, gate and up projections side by side, the down projection. -/
structure Weights where
  g3 : Fin 1024 → ℝ
  gf : Fin 1024 → ℝ
  w : Fin 1024 → Fin 5632 → ℝ
  wd : Fin 2816 → Fin 1024 → ℝ

variable (p : Weights) (v t : Fin 1024 → ℝ)

def xn (i : Fin 1024) : ℝ := v i * rinv v * p.g3 i
def gu (q : Fin 5632) : ℝ := ∑ i, xn p v i * p.w i q
def gate (q : Fin 2816) : ℝ := gu p v ⟨q.val, by omega⟩
def up (q : Fin 2816) : ℝ := gu p v ⟨2816 + q.val, by omega⟩
def act (q : Fin 2816) : ℝ := gate p v q * logi (gate p v q) * up p v q
def x3 (i : Fin 1024) : ℝ := v i + ∑ q, act p v q * p.wd q i
def err (i : Fin 1024) : ℝ := x3 p v i * rinv (x3 p v) * p.gf i - t i
def loss : ℝ := 1 / 2 * ((∑ i, err p v t i * err p v t i) / 1024)
def dy (i : Fin 1024) : ℝ := err p v t i / 1024
def dx3 (i : Fin 1024) : ℝ := rmsback (x3 p v) (dy p v t) p.gf i
def dgf (i : Fin 1024) : ℝ := dy p v t i * (x3 p v i * rinv (x3 p v))
def dact (q : Fin 2816) : ℝ := ∑ i, dx3 p v t i * p.wd q i
def dgate (q : Fin 2816) : ℝ :=
  dact p v t q * up p v q * (logi (gate p v q) * (1 + gate p v q * (1 - logi (gate p v q))))
def dup (q : Fin 2816) : ℝ := dact p v t q * (gate p v q * logi (gate p v q))
def dgu (q : Fin 5632) : ℝ := if h : q.val < 2816 then dgate p v t ⟨q.val, h⟩ else dup p v t ⟨q.val - 2816, by omega⟩
def dxn (i : Fin 1024) : ℝ := ∑ q, dgu p v t q * p.w i q
def dg3 (i : Fin 1024) : ℝ := dxn p v t i * (v i * rinv v)
def dx2 (i : Fin 1024) : ℝ := dx3 p v t i + rmsback v (dxn p v t) p.g3 i

end Cert.Proof.Ffn

end
-- ==== Proof.FfnPay.lean ====
/- The kernel of the gated feed-forward layer: its stages on one block of rows, over the real numbers. -/
module

public import proofs.«01_k».proof.Proof.Gen.FfnIdeal.Value
public import proofs.«01_k».proof.Proof.FfnReal
public import Idealize.ShloMosaic.Lib.Claim
public import Idealize.ShloMosaic.Lib.Tactic.CleanTypes

@[expose] public section

set_option maxRecDepth 16384

noncomputable section

namespace Cert.Proof.Ffn

open Idealize.ShloMosaic Idealize.SL.Sem Cert.FfnIdeal Cert.FfnIdeal.Gen Idealize.ShloMosaic.TcCoe
open Idealize.ShloMosaic.Pipeline (Dat Cfg Window)

/-- Columns of the two halves of the layer's width. -/
abbrev lo (c : Fin 1408) : Fin 2816 := ⟨c.val, by omega⟩
abbrev hi (c : Fin 1408) : Fin 2816 := ⟨1408 + c.val, by omega⟩
/-- The gate's and the linear part's column of the joint projection. -/
abbrev gc (q : Fin 2816) : Fin 5632 := ⟨q.val, by omega⟩
abbrev uc (q : Fin 2816) : Fin 5632 := ⟨2816 + q.val, by omega⟩

variable {p : Weights} {X T : Fin 256 → Fin 1024 → ℝ}

theorem pay6 {x : Vec Ideal S256x1024 .f32} (hx : Is x X) : Is (k0_pay6 (F := Ideal) x) (fun a _ => rinv (X a)) := by
  intro a b
  unfold_payloads
  pointwise [hx]
  exact rsqrt_row _

theorem pay7 {x : Vec Ideal S256x1024 .f32} (hx : Is x X) : Is (k0_pay7 (F := Ideal) x) (fun a i => X a i * rinv (X a)) := by
  intro a b
  have h := pay6 hx
  unfold k0_pay7
  pointwise [hx, h, EReal.coe_mul]

theorem pay8 {x : Vec Ideal S256x1024 .f32} {g : Vec Ideal S1x1024 .f32} (hx : Is x X) (hg : Is g fun _ => p.g3) :
    Is (k0_pay8 (F := Ideal) x g) (fun a => xn p (X a)) := by
  intro a b
  have h := pay7 hx
  unfold k0_pay8
  pointwise [h, hg, xn, EReal.coe_mul]

theorem pay9 {x : Vec Ideal S256x1024 .f32} {g : Vec Ideal S1x1024 .f32} {w : Vec Ideal S1x1024x1408 .bf16}
    (h8 : Is (k0_pay8 (F := Ideal) x g) (fun a => xn p (X a))) (hw : Is3 w fun i c => p.w i (gc (lo c))) :
    Is (k0_pay9 (F := Ideal) x g w) (fun a c => gate p (X a) (lo c)) := by
  intro a b
  unfold k0_pay9
  pointwise [h8, hw, gate, gu, coe_sum, EReal.coe_mul]

theorem pay10 {x : Vec Ideal S256x1024 .f32} {g : Vec Ideal S1x1024 .f32} {w : Vec Ideal S1x1024x1408 .bf16}
    (h8 : Is (k0_pay8 (F := Ideal) x g) (fun a => xn p (X a))) (hw : Is3 w fun i c => p.w i (uc (lo c))) :
    Is (k0_pay10 (F := Ideal) x g w) (fun a c => up p (X a) (lo c)) := by
  intro a b
  unfold k0_pay10
  pointwise [h8, hw, up, gu, coe_sum, EReal.coe_mul]

theorem pay11 {x : Vec Ideal S256x1024 .f32} {g : Vec Ideal S1x1024 .f32} {w : Vec Ideal S1x1024x1408 .bf16}
    (h9 : Is (k0_pay9 (F := Ideal) x g w) (fun a c => gate p (X a) (lo c))) : Is (k0_pay11 (F := Ideal) x g w) (fun a c => logi (gate p (X a) (lo c))) := by
  intro a b
  unfold k0_pay11
  pointwise [h9, logi_sub]

theorem pay12 {x : Vec Ideal S256x1024 .f32} {g : Vec Ideal S1x1024 .f32} {w : Vec Ideal S1x1024x1408 .bf16}
    (h9 : Is (k0_pay9 (F := Ideal) x g w) (fun a c => gate p (X a) (lo c))) :
    Is (k0_pay12 (F := Ideal) x g w) (fun a c => gate p (X a) (lo c) * logi (gate p (X a) (lo c))) := by
  intro a b
  have h := pay11 h9
  unfold k0_pay12
  pointwise [h, h9, EReal.coe_mul]

theorem pay13 {x : Vec Ideal S256x1024 .f32} {g : Vec Ideal S1x1024 .f32} {w w' : Vec Ideal S1x1024x1408 .bf16}
    (h9 : Is (k0_pay9 (F := Ideal) x g w) (fun a c => gate p (X a) (lo c))) (h10 : Is (k0_pay10 (F := Ideal) x g w') (fun a c => up p (X a) (lo c))) :
    Is (k0_pay13 (F := Ideal) x g w w') (fun a c => act p (X a) (lo c)) := by
  intro a b
  have h := pay12 h9
  unfold k0_pay13
  pointwise [h, h10, act, EReal.coe_mul]

theorem pay14 {x : Vec Ideal S256x1408 .f32} {Y : Fin 256 → Fin 1408 → ℝ} (hx : Is x Y) : Is (k0_pay14 (F := Ideal) x) Y := by
  intro a b
  unfold k0_pay14
  pointwise [hx]

/-- The slope of the gate's activation. -/
theorem slope {x s : Vec Ideal S256x1408 .f32} {Y : Fin 256 → Fin 1408 → ℝ} (hx : Is x Y) (hs : Is s fun a c => logi (Y a c)) :
    Is (k0_pay15 (F := Ideal) x s) (fun a c => logi (Y a c) * (1 + Y a c * (1 - logi (Y a c)))) := by
  intro a b
  unfold k0_pay15
  pointwise [hx, hs, EReal.coe_mul, EReal.coe_add, EReal.coe_sub, EReal.coe_one]

theorem pay16 {x : Vec Ideal S256x1024 .bf16} {w : Vec Ideal S1x1024x1408 .bf16}
    (h8 : Is x (fun a => xn p (X a))) (hw : Is3 w fun i c => p.w i (gc (hi c))) :
    Is (k0_pay16 (F := Ideal) x w) (fun a c => gate p (X a) (hi c)) := by
  intro a b
  unfold k0_pay16
  pointwise [h8, hw, gate, gu, coe_sum, EReal.coe_mul]

theorem pay17 {x : Vec Ideal S256x1024 .bf16} {w : Vec Ideal S1x1024x1408 .bf16}
    (h8 : Is x (fun a => xn p (X a))) (hw : Is3 w fun i c => p.w i (uc (hi c))) :
    Is (k0_pay17 (F := Ideal) x w) (fun a c => up p (X a) (hi c)) := by
  intro a b
  unfold k0_pay17
  pointwise [h8, hw, up, gu, coe_sum, EReal.coe_mul]

theorem pay18 {x : Vec Ideal S256x1024 .bf16} {w : Vec Ideal S1x1024x1408 .bf16}
    (h16 : Is (k0_pay16 (F := Ideal) x w) (fun a c => gate p (X a) (hi c))) : Is (k0_pay18 (F := Ideal) x w) (fun a c => logi (gate p (X a) (hi c))) := by
  intro a b
  unfold k0_pay18
  pointwise [h16, logi_sub]

theorem pay19 {x : Vec Ideal S256x1024 .bf16} {w : Vec Ideal S1x1024x1408 .bf16}
    (h16 : Is (k0_pay16 (F := Ideal) x w) (fun a c => gate p (X a) (hi c))) :
    Is (k0_pay19 (F := Ideal) x w) (fun a c => gate p (X a) (hi c) * logi (gate p (X a) (hi c))) := by
  intro a b
  have h := pay18 h16
  unfold k0_pay19
  pointwise [h, h16, EReal.coe_mul]

theorem pay20 {x : Vec Ideal S256x1024 .bf16} {w w' : Vec Ideal S1x1024x1408 .bf16}
    (h16 : Is (k0_pay16 (F := Ideal) x w) (fun a c => gate p (X a) (hi c))) (h17 : Is (k0_pay17 (F := Ideal) x w') (fun a c => up p (X a) (hi c))) :
    Is (k0_pay20 (F := Ideal) x w w') (fun a c => act p (X a) (hi c)) := by
  intro a b
  have h := pay19 h16
  unfold k0_pay20
  pointwise [h, h17, act, EReal.coe_mul]

theorem pay21 {x : Vec Ideal S256x1024 .f32} {xb : Vec Ideal S256x1024 .bf16} {y : Vec Ideal S256x1408 .f32}
    {d d' : Vec Ideal S1408x1024 .bf16} {w w' : Vec Ideal S1x1024x1408 .bf16} (hx : Is x X) (hy : Is y fun a c => act p (X a) (lo c))
    (h20 : Is (k0_pay20 (F := Ideal) xb w w') (fun a c => act p (X a) (hi c))) (hd : Is d fun c => p.wd (lo c)) (hd' : Is d' fun c => p.wd (hi c)) :
    Is (k0_pay21 (F := Ideal) x xb y d w w' d') (fun a => x3 p (X a)) := by
  intro a b
  have h := pay14 hy
  unfold k0_pay21
  pointwise [hx, h, h20, hd, hd']
  simp only [← EReal.coe_mul, ← coe_sum, ← EReal.coe_add]
  congr 1
  unfold x3
  rw [sum_blocks 2 1408 rfl, Fin.sum_univ_two, ← add_assoc]
  simp

variable {z : Vec Ideal S256x1024 .f32} {f : Vec Ideal S1x1024 .f32} {tg : Vec Ideal S256x1024 .f32}

theorem pay25 (hz : Is z X) : Is (k0_pay25 (F := Ideal) z) (fun a _ => rinv (X a)) := by
  intro a b
  unfold_payloads
  pointwise [hz]
  exact rsqrt_row _

theorem pay26 (hz : Is z X) : Is (k0_pay26 (F := Ideal) z) (fun a i => X a i * rinv (X a)) := by
  intro a b
  have h := pay25 hz
  unfold k0_pay26
  pointwise [hz, h, EReal.coe_mul]

theorem pay27 (hz : Is z fun a => x3 p (X a)) (hf : Is f fun _ => p.gf) (ht : Is tg T) :
    Is (k0_pay27 (F := Ideal) z f tg) (fun a => err p (X a) (T a)) := by
  intro a b
  have h := pay26 hz
  unfold k0_pay27 k0_pay24
  pointwise [h, hf, ht, err, EReal.coe_mul, EReal.coe_sub]

theorem pay28 {l : Vec Ideal S1x1 .f32} (h27 : Is (k0_pay27 (F := Ideal) z f tg) (fun a => err p (X a) (T a))) (a b : Fin 1) :
    k0_pay28 (F := Ideal) z f tg l (ix2 a b) = l (ix2 a b) + ((∑ r, loss p (X r) (T r) : ℝ) : EReal) := by
  unfold k0_pay28
  pointwise [h27]
  simp only [← EReal.coe_mul, ← coe_sum, lit_half, lit_1024, div_1024]
  congr 2
  unfold loss
  rw [← Finset.mul_sum, ← Finset.sum_div]
  ring

theorem pay29 (h27 : Is (k0_pay27 (F := Ideal) z f tg) (fun a => err p (X a) (T a))) : Is (k0_pay29 (F := Ideal) z f tg) (fun a => dy p (X a) (T a)) := by
  intro a b
  unfold k0_pay29
  pointwise [h27, lit_1024, div_1024, dy]

theorem pay30 (hf : Is f fun _ => p.gf) (h27 : Is (k0_pay27 (F := Ideal) z f tg) (fun a => err p (X a) (T a))) :
    Is (k0_pay30 (F := Ideal) z f tg) (fun a i => dy p (X a) (T a) i * p.gf i) := by
  intro a b
  have h := pay29 h27
  unfold k0_pay30 k0_pay24
  pointwise [h, hf, EReal.coe_mul]

theorem pay31 (hz : Is z fun a => x3 p (X a)) (h30 : Is (k0_pay30 (F := Ideal) z f tg) (fun a i => dy p (X a) (T a) i * p.gf i)) :
    Is (k0_pay31 (F := Ideal) z f tg) (fun a _ => ∑ i, dy p (X a) (T a) i * p.gf i * (x3 p (X a) i * rinv (x3 p (X a)))) := by
  intro a b
  have h := pay26 hz
  unfold k0_pay31
  pointwise [h, h30, EReal.coe_mul, coe_sum]

variable {r3 : Vec Ideal S256x1 .f32} {xh dg : Vec Ideal S256x1024 .f32} {sm : Vec Ideal S256x1 .f32}

theorem pay32 (hr : Is r3 fun a _ => rinv (x3 p (X a))) (hh : Is xh fun a i => x3 p (X a) i * rinv (x3 p (X a)))
    (hg : Is dg fun a i => dy p (X a) (T a) i * p.gf i)
    (hs : Is sm fun a _ => ∑ i, dy p (X a) (T a) i * p.gf i * (x3 p (X a) i * rinv (x3 p (X a)))) :
    Is (k0_pay32 (F := Ideal) r3 xh dg sm) (fun a => dx3 p (X a) (T a)) := by
  intro a b
  unfold k0_pay32
  pointwise [hr, hh, hg, hs, lit_1024, div_1024, dx3, rmsback, EReal.coe_mul, EReal.coe_sub]

theorem pay33 {y : Vec Ideal S256x1024 .f32} {acc : Vec Ideal S1x1024 .f32}
    (hh : Is xh fun a i => x3 p (X a) i * rinv (x3 p (X a))) (hy : Is y fun a => dy p (X a) (T a)) (a : Fin 1) (i : Fin 1024) :
    k0_pay33 (F := Ideal) xh y acc (ix2 a i) = acc (ix2 a i) + ((∑ r, dgf p (X r) (T r) i : ℝ) : EReal) := by
  unfold k0_pay33
  pointwise [hh, hy, dgf, EReal.coe_mul, coe_sum]

theorem pay34 (h : Is (k0_pay32 (F := Ideal) r3 xh dg sm) (fun a => dx3 p (X a) (T a))) :
    Is (k0_pay34 (F := Ideal) r3 xh dg sm) (fun a => dx3 p (X a) (T a)) := by
  intro a b
  unfold k0_pay34
  pointwise [h]

theorem pay35 {d : Vec Ideal S1408x1024 .bf16} (h34 : Is (k0_pay34 (F := Ideal) r3 xh dg sm) (fun a => dx3 p (X a) (T a)))
    (hd : Is d fun c => p.wd (lo c)) : Is (k0_pay35 (F := Ideal) r3 xh dg sm d) (fun a c => dact p (X a) (T a) (lo c)) := by
  intro a b
  unfold k0_pay35
  pointwise [h34, hd, dact, EReal.coe_mul, coe_sum]

theorem pay40 {x : Vec Ideal S256x1024 .bf16} {d : Vec Ideal S1408x1024 .bf16} (hx : Is x (fun a => dx3 p (X a) (T a)))
    (hd : Is d fun c => p.wd (hi c)) : Is (k0_pay40 (F := Ideal) x d) (fun a c => dact p (X a) (T a) (hi c)) := by
  intro a b
  unfold k0_pay40
  pointwise [hx, hd, dact, EReal.coe_mul, coe_sum]

variable {u s l : Vec Ideal S256x1408 .f32} {d : Vec Ideal S1408x1024 .bf16}

theorem pay36 (hu : Is u fun a c => up p (X a) (lo c))
    (hs : Is s fun a c => logi (gate p (X a) (lo c)) * (1 + gate p (X a) (lo c) * (1 - logi (gate p (X a) (lo c)))))
    (h35 : Is (k0_pay35 (F := Ideal) r3 xh dg sm d) (fun a c => dact p (X a) (T a) (lo c))) :
    Is (k0_pay36 (F := Ideal) u s r3 xh dg sm d) (fun a c => dgate p (X a) (T a) (lo c)) := by
  intro a b
  unfold k0_pay36
  pointwise [hu, hs, h35]
  rw [← EReal.coe_mul, ← EReal.coe_mul]; rfl

theorem pay37 (hl : Is l fun a c => gate p (X a) (lo c) * logi (gate p (X a) (lo c)))
    (h35 : Is (k0_pay35 (F := Ideal) r3 xh dg sm d) (fun a c => dact p (X a) (T a) (lo c))) :
    Is (k0_pay37 (F := Ideal) l r3 xh dg sm d) (fun a c => dup p (X a) (T a) (lo c)) := by
  intro a b
  unfold k0_pay37
  pointwise [hl, h35]
  rw [← EReal.coe_mul]; rfl

variable {x : Vec Ideal S256x1024 .bf16}

theorem pay41 (hu : Is u fun a c => up p (X a) (hi c))
    (hs : Is s fun a c => logi (gate p (X a) (hi c)) * (1 + gate p (X a) (hi c) * (1 - logi (gate p (X a) (hi c)))))
    (h40 : Is (k0_pay40 (F := Ideal) x d) (fun a c => dact p (X a) (T a) (hi c))) :
    Is (k0_pay41 (F := Ideal) u s x d) (fun a c => dgate p (X a) (T a) (hi c)) := by
  intro a b
  unfold k0_pay41
  pointwise [hu, hs, h40]
  rw [← EReal.coe_mul, ← EReal.coe_mul]; rfl

theorem pay42 (hl : Is l fun a c => gate p (X a) (hi c) * logi (gate p (X a) (hi c)))
    (h40 : Is (k0_pay40 (F := Ideal) x d) (fun a c => dact p (X a) (T a) (hi c))) :
    Is (k0_pay42 (F := Ideal) l x d) (fun a c => dup p (X a) (T a) (hi c)) := by
  intro a b
  unfold k0_pay42
  pointwise [hl, h40]
  rw [← EReal.coe_mul]; rfl

theorem dgu_gate (q : Fin 2816) (v t : Fin 1024 → ℝ) : dgu p v t (gc q) = dgate p v t q := by
  unfold dgu; rw [dif_pos q.isLt]

theorem dgu_up (q : Fin 2816) (v t : Fin 1024 → ℝ) : dgu p v t (uc q) = dup p v t q := by
  unfold dgu; rw [dif_neg (by simp)]; congr 1; exact Fin.ext (by simp)

theorem pay38 {w : Vec Ideal S1x1024x1408 .bf16} (h36 : Is (k0_pay36 (F := Ideal) u s r3 xh dg sm d) (fun a c => dgate p (X a) (T a) (lo c)))
    (hw : Is3 w fun i c => p.w i (gc (lo c))) :
    Is (k0_pay38 (F := Ideal) u s r3 xh dg sm d w) (fun a i => ∑ c : Fin 1408, dgate p (X a) (T a) (lo c) * p.w i (gc (lo c))) := by
  intro a b
  unfold k0_pay38
  pointwise [h36, hw, EReal.coe_mul, coe_sum]

theorem pay43 {dub : Vec Ideal S256x1408 .bf16} {w0 : Vec Ideal S256x1024 .f32} {w2 : Vec Ideal S1x1024x1408 .bf16} {w1 w3 : Vec Ideal S1x1024x1408 .bf16}
    (h37 : Is dub (fun a c => dup p (X a) (T a) (lo c)))
    (h38 : Is w0 (fun a i => ∑ c : Fin 1408, dgate p (X a) (T a) (lo c) * p.w i (gc (lo c))))
    (h41 : Is (k0_pay41 (F := Ideal) u s x d) (fun a c => dgate p (X a) (T a) (hi c))) (h42 : Is (k0_pay42 (F := Ideal) l x d) (fun a c => dup p (X a) (T a) (hi c)))
    (hw2 : Is3 w2 fun i c => p.w i (uc (lo c))) (hw1 : Is3 w1 fun i c => p.w i (gc (hi c))) (hw3 : Is3 w3 fun i c => p.w i (uc (hi c))) :
    Is (k0_pay43 (F := Ideal) u l s x dub w0 (k0_pay39 (F := Ideal) w2) d w1 w3) (fun a => dxn p (X a) (T a)) := by
  intro a b
  unfold k0_pay43 k0_pay39
  pointwise [h37, h38, h41, h42, hw1, hw2, hw3]
  simp only [← EReal.coe_mul, ← coe_sum, ← EReal.coe_add]
  congr 1
  unfold dxn
  rw [sum_blocks 4 1408 rfl, Fin.sum_univ_four, add_right_comm (Finset.sum _ _)]
  simp only [← dgu_gate, ← dgu_up]
  rfl

/-- The gradient behind the first normalisation. -/
theorem pay44 {r1 : Vec Ideal S256x1 .f32} {x1 : Vec Ideal S256x1024 .f32} {dub : Vec Ideal S256x1408 .bf16} {w0 : Vec Ideal S256x1024 .f32}
    {w2 : Vec Ideal S1024x1408 .bf16} {w1 w3 : Vec Ideal S1x1024x1408 .bf16} {g : Vec Ideal S1x1024 .f32}
    (hr : Is r1 fun a _ => rinv (X a)) (hx : Is x1 fun a i => X a i * rinv (X a)) (hg : Is g fun _ => p.g3)
    (h43 : Is (k0_pay43 (F := Ideal) u l s x dub w0 w2 d w1 w3) (fun a => dxn p (X a) (T a))) :
    Is (k0_pay44 (F := Ideal) r1 x1 u l s x dub w0 w2 d w1 w3 g) (fun a => rmsback (X a) (dxn p (X a) (T a)) p.g3) := by
  intro a b
  unfold k0_pay44
  pointwise [hr, hx, hg, h43]
  simp only [← EReal.coe_mul, ← coe_sum, lit_1024, div_1024, ← EReal.coe_sub]
  rfl

theorem pay45 {x1 : Vec Ideal S256x1024 .f32} {dub : Vec Ideal S256x1408 .bf16} {w0 : Vec Ideal S256x1024 .f32}
    {w2 : Vec Ideal S1024x1408 .bf16} {w1 w3 : Vec Ideal S1x1024x1408 .bf16} {acc : Vec Ideal S1x1024 .f32}
    (hx : Is x1 fun a i => X a i * rinv (X a))
    (h43 : Is (k0_pay43 (F := Ideal) u l s x dub w0 w2 d w1 w3) (fun a => dxn p (X a) (T a))) (a : Fin 1) (i : Fin 1024) :
    k0_pay1 (F := Ideal) (k0_pay45 (F := Ideal) x1 u l s x dub w0 w2 d w1 w3) acc (ix2 a i) = acc (ix2 a i) + ((∑ r, dg3 p (X r) (T r) i : ℝ) : EReal) := by
  unfold k0_pay1 k0_pay45
  pointwise [hx, h43, dg3, EReal.coe_mul, coe_sum]

theorem pay2 {x y : Vec Ideal S256x1024 .f32} (hx : Is x fun a => dx3 p (X a) (T a))
    (hy : Is y fun a => rmsback (X a) (dxn p (X a) (T a)) p.g3) : Is (k0_pay2 (F := Ideal) x y) fun a => dx2 p (X a) (T a) := by
  intro a b
  unfold k0_pay2
  pointwise [hx, hy, dx2, EReal.coe_add]

theorem slope2 {x s : Vec Ideal S256x1408 .f32} {Y : Fin 256 → Fin 1408 → ℝ} (hx : Is x Y) (hs : Is s fun a c => logi (Y a c)) :
    Is (k0_pay23 (F := Ideal) x s (k0_pay22 (F := Ideal))) (fun a c => logi (Y a c) * (1 + Y a c * (1 - logi (Y a c)))) := by
  intro a b
  unfold k0_pay23 k0_pay22
  pointwise [hx, hs, EReal.coe_mul, EReal.coe_add, EReal.coe_sub, EReal.coe_one]

/-! ### The stages composed, from what one grid point reads -/

section chain

variable (y0 y3 : Vec Ideal S256x1024 .f32) (y1 y2 : Vec Ideal S1x1024 .f32) (w0 w1 w2 w3 : Vec Ideal S1x1024x1408 .bf16)
  (d0 d1 : Vec Ideal S1408x1024 .bf16)

abbrev Vxn := k0_pay8 (F := Ideal) y0 y1
abbrev Vx3 := k0_pay21 (F := Ideal) y0 (Vxn y0 y1) (k0_pay13 y0 y1 w0 w2) d0 w1 w3 d1
abbrev Vr := k0_pay25 (F := Ideal) (Vx3 y0 y1 w0 w1 w2 w3 d0 d1)
abbrev Vh := k0_pay26 (F := Ideal) (Vx3 y0 y1 w0 w1 w2 w3 d0 d1)
abbrev Vy := k0_pay29 (F := Ideal) (Vx3 y0 y1 w0 w1 w2 w3 d0 d1) y2 y3
abbrev Vg := k0_pay30 (F := Ideal) (Vx3 y0 y1 w0 w1 w2 w3 d0 d1) y2 y3
abbrev Vs := k0_pay31 (F := Ideal) (Vx3 y0 y1 w0 w1 w2 w3 d0 d1) y2 y3
abbrev Vdx3 := k0_pay32 (F := Ideal) (Vr y0 y1 w0 w1 w2 w3 d0 d1) (Vh y0 y1 w0 w1 w2 w3 d0 d1) (Vg y0 y3 y1 y2 w0 w1 w2 w3 d0 d1)
  (Vs y0 y3 y1 y2 w0 w1 w2 w3 d0 d1)
abbrev Vdx3b := k0_pay34 (F := Ideal) (Vr y0 y1 w0 w1 w2 w3 d0 d1) (Vh y0 y1 w0 w1 w2 w3 d0 d1) (Vg y0 y3 y1 y2 w0 w1 w2 w3 d0 d1)
  (Vs y0 y3 y1 y2 w0 w1 w2 w3 d0 d1)
abbrev Vs0 := k0_pay15 (F := Ideal) (k0_pay9 y0 y1 w0) (k0_pay11 y0 y1 w0)
abbrev Vs1 := k0_pay23 (F := Ideal) (k0_pay16 (Vxn y0 y1) w1) (k0_pay18 (Vxn y0 y1) w1) k0_pay22
abbrev Vg0 := k0_pay36 (F := Ideal) (k0_pay10 y0 y1 w2) (Vs0 y0 y1 w0) (Vr y0 y1 w0 w1 w2 w3 d0 d1) (Vh y0 y1 w0 w1 w2 w3 d0 d1)
  (Vg y0 y3 y1 y2 w0 w1 w2 w3 d0 d1) (Vs y0 y3 y1 y2 w0 w1 w2 w3 d0 d1) d0
abbrev Vu0 := k0_pay37 (F := Ideal) (k0_pay12 y0 y1 w0) (Vr y0 y1 w0 w1 w2 w3 d0 d1) (Vh y0 y1 w0 w1 w2 w3 d0 d1)
  (Vg y0 y3 y1 y2 w0 w1 w2 w3 d0 d1) (Vs y0 y3 y1 y2 w0 w1 w2 w3 d0 d1) d0
abbrev Vp := k0_pay38 (F := Ideal) (k0_pay10 y0 y1 w2) (Vs0 y0 y1 w0) (Vr y0 y1 w0 w1 w2 w3 d0 d1) (Vh y0 y1 w0 w1 w2 w3 d0 d1)
  (Vg y0 y3 y1 y2 w0 w1 w2 w3 d0 d1) (Vs y0 y3 y1 y2 w0 w1 w2 w3 d0 d1) d0 w0
abbrev Vg1 := k0_pay41 (F := Ideal) (k0_pay17 (Vxn y0 y1) w3) (Vs1 y0 y1 w1) (Vdx3b y0 y3 y1 y2 w0 w1 w2 w3 d0 d1) d1
abbrev Vu1 := k0_pay42 (F := Ideal) (k0_pay19 (Vxn y0 y1) w1) (Vdx3b y0 y3 y1 y2 w0 w1 w2 w3 d0 d1) d1
abbrev Vdxr := k0_pay44 (F := Ideal) (k0_pay6 y0) (k0_pay7 y0) (k0_pay17 (Vxn y0 y1) w3) (k0_pay19 (Vxn y0 y1) w1) (Vs1 y0 y1 w1)
  (Vdx3b y0 y3 y1 y2 w0 w1 w2 w3 d0 d1) (Vu0 y0 y3 y1 y2 w0 w1 w2 w3 d0 d1) (Vp y0 y3 y1 y2 w0 w1 w2 w3 d0 d1) (k0_pay39 w2) d1 w1 w3 y1
abbrev Vdg3 := k0_pay45 (F := Ideal) (k0_pay7 y0) (k0_pay17 (Vxn y0 y1) w3) (k0_pay19 (Vxn y0 y1) w1) (Vs1 y0 y1 w1)
  (Vdx3b y0 y3 y1 y2 w0 w1 w2 w3 d0 d1) (Vu0 y0 y3 y1 y2 w0 w1 w2 w3 d0 d1) (Vp y0 y3 y1 y2 w0 w1 w2 w3 d0 d1) (k0_pay39 w2) d1 w1 w3

/-- Every stored value of one grid point. -/
structure Stored (p : Weights) (X T : Fin 256 → Fin 1024 → ℝ) : Prop where
  dx2 : Is (k0_pay2 (F := Ideal) (Vdx3 y0 y3 y1 y2 w0 w1 w2 w3 d0 d1) (Vdxr y0 y3 y1 y2 w0 w1 w2 w3 d0 d1)) fun a => dx2 p (X a) (T a)
  act0 : Is (k0_pay14 (F := Ideal) (k0_pay13 y0 y1 w0 w2)) fun a c => act p (X a) (lo c)
  act1 : Is (k0_pay20 (F := Ideal) (Vxn y0 y1) w1 w3) fun a c => act p (X a) (hi c)
  g0 : Is (Vg0 y0 y3 y1 y2 w0 w1 w2 w3 d0 d1) fun a c => dgate p (X a) (T a) (lo c)
  u0 : Is (Vu0 y0 y3 y1 y2 w0 w1 w2 w3 d0 d1) fun a c => dup p (X a) (T a) (lo c)
  g1 : Is (Vg1 y0 y3 y1 y2 w0 w1 w2 w3 d0 d1) fun a c => dgate p (X a) (T a) (hi c)
  u1 : Is (Vu1 y0 y3 y1 y2 w0 w1 w2 w3 d0 d1) fun a c => dup p (X a) (T a) (hi c)
  xn : Is (Vxn y0 y1) fun a => xn p (X a)
  dx3 : Is (Vdx3b y0 y3 y1 y2 w0 w1 w2 w3 d0 d1) fun a => dx3 p (X a) (T a)
  loss : ∀ (l : Vec Ideal S1x1 .f32) (a b : Fin 1), k0_pay28 (F := Ideal) (Vx3 y0 y1 w0 w1 w2 w3 d0 d1) y2 y3 l (ix2 a b)
    = l (ix2 a b) + ((∑ r, loss p (X r) (T r) : ℝ) : EReal)
  dgf : ∀ (acc : Vec Ideal S1x1024 .f32) (a : Fin 1) (i : Fin 1024),
    k0_pay33 (F := Ideal) (Vh y0 y1 w0 w1 w2 w3 d0 d1) (Vy y0 y3 y1 y2 w0 w1 w2 w3 d0 d1) acc (ix2 a i)
    = acc (ix2 a i) + ((∑ r, dgf p (X r) (T r) i : ℝ) : EReal)
  dg3 : ∀ (acc : Vec Ideal S1x1024 .f32) (a : Fin 1) (i : Fin 1024), k0_pay1 (F := Ideal) (Vdg3 y0 y3 y1 y2 w0 w1 w2 w3 d0 d1) acc (ix2 a i)
    = acc (ix2 a i) + ((∑ r, dg3 p (X r) (T r) i : ℝ) : EReal)

variable {y0 y3 y1 y2 w0 w1 w2 w3 d0 d1}

theorem stored (hx : Is y0 X) (hg : Is y1 fun _ => p.g3) (hf : Is y2 fun _ => p.gf) (ht : Is y3 T)
    (hw0 : Is3 w0 fun i c => p.w i (gc (lo c))) (hw1 : Is3 w1 fun i c => p.w i (gc (hi c)))
    (hw2 : Is3 w2 fun i c => p.w i (uc (lo c))) (hw3 : Is3 w3 fun i c => p.w i (uc (hi c)))
    (hd0 : Is d0 fun c => p.wd (lo c)) (hd1 : Is d1 fun c => p.wd (hi c)) : Stored y0 y3 y1 y2 w0 w1 w2 w3 d0 d1 p X T := by
  have h6 := pay6 hx
  have h7 := pay7 hx
  have h8 := pay8 hx hg
  have h9 := pay9 h8 hw0
  have h10 := pay10 h8 hw2
  have h12 := pay12 h9
  have h13 := pay13 h9 h10
  have hs0 := slope h9 (pay11 h9)
  have h16 := pay16 h8 hw1
  have h17 := pay17 h8 hw3
  have h19 := pay19 h16
  have h20 := pay20 h16 h17
  have hs1 := slope2 h16 (pay18 h16)
  have h21 := pay21 hx h13 h20 hd0 hd1
  have h25 := pay25 h21
  have h26 := pay26 h21
  have h27 := pay27 h21 hf ht
  have h29 := pay29 h27
  have h30 := pay30 hf h27
  have h31 := pay31 h21 h30
  have h32 := pay32 h25 h26 h30 h31
  have h34 := pay34 h32
  have h35 := pay35 h34 hd0
  have h36 := pay36 h10 hs0 h35
  have h37 := pay37 h12 h35
  have h38 := pay38 h36 hw0
  have h40 := pay40 h34 hd1
  have h41 := pay41 h17 hs1 h40
  have h42 := pay42 h19 h40
  have h43 := pay43 h37 h38 h41 h42 hw2 hw1 hw3
  exact ⟨pay2 h32 (pay44 h6 h7 hg h43), pay14 h13, h20, h36, h37, h41, h42, h8, h34, fun _ => pay28 h27, fun _ => pay33 h26 h29,
    fun _ => pay45 h7 h43⟩

end chain

end Cert.Proof.Ffn

end
-- ==== Proof.FfnOut.lean ====
/- The kernel of the gated feed-forward layer: what one grid point leaves in the staging buffers. -/
module

public import proofs.«01_k».proof.Proof.FfnPay

@[expose] public section

set_option maxRecDepth 16384

noncomputable section

namespace Cert.Proof.Ffn

open Idealize.ShloMosaic Idealize.SL.Sem Cert.FfnIdeal Cert.FfnIdeal.Gen Idealize.ShloMosaic.TcCoe
open Idealize.ShloMosaic.Pipeline (Dat Cfg Window)

variable {p : Weights} {X T : Fin 256 → Fin 1024 → ℝ}

theorem hz : (![0, 0] : Fin 2 → Nat) = fun _ => 0 := funext fun a => by fin_cases a <;> rfl

/-- What one grid point's input blocks hold. -/
structure Blk (p : Weights) (X T : Fin 256 → Fin 1024 → ℝ) (x0 : Vec Ideal S256x1024 .f32) (x1 x2 : Vec Ideal S1x1024 .f32)
    (x3 : Vec Ideal S256x1024 .f32) (x4 : Vec Ideal S4x1024x1408 .bf16) (x5 : Vec Ideal S2816x1024 .bf16) : Prop where
  x : Is x0 X
  g3 : Is x1 fun _ => p.g3
  gf : Is x2 fun _ => p.gf
  t : Is x3 T
  w : ∀ (k : Fin 4) (i : Fin 1024) (c : Fin 1408), x4 (ix3 k i c) = ((p.w i ⟨1408 * k.val + c.val, by omega⟩ : ℝ) : EReal)
  wd : Is x5 p.wd

section reads

theorem read_whole {a b : ℕ} {a1 : Memref sig .tc .vmem ⟨2, ![a, b]⟩ .f32} (h1 : a1.IsWhole) {x : Vec Ideal ⟨2, ![a, b]⟩ .f32} {Y : Fin a → Fin b → ℝ}
    (hx : Is x Y) (hh) : Is (View.readAt (Elt Ideal) a1.view (Rect.unit ![0, 0] (Shape.size ⟨2, ![a, b]⟩) hh).toLoadRect (h1.unread x)) Y := by
  rw [View.readAt_eq_ld, h1.read_unread, View.ld_unit_zero hz]
  exact hx

theorem read_lo {a1 : Memref sig .tc .vmem S2816x1024 .bf16} (h1 : a1.IsWhole) {x : Vec Ideal S2816x1024 .bf16}
    (hx : Is x p.wd) (hh) : Is (View.readAt (Elt Ideal) a1.view (Rect.unit (s := S2816x1024) ![0, 0] S1408x1024.size hh).toLoadRect (h1.unread x)) fun c => p.wd (lo c) := by
  intro i j
  rw [View.readAt_eq_ld, h1.read_unread]
  pointwise [hx]

theorem read_hi {a1 : Memref sig .tc .vmem S2816x1024 .bf16} (h1 : a1.IsWhole) {x : Vec Ideal S2816x1024 .bf16}
    (hx : Is x p.wd) (hh) : Is (View.readAt (Elt Ideal) a1.view (Rect.unit (s := S2816x1024) ![1408, 0] S1408x1024.size hh).toLoadRect (h1.unread x)) fun c => p.wd (hi c) := by
  intro i j
  rw [View.readAt_eq_ld, h1.read_unread]
  pointwise [hx]

variable {a5 : Memref sig .tc .vmem S4x1024x1408 .bf16} (h5 : a5.IsWhole) {x : Vec Ideal S4x1024x1408 .bf16}
    (hx : ∀ (k : Fin 4) (i : Fin 1024) (c : Fin 1408), x (ix3 k i c) = ((p.w i ⟨1408 * k.val + c.val, by omega⟩ : ℝ) : EReal))

include hx in
theorem read_w0 (hh) : Is3 (View.readAt (Elt Ideal) a5.view (Rect.unit (s := S4x1024x1408) ![0, 0, 0] S1x1024x1408.size hh).toLoadRect (h5.unread x))
    fun i c => p.w i (gc (lo c)) := by
  intro i j
  rw [View.readAt_eq_ld, h5.read_unread]
  pointwise [hx]

include hx in
theorem read_w1 (hh) : Is3 (View.readAt (Elt Ideal) a5.view (Rect.unit (s := S4x1024x1408) ![1, 0, 0] S1x1024x1408.size hh).toLoadRect (h5.unread x))
    fun i c => p.w i (gc (hi c)) := by
  intro i j
  rw [View.readAt_eq_ld, h5.read_unread]
  pointwise [hx]

include hx in
theorem read_w2 (hh) : Is3 (View.readAt (Elt Ideal) a5.view (Rect.unit (s := S4x1024x1408) ![2, 0, 0] S1x1024x1408.size hh).toLoadRect (h5.unread x))
    fun i c => p.w i (uc (lo c)) := by
  intro i j
  rw [View.readAt_eq_ld, h5.read_unread]
  pointwise [hx]

include hx in
theorem read_w3 (hh) : Is3 (View.readAt (Elt Ideal) a5.view (Rect.unit (s := S4x1024x1408) ![3, 0, 0] S1x1024x1408.size hh).toLoadRect (h5.unread x))
    fun i c => p.w i (uc (hi c)) := by
  intro i j
  rw [View.readAt_eq_ld, h5.read_unread]
  pointwise [hx]
  refine congrArg (fun q => ((p.w i q : ℝ) : EReal)) (Fin.ext ?_)
  show _ = 2816 + (1408 + j.val)
  dsimp only
  omega

end reads

variable (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1x1024 .f32) (h3 : a3.IsWhole)
  (a4 : Memref sig .tc .vmem S256x1024 .f32) (h4 : a4.IsWhole)
  (a5 : Memref sig .tc .vmem S4x1024x1408 .bf16) (h5 : a5.IsWhole)
  (a6 : Memref sig .tc .vmem S2816x1024 .bf16) (h6 : a6.IsWhole)
  (a7 : Memref sig .tc .vmem S256x1024 .f32) (h7 : a7.IsWhole)
  (a8 : Memref sig .tc .vmem S256x2816 .bf16) (h8 : a8.IsWhole)
  (a9 : Memref sig .tc .vmem S256x5632 .bf16) (h9 : a9.IsWhole)
  (a10 : Memref sig .tc .vmem S256x1024 .bf16) (h10 : a10.IsWhole)
  (a11 : Memref sig .tc .vmem S256x1024 .bf16) (h11 : a11.IsWhole)
  (a12 : Memref sig .tc .vmem S1x1 .f32) (h12 : a12.IsWhole)
  (a13 : Memref sig .tc .vmem S1x1024 .f32) (h13 : a13.IsWhole)
  (a14 : Memref sig .tc .vmem S1x1024 .f32) (h14 : a14.IsWhole)
  {x0 x3 : Vec Ideal S256x1024 .f32} {x1 x2 : Vec Ideal S1x1024 .f32} {x4 : Vec Ideal S4x1024x1408 .bf16} {x5 : Vec Ideal S2816x1024 .bf16}

theorem emb_idx {s : Shape} (r : Rect s) (x : r.shape.Idx) : r.emb x = r.idx x := rfl

/-- A block of an array of real numbers. -/
abbrev arr {a b : ℕ} (Y : Fin a → Fin b → ℝ) : Vec Ideal ⟨2, ![a, b]⟩ .bf16 := fun y => ((Y (y 0) (y 1) : ℝ) : EReal)

variable (H : Blk p X T x0 x1 x2 x3 x4 x5)
include H

/-- Every stored value, from the whole input blocks. -/
theorem all : Stored
    (View.readAt (Elt Ideal) a1.view (Rect.unit ![0, 0] S256x1024.size inb_S256x1024_S256x1024_0_0).toLoadRect (h1.unread x0))
    (View.readAt (Elt Ideal) a4.view (Rect.unit ![0, 0] S256x1024.size inb_S256x1024_S256x1024_0_0).toLoadRect (h4.unread x3))
    (View.readAt (Elt Ideal) a2.view (Rect.unit ![0, 0] S1x1024.size inb_S1x1024_S1x1024_0_0).toLoadRect (h2.unread x1))
    (View.readAt (Elt Ideal) a3.view (Rect.unit ![0, 0] S1x1024.size inb_S1x1024_S1x1024_0_0).toLoadRect (h3.unread x2))
    (View.readAt (Elt Ideal) a5.view (Rect.unit (s := S4x1024x1408) ![0, 0, 0] S1x1024x1408.size inb_S4x1024x1408_S1x1024x1408_0_0_0).toLoadRect (h5.unread x4))
    (View.readAt (Elt Ideal) a5.view (Rect.unit (s := S4x1024x1408) ![1, 0, 0] S1x1024x1408.size inb_S4x1024x1408_S1x1024x1408_1_0_0).toLoadRect (h5.unread x4))
    (View.readAt (Elt Ideal) a5.view (Rect.unit (s := S4x1024x1408) ![2, 0, 0] S1x1024x1408.size inb_S4x1024x1408_S1x1024x1408_2_0_0).toLoadRect (h5.unread x4))
    (View.readAt (Elt Ideal) a5.view (Rect.unit (s := S4x1024x1408) ![3, 0, 0] S1x1024x1408.size inb_S4x1024x1408_S1x1024x1408_3_0_0).toLoadRect (h5.unread x4))
    (View.readAt (Elt Ideal) a6.view (Rect.unit (s := S2816x1024) ![0, 0] S1408x1024.size inb_S2816x1024_S1408x1024_0_0).toLoadRect (h6.unread x5))
    (View.readAt (Elt Ideal) a6.view (Rect.unit (s := S2816x1024) ![1408, 0] S1408x1024.size inb_S2816x1024_S1408x1024_1408_0).toLoadRect (h6.unread x5)) p X T :=
  stored (read_whole h1 H.x _) (read_whole h2 H.g3 _) (read_whole h3 H.gf _) (read_whole h4 H.t _)
    (read_w0 h5 H.w _) (read_w1 h5 H.w _) (read_w2 h5 H.w _) (read_w3 h5 H.w _) (read_lo h6 H.wd _) (read_hi h6 H.wd _)

theorem outA6 (hc : cond0_0 i) : Is (out0_A_6 (F := Ideal) c i a1 h1 a2 h2 a3 h3 a4 h4 a5 h5 a6 h6 a7 h7 a8 h8 a9 h9 a10 h10 a11 h11 a12 h12 a13 h13 a14 h14 hc x0 x1 x2 x3 x4 x5) (fun a => dx2 p (X a) (T a)) := by
  unfold out0_A_6
  rw [View.read_writes_eq_canon _ _ _ (fun y => by apply cover0_A_6)]
  unfold kernelRun0_A
  dsimp only
  rw [View.canon_unit_zero hz]
  sl_unfold_words
  exact (all a1 h1 a2 h2 a3 h3 a4 h4 a5 h5 a6 h6 H).dx2

theorem outA9 (hc : cond0_0 i) : Is (out0_A_9 (F := Ideal) c i a1 h1 a2 h2 a3 h3 a4 h4 a5 h5 a6 h6 a7 h7 a8 h8 a9 h9 a10 h10 a11 h11 a12 h12 a13 h13 a14 h14 hc x0 x1 x2 x3 x4 x5) (fun a => xn p (X a)) := by
  unfold out0_A_9
  rw [View.read_writes_eq_canon _ _ _ (fun y => by apply cover0_A_9)]
  unfold kernelRun0_A
  dsimp only
  rw [View.canon_unit_zero hz]
  sl_unfold_words
  exact (all a1 h1 a2 h2 a3 h3 a4 h4 a5 h5 a6 h6 H).xn

theorem outA10 (hc : cond0_0 i) : Is (out0_A_10 (F := Ideal) c i a1 h1 a2 h2 a3 h3 a4 h4 a5 h5 a6 h6 a7 h7 a8 h8 a9 h9 a10 h10 a11 h11 a12 h12 a13 h13 a14 h14 hc x0 x1 x2 x3 x4 x5) (fun a => dx3 p (X a) (T a)) := by
  unfold out0_A_10
  rw [View.read_writes_eq_canon _ _ _ (fun y => by apply cover0_A_10)]
  unfold kernelRun0_A
  dsimp only
  rw [View.canon_unit_zero hz]
  sl_unfold_words
  exact (all a1 h1 a2 h2 a3 h3 a4 h4 a5 h5 a6 h6 H).dx3

theorem outA7 (hc : cond0_0 i) : Is (out0_A_7 (F := Ideal) c i a1 h1 a2 h2 a3 h3 a4 h4 a5 h5 a6 h6 a7 h7 a8 h8 a9 h9 a10 h10 a11 h11 a12 h12 a13 h13 a14 h14 hc x0 x1 x2 x3 x4 x5) (fun a => act p (X a)) := by
  have hs := all a1 h1 a2 h2 a3 h3 a4 h4 a5 h5 a6 h6 H
  intro r q
  unfold out0_A_7
  rw [View.read_writes_eq_canon _ _ _ (fun y => by apply cover0_A_7)]
  refine View.canon_apply_of_pieces (Val := Elt Ideal) (arr (fun a => act p (X a))) _ ?_ (ix2 r q) (by apply cover0_A_7)
  unfold kernelRun0_A
  dsimp only
  sl_unfold_words
  simp only [List.forall_mem_cons, List.not_mem_nil, false_imp_iff, implies_true, and_true]
  refine ⟨?_, ?_⟩ <;> intro x <;> idx_vars x <;> rw [emb_idx]
  · refine (hs.act1 _ _).trans ?_
    pointwise
    rfl
  · refine (hs.act0 _ _).trans ?_
    pointwise
    rfl

theorem outA8 (hc : cond0_0 i) : Is (out0_A_8 (F := Ideal) c i a1 h1 a2 h2 a3 h3 a4 h4 a5 h5 a6 h6 a7 h7 a8 h8 a9 h9 a10 h10 a11 h11 a12 h12 a13 h13 a14 h14 hc x0 x1 x2 x3 x4 x5) (fun a => dgu p (X a) (T a)) := by
  have hs := all a1 h1 a2 h2 a3 h3 a4 h4 a5 h5 a6 h6 H
  intro r q
  unfold out0_A_8
  rw [View.read_writes_eq_canon _ _ _ (fun y => by apply cover0_A_8)]
  refine View.canon_apply_of_pieces (Val := Elt Ideal) (arr (fun a => dgu p (X a) (T a))) _ ?_ (ix2 r q) (by apply cover0_A_8)
  unfold kernelRun0_A
  dsimp only
  sl_unfold_words
  simp only [List.forall_mem_cons, List.not_mem_nil, false_imp_iff, implies_true, and_true]
  refine ⟨?_, ?_, ?_, ?_⟩ <;> intro x <;> idx_vars x <;> rw [emb_idx]
  · refine (hs.u1 _ _).trans ?_
    pointwise
    rw [← dgu_up]
    exact congrArg (fun q => ((dgu p (X x0) (T x0) q : ℝ) : EReal)) (Fin.ext (show 2816 + (1408 + x1.val) = 4224 + x1.val by omega))
  · refine (hs.g1 _ _).trans ?_
    pointwise
    rw [← dgu_gate]
    exact congrArg (fun q => ((dgu p (X x0) (T x0) q : ℝ) : EReal)) (Fin.ext (show 1408 + x1.val = 1408 + x1.val by omega))
  · refine (hs.u0 _ _).trans ?_
    pointwise
    rw [← dgu_up]
    exact congrArg (fun q => ((dgu p (X x0) (T x0) q : ℝ) : EReal)) (Fin.ext (show 2816 + x1.val = 2816 + x1.val by omega))
  · refine (hs.g0 _ _).trans ?_
    pointwise
    rw [← dgu_gate]
    exact congrArg (fun q => ((dgu p (X x0) (T x0) q : ℝ) : EReal)) (Fin.ext (show x1.val = x1.val by omega))

theorem outA11 (hc : cond0_0 i) (z : Fin 1) (q : Fin 1) : out0_A_11 (F := Ideal) c i a1 h1 a2 h2 a3 h3 a4 h4 a5 h5 a6 h6 a7 h7 a8 h8 a9 h9 a10 h10 a11 h11 a12 h12 a13 h13 a14 h14 hc x0 x1 x2 x3 x4 x5 (ix2 z q)
    = ((∑ r, loss p (X r) (T r) : ℝ) : EReal) := by
  unfold out0_A_11
  rw [View.read_writes_eq_canon _ _ _ (fun y => by apply cover0_A_11)]
  unfold kernelRun0_A
  dsimp only
  sl_unfold_words
  rw [View.canon_cons_unit_zero (S := S1x1) hz, View.readCov_unit_zero (S := S1x1) _ hz]
  refine ((all a1 h1 a2 h2 a3 h3 a4 h4 a5 h5 a6 h6 H).loss _ _ _).trans ?_
  unfold_payloads
  pointwise

theorem outA12 (hc : cond0_0 i) (z : Fin 1) (q : Fin 1024) : out0_A_12 (F := Ideal) c i a1 h1 a2 h2 a3 h3 a4 h4 a5 h5 a6 h6 a7 h7 a8 h8 a9 h9 a10 h10 a11 h11 a12 h12 a13 h13 a14 h14 hc x0 x1 x2 x3 x4 x5 (ix2 z q)
    = ((∑ r, dgf p (X r) (T r) q : ℝ) : EReal) := by
  unfold out0_A_12
  rw [View.read_writes_eq_canon _ _ _ (fun y => by apply cover0_A_12)]
  unfold kernelRun0_A
  dsimp only
  sl_unfold_words
  rw [View.canon_cons_unit_zero (S := S1x1024) hz, View.readCov_unit_zero (S := S1x1024) _ hz]
  refine ((all a1 h1 a2 h2 a3 h3 a4 h4 a5 h5 a6 h6 H).dgf _ _ _).trans ?_
  unfold_payloads
  pointwise

theorem outA13 (hc : cond0_0 i) (z : Fin 1) (q : Fin 1024) : out0_A_13 (F := Ideal) c i a1 h1 a2 h2 a3 h3 a4 h4 a5 h5 a6 h6 a7 h7 a8 h8 a9 h9 a10 h10 a11 h11 a12 h12 a13 h13 a14 h14 hc x0 x1 x2 x3 x4 x5 (ix2 z q)
    = ((∑ r, dg3 p (X r) (T r) q : ℝ) : EReal) := by
  unfold out0_A_13
  rw [View.read_writes_eq_canon _ _ _ (fun y => by apply cover0_A_13)]
  unfold kernelRun0_A
  dsimp only
  sl_unfold_words
  rw [View.canon_cons_unit_zero (S := S1x1024) hz, View.readCov_unit_zero (S := S1x1024) _ hz]
  refine ((all a1 h1 a2 h2 a3 h3 a4 h4 a5 h5 a6 h6 H).dg3 _ _ _).trans ?_
  unfold_payloads
  pointwise

theorem outB6 (hc : ¬cond0_0 i) (xo11 : Vec Ideal S1x1 .f32) (xo12 xo13 : Vec Ideal S1x1024 .f32) : Is (out0_B_6 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13) (fun a => dx2 p (X a) (T a)) := by
  unfold out0_B_6
  rw [View.read_writes_eq_canon _ _ _ (fun y => by apply cover0_B_6)]
  unfold kernelRun0_B
  dsimp only
  rw [View.canon_unit_zero hz]
  sl_unfold_words
  exact (all a1 h1 a2 h2 a3 h3 a4 h4 a5 h5 a6 h6 H).dx2

theorem outB9 (hc : ¬cond0_0 i) (xo11 : Vec Ideal S1x1 .f32) (xo12 xo13 : Vec Ideal S1x1024 .f32) : Is (out0_B_9 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13) (fun a => xn p (X a)) := by
  unfold out0_B_9
  rw [View.read_writes_eq_canon _ _ _ (fun y => by apply cover0_B_9)]
  unfold kernelRun0_B
  dsimp only
  rw [View.canon_unit_zero hz]
  sl_unfold_words
  exact (all a1 h1 a2 h2 a3 h3 a4 h4 a5 h5 a6 h6 H).xn

theorem outB10 (hc : ¬cond0_0 i) (xo11 : Vec Ideal S1x1 .f32) (xo12 xo13 : Vec Ideal S1x1024 .f32) : Is (out0_B_10 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13) (fun a => dx3 p (X a) (T a)) := by
  unfold out0_B_10
  rw [View.read_writes_eq_canon _ _ _ (fun y => by apply cover0_B_10)]
  unfold kernelRun0_B
  dsimp only
  rw [View.canon_unit_zero hz]
  sl_unfold_words
  exact (all a1 h1 a2 h2 a3 h3 a4 h4 a5 h5 a6 h6 H).dx3

theorem outB7 (hc : ¬cond0_0 i) (xo11 : Vec Ideal S1x1 .f32) (xo12 xo13 : Vec Ideal S1x1024 .f32) : Is (out0_B_7 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13) (fun a => act p (X a)) := by
  have hs := all a1 h1 a2 h2 a3 h3 a4 h4 a5 h5 a6 h6 H
  intro r q
  unfold out0_B_7
  rw [View.read_writes_eq_canon _ _ _ (fun y => by apply cover0_B_7)]
  refine View.canon_apply_of_pieces (Val := Elt Ideal) (arr (fun a => act p (X a))) _ ?_ (ix2 r q) (by apply cover0_B_7)
  unfold kernelRun0_B
  dsimp only
  sl_unfold_words
  simp only [List.forall_mem_cons, List.not_mem_nil, false_imp_iff, implies_true, and_true]
  refine ⟨?_, ?_⟩ <;> intro x <;> idx_vars x <;> rw [emb_idx]
  · refine (hs.act1 _ _).trans ?_
    pointwise
    rfl
  · refine (hs.act0 _ _).trans ?_
    pointwise
    rfl

theorem outB8 (hc : ¬cond0_0 i) (xo11 : Vec Ideal S1x1 .f32) (xo12 xo13 : Vec Ideal S1x1024 .f32) : Is (out0_B_8 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13) (fun a => dgu p (X a) (T a)) := by
  have hs := all a1 h1 a2 h2 a3 h3 a4 h4 a5 h5 a6 h6 H
  intro r q
  unfold out0_B_8
  rw [View.read_writes_eq_canon _ _ _ (fun y => by apply cover0_B_8)]
  refine View.canon_apply_of_pieces (Val := Elt Ideal) (arr (fun a => dgu p (X a) (T a))) _ ?_ (ix2 r q) (by apply cover0_B_8)
  unfold kernelRun0_B
  dsimp only
  sl_unfold_words
  simp only [List.forall_mem_cons, List.not_mem_nil, false_imp_iff, implies_true, and_true]
  refine ⟨?_, ?_, ?_, ?_⟩ <;> intro x <;> idx_vars x <;> rw [emb_idx]
  · refine (hs.u1 _ _).trans ?_
    pointwise
    rw [← dgu_up]
    exact congrArg (fun q => ((dgu p (X x0) (T x0) q : ℝ) : EReal)) (Fin.ext (show 2816 + (1408 + x1.val) = 4224 + x1.val by omega))
  · refine (hs.g1 _ _).trans ?_
    pointwise
    rw [← dgu_gate]
    exact congrArg (fun q => ((dgu p (X x0) (T x0) q : ℝ) : EReal)) (Fin.ext (show 1408 + x1.val = 1408 + x1.val by omega))
  · refine (hs.u0 _ _).trans ?_
    pointwise
    rw [← dgu_up]
    exact congrArg (fun q => ((dgu p (X x0) (T x0) q : ℝ) : EReal)) (Fin.ext (show 2816 + x1.val = 2816 + x1.val by omega))
  · refine (hs.g0 _ _).trans ?_
    pointwise
    rw [← dgu_gate]
    exact congrArg (fun q => ((dgu p (X x0) (T x0) q : ℝ) : EReal)) (Fin.ext (show x1.val = x1.val by omega))

theorem outB11 (hc : ¬cond0_0 i) (xo11 : Vec Ideal S1x1 .f32) (xo12 xo13 : Vec Ideal S1x1024 .f32) (z : Fin 1) (q : Fin 1) : out0_B_11 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13 (ix2 z q)
    = xo11 (ix2 z q) + ((∑ r, loss p (X r) (T r) : ℝ) : EReal) := by
  unfold out0_B_11
  rw [View.read_writes_eq_canon _ _ _ (fun y => by apply cover0_B_11)]
  unfold kernelRun0_B
  dsimp only
  rw [View.canon_unit_zero hz]
  sl_unfold_words
  refine ((all a1 h1 a2 h2 a3 h3 a4 h4 a5 h5 a6 h6 H).loss _ _ _).trans ?_
  rw [View.readAt_eq_ld, h12.read_unread, View.ld_unit_zero hz]

theorem outB12 (hc : ¬cond0_0 i) (xo11 : Vec Ideal S1x1 .f32) (xo12 xo13 : Vec Ideal S1x1024 .f32) (z : Fin 1) (q : Fin 1024) : out0_B_12 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13 (ix2 z q)
    = xo12 (ix2 z q) + ((∑ r, dgf p (X r) (T r) q : ℝ) : EReal) := by
  unfold out0_B_12
  rw [View.read_writes_eq_canon _ _ _ (fun y => by apply cover0_B_12)]
  unfold kernelRun0_B
  dsimp only
  rw [View.canon_unit_zero hz]
  sl_unfold_words
  refine ((all a1 h1 a2 h2 a3 h3 a4 h4 a5 h5 a6 h6 H).dgf _ _ _).trans ?_
  rw [View.readAt_eq_ld, h13.read_unread, View.ld_unit_zero hz]

theorem outB13 (hc : ¬cond0_0 i) (xo11 : Vec Ideal S1x1 .f32) (xo12 xo13 : Vec Ideal S1x1024 .f32) (z : Fin 1) (q : Fin 1024) : out0_B_13 (F := Ideal) c i a1 h1 a2 h2 a3 h3 a4 h4 a5 h5 a6 h6 a7 h7 a8 h8 a9 h9 a10 h10 a11 h11 a12 h12 a13 h13 a14 h14 hc x0 x1 x2 x3 x4 x5 xo11 xo12 xo13 (ix2 z q)
    = xo13 (ix2 z q) + ((∑ r, dg3 p (X r) (T r) q : ℝ) : EReal) := by
  unfold out0_B_13
  rw [View.read_writes_eq_canon _ _ _ (fun y => by apply cover0_B_13)]
  unfold kernelRun0_B
  dsimp only
  rw [View.canon_unit_zero hz]
  sl_unfold_words
  refine ((all a1 h1 a2 h2 a3 h3 a4 h4 a5 h5 a6 h6 H).dg3 _ _ _).trans ?_
  rw [View.readAt_eq_ld, h14.read_unread, View.ld_unit_zero hz]

end Cert.Proof.Ffn

end
-- ==== Proof.Arr.lean ====
/- Whole arrays from their row blocks, for all kernels. -/
module

public import proofs.«01_k».proof.Proof.Real
public import proofs.«01_k».proof.Proof.Sums

@[expose] public section

noncomputable section

namespace Cert.Proof

open Idealize.ShloMosaic

/-- An index of a matrix, from its two coordinates. -/
theorem at2 {n k : ℕ} {x : Shape.Idx ⟨2, ![n, k]⟩} {a : Fin n} {b : Fin k} (h0 : (x 0).val = a.val) (h1 : (x 1).val = b.val) : x = ix2 a b :=
  (eq_ix2 x).trans (by rw [show x 0 = a from Fin.ext h0, show x 1 = b from Fin.ext h1])

/-- A value that every point adds its part to ends as the sum of the parts. -/
theorem acc_sum {N : ℕ} (f : Fin N → ℝ) (o : (n : ℕ) → n < N → EReal) (h0 : ∀ h, o 0 h = ((f ⟨0, h⟩ : ℝ) : EReal))
    (hs : ∀ n (h : n + 1 < N), o (n + 1) h = o n (Nat.lt_of_succ_lt h) + ((f ⟨n + 1, h⟩ : ℝ) : EReal)) :
    ∀ n (h : n < N), o n h = ((∑ k : Fin (n + 1), f ⟨k.val, by omega⟩ : ℝ) : EReal)
  | 0, h => by rw [h0, Fin.sum_univ_one]; rfl
  | n + 1, h => by
    rw [hs, acc_sum f o h0 hs n, ← EReal.coe_add]
    exact congrArg _ (Fin.sum_univ_castSucc (fun k : Fin (n + 1 + 1) => f ⟨k.val, by omega⟩)).symm

end Cert.Proof

end
-- ==== Proof.FfnArr.lean ====
/- The kernel of the gated feed-forward layer: its whole result arrays. -/
module

public import proofs.«01_k».proof.Proof.FfnOut
public import proofs.«01_k».proof.Proof.Arr
public import proofs.«01_k».proof.Proof.Gen.FfnIdeal.Value

@[expose] public section

set_option maxRecDepth 16384

noncomputable section

namespace Cert.Proof.Ffn

open Idealize.ShloMosaic Idealize.SL.Sem Cert.FfnIdeal Cert.FfnIdeal.Gen Idealize.ShloMosaic.TcCoe
open Idealize.ShloMosaic.Pipeline (Dat Cfg Window)

/-- Row `a` of the row block of grid point `t`. -/
abbrev row (t : Fin 16) (a : Fin 256) : Fin 4096 := ⟨256 * t.val + a.val, by omega⟩

/-- The row block of grid point `t`. -/
abbrev rows {k : ℕ} (X : Fin 4096 → Fin k → ℝ) (t : Fin 16) : Fin 256 → Fin k → ℝ := fun a => X (row t a)

/-- The arguments are the real numbers of `p`, `X` and `T`. -/
structure Args (p : Weights) (X T : Fin 4096 → Fin 1024 → ℝ) (x0 x3 : Vec Ideal S4096x1024 .f32) (x1 x2 : Vec Ideal S1024 .f32)
    (x4 : Vec Ideal S1024x5632 .f32) (x5 : Vec Ideal S2816x1024 .f32) : Prop where
  x : Is x0 X
  g3 : ∀ i : Fin 1024, x1 (ix1 i) = ((p.g3 i : ℝ) : EReal)
  gf : ∀ i : Fin 1024, x2 (ix1 i) = ((p.gf i : ℝ) : EReal)
  t : Is x3 T
  w : Is x4 p.w
  wd : Is x5 p.wd

variable {p : Weights} {X T : Fin 4096 → Fin 1024 → ℝ} (m : (ℓ : Loc nD τ sig) → Buf (Elt Ideal) ℓ) (c : Dev nD)

theorem index0 (t : Fin 16) : win0_0.index t 0 = t.val ∧ win0_0.index t 1 = 0 := by
  revert t; decide +kernel

theorem iblk0 (t : Fin 16) (a : Fin 256) (i : Fin 1024) : (iblk m c 0 t : Vec Ideal S256x1024 .f32) (ix2 a i)
    = (m ((c : Thread nD τ).loc main_arg0) : Vec Ideal S4096x1024 .f32) (ix2 (row t a) i) := by
  unfold iblk
  rw [View.read_apply, ← V_main_arg0 m c]
  exact congrArg (V m c main_arg0) (at2 (show win0_0.index t 0 * 256 + 1 * a.val = 256 * t.val + a.val by rw [(index0 t).1]; omega)
    (show win0_0.index t 1 * 1024 + 1 * i.val = i.val by rw [(index0 t).2]; omega))

theorem index3 (t : Fin 16) : win0_3.index t 0 = t.val ∧ win0_3.index t 1 = 0 := by
  revert t; decide +kernel

theorem iblk3 (t : Fin 16) (a : Fin 256) (i : Fin 1024) : (iblk m c 3 t : Vec Ideal S256x1024 .f32) (ix2 a i)
    = (m ((c : Thread nD τ).loc main_arg3) : Vec Ideal S4096x1024 .f32) (ix2 (row t a) i) := by
  unfold iblk
  rw [View.read_apply, ← V_main_arg3 m c]
  exact congrArg (V m c main_arg3) (at2 (show win0_3.index t 0 * 256 + 1 * a.val = 256 * t.val + a.val by rw [(index3 t).1]; omega)
    (show win0_3.index t 1 * 1024 + 1 * i.val = i.val by rw [(index3 t).2]; omega))

theorem iblk1 (t : Fin 16) : iblk m c 1 t = V m c main_v0 :=
  Memref.read_access_unit_zero (Elt Ideal) main_v0
    (funext fun a => (by decide +kernel : ∀ (t : Fin 16) (a : Fin 2), win0_1.index t a * main_v0.ty.shape.size a = 0) t a) _ _

theorem iblk2 (t : Fin 16) : iblk m c 2 t = V m c main_v1 :=
  Memref.read_access_unit_zero (Elt Ideal) main_v1
    (funext fun a => (by decide +kernel : ∀ (t : Fin 16) (a : Fin 2), win0_2.index t a * main_v1.ty.shape.size a = 0) t a) _ _

theorem iblk4 (t : Fin 16) : iblk m c 4 t = V m c main_v4 :=
  Memref.read_access_unit_zero (Elt Ideal) main_v4
    (funext fun a => (by decide +kernel : ∀ (t : Fin 16) (a : Fin 3), win0_4.index t a * main_v4.ty.shape.size a = 0) t a) _ _

theorem iblk5 (t : Fin 16) : iblk m c 5 t = V m c main_v5 :=
  Memref.read_access_unit_zero (Elt Ideal) main_v5
    (funext fun a => (by decide +kernel : ∀ (t : Fin 16) (a : Fin 2), win0_5.index t a * main_v5.ty.shape.size a = 0) t a) _ _

variable (A : Args p X T (m ((c : Thread nD τ).loc main_arg0)) (m ((c : Thread nD τ).loc main_arg3)) (m ((c : Thread nD τ).loc main_arg1))
  (m ((c : Thread nD τ).loc main_arg2)) (m ((c : Thread nD τ).loc main_arg4)) (m ((c : Thread nD τ).loc main_arg5)))

theorem v_row (x1 : Vec Ideal S1024 .f32) (h : m ((c : Thread nD τ).loc main_arg1) = x1) (i : Fin 1) (j : Fin 1024) :
    (V m c main_v0 : Vec Ideal S1x1024 .f32) (ix2 i j) = x1 (ix1 j) := by
  subst h
  entry_read
  clean_types
  pointwise

theorem v_row' (x1 : Vec Ideal S1024 .f32) (h : m ((c : Thread nD τ).loc main_arg2) = x1) (i : Fin 1) (j : Fin 1024) :
    (V m c main_v1 : Vec Ideal S1x1024 .f32) (ix2 i j) = x1 (ix1 j) := by
  subst h
  entry_read
  clean_types
  pointwise

theorem v_w (x4 : Vec Ideal S1024x5632 .f32) (h : m ((c : Thread nD τ).loc main_arg4) = x4) (k : Fin 4) (i : Fin 1024) (q : Fin 1408) :
    (V m c main_v4 : Vec Ideal S4x1024x1408 .bf16) (ix3 k i q) = x4 (ix2 i ⟨1408 * k.val + q.val, by omega⟩) := by
  subst h
  entry_read
  clean_types
  pointwise
  simp only [Nat.mul_comm 1408]

theorem v_wd (x5 : Vec Ideal S2816x1024 .f32) (h : m ((c : Thread nD τ).loc main_arg5) = x5) (i : Fin 2816) (j : Fin 1024) :
    (V m c main_v5 : Vec Ideal S2816x1024 .bf16) (ix2 i j) = x5 (ix2 i j) := by
  subst h
  entry_read
  clean_types
  pointwise

include A

theorem blk (t : Fin 16) : Blk p (rows X t) (rows T t) (iblk m c 0 t) (iblk m c 1 t) (iblk m c 2 t) (iblk m c 3 t) (iblk m c 4 t) (iblk m c 5 t) where
  x a i := (iblk0 m c t a i).trans (A.x _ _)
  g3 a i := by rw [iblk1]; exact (v_row m c _ rfl a i).trans (A.g3 i)
  gf a i := by rw [iblk2]; exact (v_row' m c _ rfl a i).trans (A.gf i)
  t a i := (iblk3 m c t a i).trans (A.t _ _)
  w k i q := by rw [iblk4]; exact (v_w m c _ rfl k i q).trans (A.w _ _)
  wd i j := by rw [iblk5]; exact (v_wd m c _ rfl i j).trans (A.wd _ _)

omit A in
/-- Every row lies in some grid point's row block. -/
theorem row_eq (r : Fin 4096) : ∃ (t : Fin 16) (a : Fin 256), r = row t a :=
  ⟨⟨r.val / 256, by omega⟩, ⟨r.val % 256, by omega⟩, Fin.ext (by dsimp only; omega)⟩

omit A in
theorem index6 (t : Fin 16) : win0_6.index t 0 = t.val ∧ win0_6.index t 1 = 0 := by
  revert t; decide +kernel

theorem final6 : Is ((dats m 0 c).arrAt 6 cfg0.N : Vec Ideal S4096x1024 .f32) (fun r => dx2 p (X r) (T r)) := by
  intro r i
  obtain ⟨t, a, rfl⟩ := row_eq r
  have hb := congrFun (Cert.FfnIdeal.Value.blocks6 m c t (flush0_6 t)) (ix2 a i)
  rw [View.read_apply] at hb
  have hi : ((cfg0.win 6).blk t).view.emb (ix2 a i) = (ix2 (row t a) i : S4096x1024.Idx) :=
    at2 (show win0_6.index t 0 * 256 + 1 * a.val = 256 * t.val + a.val by rw [(index6 t).1]; omega)
      (show win0_6.index t 1 * 1024 + 1 * i.val = i.val by rw [(index6 t).2]; omega)
  rw [← hi]
  refine hb.trans ?_
  by_cases h0 : t.val % 16 = 0
  · rw [Cert.FfnIdeal.Value.flushed6_A m c t h0]
    exact outA6 _ _ _ _ _ _ _ _ _ _ _ _ _ _ _ _ _ _ _ _ _ _ _ _ _ _ _ _ _ _ (blk m c A t) _ a i
  · rw [Cert.FfnIdeal.Value.flushed6_B m c t h0]
    exact outB6 _ _ _ _ _ _ _ _ _ _ _ _ _ _ _ _ _ _ _ _ _ _ _ _ _ _ _ _ _ _ (blk m c A t) _ _ _ _ a i

omit A in
theorem index7 (t : Fin 16) : win0_7.index t 0 = t.val ∧ win0_7.index t 1 = 0 := by
  revert t; decide +kernel

theorem final7 : Is ((dats m 0 c).arrAt 7 cfg0.N : Vec Ideal S4096x2816 .bf16) (fun r => act p (X r)) := by
  intro r i
  obtain ⟨t, a, rfl⟩ := row_eq r
  have hb := congrFun (Cert.FfnIdeal.Value.blocks7 m c t (flush0_7 t)) (ix2 a i)
  rw [View.read_apply] at hb
  have hi : ((cfg0.win 7).blk t).view.emb (ix2 a i) = (ix2 (row t a) i : S4096x2816.Idx) :=
    at2 (show win0_7.index t 0 * 256 + 1 * a.val = 256 * t.val + a.val by rw [(index7 t).1]; omega)
      (show win0_7.index t 1 * 2816 + 1 * i.val = i.val by rw [(index7 t).2]; omega)
  rw [← hi]
  refine hb.trans ?_
  by_cases h0 : t.val % 16 = 0
  · rw [Cert.FfnIdeal.Value.flushed7_A m c t h0]
    exact outA7 _ _ _ _ _ _ _ _ _ _ _ _ _ _ _ _ _ _ _ _ _ _ _ _ _ _ _ _ _ _ (blk m c A t) _ a i
  · rw [Cert.FfnIdeal.Value.flushed7_B m c t h0]
    exact outB7 _ _ _ _ _ _ _ _ _ _ _ _ _ _ _ _ _ _ _ _ _ _ _ _ _ _ _ _ _ _ (blk m c A t) _ _ _ _ a i

omit A in
theorem index8 (t : Fin 16) : win0_8.index t 0 = t.val ∧ win0_8.index t 1 = 0 := by
  revert t; decide +kernel

theorem final8 : Is ((dats m 0 c).arrAt 8 cfg0.N : Vec Ideal S4096x5632 .bf16) (fun r => dgu p (X r) (T r)) := by
  intro r i
  obtain ⟨t, a, rfl⟩ := row_eq r
  have hb := congrFun (Cert.FfnIdeal.Value.blocks8 m c t (flush0_8 t)) (ix2 a i)
  rw [View.read_apply] at hb
  have hi : ((cfg0.win 8).blk t).view.emb (ix2 a i) = (ix2 (row t a) i : S4096x5632.Idx) :=
    at2 (show win0_8.index t 0 * 256 + 1 * a.val = 256 * t.val + a.val by rw [(index8 t).1]; omega)
      (show win0_8.index t 1 * 5632 + 1 * i.val = i.val by rw [(index8 t).2]; omega)
  rw [← hi]
  refine hb.trans ?_
  by_cases h0 : t.val % 16 = 0
  · rw [Cert.FfnIdeal.Value.flushed8_A m c t h0]
    exact outA8 _ _ _ _ _ _ _ _ _ _ _ _ _ _ _ _ _ _ _ _ _ _ _ _ _ _ _ _ _ _ (blk m c A t) _ a i
  · rw [Cert.FfnIdeal.Value.flushed8_B m c t h0]
    exact outB8 _ _ _ _ _ _ _ _ _ _ _ _ _ _ _ _ _ _ _ _ _ _ _ _ _ _ _ _ _ _ (blk m c A t) _ _ _ _ a i

omit A in
theorem index9 (t : Fin 16) : win0_9.index t 0 = t.val ∧ win0_9.index t 1 = 0 := by
  revert t; decide +kernel

theorem final9 : Is ((dats m 0 c).arrAt 9 cfg0.N : Vec Ideal S4096x1024 .bf16) (fun r => xn p (X r)) := by
  intro r i
  obtain ⟨t, a, rfl⟩ := row_eq r
  have hb := congrFun (Cert.FfnIdeal.Value.blocks9 m c t (flush0_9 t)) (ix2 a i)
  rw [View.read_apply] at hb
  have hi : ((cfg0.win 9).blk t).view.emb (ix2 a i) = (ix2 (row t a) i : S4096x1024.Idx) :=
    at2 (show win0_9.index t 0 * 256 + 1 * a.val = 256 * t.val + a.val by rw [(index9 t).1]; omega)
      (show win0_9.index t 1 * 1024 + 1 * i.val = i.val by rw [(index9 t).2]; omega)
  rw [← hi]
  refine hb.trans ?_
  by_cases h0 : t.val % 16 = 0
  · rw [Cert.FfnIdeal.Value.flushed9_A m c t h0]
    exact outA9 _ _ _ _ _ _ _ _ _ _ _ _ _ _ _ _ _ _ _ _ _ _ _ _ _ _ _ _ _ _ (blk m c A t) _ a i
  · rw [Cert.FfnIdeal.Value.flushed9_B m c t h0]
    exact outB9 _ _ _ _ _ _ _ _ _ _ _ _ _ _ _ _ _ _ _ _ _ _ _ _ _ _ _ _ _ _ (blk m c A t) _ _ _ _ a i

omit A in
theorem index10 (t : Fin 16) : win0_10.index t 0 = t.val ∧ win0_10.index t 1 = 0 := by
  revert t; decide +kernel

theorem final10 : Is ((dats m 0 c).arrAt 10 cfg0.N : Vec Ideal S4096x1024 .bf16) (fun r => dx3 p (X r) (T r)) := by
  intro r i
  obtain ⟨t, a, rfl⟩ := row_eq r
  have hb := congrFun (Cert.FfnIdeal.Value.blocks10 m c t (flush0_10 t)) (ix2 a i)
  rw [View.read_apply] at hb
  have hi : ((cfg0.win 10).blk t).view.emb (ix2 a i) = (ix2 (row t a) i : S4096x1024.Idx) :=
    at2 (show win0_10.index t 0 * 256 + 1 * a.val = 256 * t.val + a.val by rw [(index10 t).1]; omega)
      (show win0_10.index t 1 * 1024 + 1 * i.val = i.val by rw [(index10 t).2]; omega)
  rw [← hi]
  refine hb.trans ?_
  by_cases h0 : t.val % 16 = 0
  · rw [Cert.FfnIdeal.Value.flushed10_A m c t h0]
    exact outA10 _ _ _ _ _ _ _ _ _ _ _ _ _ _ _ _ _ _ _ _ _ _ _ _ _ _ _ _ _ _ (blk m c A t) _ a i
  · rw [Cert.FfnIdeal.Value.flushed10_B m c t h0]
    exact outB10 _ _ _ _ _ _ _ _ _ _ _ _ _ _ _ _ _ _ _ _ _ _ _ _ _ _ _ _ _ _ (blk m c A t) _ _ _ _ a i

end Cert.Proof.Ffn

end
-- ==== Proof.FfnAcc.lean ====
/- The kernel of the gated feed-forward layer: the results it sums over all rows. -/
module

public import proofs.«01_k».proof.Proof.FfnArr

@[expose] public section

set_option maxRecDepth 16384

noncomputable section

namespace Cert.Proof.Ffn

open Idealize.ShloMosaic Idealize.SL.Sem Cert.FfnIdeal Cert.FfnIdeal.Gen Idealize.ShloMosaic.TcCoe
open Idealize.ShloMosaic.Pipeline (Dat Cfg Window)

variable {p : Weights} {X T : Fin 4096 → Fin 1024 → ℝ} (m : (ℓ : Loc nD τ sig) → Buf (Elt Ideal) ℓ) (c : Dev nD)
variable (A : Args p X T (m ((c : Thread nD τ).loc main_arg0)) (m ((c : Thread nD τ).loc main_arg3)) (m ((c : Thread nD τ).loc main_arg1))
  (m ((c : Thread nD τ).loc main_arg2)) (m ((c : Thread nD τ).loc main_arg4)) (m ((c : Thread nD τ).loc main_arg5)))

include A in
theorem first11 (z : Fin 1) (q : Fin 1) (t : Fin cfg0.N) (h0 : t.val % 16 = 0) : ((outsAt0 m c t.val t.isLt).2.2.2.2.2.1 : Vec Ideal S1x1 .f32) (ix2 z q)
    = ((∑ a, (fun r => loss p (X r) (T r)) (row t a) : ℝ) : EReal) := by
  rw [outsAt0_A m c t h0]
  dsimp only
  exact outA11 _ _ _ _ _ _ _ _ _ _ _ _ _ _ _ _ _ _ _ _ _ _ _ _ _ _ _ _ _ _ (blk m c A t) _ z q

include A in
theorem next11 (z : Fin 1) (q : Fin 1) (t : Fin cfg0.N) (h0 : ¬t.val % 16 = 0) : ((outsAt0 m c t.val t.isLt).2.2.2.2.2.1 : Vec Ideal S1x1 .f32) (ix2 z q)
    = ((outsAt0 m c (t.val - 1) (Nat.lt_of_le_of_lt (Nat.sub_le _ _) t.isLt)).2.2.2.2.2.1 : Vec Ideal S1x1 .f32) (ix2 z q)
      + ((∑ a, (fun r => loss p (X r) (T r)) (row t a) : ℝ) : EReal) := by
  rw [outsAt0_B m c t h0]
  dsimp only
  exact outB11 _ _ _ _ _ _ _ _ _ _ _ _ _ _ _ _ _ _ _ _ _ _ _ _ _ _ _ _ _ _ (blk m c A t) _ _ _ _ z q

include A in
theorem acc11 (z : Fin 1) (q : Fin 1) (n : ℕ) (h : n < 16) : ((outsAt0 m c n h).2.2.2.2.2.1 : Vec Ideal S1x1 .f32) (ix2 z q)
    = ((∑ t : Fin (n + 1), ∑ a, (fun r => loss p (X r) (T r)) (row ⟨t.val, by omega⟩ a) : ℝ) : EReal) :=
  acc_sum (N := 16) (fun t => ∑ a, (fun r => loss p (X r) (T r)) (row t a)) (fun n h => ((outsAt0 m c n h).2.2.2.2.2.1 : Vec Ideal S1x1 .f32) (ix2 z q))
    (fun h0 => first11 m c A z q ⟨0, h0⟩ rfl) (fun n h1 => next11 m c A z q ⟨n + 1, h1⟩ (by dsimp only; omega)) n h

theorem whole11 (t : Fin 16) : (fun a => win0_11.index t a * main_v6_5.ty.shape.size a) = fun _ => 0 :=
  funext fun a => (by decide +kernel : ∀ (t : Fin 16) (a : Fin 2), win0_11.index t a * main_v6_5.ty.shape.size a = 0) t a

/-- The array holds what the last point leaves. -/
theorem arr11 : (dats m 0 c).arrAt 11 cfg0.N = (outsAt0 m c t0_15.val t0_15.isLt).2.2.2.2.2.1 := by
  refine (dats m 0 c).arrAt_eq_of_cover 11 _ (fun t ht => ?_) fun i => ⟨t0_15, (flush0_11 _).mpr rfl, ?_⟩
  · have h15 : t = t0_15 := Fin.ext (by have := (flush0_11 t).mp ht; have h16 : t.val < 16 := t.isLt; show t.val = 15; omega)
    subst h15
    rw [Cert.FfnIdeal.Value.flushed11]
    exact (Memref.read_access_unit_zero (Elt Ideal) main_v6_5 (whole11 t0_15) (fun a => by rw [congrFun (whole11 t0_15) a]; simp) _).symm
  · show (i : S1x1.Idx) ∈ ((View.whole main_v6_5).slice (win0_11.rect t0_15)).set
    rw [View.set_slice_whole, Rect.mem_set_unit]
    intro a
    have h0 : win0_11.index t0_15 a * win0_11.size a = 0 := (by decide +kernel : ∀ a : Fin 2, win0_11.index t0_15 a * win0_11.size a = 0) a
    have h1 : win0_11.xsize (grid0.coords t0_15) a = S1x1.size a :=
      (by decide +kernel : ∀ a : Fin 2, win0_11.xsize (grid0.coords t0_15) a = S1x1.size a) a
    exact ⟨h0.le.trans (Nat.zero_le _), (i a).isLt.trans_le ((Nat.le_add_left _ _).trans (Nat.add_le_add_left h1.ge _))⟩

include A in
theorem final11 (z : Fin 1) (q : Fin 1) : ((dats m 0 c).arrAt 11 cfg0.N : Vec Ideal S1x1 .f32) (ix2 z q)
    = ((∑ r, loss p (X r) (T r) : ℝ) : EReal) := by
  rw [arr11]
  refine (acc11 m c A z q 15 (by decide)).trans ?_
  rw [sum_blocks 16 256 rfl]

include A in
theorem first12 (z : Fin 1) (q : Fin 1024) (t : Fin cfg0.N) (h0 : t.val % 16 = 0) : ((outsAt0 m c t.val t.isLt).2.2.2.2.2.2.1 : Vec Ideal S1x1024 .f32) (ix2 z q)
    = ((∑ a, (fun r => dgf p (X r) (T r) q) (row t a) : ℝ) : EReal) := by
  rw [outsAt0_A m c t h0]
  dsimp only
  exact outA12 _ _ _ _ _ _ _ _ _ _ _ _ _ _ _ _ _ _ _ _ _ _ _ _ _ _ _ _ _ _ (blk m c A t) _ z q

include A in
theorem next12 (z : Fin 1) (q : Fin 1024) (t : Fin cfg0.N) (h0 : ¬t.val % 16 = 0) : ((outsAt0 m c t.val t.isLt).2.2.2.2.2.2.1 : Vec Ideal S1x1024 .f32) (ix2 z q)
    = ((outsAt0 m c (t.val - 1) (Nat.lt_of_le_of_lt (Nat.sub_le _ _) t.isLt)).2.2.2.2.2.2.1 : Vec Ideal S1x1024 .f32) (ix2 z q)
      + ((∑ a, (fun r => dgf p (X r) (T r) q) (row t a) : ℝ) : EReal) := by
  rw [outsAt0_B m c t h0]
  dsimp only
  exact outB12 _ _ _ _ _ _ _ _ _ _ _ _ _ _ _ _ _ _ _ _ _ _ _ _ _ _ _ _ _ _ (blk m c A t) _ _ _ _ z q

include A in
theorem acc12 (z : Fin 1) (q : Fin 1024) (n : ℕ) (h : n < 16) : ((outsAt0 m c n h).2.2.2.2.2.2.1 : Vec Ideal S1x1024 .f32) (ix2 z q)
    = ((∑ t : Fin (n + 1), ∑ a, (fun r => dgf p (X r) (T r) q) (row ⟨t.val, by omega⟩ a) : ℝ) : EReal) :=
  acc_sum (N := 16) (fun t => ∑ a, (fun r => dgf p (X r) (T r) q) (row t a)) (fun n h => ((outsAt0 m c n h).2.2.2.2.2.2.1 : Vec Ideal S1x1024 .f32) (ix2 z q))
    (fun h0 => first12 m c A z q ⟨0, h0⟩ rfl) (fun n h1 => next12 m c A z q ⟨n + 1, h1⟩ (by dsimp only; omega)) n h

theorem whole12 (t : Fin 16) : (fun a => win0_12.index t a * main_v6_6.ty.shape.size a) = fun _ => 0 :=
  funext fun a => (by decide +kernel : ∀ (t : Fin 16) (a : Fin 2), win0_12.index t a * main_v6_6.ty.shape.size a = 0) t a

/-- The array holds what the last point leaves. -/
theorem arr12 : (dats m 0 c).arrAt 12 cfg0.N = (outsAt0 m c t0_15.val t0_15.isLt).2.2.2.2.2.2.1 := by
  refine (dats m 0 c).arrAt_eq_of_cover 12 _ (fun t ht => ?_) fun i => ⟨t0_15, (flush0_12 _).mpr rfl, ?_⟩
  · have h15 : t = t0_15 := Fin.ext (by have := (flush0_12 t).mp ht; have h16 : t.val < 16 := t.isLt; show t.val = 15; omega)
    subst h15
    rw [Cert.FfnIdeal.Value.flushed12]
    exact (Memref.read_access_unit_zero (Elt Ideal) main_v6_6 (whole12 t0_15) (fun a => by rw [congrFun (whole12 t0_15) a]; simp) _).symm
  · show (i : S1x1024.Idx) ∈ ((View.whole main_v6_6).slice (win0_12.rect t0_15)).set
    rw [View.set_slice_whole, Rect.mem_set_unit]
    intro a
    have h0 : win0_12.index t0_15 a * win0_12.size a = 0 := (by decide +kernel : ∀ a : Fin 2, win0_12.index t0_15 a * win0_12.size a = 0) a
    have h1 : win0_12.xsize (grid0.coords t0_15) a = S1x1024.size a :=
      (by decide +kernel : ∀ a : Fin 2, win0_12.xsize (grid0.coords t0_15) a = S1x1024.size a) a
    exact ⟨h0.le.trans (Nat.zero_le _), (i a).isLt.trans_le ((Nat.le_add_left _ _).trans (Nat.add_le_add_left h1.ge _))⟩

include A in
theorem final12 (z : Fin 1) (q : Fin 1024) : ((dats m 0 c).arrAt 12 cfg0.N : Vec Ideal S1x1024 .f32) (ix2 z q)
    = ((∑ r, dgf p (X r) (T r) q : ℝ) : EReal) := by
  rw [arr12]
  refine (acc12 m c A z q 15 (by decide)).trans ?_
  rw [sum_blocks 16 256 rfl]

include A in
theorem first13 (z : Fin 1) (q : Fin 1024) (t : Fin cfg0.N) (h0 : t.val % 16 = 0) : ((outsAt0 m c t.val t.isLt).2.2.2.2.2.2.2 : Vec Ideal S1x1024 .f32) (ix2 z q)
    = ((∑ a, (fun r => dg3 p (X r) (T r) q) (row t a) : ℝ) : EReal) := by
  rw [outsAt0_A m c t h0]
  dsimp only
  exact outA13 _ _ _ _ _ _ _ _ _ _ _ _ _ _ _ _ _ _ _ _ _ _ _ _ _ _ _ _ _ _ (blk m c A t) _ z q

include A in
theorem next13 (z : Fin 1) (q : Fin 1024) (t : Fin cfg0.N) (h0 : ¬t.val % 16 = 0) : ((outsAt0 m c t.val t.isLt).2.2.2.2.2.2.2 : Vec Ideal S1x1024 .f32) (ix2 z q)
    = ((outsAt0 m c (t.val - 1) (Nat.lt_of_le_of_lt (Nat.sub_le _ _) t.isLt)).2.2.2.2.2.2.2 : Vec Ideal S1x1024 .f32) (ix2 z q)
      + ((∑ a, (fun r => dg3 p (X r) (T r) q) (row t a) : ℝ) : EReal) := by
  rw [outsAt0_B m c t h0]
  dsimp only
  exact outB13 _ _ _ _ _ _ _ _ _ _ _ _ _ _ _ _ _ _ _ _ _ _ _ _ _ _ _ _ _ _ (blk m c A t) _ _ _ _ z q

include A in
theorem acc13 (z : Fin 1) (q : Fin 1024) (n : ℕ) (h : n < 16) : ((outsAt0 m c n h).2.2.2.2.2.2.2 : Vec Ideal S1x1024 .f32) (ix2 z q)
    = ((∑ t : Fin (n + 1), ∑ a, (fun r => dg3 p (X r) (T r) q) (row ⟨t.val, by omega⟩ a) : ℝ) : EReal) :=
  acc_sum (N := 16) (fun t => ∑ a, (fun r => dg3 p (X r) (T r) q) (row t a)) (fun n h => ((outsAt0 m c n h).2.2.2.2.2.2.2 : Vec Ideal S1x1024 .f32) (ix2 z q))
    (fun h0 => first13 m c A z q ⟨0, h0⟩ rfl) (fun n h1 => next13 m c A z q ⟨n + 1, h1⟩ (by dsimp only; omega)) n h

theorem whole13 (t : Fin 16) : (fun a => win0_13.index t a * main_v6_7.ty.shape.size a) = fun _ => 0 :=
  funext fun a => (by decide +kernel : ∀ (t : Fin 16) (a : Fin 2), win0_13.index t a * main_v6_7.ty.shape.size a = 0) t a

/-- The array holds what the last point leaves. -/
theorem arr13 : (dats m 0 c).arrAt 13 cfg0.N = (outsAt0 m c t0_15.val t0_15.isLt).2.2.2.2.2.2.2 := by
  refine (dats m 0 c).arrAt_eq_of_cover 13 _ (fun t ht => ?_) fun i => ⟨t0_15, (flush0_13 _).mpr rfl, ?_⟩
  · have h15 : t = t0_15 := Fin.ext (by have := (flush0_13 t).mp ht; have h16 : t.val < 16 := t.isLt; show t.val = 15; omega)
    subst h15
    rw [Cert.FfnIdeal.Value.flushed13]
    exact (Memref.read_access_unit_zero (Elt Ideal) main_v6_7 (whole13 t0_15) (fun a => by rw [congrFun (whole13 t0_15) a]; simp) _).symm
  · show (i : S1x1024.Idx) ∈ ((View.whole main_v6_7).slice (win0_13.rect t0_15)).set
    rw [View.set_slice_whole, Rect.mem_set_unit]
    intro a
    have h0 : win0_13.index t0_15 a * win0_13.size a = 0 := (by decide +kernel : ∀ a : Fin 2, win0_13.index t0_15 a * win0_13.size a = 0) a
    have h1 : win0_13.xsize (grid0.coords t0_15) a = S1x1024.size a :=
      (by decide +kernel : ∀ a : Fin 2, win0_13.xsize (grid0.coords t0_15) a = S1x1024.size a) a
    exact ⟨h0.le.trans (Nat.zero_le _), (i a).isLt.trans_le ((Nat.le_add_left _ _).trans (Nat.add_le_add_left h1.ge _))⟩

include A in
theorem final13 (z : Fin 1) (q : Fin 1024) : ((dats m 0 c).arrAt 13 cfg0.N : Vec Ideal S1x1024 .f32) (ix2 z q)
    = ((∑ r, dg3 p (X r) (T r) q : ℝ) : EReal) := by
  rw [arr13]
  refine (acc13 m c A z q 15 (by decide)).trans ?_
  rw [sum_blocks 16 256 rfl]

end Cert.Proof.Ffn

end
-- ==== Proof.FfnRef.lean ====
/- The gated feed-forward layer's differentiated reference, stage by stage, in real numbers. -/
module

public import proofs.«01_k».proof.Proof.FfnReal
public import proofs.«01_k».proof.Proof.FfnArr
public import proofs.«01_k».proof.Proof.Gen.FfnRefIdeal.Read
public import Idealize.ShloMosaic.Lib.Pointwise

@[expose] public section

set_option maxRecDepth 16384

noncomputable section

namespace Cert.Proof.Ffn

open Idealize.ShloMosaic Cert.FfnRefIdeal Cert.FfnRefIdeal.Read

variable {p : Weights} {X T : Fin 4096 → Fin 1024 → ℝ} {y0 y3 : Vec Ideal S4096x1024 .f32} {y1 y2 : Vec Ideal S1024 .f32}
  {y4 : Vec Ideal S1024x5632 .f32} {y5 : Vec Ideal S2816x1024 .f32} (A : Args p X T y0 y3 y1 y2 y4 y5)
include A

theorem ref_v7 : Is (val_main_v7 (F := Ideal) y0) (fun r _ => rinv (X r)) := by
  intro r q
  pointwise [val_main_v7, val_main_v6, val_main_v4, val_main_v2, val_main_v1, val_main_v0, val_main_cst, val_main_v3, val_main_cst_0, val_main_v5,
    val_main_cst_1, A.x]
  exact rsqrt_row _

theorem ref_v12 : Is (val_main_v12 (F := Ideal) y0 y1) (fun r => xn p (X r)) := by
  intro r q
  pointwise [val_main_v12, val_main_v9, val_main_v8, val_main_v11, val_main_v10, ref_v7 A, A.x, A.g3, xn, EReal.coe_mul]

theorem ref_v20 : Is (val_main_v20 (F := Ideal) y0) (fun r _ => rinv (X r)) := by
  intro r q
  pointwise [val_main_v20, val_main_v19, val_main_v17, val_main_v15, val_main_v14, val_main_v13, val_main_cst_2, val_main_v16, val_main_cst_3,
    val_main_v18, val_main_cst_4, A.x]
  exact rsqrt_row _

theorem ref_v21 : Is (val_main_v21 (F := Ideal) y0) (fun r _ => rinv (X r) * (rinv (X r) * rinv (X r))) := by
  intro r q
  pointwise [val_main_v21, val_main_v19, val_main_v17, val_main_v15, val_main_v14, val_main_v13, val_main_cst_2, val_main_v16, val_main_cst_3,
    val_main_v18, val_main_cst_4, ref_v20 A, A.x]
  exact rsqrt_row_div _

theorem ref_v23 : Is (val_main_v23 (F := Ideal) y0) (fun r _ => -1 / 2 * (rinv (X r) * (rinv (X r) * rinv (X r)))) := by
  intro r q
  pointwise [val_main_v23, val_main_v22, val_main_cst_5, ref_v21 A, lit_neg_half, EReal.coe_mul]

theorem ref_v25 : Is (val_main_v25 (F := Ideal) y0) (fun r i => X r i * rinv (X r)) := by
  intro r q
  pointwise [val_main_v25, val_main_v24, ref_v20 A, A.x, EReal.coe_mul]

theorem ref_v28 : Is (val_main_v28 (F := Ideal) y0 y1) (fun r => xn p (X r)) := by
  intro r q
  pointwise [val_main_v28, val_main_v27, val_main_v26, ref_v25 A, A.g3, xn, EReal.coe_mul]

theorem ref_v29 : Is (val_main_v29 (F := Ideal) y0 y1 y4) (fun r => gu p (X r)) := by
  intro r q
  pointwise [val_main_v29, ref_v28 A, A.w, gu, coe_sum, EReal.coe_mul]

theorem ref_v30 : Is (val_main_v30 (F := Ideal) y0 y1 y4) (fun r => gate p (X r)) := by
  intro r q
  pointwise [val_main_v30, ref_v29 A, gate]

theorem ref_v31 : Is (val_main_v31 (F := Ideal) y0 y1 y4) (fun r => up p (X r)) := by
  intro r q
  pointwise [val_main_v31, ref_v29 A, up]

theorem ref_call0_v5 : Is (val_main_call0_v5 (F := Ideal) y0 y1 y4) (fun r i => logi (gate p (X r) i)) := by
  intro r q
  pointwise [val_main_call0_v5, val_main_call0_v4, val_main_call0_cst_0, val_main_call0_v3, val_main_call0_v2, val_main_call0_cst,
    val_main_call0_v1, val_main_call0_v0, ref_v30 A]
  exact logi_row _

theorem ref_v33 : Is (val_main_v33 (F := Ideal) y0 y1 y4) (fun r => act p (X r)) := by
  intro r q
  pointwise [val_main_v33, val_main_v32, ref_v30 A, ref_call0_v5 A, ref_v31 A, act, EReal.coe_mul]

theorem ref_v34 : Is (val_main_v34 (F := Ideal) y0 y1 y4) (fun r => gate p (X r)) := by
  intro r q
  pointwise [val_main_v34, ref_v29 A, gate]

theorem ref_v35 : Is (val_main_v35 (F := Ideal) y0 y1 y4) (fun r => up p (X r)) := by
  intro r q
  pointwise [val_main_v35, ref_v29 A, up]

theorem ref_v36_2 : Is (val_main_v36_2 (F := Ideal) y0 y1 y4) (fun r i => logi (gate p (X r) i)) := by
  intro r q
  pointwise [val_main_v36_2, val_main_call1_v4, val_main_call1_cst_0, val_main_call1_v3, val_main_call1_v2, val_main_call1_cst, val_main_call1_v1,
    val_main_call1_v0, ref_v34 A]
  exact logi_row _

theorem ref_v36_1 : Is (val_main_v36_1 (F := Ideal) y0 y1 y4) (fun r i => logi (gate p (X r) i) * (1 - logi (gate p (X r) i))) := by
  intro r q
  pointwise [val_main_v36_1, val_main_call1_v7, val_main_call1_v6, val_main_call1_cst_1, ref_v36_2 A, EReal.coe_mul, EReal.coe_sub, EReal.coe_one]

theorem ref_v36_0 : Is (val_main_v36_0 (F := Ideal) y0 y1 y4) (fun r i => gate p (X r) i * logi (gate p (X r) i)) := by
  intro r q
  pointwise [val_main_v36_0, ref_v34 A, ref_v36_2 A, EReal.coe_mul]

theorem ref_v37 : Is (val_main_v37 (F := Ideal) y0 y1 y4) (fun r => act p (X r)) := by
  intro r q
  pointwise [val_main_v37, ref_v36_0 A, ref_v35 A, act, EReal.coe_mul]

theorem ref_v39 : Is (val_main_v39 (F := Ideal) y0 y1 y4 y5) (fun r => x3 p (X r)) := by
  intro r q
  pointwise [val_main_v39, val_main_v38, ref_v37 A, A.x, A.wd, x3, coe_sum, EReal.coe_add, EReal.coe_mul]

theorem ref_v47 : Is (val_main_v47 (F := Ideal) y0 y1 y4 y5) (fun r _ => rinv (x3 p (X r))) := by
  intro r q
  pointwise [val_main_v47, val_main_v46, val_main_v44, val_main_v42, val_main_v41, val_main_v40, val_main_cst_6, val_main_v43, val_main_cst_7,
    val_main_v45, val_main_cst_8, ref_v39 A]
  exact rsqrt_row _

theorem ref_v48 : Is (val_main_v48 (F := Ideal) y0 y1 y4 y5) (fun r _ => rinv (x3 p (X r)) * (rinv (x3 p (X r)) * rinv (x3 p (X r)))) := by
  intro r q
  pointwise [val_main_v48, val_main_v46, val_main_v44, val_main_v42, val_main_v41, val_main_v40, val_main_cst_6, val_main_v43, val_main_cst_7,
    val_main_v45, val_main_cst_8, ref_v47 A, ref_v39 A]
  exact rsqrt_row_div _

theorem ref_v50 : Is (val_main_v50 (F := Ideal) y0 y1 y4 y5) (fun r _ => -1 / 2 * (rinv (x3 p (X r)) * (rinv (x3 p (X r)) * rinv (x3 p (X r))))) := by
  intro r q
  pointwise [val_main_v50, val_main_v49, val_main_cst_9, ref_v48 A, lit_neg_half, EReal.coe_mul]

theorem ref_v52 : Is (val_main_v52 (F := Ideal) y0 y1 y4 y5) (fun r i => x3 p (X r) i * rinv (x3 p (X r))) := by
  intro r q
  pointwise [val_main_v52, val_main_v51, ref_v39 A, ref_v47 A, EReal.coe_mul]

theorem ref_v56 : Is (val_main_v56 (F := Ideal) y0 y1 y2 y3 y4 y5) (fun r => err p (X r) (T r)) := by
  intro r q
  pointwise [val_main_v56, val_main_v55, val_main_v54, val_main_v53, ref_v52 A, A.gf, A.t, err, EReal.coe_sub, EReal.coe_mul]

theorem ref_v122 (z q : Fin 1) : val_main_v122 (F := Ideal) y0 y1 y2 y3 y4 y5 (ix2 z q) = ((∑ r, loss p (X r) (T r) : ℝ) : EReal) := by
  pointwise [val_main_v122, val_main_v64, val_main_cst_14, val_main_v63, val_main_v62, val_main_v60, val_main_v57, val_main_cst_11, val_main_v61,
    val_main_cst_12, val_main_cst_13, ref_v56 A]
  simp only [← EReal.coe_mul, ← coe_sum, lit_half, lit_1024, div_1024]
  simp only [loss, Finset.mul_sum]

theorem ref_v70 : Is (val_main_v70 (F := Ideal) y0 y1 y2 y3 y4 y5) (fun r => dy p (X r) (T r)) := by
  intro r q
  pointwise [val_main_v70, val_main_v69, val_main_v68, val_main_v66, val_main_v65, val_main_cst_15, val_main_cst_16, val_main_v67, val_main_cst_17,
    val_main_v59, val_main_v58, val_main_cst_10, ref_v56 A]
  simp only [lit_half, lit_1024, lit_two, div_1024, ← EReal.coe_mul]
  congr 1
  unfold dy
  ring

theorem ref_v123 (z : Fin 1) (q : Fin 1024) : val_main_v123 (F := Ideal) y0 y1 y2 y3 y4 y5 (ix2 z q) = ((∑ r, dgf p (X r) (T r) q : ℝ) : EReal) := by
  pointwise [val_main_v123, val_main_v76, val_main_v73, val_main_v72, val_main_v71, val_main_cst_18, val_main_cst_19, ref_v52 A, ref_v70 A]
  rw [Fin.sum_univ_one]
  simp only [← EReal.coe_mul, ← coe_sum, dgf, mul_comm]

theorem ref_v75 : Is (val_main_v75 (F := Ideal) y0 y1 y2 y3 y4 y5) (fun r i => dy p (X r) (T r) i * p.gf i) := by
  intro r q
  pointwise [val_main_v75, val_main_v74, val_main_v53, ref_v70 A, A.gf, EReal.coe_mul]

theorem ref_v86 : Is (val_main_v86 (F := Ideal) y0 y1 y2 y3 y4 y5) (fun r _ => (∑ j, x3 p (X r) j * (dy p (X r) (T r) j * p.gf j)) * (-1 / 2 *
    (rinv (x3 p (X r)) * (rinv (x3 p (X r)) * rinv (x3 p (X r))))) / 1024) := by
  intro r q
  pointwise [val_main_v86, val_main_v85, val_main_v84, val_main_v82, val_main_v79, val_main_v78, val_main_v77, val_main_cst_20, val_main_v83,
    val_main_cst_21, val_main_cst_22, ref_v39 A, ref_v75 A, ref_v50 A]
  rw [Fin.sum_univ_one]
  simp only [← EReal.coe_mul, ← coe_sum, lit_1024, div_1024]

theorem ref_v90 : Is (val_main_v90 (F := Ideal) y0 y1 y2 y3 y4 y5) (fun r => dx3 p (X r) (T r)) := by
  intro r q
  pointwise [val_main_v90, val_main_v88, val_main_v81, val_main_v80, val_main_v87, val_main_v89, ref_v75 A, ref_v47 A, ref_v39 A, ref_v86 A]
  rw [dx3, ← rmsback_eq]
  simp only [EReal.coe_add, EReal.coe_mul]

theorem ref_v91 : Is (val_main_v91 (F := Ideal) y0 y1 y2 y3 y4 y5) (fun r => dact p (X r) (T r)) := by
  intro r q
  pointwise [val_main_v91, ref_v90 A, A.wd, dact, coe_sum, EReal.coe_mul]

theorem ref_v92 : Is (val_main_v92 (F := Ideal) y0 y1 y2 y3 y4 y5) (fun r => dup p (X r) (T r)) := by
  intro r q
  pointwise [val_main_v92, ref_v36_0 A, ref_v91 A]
  rw [← EReal.coe_mul, dup, mul_comm]

theorem ref_v93 : Is (val_main_v93 (F := Ideal) y0 y1 y2 y3 y4 y5) (fun r i => dact p (X r) (T r) i * up p (X r) i) := by
  intro r q
  pointwise [val_main_v93, ref_v91 A, ref_v35 A, EReal.coe_mul]

theorem ref_v94 : Is (val_main_v94 (F := Ideal) y0 y1 y2 y3 y4 y5) (fun r => dgate p (X r) (T r)) := by
  intro r q
  pointwise [val_main_v94, val_main_call2_v1, val_main_call2_v2, val_main_call2_v0, ref_v93 A, ref_v36_2 A, ref_v34 A, ref_v36_1 A]
  simp only [← EReal.coe_mul, ← EReal.coe_add]
  congr 1
  unfold dgate
  ring

theorem ref_v95 : Is (val_main_v95 (F := Ideal) y0 y1 y2 y3 y4 y5) (fun r => dgu p (X r) (T r)) := by
  intro r q
  pointwise [val_main_v95, ref_v94 A, ref_v92 A]
  unfold dgu
  split_ifs <;> rfl

theorem ref_v96 : Is (val_main_v96 (F := Ideal) y0 y1 y2 y3 y4 y5) (fun r => dxn p (X r) (T r)) := by
  intro r q
  pointwise [val_main_v96, ref_v95 A, A.w, dxn, coe_sum, EReal.coe_mul]

theorem ref_v124 (z : Fin 1) (q : Fin 1024) : val_main_v124 (F := Ideal) y0 y1 y2 y3 y4 y5 (ix2 z q) = ((∑ r, dg3 p (X r) (T r) q : ℝ) : EReal) := by
  pointwise [val_main_v124, val_main_v102, val_main_v99, val_main_v98, val_main_v97, val_main_cst_23, val_main_cst_24, ref_v25 A, ref_v96 A]
  rw [Fin.sum_univ_one]
  simp only [← EReal.coe_mul, ← coe_sum, dg3, mul_comm]

theorem ref_v101 : Is (val_main_v101 (F := Ideal) y0 y1 y2 y3 y4 y5) (fun r i => dxn p (X r) (T r) i * p.g3 i) := by
  intro r q
  pointwise [val_main_v101, val_main_v100, val_main_v26, ref_v96 A, A.g3, EReal.coe_mul]

theorem ref_v112 : Is (val_main_v112 (F := Ideal) y0 y1 y2 y3 y4 y5) (fun r _ => (∑ j, X r j * (dxn p (X r) (T r) j * p.g3 j)) * (-1 / 2 * (rinv (X
    r) * (rinv (X r) * rinv (X r)))) / 1024) := by
  intro r q
  pointwise [val_main_v112, val_main_v111, val_main_v110, val_main_v108, val_main_v105, val_main_v104, val_main_v103, val_main_cst_25,
    val_main_v109, val_main_cst_26, val_main_cst_27, ref_v101 A, ref_v23 A]
  rw [Fin.sum_univ_one]
  simp only [A.x _ _, ← EReal.coe_mul, ← coe_sum, lit_1024, div_1024]

theorem ref_v117 : Is (val_main_v117 (F := Ideal) y0 y1 y2 y3 y4 y5) (fun r => dx2 p (X r) (T r)) := by
  intro r q
  pointwise [val_main_v117, val_main_v116, val_main_v114, val_main_v107, val_main_v106, val_main_v113, val_main_v115, ref_v90 A, ref_v101 A,
    ref_v20 A, ref_v112 A, A.x]
  rw [dx2, ← rmsback_eq]
  simp only [EReal.coe_add, EReal.coe_mul]

theorem ref_v118 : Is (val_main_v118 (F := Ideal) y0 y1 y4) (fun r => act p (X r)) := by
  intro r q
  pointwise [val_main_v118, ref_v33 A]

theorem ref_v119 : Is (val_main_v119 (F := Ideal) y0 y1 y2 y3 y4 y5) (fun r => dgu p (X r) (T r)) := by
  intro r q
  pointwise [val_main_v119, ref_v95 A]

theorem ref_v120 : Is (val_main_v120 (F := Ideal) y0 y1) (fun r => xn p (X r)) := by
  intro r q
  pointwise [val_main_v120, ref_v12 A]

theorem ref_v121 : Is (val_main_v121 (F := Ideal) y0 y1 y2 y3 y4 y5) (fun r => dx3 p (X r) (T r)) := by
  intro r q
  pointwise [val_main_v121, ref_v90 A]

end Cert.Proof.Ffn

end
-- ==== Proof.Finite.lean ====
/- Finite arguments are arrays of real numbers. -/
module

public import proofs.«01_k».proof.Proof.Real

@[expose] public section

noncomputable section

namespace Cert.Proof

open Idealize.ShloMosaic

/-- An array whose absolute values all compare below infinity holds real numbers. -/
theorem finite_of {s u : Shape} {d : Fin u.rank → Fin s.rank} {hb : u.BroadcastsInDim s d} {x : FVec Ideal s .f32}
    (h : cmpf .olt (Host.absf x) (broadcastInDim s d hb (constant (F := Ideal) u .f32 0x7F800000#32)) = fun _ => 1#1) (i : s.Idx) :
    ∃ r : ℝ, (x i : EReal) = (r : EReal) := by
  have htop : Ideal.ofBits .f32 0x7F800000#32 = ⊤ := by simp [Ideal.ofBits, Ideal.ieee]
  have hi : Ideal.cmp .olt (max (x i : EReal) (-(x i : EReal))) (Ideal.ofBits .f32 0x7F800000#32) = 1#1 := congrFun h i
  rw [htop] at hi
  refine real_of_finite _ (by_contra fun hn => ?_)
  simp [Ideal.cmp, hn] at hi

/-- A finite matrix. -/
theorem mat_of {a b : ℕ} {x : Shape.Idx ⟨2, ![a, b]⟩ → EReal} (h : ∀ i, ∃ r : ℝ, x i = (r : EReal)) : ∃ X : Fin a → Fin b → ℝ, Is x X :=
  ⟨fun i j => (h (ix2 i j)).choose, fun i j => (h (ix2 i j)).choose_spec⟩

/-- A finite vector. -/
theorem vec_of {a : ℕ} {x : Shape.Idx ⟨1, ![a]⟩ → EReal} (h : ∀ i, ∃ r : ℝ, x i = (r : EReal)) :
    ∃ X : Fin a → ℝ, ∀ i : Fin a, x (ix1 i) = ((X i : ℝ) : EReal) :=
  ⟨fun i => (h (ix1 i)).choose, fun i => (h (ix1 i)).choose_spec⟩

/-- Two matrices of the same real numbers are equal. -/
theorem same {a b : ℕ} {x y : Shape.Idx ⟨2, ![a, b]⟩ → EReal} {X : Fin a → Fin b → ℝ} (hx : Is x X) (hy : Is y X) : x = y :=
  funext fun i => by rw [eq_ix2 i]; exact (hx _ _).trans (hy _ _).symm

end Cert.Proof

end
-- ==== Proof.Ffn.lean ====
/- The gated feed-forward layer: the kernel's results are those of the differentiated reference. -/
module

public import proofs.«01_k».proof.Defs
public import proofs.«01_k».proof.Proof.FfnAcc
public import proofs.«01_k».proof.Proof.FfnRef
public import proofs.«01_k».proof.Proof.Finite
public import proofs.«01_k».proof.Proof.Gen.Ffn.Frame
public import proofs.«01_k».proof.Proof.Gen.FfnRefIdeal.Run

@[expose] public section

set_option maxRecDepth 16384

noncomputable section

namespace Cert.Proof.Ffn

open Idealize.ShloMosaic Idealize.SL.Sem

/-- The precondition's shape relations. -/
theorem pre : Cert.Pre_ffn_finite.Facts where
  bcast_S_S4096x1024 := by decide
  bcast_S_S1024 := by decide
  bcast_S_S1024x5632 := by decide
  bcast_S_S2816x1024 := by decide

/-- Finite arguments are those of some real numbers. -/
theorem args_of {m} (h : Cert.Pre_FfnIdeal_ffn_finite (hPre_ffn_finite := pre) m) (c : Dev Cert.FfnIdeal.nD) :
    ∃ p X T, Args p X T (m ((c.tc : Thread Cert.FfnIdeal.nD Cert.FfnIdeal.τ).loc Cert.FfnIdeal.main_arg0))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg4))
      (m ((c.tc : Thread Cert.FfnIdeal.nD Cert.FfnIdeal.τ).loc Cert.FfnIdeal.main_arg5)) := by
  obtain ⟨h0, h1, h2, h3, h4, h5⟩ := h c
  obtain ⟨X, hX⟩ := mat_of (finite_of h0)
  obtain ⟨g, hg⟩ := vec_of (finite_of h1)
  obtain ⟨f, hf⟩ := vec_of (finite_of h2)
  obtain ⟨T, hT⟩ := mat_of (finite_of h3)
  obtain ⟨w, hw⟩ := mat_of (finite_of h4)
  obtain ⟨d, hd⟩ := mat_of (finite_of h5)
  exact ⟨⟨g, f, w, d⟩, X, T, hX, hg, hf, hT, hw, hd⟩

/-- From equal finite arguments the kernel and the reference leave equal results. -/
theorem algebraic : Cert.algebraic_FfnIdeal_FfnRefIdeal_pre_ffn_finite (hFfnIdeal := Cert.FfnIdeal.Gen.facts)
    (hFfnRefIdeal := Cert.FfnRefIdeal.Gen.facts) (hPre_ffn_finite := pre) := by
  intro m g m' g' hp hag
  refine ⟨_, _, _, _, _, _, _, _, Cert.FfnIdeal.Value.run_blocks m g, (θ_run _ _ _).mono (fun r h c => ?_) (Cert.FfnRefIdeal.Value.run m' g')⟩
  obtain ⟨p, X, T, A⟩ := args_of hp c
  obtain ⟨a0, a1, a2, a3, a4, a5⟩ := hag c
  have B := A
  rw [← a0, ← a1, ← a2, ← a3, ← a4, ← a5] at B
  obtain ⟨r0, r1, r2, r3, r4, r5, r6, r7, hk⟩ := h c
  refine ⟨r0.trans ((Cert.FfnRefIdeal.Read.val_main_v117_eq _).trans (same (ref_v117 B) (final6 m c A))),
    r1.trans ((Cert.FfnRefIdeal.Read.val_main_v118_eq _).trans (same (ref_v118 B) (final7 m c A))),
    r2.trans ((Cert.FfnRefIdeal.Read.val_main_v119_eq _).trans (same (ref_v119 B) (final8 m c A))),
    r3.trans ((Cert.FfnRefIdeal.Read.val_main_v120_eq _).trans (same (ref_v120 B) (final9 m c A))),
    r4.trans ((Cert.FfnRefIdeal.Read.val_main_v121_eq _).trans (same (ref_v121 B) (final10 m c A))),
    r5.trans ((Cert.FfnRefIdeal.Read.val_main_v122_eq _).trans (same (X := fun _ _ => ∑ r, loss p (X r) (T r)) (ref_v122 B) (final11 m c A))),
    r6.trans ((Cert.FfnRefIdeal.Read.val_main_v123_eq _).trans (same (X := fun _ q => ∑ r, dgf p (X r) (T r) q) (ref_v123 B) (final12 m c A))),
    r7.trans ((Cert.FfnRefIdeal.Read.val_main_v124_eq _).trans (same (X := fun _ q => ∑ r, dg3 p (X r) (T r) q) (ref_v124 B) (final13 m c A))), hk⟩

end Cert.Proof.Ffn

end
-- ==== Proof.AttnReal.lean ====
/- One row of the cross attention, forward and backward, over the real numbers. -/
module

public import proofs.«01_k».proof.Proof.Real

@[expose] public section

noncomputable section

namespace Cert.Proof.Attn

/-- Column `d` of head `h`, and a column's head and place in it. -/
abbrev col (h : Fin 4) (d : Fin 256) : Fin 1024 := ⟨256 * h.val + d.val, by omega⟩
abbrev hd (j : Fin 1024) : Fin 4 := ⟨j.val / 256, by omega⟩
abbrev pl (j : Fin 1024) : Fin 256 := ⟨j.val % 256, by omega⟩
/-- The columns of the keys and of the values. -/
abbrev kc (j : Fin 1024) : Fin 2048 := ⟨j.val, by omega⟩
abbrev vc (j : Fin 1024) : Fin 2048 := ⟨1024 + j.val, by omega⟩

theorem hd_col (h : Fin 4) (d : Fin 256) : hd (col h d) = h := Fin.ext (by dsimp only; omega)
theorem pl_col (h : Fin 4) (d : Fin 256) : pl (col h d) = d := Fin.ext (by dsimp only; omega)

section head

variable {ι : Type*} (D P : ι → Fin 256 → ℝ) (K V : Fin 256 → Fin 256 → ℝ)

/-- One head: the gradients of the weights, of the scores, and of the queries. -/
def hdp (a : ι) (m : Fin 256) : ℝ := ∑ d, D a d * V m d
def hds (a : ι) (m : Fin 256) : ℝ := P a m * (hdp D V a m - ∑ k, hdp D V a k * P a k) * (1 / 16)
def hdq (a : ι) (d : Fin 256) : ℝ := ∑ m, hds D P V a m * K m d

end head

/-- The weights of the layer: the norm's gain, the projections, keys and values side by side. -/
structure Weights where
  g : Fin 1024 → ℝ
  wq : Fin 1024 → Fin 1024 → ℝ
  wo : Fin 1024 → Fin 1024 → ℝ
  kv : Fin 256 → Fin 2048 → ℝ

variable (p : Weights) (v t : Fin 1024 → ℝ)

/-- The keys and the values of a head. -/
def ks (h : Fin 4) (m d : Fin 256) : ℝ := p.kv m (kc (col h d))
def vs (h : Fin 4) (m d : Fin 256) : ℝ := p.kv m (vc (col h d))

def xn (i : Fin 1024) : ℝ := v i * rinv v * p.g i
def q (j : Fin 1024) : ℝ := ∑ i, xn p v i * p.wq i j
def sc (h : Fin 4) (m : Fin 256) : ℝ := (∑ d, q p v (col h d) * ks p h m d) * (1 / 16)
def top (h : Fin 4) : ℝ := Finset.univ.sup' ⟨0, Finset.mem_univ _⟩ (sc p v h)
def ex (h : Fin 4) (m : Fin 256) : ℝ := Real.exp (sc p v h m - top p v h)
def pr (h : Fin 4) (m : Fin 256) : ℝ := ex p v h m / ∑ k, ex p v h k
def o (j : Fin 1024) : ℝ := ∑ m, pr p v (hd j) m * p.kv m (vc j)
def dout (j : Fin 1024) : ℝ := ∑ i, t i * p.wo j i
def dp (h : Fin 4) (m : Fin 256) : ℝ := ∑ d, dout p t (col h d) * vs p h m d
def ds (h : Fin 4) (m : Fin 256) : ℝ := pr p v h m * (dp p t h m - ∑ k, dp p t h k * pr p v h k) * (1 / 16)
def dq (j : Fin 1024) : ℝ := ∑ m, ds p v t (hd j) m * p.kv m (kc j)
def dxn (i : Fin 1024) : ℝ := ∑ j, dq p v t j * p.wq i j
def dx1 (i : Fin 1024) : ℝ := t i + rmsback v (dxn p v t) p.g i
def dg (i : Fin 1024) : ℝ := dxn p v t i * (v i * rinv v)
/-- The row's part of the gradient of keys and values. -/
def dkv (m : Fin 256) (c : Fin 2048) : ℝ :=
  if h : c.val < 1024 then ds p v t (hd ⟨c.val, h⟩) m * q p v ⟨c.val, h⟩
  else pr p v (hd ⟨c.val - 1024, by omega⟩) m * dout p t ⟨c.val - 1024, by omega⟩

theorem ex_pos (h : Fin 4) : 0 < ∑ k, ex p v h k := Finset.sum_pos (fun _ _ => Real.exp_pos _) ⟨0, Finset.mem_univ _⟩

section rows

variable {ι : Type*} (X T : ι → Fin 1024 → ℝ) (h : Fin 4)

theorem hds_eq (a : ι) (m : Fin 256) : hds (fun a d => dout p (T a) (col h d)) (fun a m => pr p (X a) h m) (vs p h) a m = ds p (X a) (T a) h m := rfl

theorem hdq_eq (a : ι) (d : Fin 256) :
    hdq (fun a d => dout p (T a) (col h d)) (fun a m => pr p (X a) h m) (ks p h) (vs p h) a d = dq p (X a) (T a) (col h d) := by
  unfold dq
  rw [hd_col]
  rfl

/-- The gradient behind the norm, head by head. -/
theorem dxn_heads (i : Fin 1024) : dxn p v t i = ∑ h : Fin 4, ∑ d : Fin 256, dq p v t (col h d) * p.wq i (col h d) := by
  unfold dxn
  rw [sum_blocks 4 256 rfl]

theorem dkv_k (m : Fin 256) (j : Fin 1024) : dkv p v t m (kc j) = ds p v t (hd j) m * q p v j := by
  unfold dkv
  rw [dif_pos j.isLt]

theorem dkv_v (m : Fin 256) (j : Fin 1024) : dkv p v t m (vc j) = pr p v (hd j) m * dout p t j := by
  have h : (⟨1024 + j.val - 1024, by omega⟩ : Fin 1024) = j := Fin.ext (by dsimp only; omega)
  unfold dkv
  rw [dif_neg (by dsimp only; omega), h]

end rows

end Cert.Proof.Attn

end
-- ==== Proof.AttnPay.lean ====
/- The kernel of the cross attention's backward pass: its stages on one block of rows, over the real numbers. -/
module

public import proofs.«01_k».proof.Proof.Gen.AttnIdeal.Value
public import proofs.«01_k».proof.Proof.AttnReal
public import Idealize.ShloMosaic.Lib.Claim
public import Idealize.ShloMosaic.Lib.Tactic.CleanTypes

@[expose] public section

set_option maxRecDepth 16384

noncomputable section

namespace Cert.Proof.Attn

open Idealize.ShloMosaic Idealize.SL.Sem Cert.AttnIdeal Cert.AttnIdeal.Gen Idealize.ShloMosaic.TcCoe
open Idealize.ShloMosaic.Pipeline (Dat Cfg Window)

theorem lit_16th : Ideal.ofBits .f32 1031798784#32 = ((1 / 16 : ℝ) : EReal) := by
  simp [Ideal.ofBits, Ideal.ieee, -EReal.coe_mul]; norm_num

variable {X T O Y G : Fin 512 → Fin 1024 → ℝ} {D P Q : Fin 512 → Fin 256 → ℝ} {K V : Fin 256 → Fin 256 → ℝ}

section whole

variable {x d : Vec Ideal S512x1024 .f32} {g : Vec Ideal S1x1024 .f32} {w : Vec Ideal S1024x1024 .bf16} {γ : Fin 1024 → ℝ}

theorem pay10 (hx : Is x X) : Is (k0_pay10 (F := Ideal) x) (fun a _ => rinv (X a)) := by
  intro a b
  unfold_payloads
  pointwise [hx]
  exact rsqrt_row _

theorem pay11 (hx : Is x X) : Is (k0_pay11 (F := Ideal) x) (fun a i => X a i * rinv (X a)) := by
  intro a b
  have h := pay10 hx
  unfold k0_pay11 k0_pay9
  pointwise [hx, h, EReal.coe_mul]

theorem pay12 (hx : Is x X) (hg : Is g fun _ => γ) : Is (k0_pay12 (F := Ideal) x g) (fun a i => X a i * rinv (X a) * γ i) := by
  intro a b
  have h := pay11 hx
  unfold k0_pay12
  pointwise [h, hg, EReal.coe_mul]

theorem pay14 (hd : Is d T) {o : Vec Ideal S512x1024 .bf16} (ho : Is o O) (acc : Vec Ideal S1024x1024 .f32) (i j : Fin 1024) :
    (k0_pay14 (F := Ideal) d acc o : Vec Ideal S1024x1024 .f32) (ix2 i j) = acc (ix2 i j) + ((∑ a, O a i * T a j : ℝ) : EReal) := by
  unfold k0_pay14 k0_pay13
  pointwise [hd, ho, coe_sum, EReal.coe_mul]

theorem pay15 (hd : Is d T) {W : Fin 1024 → Fin 1024 → ℝ} (hw : Is w W) : Is (k0_pay15 (F := Ideal) d w) (fun a j => ∑ i, T a i * W j i) := by
  intro a b
  unfold k0_pay15 k0_pay13
  pointwise [hd, hw, coe_sum, EReal.coe_mul]

theorem pay57 {r : Vec Ideal S512x1 .f32} {xh dxn : Vec Ideal S512x1024 .f32} (hr : Is r fun a _ => rinv (X a)) (hh : Is xh fun a i => X a i * rinv (X a))
    (hd : Is d T) (hn : Is dxn G) (hg : Is g fun _ => γ) : Is (k0_pay57 (F := Ideal) r xh d dxn g) (fun a i => T a i + rmsback (X a) (G a) γ i) := by
  intro a b
  unfold k0_pay57
  pointwise [hr, hh, hd, hn, hg]
  simp only [lit_1024, ← EReal.coe_mul, ← coe_sum, div_1024, ← EReal.coe_sub, ← EReal.coe_add]
  rfl

theorem pay58 {r : Vec Ideal S512x1 .f32} {xh dxn : Vec Ideal S512x1024 .f32} {y : Vec Ideal S512x1024 .bf16} (hy : Is y Y)
    (h57 : Is (k0_pay57 (F := Ideal) r xh d dxn g) T) (acc : Vec Ideal S1024x1024 .f32) (i j : Fin 1024) :
    (k0_pay58 (F := Ideal) r xh d dxn g acc y : Vec Ideal S1024x1024 .f32) (ix2 i j) = acc (ix2 i j) + ((∑ a, Y a i * T a j : ℝ) : EReal) := by
  unfold k0_pay58
  pointwise [hy, h57, coe_sum, EReal.coe_mul]

theorem pay56 {xh dxn : Vec Ideal S512x1024 .f32} (hh : Is xh X) (hn : Is dxn G) (acc : Vec Ideal S1x1024 .f32) (z : Fin 1) (j : Fin 1024) :
    (k0_pay56 (F := Ideal) xh dxn acc : Vec Ideal S1x1024 .f32) (ix2 z j) = acc (ix2 z j) + ((∑ a, G a j * X a j : ℝ) : EReal) := by
  unfold k0_pay56
  pointwise [hh, hn, coe_sum, EReal.coe_mul]

end whole

section head0

variable {d s : Vec Ideal S512x1024 .f32} {xb : Vec Ideal S512x1024 .bf16} {b : Vec Ideal S512x256 .f32} {k u : Vec Ideal S256x256 .bf16}

theorem pay18 (hd : Is d T) : Is (k0_pay18 (F := Ideal) d) (fun a i => T a (col 0 i)) := by
  intro a i
  unfold k0_pay18
  pointwise [hd]
  exact congrArg (fun j => ((T a j : ℝ) : EReal)) (Fin.ext (show i.val = 256 * 0 + i.val by omega))

theorem pay19 (hd : Is (k0_pay18 (F := Ideal) d) D) (hp : Is b P) (hv : Is u V) : Is (k0_pay19 (F := Ideal) d b u) (hds D P V) := by
  intro a i
  unfold k0_pay19 k0_pay17
  pointwise [hd, hp, hv, hds, hdp, lit_16th, coe_sum, EReal.coe_mul, EReal.coe_sub]

theorem pay20 (hd : Is (k0_pay18 (F := Ideal) d) D) (hp : Is b P) (hk : Is k K) (hv : Is u V) : Is (k0_pay20 (F := Ideal) d b k u) (hdq D P K V) := by
  intro a i
  have h := pay19 hd hp hv
  unfold k0_pay20
  pointwise [h, hk, hdq, coe_sum, EReal.coe_mul]

theorem pay21 (hx : Is xb X) (h20 : Is (k0_pay20 (F := Ideal) d b k u) D) (acc : Vec Ideal S1024x256 .f32) (i : Fin 1024) (j : Fin 256) :
    (k0_pay21 (F := Ideal) xb d b k u acc : Vec Ideal S1024x256 .f32) (ix2 i j) = acc (ix2 i j) + ((∑ a, X a i * D a j : ℝ) : EReal) := by
  unfold k0_pay21
  pointwise [hx, h20, coe_sum, EReal.coe_mul]

theorem pay22 (h20 : Is (k0_pay20 (F := Ideal) d b k u) D) {w : Vec Ideal S1024x256 .bf16} {W : Fin 1024 → Fin 256 → ℝ} (hw : Is w W) (hs : Is s G) :
    Is (k0_pay22 (F := Ideal) d s b k u w) (fun a i => G a i + ∑ j, D a j * W i j) := by
  intro a i
  unfold k0_pay22
  pointwise [h20, hw, hs, coe_sum, EReal.coe_mul, EReal.coe_add]

theorem pay23 (h19 : Is (k0_pay19 (F := Ideal) d b u) D) {y : Vec Ideal S512x256 .bf16} (hq : Is y Q) (acc : Vec Ideal S256x256 .f32) (i j : Fin 256) :
    (k0_pay23 (F := Ideal) d y b u acc : Vec Ideal S256x256 .f32) (ix2 i j) = acc (ix2 i j) + ((∑ a, D a i * Q a j : ℝ) : EReal) := by
  unfold k0_pay23
  pointwise [h19, hq, coe_sum, EReal.coe_mul]

theorem pay24 {y : Vec Ideal S512x256 .bf16} (hp : Is b P) (hd : Is y D) (acc : Vec Ideal S256x256 .f32) (i j : Fin 256) :
    (k0_pay24 (F := Ideal) b y acc : Vec Ideal S256x256 .f32) (ix2 i j) = acc (ix2 i j) + ((∑ a, P a i * D a j : ℝ) : EReal) := by
  unfold k0_pay24
  pointwise [hp, hd, coe_sum, EReal.coe_mul]

end head0

section head1

variable {d s : Vec Ideal S512x1024 .f32} {xb : Vec Ideal S512x1024 .bf16} {b : Vec Ideal S512x256 .f32} {k u : Vec Ideal S256x256 .bf16}

theorem pay27 (hd : Is d T) : Is (k0_pay27 (F := Ideal) d) (fun a i => T a (col 1 i)) := by
  intro a i
  unfold k0_pay27
  pointwise [hd]
  rfl

theorem pay28 (hd : Is (k0_pay27 (F := Ideal) d) D) (hp : Is b P) (hv : Is u V) : Is (k0_pay28 (F := Ideal) d b u) (hds D P V) := by
  intro a i
  unfold k0_pay28 k0_pay26
  pointwise [hd, hp, hv, hds, hdp, lit_16th, coe_sum, EReal.coe_mul, EReal.coe_sub]

theorem pay29 (hd : Is (k0_pay27 (F := Ideal) d) D) (hp : Is b P) (hk : Is k K) (hv : Is u V) : Is (k0_pay29 (F := Ideal) d b k u) (hdq D P K V) := by
  intro a i
  have h := pay28 hd hp hv
  unfold k0_pay29
  pointwise [h, hk, hdq, coe_sum, EReal.coe_mul]

theorem pay30 (hx : Is xb X) (h29 : Is (k0_pay29 (F := Ideal) d b k u) D) (acc : Vec Ideal S1024x256 .f32) (i : Fin 1024) (j : Fin 256) :
    (k0_pay30 (F := Ideal) xb d b k u acc : Vec Ideal S1024x256 .f32) (ix2 i j) = acc (ix2 i j) + ((∑ a, X a i * D a j : ℝ) : EReal) := by
  unfold k0_pay30
  pointwise [hx, h29, coe_sum, EReal.coe_mul]

theorem pay31 {e : Vec Ideal S512x256 .bf16} (he : Is e D) {w : Vec Ideal S1024x256 .bf16} {W : Fin 1024 → Fin 256 → ℝ} (hw : Is w W) (hs : Is s G) :
    Is (k0_pay31 (F := Ideal) s e w) (fun a i => G a i + ∑ j, D a j * W i j) := by
  intro a i
  unfold k0_pay31
  pointwise [he, hw, hs, coe_sum, EReal.coe_mul, EReal.coe_add]

theorem pay32 {e y : Vec Ideal S512x256 .bf16} (hq : Is y Q) (he : Is e D) (acc : Vec Ideal S256x256 .f32) (i j : Fin 256) :
    (k0_pay32 (F := Ideal) y e acc : Vec Ideal S256x256 .f32) (ix2 i j) = acc (ix2 i j) + ((∑ a, D a i * Q a j : ℝ) : EReal) := by
  unfold k0_pay32
  pointwise [he, hq, coe_sum, EReal.coe_mul]

theorem pay33 {y : Vec Ideal S512x256 .bf16} (hp : Is b P) (hd : Is y D) (acc : Vec Ideal S256x256 .f32) (i j : Fin 256) :
    (k0_pay33 (F := Ideal) b y acc : Vec Ideal S256x256 .f32) (ix2 i j) = acc (ix2 i j) + ((∑ a, P a i * D a j : ℝ) : EReal) := by
  unfold k0_pay33
  pointwise [hp, hd, coe_sum, EReal.coe_mul]

theorem pay25 {y : Vec Ideal S512x256 .bf16} (hq : Is y Q) : Is (k0_pay25 (F := Ideal) y) Q := by
  intro a i
  unfold k0_pay25
  pointwise [hq]

theorem pay26 (hp : Is b P) : Is (k0_pay26 (F := Ideal) b) P := by
  intro a i
  unfold k0_pay26
  pointwise [hp]

end head1

section head2

variable {d s : Vec Ideal S512x1024 .f32} {xb : Vec Ideal S512x1024 .bf16} {b e f : Vec Ideal S512x256 .f32} {k u : Vec Ideal S256x256 .bf16}

theorem pay37 (hd : Is d T) : Is (k0_pay37 (F := Ideal) d) (fun a i => T a (col 2 i)) := by
  intro a i
  unfold k0_pay37
  pointwise [hd]
  rfl

theorem pay40 (hd : Is (k0_pay37 (F := Ideal) d) D) (hp : Is b P) (hv : Is u V) :
    Is (k0_pay40 (F := Ideal) (k0_pay38 (F := Ideal) d b u) (k0_pay39 (F := Ideal))) (hds D P V) := by
  intro a i
  unfold k0_pay40 k0_pay38 k0_pay39 k0_pay35
  pointwise [hd, hp, hv, hds, hdp, lit_16th, coe_sum, EReal.coe_mul, EReal.coe_sub]

theorem pay41 (h40 : Is (k0_pay40 (F := Ideal) e f) D) (hk : Is k K) : Is (k0_pay41 (F := Ideal) k e f) (fun a i => ∑ m, D a m * K m i) := by
  intro a i
  unfold k0_pay41
  pointwise [h40, hk, coe_sum, EReal.coe_mul]

theorem pay42 (hx : Is xb X) (h41 : Is (k0_pay41 (F := Ideal) k e f) D) (acc : Vec Ideal S1024x256 .f32) (i : Fin 1024) (j : Fin 256) :
    (k0_pay42 (F := Ideal) xb k e f acc : Vec Ideal S1024x256 .f32) (ix2 i j) = acc (ix2 i j) + ((∑ a, X a i * D a j : ℝ) : EReal) := by
  unfold k0_pay42
  pointwise [hx, h41, coe_sum, EReal.coe_mul]

theorem pay43 (h41 : Is (k0_pay41 (F := Ideal) k e f) D) {w : Vec Ideal S1024x256 .bf16} {W : Fin 1024 → Fin 256 → ℝ} (hw : Is w W) (hs : Is s G) :
    Is (k0_pay43 (F := Ideal) s k e f w) (fun a i => G a i + ∑ j, D a j * W i j) := by
  intro a i
  unfold k0_pay43
  pointwise [h41, hw, hs, coe_sum, EReal.coe_mul, EReal.coe_add]

theorem pay44 {y : Vec Ideal S512x256 .bf16} (hq : Is y Q) (h40 : Is (k0_pay40 (F := Ideal) e f) D) (acc : Vec Ideal S256x256 .f32) (i j : Fin 256) :
    (k0_pay44 (F := Ideal) y e f acc : Vec Ideal S256x256 .f32) (ix2 i j) = acc (ix2 i j) + ((∑ a, D a i * Q a j : ℝ) : EReal) := by
  unfold k0_pay44
  pointwise [h40, hq, coe_sum, EReal.coe_mul]

theorem pay45 {y : Vec Ideal S512x256 .bf16} (hp : Is b P) (hd : Is y D) (acc : Vec Ideal S256x256 .f32) (i j : Fin 256) :
    (k0_pay45 (F := Ideal) b y acc : Vec Ideal S256x256 .f32) (ix2 i j) = acc (ix2 i j) + ((∑ a, P a i * D a j : ℝ) : EReal) := by
  unfold k0_pay45
  pointwise [hp, hd, coe_sum, EReal.coe_mul]

theorem pay34 {y : Vec Ideal S512x256 .bf16} (hq : Is y Q) : Is (k0_pay34 (F := Ideal) y) Q := by
  intro a i
  unfold k0_pay34
  pointwise [hq]

theorem pay35 (hp : Is b P) : Is (k0_pay35 (F := Ideal) b) P := by
  intro a i
  unfold k0_pay35
  pointwise [hp]

theorem pay36 (hk : Is k K) : Is (k0_pay36 (F := Ideal) k) K := by
  intro a i
  unfold k0_pay36
  pointwise [hk]

end head2

section head3

variable {d s : Vec Ideal S512x1024 .f32} {xb : Vec Ideal S512x1024 .bf16} {b : Vec Ideal S512x256 .f32} {k u : Vec Ideal S256x256 .bf16}

theorem pay49 (hd : Is d T) : Is (k0_pay49 (F := Ideal) d) (fun a i => T a (col 3 i)) := by
  intro a i
  unfold k0_pay49
  pointwise [hd]
  rfl

theorem pay50 (hd : Is (k0_pay49 (F := Ideal) d) D) (hp : Is b P) (hv : Is u V) : Is (k0_pay50 (F := Ideal) d b u) (hds D P V) := by
  intro a i
  unfold k0_pay50
  pointwise [hd, hp, hv, hds, hdp, lit_16th, coe_sum, EReal.coe_mul, EReal.coe_sub]

theorem pay51 (hd : Is (k0_pay49 (F := Ideal) d) D) (hp : Is b P) (hk : Is k K) (hv : Is u V) : Is (k0_pay51 (F := Ideal) d b k u) (hdq D P K V) := by
  intro a i
  have h := pay50 hd hp hv
  unfold k0_pay51
  pointwise [h, hk, hdq, coe_sum, EReal.coe_mul]

theorem pay52 (hx : Is xb X) (h51 : Is (k0_pay51 (F := Ideal) d b k u) D) (acc : Vec Ideal S1024x256 .f32) (i : Fin 1024) (j : Fin 256) :
    (k0_pay52 (F := Ideal) xb d b k u acc : Vec Ideal S1024x256 .f32) (ix2 i j) = acc (ix2 i j) + ((∑ a, X a i * D a j : ℝ) : EReal) := by
  unfold k0_pay52
  pointwise [hx, h51, coe_sum, EReal.coe_mul]

theorem pay53 (h51 : Is (k0_pay51 (F := Ideal) d b k u) D) {w : Vec Ideal S1024x256 .bf16} {W : Fin 1024 → Fin 256 → ℝ} (hw : Is w W) (hs : Is s G) :
    Is (k0_pay53 (F := Ideal) d s b k u w) (fun a i => G a i + ∑ j, D a j * W i j) := by
  intro a i
  unfold k0_pay53
  pointwise [h51, hw, hs, coe_sum, EReal.coe_mul, EReal.coe_add]

theorem pay54 (h50 : Is (k0_pay50 (F := Ideal) d b u) D) {y : Vec Ideal S512x256 .bf16} (hq : Is y Q) (acc : Vec Ideal S256x256 .f32) (i j : Fin 256) :
    (k0_pay54 (F := Ideal) d y b u acc : Vec Ideal S256x256 .f32) (ix2 i j) = acc (ix2 i j) + ((∑ a, D a i * Q a j : ℝ) : EReal) := by
  unfold k0_pay54
  pointwise [h50, hq, coe_sum, EReal.coe_mul]

theorem pay55 (hd : Is (k0_pay49 (F := Ideal) d) D) (hp : Is b P) (acc : Vec Ideal S256x256 .f32) (i j : Fin 256) :
    (k0_pay55 (F := Ideal) d b acc : Vec Ideal S256x256 .f32) (ix2 i j) = acc (ix2 i j) + ((∑ a, P a i * D a j : ℝ) : EReal) := by
  unfold k0_pay55
  pointwise [hp, hd, coe_sum, EReal.coe_mul]

theorem pay46 {y : Vec Ideal S512x256 .bf16} (hq : Is y Q) : Is (k0_pay46 (F := Ideal) y) Q := by
  intro a i
  unfold k0_pay46
  pointwise [hq]

theorem pay47 (hp : Is b P) : Is (k0_pay47 (F := Ideal) b) P := by
  intro a i
  unfold k0_pay47
  pointwise [hp]

theorem pay48 (hk : Is k K) : Is (k0_pay48 (F := Ideal) k) K := by
  intro a i
  unfold k0_pay48
  pointwise [hk]

end head3

end Cert.Proof.Attn

end
-- ==== Proof.AttnOut.lean ====
/- The kernel of the cross attention's backward pass: what one grid point leaves in the staging buffers. -/
module

public import proofs.«01_k».proof.Proof.AttnPay

@[expose] public section

set_option maxRecDepth 16384

noncomputable section

namespace Cert.Proof.Attn

open Idealize.ShloMosaic Idealize.SL.Sem Cert.AttnIdeal Cert.AttnIdeal.Gen Idealize.ShloMosaic.TcCoe
open Idealize.ShloMosaic.Pipeline (Dat Cfg Window)

variable {p : Weights} {X T Y : Fin 512 → Fin 1024 → ℝ}

theorem hz : (![0, 0] : Fin 2 → Nat) = fun _ => 0 := funext fun a => by fin_cases a <;> rfl

section reads

variable {R C n o : ℕ} (hb : o + n ≤ C) {e : EltTy}

/-- Place `(i, j)` of the block of columns from `o` on is place `(i, o + j)` of the array. -/
theorem idx_cols (hh) (i : Fin R) (j : Fin n) :
    (Rect.unit (s := ⟨2, ![R, C]⟩) ![0, o] (Shape.size ⟨2, ![R, n]⟩) hh).idx (ix2 i j) = ix2 i ⟨o + j.val, by omega⟩ := by
  funext a
  fin_cases a <;> refine Fin.ext ?_
  · show 0 + 1 * i.val = i.val
    omega
  · show o + 1 * j.val = o + j.val
    omega

/-- A block of columns, read from a buffer that holds `x`. -/
theorem read_at {a : Memref sig .tc .vmem ⟨2, ![R, C]⟩ e} (h : a.IsWhole) (x : Vec Ideal ⟨2, ![R, C]⟩ e) (hh) (i : Fin R) (j : Fin n) :
    View.readAt (Elt Ideal) a.view (Rect.unit (s := ⟨2, ![R, C]⟩) ![0, o] (Shape.size ⟨2, ![R, n]⟩) hh).toLoadRect (h.unread x) (ix2 i j)
      = x (ix2 i ⟨o + j.val, by omega⟩) := by
  rw [View.readAt_eq_ld, h.read_unread]
  exact congrArg x (idx_cols hb hh i j)

theorem read_cols {a : Memref sig .tc .vmem ⟨2, ![R, C]⟩ .f32} (h : a.IsWhole) {x : Vec Ideal ⟨2, ![R, C]⟩ .f32} {Z : Fin R → Fin C → ℝ} (hx : Is x Z) (hh) :
    Is (View.readAt (Elt Ideal) a.view (Rect.unit (s := ⟨2, ![R, C]⟩) ![0, o] (Shape.size ⟨2, ![R, n]⟩) hh).toLoadRect (h.unread x))
      fun i j => Z i ⟨o + j.val, by omega⟩ := fun i j => (read_at hb h x hh i j).trans (hx _ _)

theorem read_colsb {a : Memref sig .tc .vmem ⟨2, ![R, C]⟩ .bf16} (h : a.IsWhole) {x : Vec Ideal ⟨2, ![R, C]⟩ .bf16} {Z : Fin R → Fin C → ℝ} (hx : Is x Z) (hh) :
    Is (View.readAt (Elt Ideal) a.view (Rect.unit (s := ⟨2, ![R, C]⟩) ![0, o] (Shape.size ⟨2, ![R, n]⟩) hh).toLoadRect (h.unread x))
      fun i j => Z i ⟨o + j.val, by omega⟩ := fun i j => (read_at hb h x hh i j).trans (hx _ _)

theorem read_whole {a : Memref sig .tc .vmem ⟨2, ![R, C]⟩ .f32} (h : a.IsWhole) {x : Vec Ideal ⟨2, ![R, C]⟩ .f32} {Z : Fin R → Fin C → ℝ} (hx : Is x Z) (hh) :
    Is (View.readAt (Elt Ideal) a.view (Rect.unit ![0, 0] (Shape.size ⟨2, ![R, C]⟩) hh).toLoadRect (h.unread x)) Z := by
  rw [View.readAt_eq_ld, h.read_unread, View.ld_unit_zero hz]
  exact hx

theorem read_wholeb {a : Memref sig .tc .vmem ⟨2, ![R, C]⟩ .bf16} (h : a.IsWhole) {x : Vec Ideal ⟨2, ![R, C]⟩ .bf16} {Z : Fin R → Fin C → ℝ} (hx : Is x Z) (hh) :
    Is (View.readAt (Elt Ideal) a.view (Rect.unit ![0, 0] (Shape.size ⟨2, ![R, C]⟩) hh).toLoadRect (h.unread x)) Z := by
  rw [View.readAt_eq_ld, h.read_unread, View.ld_unit_zero hz]
  exact hx

/-- A store to other columns does not change what is read. -/
theorem past {a : Memref sig .tc .vmem ⟨2, ![R, C]⟩ .f32} {o' : ℕ} {sz sz' : Fin 2 → ℕ} (inb) (inb') (w) (L : List (View.Piece (Elt Ideal) ⟨2, ![R, C]⟩ .f32))
    (h : o + sz 1 ≤ o' ∨ o' + sz' 1 ≤ o) :
    a.view.readCov (⟨Rect.unit (s := ⟨2, ![R, C]⟩) ![0, o] sz inb, w⟩ :: L) (Rect.unit (s := ⟨2, ![R, C]⟩) ![0, o'] sz' inb').toLoadRect
      = a.view.readCov L (Rect.unit (s := ⟨2, ![R, C]⟩) ![0, o'] sz' inb').toLoadRect :=
  View.readCov_cons_of_disjoint (Val := Elt Ideal) a.view ⟨Rect.unit (s := ⟨2, ![R, C]⟩) ![0, o] sz inb, w⟩ L (Rect.unit (s := ⟨2, ![R, C]⟩) ![0, o'] sz' inb') (Rect.unit_disjoint (s := ⟨2, ![R, C]⟩) (inb := inb) (inb' := inb') 1 h)

/-- What is read of a whole store. -/
theorem base {a : Memref sig .tc .vmem ⟨2, ![R, C]⟩ .f32} {z : Fin 2 → ℕ} (h0 : z = fun _ => 0) (inb) (w : Vec Ideal ⟨2, ![R, C]⟩ .f32) (hh) (i : Fin R) (j : Fin n) :
    a.view.readCov [⟨Rect.unit (s := ⟨2, ![R, C]⟩) z (Shape.size ⟨2, ![R, C]⟩) inb, w⟩]
      (Rect.unit (s := ⟨2, ![R, C]⟩) ![0, o] (Shape.size ⟨2, ![R, n]⟩) hh).toLoadRect (ix2 i j) = w (ix2 i ⟨o + j.val, by omega⟩) := by
  have hc : ∀ y, ∃ q ∈ [(⟨Rect.unit (s := ⟨2, ![R, C]⟩) z (Shape.size ⟨2, ![R, C]⟩) inb, w⟩ : View.Piece (Elt Ideal) ⟨2, ![R, C]⟩ .f32)], y ∈ q.1.set := by
    subst h0
    intro y
    refine ⟨_, List.mem_singleton_self _, ?_⟩
    refine (Rect.mem_set_unit (s := ⟨2, ![R, C]⟩) (inb := inb)).mpr fun b => ⟨Nat.zero_le _, ?_⟩
    rw [Nat.zero_add]
    exact (y b).isLt
  rw [View.readCov_eq_canon_ld (Val := Elt Ideal) _ _ _ hc, View.canon_unit_zero (Val := Elt Ideal) h0]
  exact congrArg w (idx_cols hb hh i j)

/-- An array with real numbers added to it. -/
def upd (x : Vec Ideal ⟨2, ![R, C]⟩ .f32) (Z : Fin R → Fin C → ℝ) : Vec Ideal ⟨2, ![R, C]⟩ .f32 := fun y => x y + ((Z (y 0) (y 1) : ℝ) : EReal)

theorem upd_cols (x : Vec Ideal ⟨2, ![R, C]⟩ .f32) (Z : Fin R → Fin C → ℝ) (hh) (i : Fin R) (j : Fin n) :
    upd x Z ((Rect.unit (s := ⟨2, ![R, C]⟩) ![0, o] (Shape.size ⟨2, ![R, n]⟩) hh).emb (ix2 i j))
      = x (ix2 i ⟨o + j.val, by omega⟩) + ((Z i ⟨o + j.val, by omega⟩ : ℝ) : EReal) := by
  show upd x Z ((Rect.unit (s := ⟨2, ![R, C]⟩) ![0, o] (Shape.size ⟨2, ![R, n]⟩) hh).idx (ix2 i j)) = _
  rw [idx_cols hb hh i j]
  rfl

end reads

/-- What is stored of one block of rows. -/
structure Stored (r0 rt : Vec Ideal S512x1024 .f32) (ro ry : Vec Ideal S512x1024 .bf16) (g : Vec Ideal S1x1024 .f32) (wo : Vec Ideal S1024x1024 .bf16)
    (q0 q1 q2 q3 : Vec Ideal S512x256 .bf16) (p0 p1 p2 p3 : Vec Ideal S512x256 .f32) (k0 k1 k2 k3 v0 v1 v2 v3 : Vec Ideal S256x256 .bf16) (w0 w1 w2 w3 : Vec Ideal S1024x256 .bf16)
    (p : Weights) (X T Y : Fin 512 → Fin 1024 → ℝ) : Prop where
  dk0 : ∀ (acc : Vec Ideal S256x256 .f32) (i j : Fin 256), (k0_pay23 (F := Ideal) (k0_pay15 (F := Ideal) rt wo) q0 p0 v0 acc : Vec Ideal S256x256 .f32) (ix2 i j)
    = acc (ix2 i j) + ((∑ a, ds p (X a) (T a) 0 i * q p (X a) (col 0 j) : ℝ) : EReal)
  dv0 : ∀ (acc : Vec Ideal S256x256 .f32) (i j : Fin 256), (k0_pay24 (F := Ideal) (k0_pay17 (F := Ideal) p0) (k0_pay18 (F := Ideal) (k0_pay15 (F := Ideal) rt wo)) acc : Vec Ideal S256x256 .f32) (ix2 i j)
    = acc (ix2 i j) + ((∑ a, pr p (X a) 0 i * dout p (T a) (col 0 j) : ℝ) : EReal)
  gq0 : ∀ (acc : Vec Ideal S1024x256 .f32) (i : Fin 1024) (j : Fin 256), (k0_pay21 (F := Ideal) (k0_pay12 (F := Ideal) r0 g) (k0_pay15 (F := Ideal) rt wo) p0 k0 v0 acc : Vec Ideal S1024x256 .f32) (ix2 i j)
    = acc (ix2 i j) + ((∑ a, xn p (X a) i * dq p (X a) (T a) (col 0 j) : ℝ) : EReal)
  dk1 : ∀ (acc : Vec Ideal S256x256 .f32) (i j : Fin 256), (k0_pay32 (F := Ideal) (k0_pay25 (F := Ideal) q1) (k0_pay28 (F := Ideal) (k0_pay15 (F := Ideal) rt wo) p1 v1) acc : Vec Ideal S256x256 .f32) (ix2 i j)
    = acc (ix2 i j) + ((∑ a, ds p (X a) (T a) 1 i * q p (X a) (col 1 j) : ℝ) : EReal)
  dv1 : ∀ (acc : Vec Ideal S256x256 .f32) (i j : Fin 256), (k0_pay33 (F := Ideal) (k0_pay26 (F := Ideal) p1) (k0_pay27 (F := Ideal) (k0_pay15 (F := Ideal) rt wo)) acc : Vec Ideal S256x256 .f32) (ix2 i j)
    = acc (ix2 i j) + ((∑ a, pr p (X a) 1 i * dout p (T a) (col 1 j) : ℝ) : EReal)
  gq1 : ∀ (acc : Vec Ideal S1024x256 .f32) (i : Fin 1024) (j : Fin 256), (k0_pay30 (F := Ideal) (k0_pay12 (F := Ideal) r0 g) (k0_pay15 (F := Ideal) rt wo) p1 k1 v1 acc : Vec Ideal S1024x256 .f32) (ix2 i j)
    = acc (ix2 i j) + ((∑ a, xn p (X a) i * dq p (X a) (T a) (col 1 j) : ℝ) : EReal)
  dk2 : ∀ (acc : Vec Ideal S256x256 .f32) (i j : Fin 256), (k0_pay44 (F := Ideal) (k0_pay34 (F := Ideal) q2) (k0_pay38 (F := Ideal) (k0_pay15 (F := Ideal) rt wo) p2 v2) (k0_pay39 (F := Ideal)) acc : Vec Ideal S256x256 .f32) (ix2 i j)
    = acc (ix2 i j) + ((∑ a, ds p (X a) (T a) 2 i * q p (X a) (col 2 j) : ℝ) : EReal)
  dv2 : ∀ (acc : Vec Ideal S256x256 .f32) (i j : Fin 256), (k0_pay45 (F := Ideal) (k0_pay35 (F := Ideal) p2) (k0_pay37 (F := Ideal) (k0_pay15 (F := Ideal) rt wo)) acc : Vec Ideal S256x256 .f32) (ix2 i j)
    = acc (ix2 i j) + ((∑ a, pr p (X a) 2 i * dout p (T a) (col 2 j) : ℝ) : EReal)
  gq2 : ∀ (acc : Vec Ideal S1024x256 .f32) (i : Fin 1024) (j : Fin 256), (k0_pay42 (F := Ideal) (k0_pay12 (F := Ideal) r0 g) (k0_pay36 (F := Ideal) k2) (k0_pay38 (F := Ideal) (k0_pay15 (F := Ideal) rt wo) p2 v2) (k0_pay39 (F := Ideal)) acc : Vec Ideal S1024x256 .f32) (ix2 i j)
    = acc (ix2 i j) + ((∑ a, xn p (X a) i * dq p (X a) (T a) (col 2 j) : ℝ) : EReal)
  dk3 : ∀ (acc : Vec Ideal S256x256 .f32) (i j : Fin 256), (k0_pay54 (F := Ideal) (k0_pay15 (F := Ideal) rt wo) (k0_pay46 (F := Ideal) q3) (k0_pay47 (F := Ideal) p3) v3 acc : Vec Ideal S256x256 .f32) (ix2 i j)
    = acc (ix2 i j) + ((∑ a, ds p (X a) (T a) 3 i * q p (X a) (col 3 j) : ℝ) : EReal)
  dv3 : ∀ (acc : Vec Ideal S256x256 .f32) (i j : Fin 256), (k0_pay55 (F := Ideal) (k0_pay15 (F := Ideal) rt wo) (k0_pay47 (F := Ideal) p3) acc : Vec Ideal S256x256 .f32) (ix2 i j)
    = acc (ix2 i j) + ((∑ a, pr p (X a) 3 i * dout p (T a) (col 3 j) : ℝ) : EReal)
  gq3 : ∀ (acc : Vec Ideal S1024x256 .f32) (i : Fin 1024) (j : Fin 256), (k0_pay52 (F := Ideal) (k0_pay12 (F := Ideal) r0 g) (k0_pay15 (F := Ideal) rt wo) (k0_pay47 (F := Ideal) p3) (k0_pay48 (F := Ideal) k3) v3 acc : Vec Ideal S1024x256 .f32) (ix2 i j)
    = acc (ix2 i j) + ((∑ a, xn p (X a) i * dq p (X a) (T a) (col 3 j) : ℝ) : EReal)
  fdx1 : Is (k0_pay57 (F := Ideal) (k0_pay10 (F := Ideal) r0) (k0_pay11 (F := Ideal) r0) rt (k0_pay53 (F := Ideal) (k0_pay15 (F := Ideal) rt wo) (k0_pay43 (F := Ideal) (k0_pay31 (F := Ideal) (k0_pay22 (F := Ideal) (k0_pay15 (F := Ideal) rt wo) (k0_pay16 (F := Ideal)) p0 k0 v0 w0) (k0_pay29 (F := Ideal) (k0_pay15 (F := Ideal) rt wo) p1 k1 v1) w1) (k0_pay36 (F := Ideal) k2) (k0_pay38 (F := Ideal) (k0_pay15 (F := Ideal) rt wo) p2 v2) (k0_pay39 (F := Ideal)) w2) (k0_pay47 (F := Ideal) p3) (k0_pay48 (F := Ideal) k3) v3 w3) g) fun a => dx1 p (X a) (T a)
  fdg : ∀ (acc : Vec Ideal S1x1024 .f32) (z : Fin 1) (j : Fin 1024), (k0_pay56 (F := Ideal) (k0_pay11 (F := Ideal) r0) (k0_pay53 (F := Ideal) (k0_pay15 (F := Ideal) rt wo) (k0_pay43 (F := Ideal) (k0_pay31 (F := Ideal) (k0_pay22 (F := Ideal) (k0_pay15 (F := Ideal) rt wo) (k0_pay16 (F := Ideal)) p0 k0 v0 w0) (k0_pay29 (F := Ideal) (k0_pay15 (F := Ideal) rt wo) p1 k1 v1) w1) (k0_pay36 (F := Ideal) k2) (k0_pay38 (F := Ideal) (k0_pay15 (F := Ideal) rt wo) p2 v2) (k0_pay39 (F := Ideal)) w2) (k0_pay47 (F := Ideal) p3) (k0_pay48 (F := Ideal) k3) v3 w3) acc : Vec Ideal S1x1024 .f32) (ix2 z j)
    = acc (ix2 z j) + ((∑ a, dg p (X a) (T a) j : ℝ) : EReal)
  gwo : ∀ (acc : Vec Ideal S1024x1024 .f32) (i j : Fin 1024), (k0_pay14 (F := Ideal) rt acc ro : Vec Ideal S1024x1024 .f32) (ix2 i j)
    = acc (ix2 i j) + ((∑ a, o p (X a) i * T a j : ℝ) : EReal)
  gwout : ∀ (acc : Vec Ideal S1024x1024 .f32) (i j : Fin 1024), (k0_pay58 (F := Ideal) (k0_pay10 (F := Ideal) r0) (k0_pay11 (F := Ideal) r0) rt (k0_pay53 (F := Ideal) (k0_pay15 (F := Ideal) rt wo) (k0_pay43 (F := Ideal) (k0_pay31 (F := Ideal) (k0_pay22 (F := Ideal) (k0_pay15 (F := Ideal) rt wo) (k0_pay16 (F := Ideal)) p0 k0 v0 w0) (k0_pay29 (F := Ideal) (k0_pay15 (F := Ideal) rt wo) p1 k1 v1) w1) (k0_pay36 (F := Ideal) k2) (k0_pay38 (F := Ideal) (k0_pay15 (F := Ideal) rt wo) p2 v2) (k0_pay39 (F := Ideal)) w2) (k0_pay47 (F := Ideal) p3) (k0_pay48 (F := Ideal) k3) v3 w3) g acc ry : Vec Ideal S1024x1024 .f32) (ix2 i j)
    = acc (ix2 i j) + ((∑ a, Y a i * dx1 p (X a) (T a) j : ℝ) : EReal)

section stage

variable {r0 rt : Vec Ideal S512x1024 .f32} {ro ry : Vec Ideal S512x1024 .bf16} {g : Vec Ideal S1x1024 .f32} {wo : Vec Ideal S1024x1024 .bf16}
    {q0 q1 q2 q3 : Vec Ideal S512x256 .bf16} {p0 p1 p2 p3 : Vec Ideal S512x256 .f32} {k0 k1 k2 k3 v0 v1 v2 v3 : Vec Ideal S256x256 .bf16} {w0 w1 w2 w3 : Vec Ideal S1024x256 .bf16}
    (hx : Is r0 X) (ht : Is rt T) (ho : Is ro fun a => o p (X a)) (hy : Is ry Y) (hg : Is g fun _ => p.g) (hw : Is wo p.wo)
    (hq0 : Is q0 fun a d => q p (X a) (col 0 d)) (hp0 : Is p0 fun a m => pr p (X a) 0 m) (hk0 : Is k0 (ks p 0)) (hv0 : Is v0 (vs p 0)) (hw0 : Is w0 fun i d => p.wq i (col 0 d))
    (hq1 : Is q1 fun a d => q p (X a) (col 1 d)) (hp1 : Is p1 fun a m => pr p (X a) 1 m) (hk1 : Is k1 (ks p 1)) (hv1 : Is v1 (vs p 1)) (hw1 : Is w1 fun i d => p.wq i (col 1 d))
    (hq2 : Is q2 fun a d => q p (X a) (col 2 d)) (hp2 : Is p2 fun a m => pr p (X a) 2 m) (hk2 : Is k2 (ks p 2)) (hv2 : Is v2 (vs p 2)) (hw2 : Is w2 fun i d => p.wq i (col 2 d))
    (hq3 : Is q3 fun a d => q p (X a) (col 3 d)) (hp3 : Is p3 fun a m => pr p (X a) 3 m) (hk3 : Is k3 (ks p 3)) (hv3 : Is v3 (vs p 3)) (hw3 : Is w3 fun i d => p.wq i (col 3 d))
include hx ht ho hy hg hw hq0 hp0 hk0 hv0 hw0 hq1 hp1 hk1 hv1 hw1 hq2 hp2 hk2 hv2 hw2 hq3 hp3 hk3 hv3 hw3

theorem stored : Stored r0 rt ro ry g wo q0 q1 q2 q3 p0 p1 p2 p3 k0 k1 k2 k3 v0 v1 v2 v3 w0 w1 w2 w3 p X T Y := by
  have hD : Is ((k0_pay15 (F := Ideal) rt wo)) fun a => dout p (T a) := pay15 ht hw
  have hX : Is ((k0_pay12 (F := Ideal) r0 g)) fun a => xn p (X a) := pay12 hx hg
  have d0 : Is (k0_pay18 (F := Ideal) (k0_pay15 (F := Ideal) rt wo)) fun a d => dout p (T a) (col 0 d) := pay18 hD
  have d1 : Is (k0_pay27 (F := Ideal) (k0_pay15 (F := Ideal) rt wo)) fun a d => dout p (T a) (col 1 d) := pay27 hD
  have d2 : Is (k0_pay37 (F := Ideal) (k0_pay15 (F := Ideal) rt wo)) fun a d => dout p (T a) (col 2 d) := pay37 hD
  have d3 : Is (k0_pay49 (F := Ideal) (k0_pay15 (F := Ideal) rt wo)) fun a d => dout p (T a) (col 3 d) := pay49 hD
  have s0 : Is (k0_pay19 (F := Ideal) (k0_pay15 (F := Ideal) rt wo) p0 v0) fun a => ds p (X a) (T a) 0 := pay19 d0 hp0 hv0
  have s1 : Is (k0_pay28 (F := Ideal) (k0_pay15 (F := Ideal) rt wo) p1 v1) fun a => ds p (X a) (T a) 1 := pay28 d1 hp1 hv1
  have s2 : Is (k0_pay40 (F := Ideal) (k0_pay38 (F := Ideal) (k0_pay15 (F := Ideal) rt wo) p2 v2) (k0_pay39 (F := Ideal))) fun a => ds p (X a) (T a) 2 := pay40 d2 hp2 hv2
  have s3 : Is (k0_pay50 (F := Ideal) (k0_pay15 (F := Ideal) rt wo) (k0_pay47 (F := Ideal) p3) v3) fun a => ds p (X a) (T a) 3 := pay50 d3 (pay47 hp3) hv3
  have e0 : Is (k0_pay20 (F := Ideal) (k0_pay15 (F := Ideal) rt wo) p0 k0 v0) fun a d => dq p (X a) (T a) (col 0 d) := fun a d => (pay20 d0 hp0 hk0 hv0 a d).trans (congrArg _ (hdq_eq p X T 0 a d))
  have e1 : Is (k0_pay29 (F := Ideal) (k0_pay15 (F := Ideal) rt wo) p1 k1 v1) fun a d => dq p (X a) (T a) (col 1 d) := fun a d => (pay29 d1 hp1 hk1 hv1 a d).trans (congrArg _ (hdq_eq p X T 1 a d))
  have e2 : Is (k0_pay41 (F := Ideal) (k0_pay36 (F := Ideal) k2) (k0_pay38 (F := Ideal) (k0_pay15 (F := Ideal) rt wo) p2 v2) (k0_pay39 (F := Ideal))) fun a d => dq p (X a) (T a) (col 2 d) := fun a d => (pay41 s2 (pay36 hk2) a d).trans (congrArg _ (hdq_eq p X T 2 a d))
  have e3 : Is (k0_pay51 (F := Ideal) (k0_pay15 (F := Ideal) rt wo) (k0_pay47 (F := Ideal) p3) (k0_pay48 (F := Ideal) k3) v3) fun a d => dq p (X a) (T a) (col 3 d) := fun a d => (pay51 d3 (pay47 hp3) (pay48 hk3) hv3 a d).trans (congrArg _ (hdq_eq p X T 3 a d))
  have z : Is (k0_pay16 (F := Ideal)) fun _ _ => (0 : ℝ) := by
    intro a i
    unfold k0_pay16
    pointwise
    rfl
  have n : Is ((k0_pay53 (F := Ideal) (k0_pay15 (F := Ideal) rt wo) (k0_pay43 (F := Ideal) (k0_pay31 (F := Ideal) (k0_pay22 (F := Ideal) (k0_pay15 (F := Ideal) rt wo) (k0_pay16 (F := Ideal)) p0 k0 v0 w0) (k0_pay29 (F := Ideal) (k0_pay15 (F := Ideal) rt wo) p1 k1 v1) w1) (k0_pay36 (F := Ideal) k2) (k0_pay38 (F := Ideal) (k0_pay15 (F := Ideal) rt wo) p2 v2) (k0_pay39 (F := Ideal)) w2) (k0_pay47 (F := Ideal) p3) (k0_pay48 (F := Ideal) k3) v3 w3)) fun a => dxn p (X a) (T a) := by
    intro a i
    refine (pay53 e3 hw3 (pay43 e2 hw2 (pay31 e1 hw1 (pay22 e0 hw0 z))) a i).trans (congrArg _ ?_)
    show _ = dxn p (X a) (T a) i
    rw [dxn_heads, Fin.sum_univ_four]
    beta_reduce
    rw [zero_add]
  have hx1 := pay57 (pay10 hx) (pay11 hx) ht n hg
  exact {
    dk0 := pay23 s0 hq0, dv0 := pay24 (fun a i => by unfold k0_pay17; pointwise [hp0]) d0, gq0 := pay21 hX e0
    dk1 := pay32 (pay25 hq1) s1, dv1 := pay33 (pay26 hp1) d1, gq1 := pay30 hX e1
    dk2 := pay44 (pay34 hq2) s2, dv2 := pay45 (pay35 hp2) d2, gq2 := pay42 hX e2
    dk3 := pay54 s3 (pay46 hq3), dv3 := pay55 d3 (pay47 hp3), gq3 := pay52 hX e3
    fdx1 := hx1, fdg := fun acc w j => (pay56 (pay11 hx) n acc w j).trans rfl
    gwo := pay14 ht ho, gwout := pay58 hy hx1 }

end stage

/-- What one grid point's input blocks hold. -/
structure Blk (p : Weights) (X T Y : Fin 512 → Fin 1024 → ℝ) (x0 x1 : Vec Ideal S512x1024 .f32) (x2 x3 x4 : Vec Ideal S512x1024 .bf16)
    (x5 : Vec Ideal S512x1024 .f32) (x6 : Vec Ideal S1x1024 .f32) (x7 : Vec Ideal S1024x1024 .bf16) (x8 : Vec Ideal S256x2048 .bf16) (x9 : Vec Ideal S1024x1024 .bf16) : Prop where
  x : Is x0 X
  t : Is x1 T
  o : Is x2 fun a => o p (X a)
  y : Is x3 Y
  q : Is x4 fun a => q p (X a)
  pr : Is x5 fun a j => pr p (X a) (hd j) (pl j)
  g : Is x6 fun _ => p.g
  wq : Is x7 p.wq
  kv : Is x8 p.kv
  wo : Is x9 p.wo

theorem emb_idx {s : Shape} (r : Rect s) (x : r.shape.Idx) : r.emb x = r.idx x := rfl

/-- Newer stores that all hold blocks of one array decide what is read at a place they cover. -/
theorem canon_front {s : Shape} (G : Vec Ideal s .f32) (R : List (View.Piece (Elt Ideal) s .f32)) {y : s.Idx} :
    ∀ L : List (View.Piece (Elt Ideal) s .f32), (∀ q ∈ L, ∀ x, q.2 x = G (q.1.emb x)) → (∃ q ∈ L, y ∈ q.1.set) → View.canon (L ++ R) y = G y
  | [], _, h => by
    obtain ⟨_, hm, _⟩ := h
    exact absurd hm List.not_mem_nil
  | q :: L, hL, h => by
    rw [List.cons_append]
    by_cases hy : y ∈ q.1.set
    · obtain ⟨r, w⟩ := q
      obtain ⟨x, rfl⟩ : ∃ x, r.emb x = y := r.exists_idx_of_mem hy
      rw [View.canon_cons_emb]
      exact hL _ List.mem_cons_self x
    · rw [View.canon_cons_of_not_mem (Val := Elt Ideal) _ _ hy]
      refine canon_front G R L (fun q hq => hL q (List.mem_cons_of_mem _ hq)) ?_
      obtain ⟨q', hm, hq⟩ := h
      rcases List.mem_cons.mp hm with rfl | hm
      · exact absurd hq hy
      · exact ⟨q', hm, hq⟩

variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x1024 .bf16) (h3 : a3.IsWhole)
  (a4 : Memref sig .tc .vmem S512x1024 .bf16) (h4 : a4.IsWhole)
  (a5 : Memref sig .tc .vmem S512x1024 .bf16) (h5 : a5.IsWhole)
  (a6 : Memref sig .tc .vmem S512x1024 .f32) (h6 : a6.IsWhole)
  (a7 : Memref sig .tc .vmem S1x1024 .f32) (h7 : a7.IsWhole)
  (a8 : Memref sig .tc .vmem S1024x1024 .bf16) (h8 : a8.IsWhole)
  (a9 : Memref sig .tc .vmem S256x2048 .bf16) (h9 : a9.IsWhole)
  (a10 : Memref sig .tc .vmem S1024x1024 .bf16) (h10 : a10.IsWhole)
  (a11 : Memref sig .tc .vmem S512x1024 .f32) (h11 : a11.IsWhole)
  (a12 : Memref sig .tc .vmem S256x2048 .f32) (h12 : a12.IsWhole)
  (a13 : Memref sig .tc .vmem S1x1024 .f32) (h13 : a13.IsWhole)
  (a14 : Memref sig .tc .vmem S1024x1024 .bf16) (h14 : a14.IsWhole)
  (a15 : Memref sig .tc .vmem S1024x1024 .bf16) (h15 : a15.IsWhole)
  (a16 : Memref sig .tc .vmem S1024x1024 .bf16) (h16 : a16.IsWhole)
  (a17 : Memref sig .tc .vmem S1024x1024 .f32) (h17 : a17.IsWhole)
  (a18 : Memref sig .tc .vmem S1024x1024 .f32) (h18 : a18.IsWhole)
  (a19 : Memref sig .tc .vmem S1024x1024 .f32) (h19 : a19.IsWhole)
  {x0 x1 x5 : Vec Ideal S512x1024 .f32} {x2 x3 x4 : Vec Ideal S512x1024 .bf16} {x6 : Vec Ideal S1x1024 .f32} {x7 x9 : Vec Ideal S1024x1024 .bf16} {x8 : Vec Ideal S256x2048 .bf16}

variable (H : Blk p X T Y x0 x1 x2 x3 x4 x5 x6 x7 x8 x9)
include H

/-- Every stored value, from the whole input blocks. -/
theorem all : Stored
    (View.readAt (Elt Ideal) a1.view (Rect.unit ![0, 0] S512x1024.size inb_S512x1024_S512x1024_0_0).toLoadRect (h1.unread x0))
    (View.readAt (Elt Ideal) a2.view (Rect.unit ![0, 0] S512x1024.size inb_S512x1024_S512x1024_0_0).toLoadRect (h2.unread x1))
    (View.readAt (Elt Ideal) a3.view (Rect.unit ![0, 0] S512x1024.size inb_S512x1024_S512x1024_0_0).toLoadRect (h3.unread x2))
    (View.readAt (Elt Ideal) a4.view (Rect.unit ![0, 0] S512x1024.size inb_S512x1024_S512x1024_0_0).toLoadRect (h4.unread x3))
    (View.readAt (Elt Ideal) a7.view (Rect.unit ![0, 0] S1x1024.size inb_S1x1024_S1x1024_0_0).toLoadRect (h7.unread x6))
    (View.readAt (Elt Ideal) a10.view (Rect.unit ![0, 0] S1024x1024.size inb_S1024x1024_S1024x1024_0_0).toLoadRect (h10.unread x9))
    (View.readAt (Elt Ideal) a5.view (Rect.unit (s := S512x1024) ![0, 0] S512x256.size inb_S512x1024_S512x256_0_0).toLoadRect (h5.unread x4))
    (View.readAt (Elt Ideal) a5.view (Rect.unit (s := S512x1024) ![0, 256] S512x256.size inb_S512x1024_S512x256_0_256).toLoadRect (h5.unread x4))
    (View.readAt (Elt Ideal) a5.view (Rect.unit (s := S512x1024) ![0, 512] S512x256.size inb_S512x1024_S512x256_0_512).toLoadRect (h5.unread x4))
    (View.readAt (Elt Ideal) a5.view (Rect.unit (s := S512x1024) ![0, 768] S512x256.size inb_S512x1024_S512x256_0_768).toLoadRect (h5.unread x4))
    (View.readAt (Elt Ideal) a6.view (Rect.unit (s := S512x1024) ![0, 0] S512x256.size inb_S512x1024_S512x256_0_0).toLoadRect (h6.unread x5))
    (View.readAt (Elt Ideal) a6.view (Rect.unit (s := S512x1024) ![0, 256] S512x256.size inb_S512x1024_S512x256_0_256).toLoadRect (h6.unread x5))
    (View.readAt (Elt Ideal) a6.view (Rect.unit (s := S512x1024) ![0, 512] S512x256.size inb_S512x1024_S512x256_0_512).toLoadRect (h6.unread x5))
    (View.readAt (Elt Ideal) a6.view (Rect.unit (s := S512x1024) ![0, 768] S512x256.size inb_S512x1024_S512x256_0_768).toLoadRect (h6.unread x5))
    (View.readAt (Elt Ideal) a9.view (Rect.unit (s := S256x2048) ![0, 0] S256x256.size inb_S256x2048_S256x256_0_0).toLoadRect (h9.unread x8))
    (View.readAt (Elt Ideal) a9.view (Rect.unit (s := S256x2048) ![0, 256] S256x256.size inb_S256x2048_S256x256_0_256).toLoadRect (h9.unread x8))
    (View.readAt (Elt Ideal) a9.view (Rect.unit (s := S256x2048) ![0, 512] S256x256.size inb_S256x2048_S256x256_0_512).toLoadRect (h9.unread x8))
    (View.readAt (Elt Ideal) a9.view (Rect.unit (s := S256x2048) ![0, 768] S256x256.size inb_S256x2048_S256x256_0_768).toLoadRect (h9.unread x8))
    (View.readAt (Elt Ideal) a9.view (Rect.unit (s := S256x2048) ![0, 1024] S256x256.size inb_S256x2048_S256x256_0_1024).toLoadRect (h9.unread x8))
    (View.readAt (Elt Ideal) a9.view (Rect.unit (s := S256x2048) ![0, 1280] S256x256.size inb_S256x2048_S256x256_0_1280).toLoadRect (h9.unread x8))
    (View.readAt (Elt Ideal) a9.view (Rect.unit (s := S256x2048) ![0, 1536] S256x256.size inb_S256x2048_S256x256_0_1536).toLoadRect (h9.unread x8))
    (View.readAt (Elt Ideal) a9.view (Rect.unit (s := S256x2048) ![0, 1792] S256x256.size inb_S256x2048_S256x256_0_1792).toLoadRect (h9.unread x8))
    (View.readAt (Elt Ideal) a8.view (Rect.unit (s := S1024x1024) ![0, 0] S1024x256.size inb_S1024x1024_S1024x256_0_0).toLoadRect (h8.unread x7))
    (View.readAt (Elt Ideal) a8.view (Rect.unit (s := S1024x1024) ![0, 256] S1024x256.size inb_S1024x1024_S1024x256_0_256).toLoadRect (h8.unread x7))
    (View.readAt (Elt Ideal) a8.view (Rect.unit (s := S1024x1024) ![0, 512] S1024x256.size inb_S1024x1024_S1024x256_0_512).toLoadRect (h8.unread x7))
    (View.readAt (Elt Ideal) a8.view (Rect.unit (s := S1024x1024) ![0, 768] S1024x256.size inb_S1024x1024_S1024x256_0_768).toLoadRect (h8.unread x7)) p X T Y := by
  have q0 : Is (View.readAt (Elt Ideal) a5.view (Rect.unit (s := S512x1024) ![0, 0] S512x256.size inb_S512x1024_S512x256_0_0).toLoadRect (h5.unread x4)) fun a d => q p (X a) (col 0 d) := fun a d =>
    (read_at (o := 0) (by omega) h5 x4 _ a d).trans ((H.q _ _).trans (congrArg (fun j => ((q p (X a) j : ℝ) : EReal)) (Fin.ext (show 0 + d.val = 256 * 0 + d.val by omega))))
  have p0 : Is (View.readAt (Elt Ideal) a6.view (Rect.unit (s := S512x1024) ![0, 0] S512x256.size inb_S512x1024_S512x256_0_0).toLoadRect (h6.unread x5)) fun a m => pr p (X a) 0 m := fun a d => by
    refine (read_at (o := 0) (by omega) h6 x5 _ a d).trans ((H.pr _ _).trans ?_)
    have e : (⟨0 + d.val, by omega⟩ : Fin 1024) = col 0 d := Fin.ext (show 0 + d.val = 256 * 0 + d.val by omega)
    beta_reduce
    rw [e, hd_col, pl_col]
  have k0 : Is (View.readAt (Elt Ideal) a9.view (Rect.unit (s := S256x2048) ![0, 0] S256x256.size inb_S256x2048_S256x256_0_0).toLoadRect (h9.unread x8)) (ks p 0) := fun a d =>
    (read_at (o := 0) (by omega) h9 x8 _ a d).trans ((H.kv _ _).trans (congrArg (fun j => ((p.kv a j : ℝ) : EReal)) (Fin.ext (show 0 + d.val = 256 * 0 + d.val by omega))))
  have v0 : Is (View.readAt (Elt Ideal) a9.view (Rect.unit (s := S256x2048) ![0, 1024] S256x256.size inb_S256x2048_S256x256_0_1024).toLoadRect (h9.unread x8)) (vs p 0) := fun a d =>
    (read_at (o := 1024) (by omega) h9 x8 _ a d).trans ((H.kv _ _).trans (congrArg (fun j => ((p.kv a j : ℝ) : EReal)) (Fin.ext (show 1024 + d.val = 1024 + (256 * 0 + d.val) by omega))))
  have w0 : Is (View.readAt (Elt Ideal) a8.view (Rect.unit (s := S1024x1024) ![0, 0] S1024x256.size inb_S1024x1024_S1024x256_0_0).toLoadRect (h8.unread x7)) fun i d => p.wq i (col 0 d) := fun a d =>
    (read_at (o := 0) (by omega) h8 x7 _ a d).trans ((H.wq _ _).trans (congrArg (fun j => ((p.wq a j : ℝ) : EReal)) (Fin.ext (show 0 + d.val = 256 * 0 + d.val by omega))))
  have q1 : Is (View.readAt (Elt Ideal) a5.view (Rect.unit (s := S512x1024) ![0, 256] S512x256.size inb_S512x1024_S512x256_0_256).toLoadRect (h5.unread x4)) fun a d => q p (X a) (col 1 d) := fun a d =>
    (read_at (o := 256) (by omega) h5 x4 _ a d).trans ((H.q _ _).trans (congrArg (fun j => ((q p (X a) j : ℝ) : EReal)) (Fin.ext (show 256 + d.val = 256 * 1 + d.val by omega))))
  have p1 : Is (View.readAt (Elt Ideal) a6.view (Rect.unit (s := S512x1024) ![0, 256] S512x256.size inb_S512x1024_S512x256_0_256).toLoadRect (h6.unread x5)) fun a m => pr p (X a) 1 m := fun a d => by
    refine (read_at (o := 256) (by omega) h6 x5 _ a d).trans ((H.pr _ _).trans ?_)
    have e : (⟨256 + d.val, by omega⟩ : Fin 1024) = col 1 d := Fin.ext (show 256 + d.val = 256 * 1 + d.val by omega)
    beta_reduce
    rw [e, hd_col, pl_col]
  have k1 : Is (View.readAt (Elt Ideal) a9.view (Rect.unit (s := S256x2048) ![0, 256] S256x256.size inb_S256x2048_S256x256_0_256).toLoadRect (h9.unread x8)) (ks p 1) := fun a d =>
    (read_at (o := 256) (by omega) h9 x8 _ a d).trans ((H.kv _ _).trans (congrArg (fun j => ((p.kv a j : ℝ) : EReal)) (Fin.ext (show 256 + d.val = 256 * 1 + d.val by omega))))
  have v1 : Is (View.readAt (Elt Ideal) a9.view (Rect.unit (s := S256x2048) ![0, 1280] S256x256.size inb_S256x2048_S256x256_0_1280).toLoadRect (h9.unread x8)) (vs p 1) := fun a d =>
    (read_at (o := 1280) (by omega) h9 x8 _ a d).trans ((H.kv _ _).trans (congrArg (fun j => ((p.kv a j : ℝ) : EReal)) (Fin.ext (show 1280 + d.val = 1024 + (256 * 1 + d.val) by omega))))
  have w1 : Is (View.readAt (Elt Ideal) a8.view (Rect.unit (s := S1024x1024) ![0, 256] S1024x256.size inb_S1024x1024_S1024x256_0_256).toLoadRect (h8.unread x7)) fun i d => p.wq i (col 1 d) := fun a d =>
    (read_at (o := 256) (by omega) h8 x7 _ a d).trans ((H.wq _ _).trans (congrArg (fun j => ((p.wq a j : ℝ) : EReal)) (Fin.ext (show 256 + d.val = 256 * 1 + d.val by omega))))
  have q2 : Is (View.readAt (Elt Ideal) a5.view (Rect.unit (s := S512x1024) ![0, 512] S512x256.size inb_S512x1024_S512x256_0_512).toLoadRect (h5.unread x4)) fun a d => q p (X a) (col 2 d) := fun a d =>
    (read_at (o := 512) (by omega) h5 x4 _ a d).trans ((H.q _ _).trans (congrArg (fun j => ((q p (X a) j : ℝ) : EReal)) (Fin.ext (show 512 + d.val = 256 * 2 + d.val by omega))))
  have p2 : Is (View.readAt (Elt Ideal) a6.view (Rect.unit (s := S512x1024) ![0, 512] S512x256.size inb_S512x1024_S512x256_0_512).toLoadRect (h6.unread x5)) fun a m => pr p (X a) 2 m := fun a d => by
    refine (read_at (o := 512) (by omega) h6 x5 _ a d).trans ((H.pr _ _).trans ?_)
    have e : (⟨512 + d.val, by omega⟩ : Fin 1024) = col 2 d := Fin.ext (show 512 + d.val = 256 * 2 + d.val by omega)
    beta_reduce
    rw [e, hd_col, pl_col]
  have k2 : Is (View.readAt (Elt Ideal) a9.view (Rect.unit (s := S256x2048) ![0, 512] S256x256.size inb_S256x2048_S256x256_0_512).toLoadRect (h9.unread x8)) (ks p 2) := fun a d =>
    (read_at (o := 512) (by omega) h9 x8 _ a d).trans ((H.kv _ _).trans (congrArg (fun j => ((p.kv a j : ℝ) : EReal)) (Fin.ext (show 512 + d.val = 256 * 2 + d.val by omega))))
  have v2 : Is (View.readAt (Elt Ideal) a9.view (Rect.unit (s := S256x2048) ![0, 1536] S256x256.size inb_S256x2048_S256x256_0_1536).toLoadRect (h9.unread x8)) (vs p 2) := fun a d =>
    (read_at (o := 1536) (by omega) h9 x8 _ a d).trans ((H.kv _ _).trans (congrArg (fun j => ((p.kv a j : ℝ) : EReal)) (Fin.ext (show 1536 + d.val = 1024 + (256 * 2 + d.val) by omega))))
  have w2 : Is (View.readAt (Elt Ideal) a8.view (Rect.unit (s := S1024x1024) ![0, 512] S1024x256.size inb_S1024x1024_S1024x256_0_512).toLoadRect (h8.unread x7)) fun i d => p.wq i (col 2 d) := fun a d =>
    (read_at (o := 512) (by omega) h8 x7 _ a d).trans ((H.wq _ _).trans (congrArg (fun j => ((p.wq a j : ℝ) : EReal)) (Fin.ext (show 512 + d.val = 256 * 2 + d.val by omega))))
  have q3 : Is (View.readAt (Elt Ideal) a5.view (Rect.unit (s := S512x1024) ![0, 768] S512x256.size inb_S512x1024_S512x256_0_768).toLoadRect (h5.unread x4)) fun a d => q p (X a) (col 3 d) := fun a d =>
    (read_at (o := 768) (by omega) h5 x4 _ a d).trans ((H.q _ _).trans (congrArg (fun j => ((q p (X a) j : ℝ) : EReal)) (Fin.ext (show 768 + d.val = 256 * 3 + d.val by omega))))
  have p3 : Is (View.readAt (Elt Ideal) a6.view (Rect.unit (s := S512x1024) ![0, 768] S512x256.size inb_S512x1024_S512x256_0_768).toLoadRect (h6.unread x5)) fun a m => pr p (X a) 3 m := fun a d => by
    refine (read_at (o := 768) (by omega) h6 x5 _ a d).trans ((H.pr _ _).trans ?_)
    have e : (⟨768 + d.val, by omega⟩ : Fin 1024) = col 3 d := Fin.ext (show 768 + d.val = 256 * 3 + d.val by omega)
    beta_reduce
    rw [e, hd_col, pl_col]
  have k3 : Is (View.readAt (Elt Ideal) a9.view (Rect.unit (s := S256x2048) ![0, 768] S256x256.size inb_S256x2048_S256x256_0_768).toLoadRect (h9.unread x8)) (ks p 3) := fun a d =>
    (read_at (o := 768) (by omega) h9 x8 _ a d).trans ((H.kv _ _).trans (congrArg (fun j => ((p.kv a j : ℝ) : EReal)) (Fin.ext (show 768 + d.val = 256 * 3 + d.val by omega))))
  have v3 : Is (View.readAt (Elt Ideal) a9.view (Rect.unit (s := S256x2048) ![0, 1792] S256x256.size inb_S256x2048_S256x256_0_1792).toLoadRect (h9.unread x8)) (vs p 3) := fun a d =>
    (read_at (o := 1792) (by omega) h9 x8 _ a d).trans ((H.kv _ _).trans (congrArg (fun j => ((p.kv a j : ℝ) : EReal)) (Fin.ext (show 1792 + d.val = 1024 + (256 * 3 + d.val) by omega))))
  have w3 : Is (View.readAt (Elt Ideal) a8.view (Rect.unit (s := S1024x1024) ![0, 768] S1024x256.size inb_S1024x1024_S1024x256_0_768).toLoadRect (h8.unread x7)) fun i d => p.wq i (col 3 d) := fun a d =>
    (read_at (o := 768) (by omega) h8 x7 _ a d).trans ((H.wq _ _).trans (congrArg (fun j => ((p.wq a j : ℝ) : EReal)) (Fin.ext (show 768 + d.val = 256 * 3 + d.val by omega))))
  exact stored (read_whole h1 H.x _) (read_whole h2 H.t _) (read_wholeb h3 H.o _) (read_wholeb h4 H.y _) (read_whole h7 H.g _) (read_wholeb h10 H.wo _)
    q0 p0 k0 v0 w0 q1 p1 k1 v1 w1 q2 p2 k2 v2 w2 q3 p3 k3 v3 w3

theorem outA10 (hc : cond0_0 i) (hn : ¬cond0_1 i) : Is (out0_A_10 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9) (fun a => dx1 p (X a) (T a)) := by
  unfold out0_A_10
  rw [View.read_writes_eq_canon _ _ _ (fun y => by apply cover0_A_10)]
  unfold kernelRun0_A
  dsimp only
  sl_unfold_words
  rw [View.canon_unit_zero hz]
  exact (all a1 h1 a2 h2 a3 h3 a4 h4 a5 h5 a6 h6 a7 h7 a8 h8 a9 h9 a10 h10 H).fdx1

theorem outA11 (hc : cond0_0 i) (hn : ¬cond0_1 i) :
    out0_A_11 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 = upd (fun _ => 0) (fun m k => ∑ a, dkv p (X a) (T a) m k) := by
  have hs := (all a1 h1 a2 h2 a3 h3 a4 h4 a5 h5 a6 h6 a7 h7 a8 h8 a9 h9 a10 h10 H)
  funext y
  idx_vars y
  rename' y0 => r, y1 => k
  unfold out0_A_11
  rw [View.read_writes_eq_canon _ _ _ (fun y => by apply cover0_A_11)]
  unfold kernelRun0_A
  dsimp only
  sl_unfold_words
  refine canon_front (upd (fun _ => 0) (fun m k => ∑ a, dkv p (X a) (T a) m k)) [_] [_, _, _, _, _, _, _, _] ?_ ?_
  rotate_left
  · simp only [List.exists_mem_cons_iff, List.not_mem_nil, false_and, exists_false, or_false, Rect.mem_set_unit]
    simp only [Fin.forall_fin_two]
    show ((0 ≤ r.val ∧ r.val < 0 + 256) ∧ 1792 ≤ k.val ∧ k.val < 1792 + 256) ∨ ((0 ≤ r.val ∧ r.val < 0 + 256) ∧ 768 ≤ k.val ∧ k.val < 768 + 256) ∨ ((0 ≤ r.val ∧ r.val < 0 + 256) ∧ 1536 ≤ k.val ∧ k.val < 1536 + 256) ∨ ((0 ≤ r.val ∧ r.val < 0 + 256) ∧ 512 ≤ k.val ∧ k.val < 512 + 256) ∨ ((0 ≤ r.val ∧ r.val < 0 + 256) ∧ 1280 ≤ k.val ∧ k.val < 1280 + 256) ∨ ((0 ≤ r.val ∧ r.val < 0 + 256) ∧ 256 ≤ k.val ∧ k.val < 256 + 256) ∨ ((0 ≤ r.val ∧ r.val < 0 + 256) ∧ 1024 ≤ k.val ∧ k.val < 1024 + 256) ∨ ((0 ≤ r.val ∧ r.val < 0 + 256) ∧ 0 ≤ k.val ∧ k.val < 0 + 256)
    omega
  simp only [List.forall_mem_cons, List.not_mem_nil, false_imp_iff, implies_true, and_true]
  refine ⟨?_, ?_, ?_, ?_, ?_, ?_, ?_, ?_⟩ <;> intro x <;> idx_vars x
  · refine (hs.dv3 _ _ _).trans (Eq.trans ?_ (upd_cols (o := 1792) (by omega) _ (fun m k => ∑ a, dkv p (X a) (T a) m k) _ x0 x1).symm)
    rw [past _ _ _ _ (by decide), past _ _ _ _ (by decide), past _ _ _ _ (by decide), past _ _ _ _ (by decide), past _ _ _ _ (by decide), past _ _ _ _ (by decide), past _ _ _ _ (by decide)]
    refine congrArg₂ (· + ·) ((base (o := 1792) (by omega) hz _ _ _ x0 x1).trans (by unfold k0_pay4; pointwise)) (congrArg _ (Finset.sum_congr rfl fun a _ => ?_))
    have e : (⟨1792 + x1.val, by omega⟩ : Fin 2048) = vc (col 3 x1) := Fin.ext (show 1792 + x1.val = 1024 + (256 * 3 + x1.val) by omega)
    rw [e, dkv_v, hd_col]
  · refine (hs.dk3 _ _ _).trans (Eq.trans ?_ (upd_cols (o := 768) (by omega) _ (fun m k => ∑ a, dkv p (X a) (T a) m k) _ x0 x1).symm)
    rw [past _ _ _ _ (by decide), past _ _ _ _ (by decide), past _ _ _ _ (by decide), past _ _ _ _ (by decide), past _ _ _ _ (by decide), past _ _ _ _ (by decide)]
    refine congrArg₂ (· + ·) ((base (o := 768) (by omega) hz _ _ _ x0 x1).trans (by unfold k0_pay4; pointwise)) (congrArg _ (Finset.sum_congr rfl fun a _ => ?_))
    have e : (⟨768 + x1.val, by omega⟩ : Fin 2048) = kc (col 3 x1) := Fin.ext (show 768 + x1.val = 256 * 3 + x1.val by omega)
    rw [e, dkv_k, hd_col]
  · refine (hs.dv2 _ _ _).trans (Eq.trans ?_ (upd_cols (o := 1536) (by omega) _ (fun m k => ∑ a, dkv p (X a) (T a) m k) _ x0 x1).symm)
    rw [past _ _ _ _ (by decide), past _ _ _ _ (by decide), past _ _ _ _ (by decide), past _ _ _ _ (by decide), past _ _ _ _ (by decide)]
    refine congrArg₂ (· + ·) ((base (o := 1536) (by omega) hz _ _ _ x0 x1).trans (by unfold k0_pay4; pointwise)) (congrArg _ (Finset.sum_congr rfl fun a _ => ?_))
    have e : (⟨1536 + x1.val, by omega⟩ : Fin 2048) = vc (col 2 x1) := Fin.ext (show 1536 + x1.val = 1024 + (256 * 2 + x1.val) by omega)
    rw [e, dkv_v, hd_col]
  · refine (hs.dk2 _ _ _).trans (Eq.trans ?_ (upd_cols (o := 512) (by omega) _ (fun m k => ∑ a, dkv p (X a) (T a) m k) _ x0 x1).symm)
    rw [past _ _ _ _ (by decide), past _ _ _ _ (by decide), past _ _ _ _ (by decide), past _ _ _ _ (by decide)]
    refine congrArg₂ (· + ·) ((base (o := 512) (by omega) hz _ _ _ x0 x1).trans (by unfold k0_pay4; pointwise)) (congrArg _ (Finset.sum_congr rfl fun a _ => ?_))
    have e : (⟨512 + x1.val, by omega⟩ : Fin 2048) = kc (col 2 x1) := Fin.ext (show 512 + x1.val = 256 * 2 + x1.val by omega)
    rw [e, dkv_k, hd_col]
  · refine (hs.dv1 _ _ _).trans (Eq.trans ?_ (upd_cols (o := 1280) (by omega) _ (fun m k => ∑ a, dkv p (X a) (T a) m k) _ x0 x1).symm)
    rw [past _ _ _ _ (by decide), past _ _ _ _ (by decide), past _ _ _ _ (by decide)]
    refine congrArg₂ (· + ·) ((base (o := 1280) (by omega) hz _ _ _ x0 x1).trans (by unfold k0_pay4; pointwise)) (congrArg _ (Finset.sum_congr rfl fun a _ => ?_))
    have e : (⟨1280 + x1.val, by omega⟩ : Fin 2048) = vc (col 1 x1) := Fin.ext (show 1280 + x1.val = 1024 + (256 * 1 + x1.val) by omega)
    rw [e, dkv_v, hd_col]
  · refine (hs.dk1 _ _ _).trans (Eq.trans ?_ (upd_cols (o := 256) (by omega) _ (fun m k => ∑ a, dkv p (X a) (T a) m k) _ x0 x1).symm)
    rw [past _ _ _ _ (by decide), past _ _ _ _ (by decide)]
    refine congrArg₂ (· + ·) ((base (o := 256) (by omega) hz _ _ _ x0 x1).trans (by unfold k0_pay4; pointwise)) (congrArg _ (Finset.sum_congr rfl fun a _ => ?_))
    have e : (⟨256 + x1.val, by omega⟩ : Fin 2048) = kc (col 1 x1) := Fin.ext (show 256 + x1.val = 256 * 1 + x1.val by omega)
    rw [e, dkv_k, hd_col]
  · refine (hs.dv0 _ _ _).trans (Eq.trans ?_ (upd_cols (o := 1024) (by omega) _ (fun m k => ∑ a, dkv p (X a) (T a) m k) _ x0 x1).symm)
    rw [past _ _ _ _ (by decide)]
    refine congrArg₂ (· + ·) ((base (o := 1024) (by omega) hz _ _ _ x0 x1).trans (by unfold k0_pay4; pointwise)) (congrArg _ (Finset.sum_congr rfl fun a _ => ?_))
    have e : (⟨1024 + x1.val, by omega⟩ : Fin 2048) = vc (col 0 x1) := Fin.ext (show 1024 + x1.val = 1024 + (256 * 0 + x1.val) by omega)
    rw [e, dkv_v, hd_col]
  · refine (hs.dk0 _ _ _).trans (Eq.trans ?_ (upd_cols (o := 0) (by omega) _ (fun m k => ∑ a, dkv p (X a) (T a) m k) _ x0 x1).symm)
    refine congrArg₂ (· + ·) ((base (o := 0) (by omega) hz _ _ _ x0 x1).trans (by unfold k0_pay4; pointwise)) (congrArg _ (Finset.sum_congr rfl fun a _ => ?_))
    have e : (⟨0 + x1.val, by omega⟩ : Fin 2048) = kc (col 0 x1) := Fin.ext (show 0 + x1.val = 256 * 0 + x1.val by omega)
    rw [e, dkv_k, hd_col]

theorem outA12 (hc : cond0_0 i) (hn : ¬cond0_1 i) (z : Fin 1) (k : Fin 1024) :
    out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 (ix2 z k) = (((∑ a, dg p (X a) (T a) k) : ℝ) : EReal) := by
  unfold out0_A_12
  rw [View.read_writes_eq_canon _ _ _ (fun y => by apply cover0_A_12)]
  unfold kernelRun0_A
  dsimp only
  sl_unfold_words
  rw [View.canon_cons_unit_zero (S := S1x1024) hz, View.readCov_unit_zero (S := S1x1024) _ hz]
  refine ((all a1 h1 a2 h2 a3 h3 a4 h4 a5 h5 a6 h6 a7 h7 a8 h8 a9 h9 a10 h10 H).fdg _ _ _).trans ?_
  unfold k0_pay5
  pointwise

theorem soutA0 (hc : cond0_0 i) (hn : ¬cond0_1 i) (z : Fin 1024) (k : Fin 1024) :
    sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 (ix2 z k) = (((∑ a, o p (X a) z * T a k) : ℝ) : EReal) := by
  unfold sout0_A_0
  rw [View.read_writes_eq_canon _ _ _ (fun y => by apply scover0_A_0)]
  unfold kernelRun0_A
  dsimp only
  sl_unfold_words
  rw [View.canon_cons_unit_zero (S := S1024x1024) hz, View.readCov_unit_zero (S := S1024x1024) _ hz]
  refine ((all a1 h1 a2 h2 a3 h3 a4 h4 a5 h5 a6 h6 a7 h7 a8 h8 a9 h9 a10 h10 H).gwo _ _ _).trans ?_
  unfold k0_pay6
  pointwise

theorem soutA1 (hc : cond0_0 i) (hn : ¬cond0_1 i) :
    sout0_A_1 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 = upd (fun _ => 0) (fun k j => ∑ a, xn p (X a) k * dq p (X a) (T a) j) := by
  have hs := (all a1 h1 a2 h2 a3 h3 a4 h4 a5 h5 a6 h6 a7 h7 a8 h8 a9 h9 a10 h10 H)
  funext y
  idx_vars y
  rename' y0 => r, y1 => k
  unfold sout0_A_1
  rw [View.read_writes_eq_canon _ _ _ (fun y => by apply scover0_A_1)]
  unfold kernelRun0_A
  dsimp only
  sl_unfold_words
  refine canon_front (upd (fun _ => 0) (fun k j => ∑ a, xn p (X a) k * dq p (X a) (T a) j)) [_] [_, _, _, _] ?_ ?_
  rotate_left
  · simp only [List.exists_mem_cons_iff, List.not_mem_nil, false_and, exists_false, or_false, Rect.mem_set_unit]
    simp only [Fin.forall_fin_two]
    show ((0 ≤ r.val ∧ r.val < 0 + 1024) ∧ 768 ≤ k.val ∧ k.val < 768 + 256) ∨ ((0 ≤ r.val ∧ r.val < 0 + 1024) ∧ 512 ≤ k.val ∧ k.val < 512 + 256) ∨ ((0 ≤ r.val ∧ r.val < 0 + 1024) ∧ 256 ≤ k.val ∧ k.val < 256 + 256) ∨ ((0 ≤ r.val ∧ r.val < 0 + 1024) ∧ 0 ≤ k.val ∧ k.val < 0 + 256)
    omega
  simp only [List.forall_mem_cons, List.not_mem_nil, false_imp_iff, implies_true, and_true]
  refine ⟨?_, ?_, ?_, ?_⟩ <;> intro x <;> idx_vars x
  · refine (hs.gq3 _ _ _).trans (Eq.trans ?_ (upd_cols (o := 768) (by omega) _ (fun k j => ∑ a, xn p (X a) k * dq p (X a) (T a) j) _ x0 x1).symm)
    rw [past _ _ _ _ (by decide), past _ _ _ _ (by decide), past _ _ _ _ (by decide)]
    refine congrArg₂ (· + ·) ((base (o := 768) (by omega) hz _ _ _ x0 x1).trans (by unfold k0_pay7; pointwise)) (congrArg _ (Finset.sum_congr rfl fun a _ => ?_))
    have e : (⟨768 + x1.val, by omega⟩ : Fin 1024) = col 3 x1 := Fin.ext (show 768 + x1.val = 256 * 3 + x1.val by omega)
    rw [e]
  · refine (hs.gq2 _ _ _).trans (Eq.trans ?_ (upd_cols (o := 512) (by omega) _ (fun k j => ∑ a, xn p (X a) k * dq p (X a) (T a) j) _ x0 x1).symm)
    rw [past _ _ _ _ (by decide), past _ _ _ _ (by decide)]
    refine congrArg₂ (· + ·) ((base (o := 512) (by omega) hz _ _ _ x0 x1).trans (by unfold k0_pay7; pointwise)) (congrArg _ (Finset.sum_congr rfl fun a _ => ?_))
    have e : (⟨512 + x1.val, by omega⟩ : Fin 1024) = col 2 x1 := Fin.ext (show 512 + x1.val = 256 * 2 + x1.val by omega)
    rw [e]
  · refine (hs.gq1 _ _ _).trans (Eq.trans ?_ (upd_cols (o := 256) (by omega) _ (fun k j => ∑ a, xn p (X a) k * dq p (X a) (T a) j) _ x0 x1).symm)
    rw [past _ _ _ _ (by decide)]
    refine congrArg₂ (· + ·) ((base (o := 256) (by omega) hz _ _ _ x0 x1).trans (by unfold k0_pay7; pointwise)) (congrArg _ (Finset.sum_congr rfl fun a _ => ?_))
    have e : (⟨256 + x1.val, by omega⟩ : Fin 1024) = col 1 x1 := Fin.ext (show 256 + x1.val = 256 * 1 + x1.val by omega)
    rw [e]
  · refine (hs.gq0 _ _ _).trans (Eq.trans ?_ (upd_cols (o := 0) (by omega) _ (fun k j => ∑ a, xn p (X a) k * dq p (X a) (T a) j) _ x0 x1).symm)
    refine congrArg₂ (· + ·) ((base (o := 0) (by omega) hz _ _ _ x0 x1).trans (by unfold k0_pay7; pointwise)) (congrArg _ (Finset.sum_congr rfl fun a _ => ?_))
    have e : (⟨0 + x1.val, by omega⟩ : Fin 1024) = col 0 x1 := Fin.ext (show 0 + x1.val = 256 * 0 + x1.val by omega)
    rw [e]

theorem soutA2 (hc : cond0_0 i) (hn : ¬cond0_1 i) (z : Fin 1024) (k : Fin 1024) :
    sout0_A_2 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 (ix2 z k) = (((∑ a, Y a z * dx1 p (X a) (T a) k) : ℝ) : EReal) := by
  unfold sout0_A_2
  rw [View.read_writes_eq_canon _ _ _ (fun y => by apply scover0_A_2)]
  unfold kernelRun0_A
  dsimp only
  sl_unfold_words
  rw [View.canon_cons_unit_zero (S := S1024x1024) hz, View.readCov_unit_zero (S := S1024x1024) _ hz]
  refine ((all a1 h1 a2 h2 a3 h3 a4 h4 a5 h5 a6 h6 a7 h7 a8 h8 a9 h9 a10 h10 H).gwout _ _ _).trans ?_
  unfold k0_pay8
  pointwise

theorem outB10 (hc : ¬cond0_0 i) (hn : ¬cond0_1 i) (xo11 : Vec Ideal S256x2048 .f32) (xo12 : Vec Ideal S1x1024 .f32) (xs0 xs1 xs2 : Vec Ideal S1024x1024 .f32) : Is (out0_B_10 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2) (fun a => dx1 p (X a) (T a)) := by
  unfold out0_B_10
  rw [View.read_writes_eq_canon _ _ _ (fun y => by apply cover0_B_10)]
  unfold kernelRun0_B
  dsimp only
  sl_unfold_words
  rw [View.canon_unit_zero hz]
  exact (all a1 h1 a2 h2 a3 h3 a4 h4 a5 h5 a6 h6 a7 h7 a8 h8 a9 h9 a10 h10 H).fdx1

theorem outB11 (hc : ¬cond0_0 i) (hn : ¬cond0_1 i) (xo11 : Vec Ideal S256x2048 .f32) (xo12 : Vec Ideal S1x1024 .f32) (xs0 xs1 xs2 : Vec Ideal S1024x1024 .f32) :
    out0_B_11 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 = upd xo11 (fun m k => ∑ a, dkv p (X a) (T a) m k) := by
  have hs := (all a1 h1 a2 h2 a3 h3 a4 h4 a5 h5 a6 h6 a7 h7 a8 h8 a9 h9 a10 h10 H)
  funext y
  idx_vars y
  rename' y0 => r, y1 => k
  unfold out0_B_11
  rw [View.read_writes_eq_canon _ _ _ (fun y => by apply cover0_B_11)]
  refine View.canon_apply_of_pieces (Val := Elt Ideal) (upd xo11 (fun m k => ∑ a, dkv p (X a) (T a) m k)) _ ?_ (ix2 r k) (by apply cover0_B_11)
  unfold kernelRun0_B
  dsimp only
  sl_unfold_words
  simp only [List.forall_mem_cons, List.not_mem_nil, false_imp_iff, implies_true, and_true]
  refine ⟨?_, ?_, ?_, ?_, ?_, ?_, ?_, ?_⟩ <;> intro x <;> idx_vars x
  · refine (hs.dv3 _ _ _).trans (Eq.trans ?_ (upd_cols (o := 1792) (by omega) _ (fun m k => ∑ a, dkv p (X a) (T a) m k) _ x0 x1).symm)
    refine congrArg₂ (· + ·) (read_at (o := 1792) (by omega) h12 xo11 _ x0 x1) (congrArg _ (Finset.sum_congr rfl fun a _ => ?_))
    have e : (⟨1792 + x1.val, by omega⟩ : Fin 2048) = vc (col 3 x1) := Fin.ext (show 1792 + x1.val = 1024 + (256 * 3 + x1.val) by omega)
    rw [e, dkv_v, hd_col]
  · refine (hs.dk3 _ _ _).trans (Eq.trans ?_ (upd_cols (o := 768) (by omega) _ (fun m k => ∑ a, dkv p (X a) (T a) m k) _ x0 x1).symm)
    refine congrArg₂ (· + ·) (read_at (o := 768) (by omega) h12 xo11 _ x0 x1) (congrArg _ (Finset.sum_congr rfl fun a _ => ?_))
    have e : (⟨768 + x1.val, by omega⟩ : Fin 2048) = kc (col 3 x1) := Fin.ext (show 768 + x1.val = 256 * 3 + x1.val by omega)
    rw [e, dkv_k, hd_col]
  · refine (hs.dv2 _ _ _).trans (Eq.trans ?_ (upd_cols (o := 1536) (by omega) _ (fun m k => ∑ a, dkv p (X a) (T a) m k) _ x0 x1).symm)
    refine congrArg₂ (· + ·) (read_at (o := 1536) (by omega) h12 xo11 _ x0 x1) (congrArg _ (Finset.sum_congr rfl fun a _ => ?_))
    have e : (⟨1536 + x1.val, by omega⟩ : Fin 2048) = vc (col 2 x1) := Fin.ext (show 1536 + x1.val = 1024 + (256 * 2 + x1.val) by omega)
    rw [e, dkv_v, hd_col]
  · refine (hs.dk2 _ _ _).trans (Eq.trans ?_ (upd_cols (o := 512) (by omega) _ (fun m k => ∑ a, dkv p (X a) (T a) m k) _ x0 x1).symm)
    refine congrArg₂ (· + ·) (read_at (o := 512) (by omega) h12 xo11 _ x0 x1) (congrArg _ (Finset.sum_congr rfl fun a _ => ?_))
    have e : (⟨512 + x1.val, by omega⟩ : Fin 2048) = kc (col 2 x1) := Fin.ext (show 512 + x1.val = 256 * 2 + x1.val by omega)
    rw [e, dkv_k, hd_col]
  · refine (hs.dv1 _ _ _).trans (Eq.trans ?_ (upd_cols (o := 1280) (by omega) _ (fun m k => ∑ a, dkv p (X a) (T a) m k) _ x0 x1).symm)
    refine congrArg₂ (· + ·) (read_at (o := 1280) (by omega) h12 xo11 _ x0 x1) (congrArg _ (Finset.sum_congr rfl fun a _ => ?_))
    have e : (⟨1280 + x1.val, by omega⟩ : Fin 2048) = vc (col 1 x1) := Fin.ext (show 1280 + x1.val = 1024 + (256 * 1 + x1.val) by omega)
    rw [e, dkv_v, hd_col]
  · refine (hs.dk1 _ _ _).trans (Eq.trans ?_ (upd_cols (o := 256) (by omega) _ (fun m k => ∑ a, dkv p (X a) (T a) m k) _ x0 x1).symm)
    refine congrArg₂ (· + ·) (read_at (o := 256) (by omega) h12 xo11 _ x0 x1) (congrArg _ (Finset.sum_congr rfl fun a _ => ?_))
    have e : (⟨256 + x1.val, by omega⟩ : Fin 2048) = kc (col 1 x1) := Fin.ext (show 256 + x1.val = 256 * 1 + x1.val by omega)
    rw [e, dkv_k, hd_col]
  · refine (hs.dv0 _ _ _).trans (Eq.trans ?_ (upd_cols (o := 1024) (by omega) _ (fun m k => ∑ a, dkv p (X a) (T a) m k) _ x0 x1).symm)
    refine congrArg₂ (· + ·) (read_at (o := 1024) (by omega) h12 xo11 _ x0 x1) (congrArg _ (Finset.sum_congr rfl fun a _ => ?_))
    have e : (⟨1024 + x1.val, by omega⟩ : Fin 2048) = vc (col 0 x1) := Fin.ext (show 1024 + x1.val = 1024 + (256 * 0 + x1.val) by omega)
    rw [e, dkv_v, hd_col]
  · refine (hs.dk0 _ _ _).trans (Eq.trans ?_ (upd_cols (o := 0) (by omega) _ (fun m k => ∑ a, dkv p (X a) (T a) m k) _ x0 x1).symm)
    refine congrArg₂ (· + ·) (read_at (o := 0) (by omega) h12 xo11 _ x0 x1) (congrArg _ (Finset.sum_congr rfl fun a _ => ?_))
    have e : (⟨0 + x1.val, by omega⟩ : Fin 2048) = kc (col 0 x1) := Fin.ext (show 0 + x1.val = 256 * 0 + x1.val by omega)
    rw [e, dkv_k, hd_col]

theorem outB12 (hc : ¬cond0_0 i) (hn : ¬cond0_1 i) (xo11 : Vec Ideal S256x2048 .f32) (xo12 : Vec Ideal S1x1024 .f32) (xs0 xs1 xs2 : Vec Ideal S1024x1024 .f32) (z : Fin 1) (k : Fin 1024) :
    out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xo12 (ix2 z k) + (((∑ a, dg p (X a) (T a) k) : ℝ) : EReal) := by
  unfold out0_B_12
  rw [View.read_writes_eq_canon _ _ _ (fun y => by apply cover0_B_12)]
  unfold kernelRun0_B
  dsimp only
  sl_unfold_words
  rw [View.canon_unit_zero hz]
  refine ((all a1 h1 a2 h2 a3 h3 a4 h4 a5 h5 a6 h6 a7 h7 a8 h8 a9 h9 a10 h10 H).fdg _ _ _).trans ?_
  rw [View.readAt_eq_ld, h13.read_unread, View.ld_unit_zero hz]

theorem soutB0 (hc : ¬cond0_0 i) (hn : ¬cond0_1 i) (xo11 : Vec Ideal S256x2048 .f32) (xo12 : Vec Ideal S1x1024 .f32) (xs0 xs1 xs2 : Vec Ideal S1024x1024 .f32) (z : Fin 1024) (k : Fin 1024) :
    sout0_B_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xs0 (ix2 z k) + (((∑ a, o p (X a) z * T a k) : ℝ) : EReal) := by
  unfold sout0_B_0
  rw [View.read_writes_eq_canon _ _ _ (fun y => by apply scover0_B_0)]
  unfold kernelRun0_B
  dsimp only
  sl_unfold_words
  rw [View.canon_unit_zero hz]
  refine ((all a1 h1 a2 h2 a3 h3 a4 h4 a5 h5 a6 h6 a7 h7 a8 h8 a9 h9 a10 h10 H).gwo _ _ _).trans ?_
  rw [View.readAt_eq_ld, h17.read_unread, View.ld_unit_zero hz]

theorem soutB1 (hc : ¬cond0_0 i) (hn : ¬cond0_1 i) (xo11 : Vec Ideal S256x2048 .f32) (xo12 : Vec Ideal S1x1024 .f32) (xs0 xs1 xs2 : Vec Ideal S1024x1024 .f32) :
    sout0_B_1 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 = upd xs1 (fun k j => ∑ a, xn p (X a) k * dq p (X a) (T a) j) := by
  have hs := (all a1 h1 a2 h2 a3 h3 a4 h4 a5 h5 a6 h6 a7 h7 a8 h8 a9 h9 a10 h10 H)
  funext y
  idx_vars y
  rename' y0 => r, y1 => k
  unfold sout0_B_1
  rw [View.read_writes_eq_canon _ _ _ (fun y => by apply scover0_B_1)]
  refine View.canon_apply_of_pieces (Val := Elt Ideal) (upd xs1 (fun k j => ∑ a, xn p (X a) k * dq p (X a) (T a) j)) _ ?_ (ix2 r k) (by apply scover0_B_1)
  unfold kernelRun0_B
  dsimp only
  sl_unfold_words
  simp only [List.forall_mem_cons, List.not_mem_nil, false_imp_iff, implies_true, and_true]
  refine ⟨?_, ?_, ?_, ?_⟩ <;> intro x <;> idx_vars x
  · refine (hs.gq3 _ _ _).trans (Eq.trans ?_ (upd_cols (o := 768) (by omega) _ (fun k j => ∑ a, xn p (X a) k * dq p (X a) (T a) j) _ x0 x1).symm)
    refine congrArg₂ (· + ·) (read_at (o := 768) (by omega) h18 xs1 _ x0 x1) (congrArg _ (Finset.sum_congr rfl fun a _ => ?_))
    have e : (⟨768 + x1.val, by omega⟩ : Fin 1024) = col 3 x1 := Fin.ext (show 768 + x1.val = 256 * 3 + x1.val by omega)
    rw [e]
  · refine (hs.gq2 _ _ _).trans (Eq.trans ?_ (upd_cols (o := 512) (by omega) _ (fun k j => ∑ a, xn p (X a) k * dq p (X a) (T a) j) _ x0 x1).symm)
    refine congrArg₂ (· + ·) (read_at (o := 512) (by omega) h18 xs1 _ x0 x1) (congrArg _ (Finset.sum_congr rfl fun a _ => ?_))
    have e : (⟨512 + x1.val, by omega⟩ : Fin 1024) = col 2 x1 := Fin.ext (show 512 + x1.val = 256 * 2 + x1.val by omega)
    rw [e]
  · refine (hs.gq1 _ _ _).trans (Eq.trans ?_ (upd_cols (o := 256) (by omega) _ (fun k j => ∑ a, xn p (X a) k * dq p (X a) (T a) j) _ x0 x1).symm)
    refine congrArg₂ (· + ·) (read_at (o := 256) (by omega) h18 xs1 _ x0 x1) (congrArg _ (Finset.sum_congr rfl fun a _ => ?_))
    have e : (⟨256 + x1.val, by omega⟩ : Fin 1024) = col 1 x1 := Fin.ext (show 256 + x1.val = 256 * 1 + x1.val by omega)
    rw [e]
  · refine (hs.gq0 _ _ _).trans (Eq.trans ?_ (upd_cols (o := 0) (by omega) _ (fun k j => ∑ a, xn p (X a) k * dq p (X a) (T a) j) _ x0 x1).symm)
    refine congrArg₂ (· + ·) (read_at (o := 0) (by omega) h18 xs1 _ x0 x1) (congrArg _ (Finset.sum_congr rfl fun a _ => ?_))
    have e : (⟨0 + x1.val, by omega⟩ : Fin 1024) = col 0 x1 := Fin.ext (show 0 + x1.val = 256 * 0 + x1.val by omega)
    rw [e]

theorem soutB2 (hc : ¬cond0_0 i) (hn : ¬cond0_1 i) (xo11 : Vec Ideal S256x2048 .f32) (xo12 : Vec Ideal S1x1024 .f32) (xs0 xs1 xs2 : Vec Ideal S1024x1024 .f32) (z : Fin 1024) (k : Fin 1024) :
    sout0_B_2 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xs2 (ix2 z k) + (((∑ a, Y a z * dx1 p (X a) (T a) k) : ℝ) : EReal) := by
  unfold sout0_B_2
  rw [View.read_writes_eq_canon _ _ _ (fun y => by apply scover0_B_2)]
  unfold kernelRun0_B
  dsimp only
  sl_unfold_words
  rw [View.canon_unit_zero hz]
  refine ((all a1 h1 a2 h2 a3 h3 a4 h4 a5 h5 a6 h6 a7 h7 a8 h8 a9 h9 a10 h10 H).gwout _ _ _).trans ?_
  rw [View.readAt_eq_ld, h19.read_unread, View.ld_unit_zero hz]

theorem outC10 (hc : ¬cond0_0 i) (hn : cond0_1 i) (xo11 : Vec Ideal S256x2048 .f32) (xo12 : Vec Ideal S1x1024 .f32) (xs0 xs1 xs2 : Vec Ideal S1024x1024 .f32) : Is (out0_C_10 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2) (fun a => dx1 p (X a) (T a)) := by
  unfold out0_C_10
  rw [View.read_writes_eq_canon _ _ _ (fun y => by apply cover0_C_10)]
  unfold kernelRun0_C
  dsimp only
  sl_unfold_words
  rw [View.canon_unit_zero hz]
  exact (all a1 h1 a2 h2 a3 h3 a4 h4 a5 h5 a6 h6 a7 h7 a8 h8 a9 h9 a10 h10 H).fdx1

theorem outC11 (hc : ¬cond0_0 i) (hn : cond0_1 i) (xo11 : Vec Ideal S256x2048 .f32) (xo12 : Vec Ideal S1x1024 .f32) (xs0 xs1 xs2 : Vec Ideal S1024x1024 .f32) :
    out0_C_11 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 = upd xo11 (fun m k => ∑ a, dkv p (X a) (T a) m k) := by
  have hs := (all a1 h1 a2 h2 a3 h3 a4 h4 a5 h5 a6 h6 a7 h7 a8 h8 a9 h9 a10 h10 H)
  funext y
  idx_vars y
  rename' y0 => r, y1 => k
  unfold out0_C_11
  rw [View.read_writes_eq_canon _ _ _ (fun y => by apply cover0_C_11)]
  refine View.canon_apply_of_pieces (Val := Elt Ideal) (upd xo11 (fun m k => ∑ a, dkv p (X a) (T a) m k)) _ ?_ (ix2 r k) (by apply cover0_C_11)
  unfold kernelRun0_C
  dsimp only
  sl_unfold_words
  simp only [List.forall_mem_cons, List.not_mem_nil, false_imp_iff, implies_true, and_true]
  refine ⟨?_, ?_, ?_, ?_, ?_, ?_, ?_, ?_⟩ <;> intro x <;> idx_vars x
  · refine (hs.dv3 _ _ _).trans (Eq.trans ?_ (upd_cols (o := 1792) (by omega) _ (fun m k => ∑ a, dkv p (X a) (T a) m k) _ x0 x1).symm)
    refine congrArg₂ (· + ·) (read_at (o := 1792) (by omega) h12 xo11 _ x0 x1) (congrArg _ (Finset.sum_congr rfl fun a _ => ?_))
    have e : (⟨1792 + x1.val, by omega⟩ : Fin 2048) = vc (col 3 x1) := Fin.ext (show 1792 + x1.val = 1024 + (256 * 3 + x1.val) by omega)
    rw [e, dkv_v, hd_col]
  · refine (hs.dk3 _ _ _).trans (Eq.trans ?_ (upd_cols (o := 768) (by omega) _ (fun m k => ∑ a, dkv p (X a) (T a) m k) _ x0 x1).symm)
    refine congrArg₂ (· + ·) (read_at (o := 768) (by omega) h12 xo11 _ x0 x1) (congrArg _ (Finset.sum_congr rfl fun a _ => ?_))
    have e : (⟨768 + x1.val, by omega⟩ : Fin 2048) = kc (col 3 x1) := Fin.ext (show 768 + x1.val = 256 * 3 + x1.val by omega)
    rw [e, dkv_k, hd_col]
  · refine (hs.dv2 _ _ _).trans (Eq.trans ?_ (upd_cols (o := 1536) (by omega) _ (fun m k => ∑ a, dkv p (X a) (T a) m k) _ x0 x1).symm)
    refine congrArg₂ (· + ·) (read_at (o := 1536) (by omega) h12 xo11 _ x0 x1) (congrArg _ (Finset.sum_congr rfl fun a _ => ?_))
    have e : (⟨1536 + x1.val, by omega⟩ : Fin 2048) = vc (col 2 x1) := Fin.ext (show 1536 + x1.val = 1024 + (256 * 2 + x1.val) by omega)
    rw [e, dkv_v, hd_col]
  · refine (hs.dk2 _ _ _).trans (Eq.trans ?_ (upd_cols (o := 512) (by omega) _ (fun m k => ∑ a, dkv p (X a) (T a) m k) _ x0 x1).symm)
    refine congrArg₂ (· + ·) (read_at (o := 512) (by omega) h12 xo11 _ x0 x1) (congrArg _ (Finset.sum_congr rfl fun a _ => ?_))
    have e : (⟨512 + x1.val, by omega⟩ : Fin 2048) = kc (col 2 x1) := Fin.ext (show 512 + x1.val = 256 * 2 + x1.val by omega)
    rw [e, dkv_k, hd_col]
  · refine (hs.dv1 _ _ _).trans (Eq.trans ?_ (upd_cols (o := 1280) (by omega) _ (fun m k => ∑ a, dkv p (X a) (T a) m k) _ x0 x1).symm)
    refine congrArg₂ (· + ·) (read_at (o := 1280) (by omega) h12 xo11 _ x0 x1) (congrArg _ (Finset.sum_congr rfl fun a _ => ?_))
    have e : (⟨1280 + x1.val, by omega⟩ : Fin 2048) = vc (col 1 x1) := Fin.ext (show 1280 + x1.val = 1024 + (256 * 1 + x1.val) by omega)
    rw [e, dkv_v, hd_col]
  · refine (hs.dk1 _ _ _).trans (Eq.trans ?_ (upd_cols (o := 256) (by omega) _ (fun m k => ∑ a, dkv p (X a) (T a) m k) _ x0 x1).symm)
    refine congrArg₂ (· + ·) (read_at (o := 256) (by omega) h12 xo11 _ x0 x1) (congrArg _ (Finset.sum_congr rfl fun a _ => ?_))
    have e : (⟨256 + x1.val, by omega⟩ : Fin 2048) = kc (col 1 x1) := Fin.ext (show 256 + x1.val = 256 * 1 + x1.val by omega)
    rw [e, dkv_k, hd_col]
  · refine (hs.dv0 _ _ _).trans (Eq.trans ?_ (upd_cols (o := 1024) (by omega) _ (fun m k => ∑ a, dkv p (X a) (T a) m k) _ x0 x1).symm)
    refine congrArg₂ (· + ·) (read_at (o := 1024) (by omega) h12 xo11 _ x0 x1) (congrArg _ (Finset.sum_congr rfl fun a _ => ?_))
    have e : (⟨1024 + x1.val, by omega⟩ : Fin 2048) = vc (col 0 x1) := Fin.ext (show 1024 + x1.val = 1024 + (256 * 0 + x1.val) by omega)
    rw [e, dkv_v, hd_col]
  · refine (hs.dk0 _ _ _).trans (Eq.trans ?_ (upd_cols (o := 0) (by omega) _ (fun m k => ∑ a, dkv p (X a) (T a) m k) _ x0 x1).symm)
    refine congrArg₂ (· + ·) (read_at (o := 0) (by omega) h12 xo11 _ x0 x1) (congrArg _ (Finset.sum_congr rfl fun a _ => ?_))
    have e : (⟨0 + x1.val, by omega⟩ : Fin 2048) = kc (col 0 x1) := Fin.ext (show 0 + x1.val = 256 * 0 + x1.val by omega)
    rw [e, dkv_k, hd_col]

theorem outC12 (hc : ¬cond0_0 i) (hn : cond0_1 i) (xo11 : Vec Ideal S256x2048 .f32) (xo12 : Vec Ideal S1x1024 .f32) (xs0 xs1 xs2 : Vec Ideal S1024x1024 .f32) (z : Fin 1) (k : Fin 1024) :
    out0_C_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xo12 (ix2 z k) + (((∑ a, dg p (X a) (T a) k) : ℝ) : EReal) := by
  unfold out0_C_12
  rw [View.read_writes_eq_canon _ _ _ (fun y => by apply cover0_C_12)]
  unfold kernelRun0_C
  dsimp only
  sl_unfold_words
  rw [View.canon_unit_zero hz]
  refine ((all a1 h1 a2 h2 a3 h3 a4 h4 a5 h5 a6 h6 a7 h7 a8 h8 a9 h9 a10 h10 H).fdg _ _ _).trans ?_
  rw [View.readAt_eq_ld, h13.read_unread, View.ld_unit_zero hz]

theorem soutC0 (hc : ¬cond0_0 i) (hn : cond0_1 i) (xo11 : Vec Ideal S256x2048 .f32) (xo12 : Vec Ideal S1x1024 .f32) (xs0 xs1 xs2 : Vec Ideal S1024x1024 .f32) (z : Fin 1024) (k : Fin 1024) :
    sout0_C_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xs0 (ix2 z k) + (((∑ a, o p (X a) z * T a k) : ℝ) : EReal) := by
  unfold sout0_C_0
  rw [View.read_writes_eq_canon _ _ _ (fun y => by apply scover0_C_0)]
  unfold kernelRun0_C
  dsimp only
  sl_unfold_words
  rw [View.canon_unit_zero hz]
  refine ((all a1 h1 a2 h2 a3 h3 a4 h4 a5 h5 a6 h6 a7 h7 a8 h8 a9 h9 a10 h10 H).gwo _ _ _).trans ?_
  rw [View.readAt_eq_ld, h17.read_unread, View.ld_unit_zero hz]

theorem soutC1 (hc : ¬cond0_0 i) (hn : cond0_1 i) (xo11 : Vec Ideal S256x2048 .f32) (xo12 : Vec Ideal S1x1024 .f32) (xs0 xs1 xs2 : Vec Ideal S1024x1024 .f32) :
    sout0_C_1 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 = upd xs1 (fun k j => ∑ a, xn p (X a) k * dq p (X a) (T a) j) := by
  have hs := (all a1 h1 a2 h2 a3 h3 a4 h4 a5 h5 a6 h6 a7 h7 a8 h8 a9 h9 a10 h10 H)
  funext y
  idx_vars y
  rename' y0 => r, y1 => k
  unfold sout0_C_1
  rw [View.read_writes_eq_canon _ _ _ (fun y => by apply scover0_C_1)]
  refine View.canon_apply_of_pieces (Val := Elt Ideal) (upd xs1 (fun k j => ∑ a, xn p (X a) k * dq p (X a) (T a) j)) _ ?_ (ix2 r k) (by apply scover0_C_1)
  unfold kernelRun0_C
  dsimp only
  sl_unfold_words
  simp only [List.forall_mem_cons, List.not_mem_nil, false_imp_iff, implies_true, and_true]
  refine ⟨?_, ?_, ?_, ?_⟩ <;> intro x <;> idx_vars x
  · refine (hs.gq3 _ _ _).trans (Eq.trans ?_ (upd_cols (o := 768) (by omega) _ (fun k j => ∑ a, xn p (X a) k * dq p (X a) (T a) j) _ x0 x1).symm)
    refine congrArg₂ (· + ·) (read_at (o := 768) (by omega) h18 xs1 _ x0 x1) (congrArg _ (Finset.sum_congr rfl fun a _ => ?_))
    have e : (⟨768 + x1.val, by omega⟩ : Fin 1024) = col 3 x1 := Fin.ext (show 768 + x1.val = 256 * 3 + x1.val by omega)
    rw [e]
  · refine (hs.gq2 _ _ _).trans (Eq.trans ?_ (upd_cols (o := 512) (by omega) _ (fun k j => ∑ a, xn p (X a) k * dq p (X a) (T a) j) _ x0 x1).symm)
    refine congrArg₂ (· + ·) (read_at (o := 512) (by omega) h18 xs1 _ x0 x1) (congrArg _ (Finset.sum_congr rfl fun a _ => ?_))
    have e : (⟨512 + x1.val, by omega⟩ : Fin 1024) = col 2 x1 := Fin.ext (show 512 + x1.val = 256 * 2 + x1.val by omega)
    rw [e]
  · refine (hs.gq1 _ _ _).trans (Eq.trans ?_ (upd_cols (o := 256) (by omega) _ (fun k j => ∑ a, xn p (X a) k * dq p (X a) (T a) j) _ x0 x1).symm)
    refine congrArg₂ (· + ·) (read_at (o := 256) (by omega) h18 xs1 _ x0 x1) (congrArg _ (Finset.sum_congr rfl fun a _ => ?_))
    have e : (⟨256 + x1.val, by omega⟩ : Fin 1024) = col 1 x1 := Fin.ext (show 256 + x1.val = 256 * 1 + x1.val by omega)
    rw [e]
  · refine (hs.gq0 _ _ _).trans (Eq.trans ?_ (upd_cols (o := 0) (by omega) _ (fun k j => ∑ a, xn p (X a) k * dq p (X a) (T a) j) _ x0 x1).symm)
    refine congrArg₂ (· + ·) (read_at (o := 0) (by omega) h18 xs1 _ x0 x1) (congrArg _ (Finset.sum_congr rfl fun a _ => ?_))
    have e : (⟨0 + x1.val, by omega⟩ : Fin 1024) = col 0 x1 := Fin.ext (show 0 + x1.val = 256 * 0 + x1.val by omega)
    rw [e]

theorem soutC2 (hc : ¬cond0_0 i) (hn : cond0_1 i) (xo11 : Vec Ideal S256x2048 .f32) (xo12 : Vec Ideal S1x1024 .f32) (xs0 xs1 xs2 : Vec Ideal S1024x1024 .f32) (z : Fin 1024) (k : Fin 1024) :
    sout0_C_2 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xs2 (ix2 z k) + (((∑ a, Y a z * dx1 p (X a) (T a) k) : ℝ) : EReal) := by
  unfold sout0_C_2
  rw [View.read_writes_eq_canon _ _ _ (fun y => by apply scover0_C_2)]
  unfold kernelRun0_C
  dsimp only
  sl_unfold_words
  rw [View.canon_unit_zero hz]
  refine ((all a1 h1 a2 h2 a3 h3 a4 h4 a5 h5 a6 h6 a7 h7 a8 h8 a9 h9 a10 h10 H).gwout _ _ _).trans ?_
  rw [View.readAt_eq_ld, h19.read_unread, View.ld_unit_zero hz]

theorem outC13 (hc : ¬cond0_0 i) (hn : cond0_1 i) (xo11 : Vec Ideal S256x2048 .f32) (xo12 : Vec Ideal S1x1024 .f32) (xs0 xs1 xs2 : Vec Ideal S1024x1024 .f32) (z k : Fin 1024) :
    out0_C_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xs0 (ix2 z k) + (((∑ a, o p (X a) z * T a k) : ℝ) : EReal) := by
  unfold out0_C_13
  rw [View.read_writes_eq_canon _ _ _ (fun y => by apply cover0_C_13)]
  unfold kernelRun0_C
  dsimp only
  sl_unfold_words
  rw [View.canon_unit_zero hz]
  rw [View.readCov_unit_zero (S := S1024x1024) _ hz]
  unfold k0_pay1
  pointwise
  refine ((all a1 h1 a2 h2 a3 h3 a4 h4 a5 h5 a6 h6 a7 h7 a8 h8 a9 h9 a10 h10 H).gwo _ _ _).trans ?_
  rw [View.readAt_eq_ld, h17.read_unread, View.ld_unit_zero hz]

theorem outC15 (hc : ¬cond0_0 i) (hn : cond0_1 i) (xo11 : Vec Ideal S256x2048 .f32) (xo12 : Vec Ideal S1x1024 .f32) (xs0 xs1 xs2 : Vec Ideal S1024x1024 .f32) (z k : Fin 1024) :
    out0_C_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xs2 (ix2 z k) + (((∑ a, Y a z * dx1 p (X a) (T a) k) : ℝ) : EReal) := by
  unfold out0_C_15
  rw [View.read_writes_eq_canon _ _ _ (fun y => by apply cover0_C_15)]
  unfold kernelRun0_C
  dsimp only
  sl_unfold_words
  rw [View.canon_unit_zero hz]
  rw [View.readCov_unit_zero (S := S1024x1024) _ hz]
  unfold k0_pay3
  pointwise
  refine ((all a1 h1 a2 h2 a3 h3 a4 h4 a5 h5 a6 h6 a7 h7 a8 h8 a9 h9 a10 h10 H).gwout _ _ _).trans ?_
  rw [View.readAt_eq_ld, h19.read_unread, View.ld_unit_zero hz]

theorem outC14 (hc : ¬cond0_0 i) (hn : cond0_1 i) (xo11 : Vec Ideal S256x2048 .f32) (xo12 : Vec Ideal S1x1024 .f32) (xs0 xs1 xs2 : Vec Ideal S1024x1024 .f32) (z k : Fin 1024) :
    out0_C_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2 (ix2 z k) = xs1 (ix2 z k) + ((∑ a, xn p (X a) z * dq p (X a) (T a) k : ℝ) : EReal) := by
  have hs := soutC1 c i a1 h1 a2 h2 a3 h3 a4 h4 a5 h5 a6 h6 a7 h7 a8 h8 a9 h9 a10 h10 a11 h11 a12 h12 a13 h13 a14 h14 a15 h15 a16 h16 a17 h17 a18 h18 a19 h19 H hc hn xo11 xo12 xs0 xs1 xs2
  unfold sout0_C_1 at hs
  rw [View.read_writes_eq_canon _ _ _ (fun y => by apply scover0_C_1)] at hs
  have hcv := scover0_C_1 c i a1 h1 a2 h2 a3 h3 a4 h4 a5 h5 a6 h6 a7 h7 a8 h8 a9 h9 a10 h10 a11 h11 a12 h12 a13 h13 a14 h14 a15 h15 a16 h16 a17 h17 a18 h18 a19 h19 hc hn x0 x1 x2 x3 x4 x5 x6 x7 x8 x9 xo11 xo12 xs0 xs1 xs2
  unfold out0_C_14
  rw [View.read_writes_eq_canon _ _ _ (fun y => by apply cover0_C_14)]
  unfold kernelRun0_C
  dsimp only
  sl_unfold_words
  rw [View.canon_unit_zero hz]
  unfold k0_pay2
  pointwise
  refine (congrFun (View.readCov_eq_canon_ld (Val := Elt Ideal) a18.view _ (Rect.unit (s := S1024x1024) ![0, 0] S1024x1024.size inb_S1024x1024_S1024x1024_0_0) hcv) (ix2 z k)).trans ?_
  rw [View.ld_unit_zero hz]
  exact congrFun hs (ix2 z k)

end Cert.Proof.Attn

end
-- ==== Proof.Max.lean ====
/- The largest of the entries of a row. -/
module

public import proofs.«01_k».proof.Proof.Arr
public import Idealize.ShloMosaic.Lib.Pointwise

@[expose] public section

noncomputable section

namespace Cert.Proof

open Idealize.ShloMosaic

/-- The largest of real numbers, taken from minus infinity on. -/
theorem fold_max {n : ℕ} (i : Fin n) (f : Fin n → ℝ) :
    (Finset.univ : Finset (Fin n)).fold max (⊥ : EReal) (fun k => ((f k : ℝ) : EReal)) = ((Finset.univ.sup' ⟨i, Finset.mem_univ _⟩ f : ℝ) : EReal) := by
  have hn : (Finset.univ : Finset (Fin n)).Nonempty := ⟨i, Finset.mem_univ _⟩
  exact (Finset.sup'_eq_sup hn (fun k => ((f k : ℝ) : EReal))).symm.trans
    (Finset.comp_sup'_eq_sup'_comp hn (fun r : ℝ => (r : EReal)) (fun x y => EReal.coe_strictMono.monotone.map_max)).symm

/-- Minus infinity is the least value. -/
theorem neg_inf : Ideal.ofBits .f32 0xFF800000#32 = ⊥ := by simp [Ideal.ofBits, Ideal.ieee]

end Cert.Proof

end
-- ==== Proof.AttnHost.lean ====
/- The arrays the kernel of cross attention takes: the values the host computes from the arguments. -/
module

public import proofs.«01_k».proof.Proof.AttnReal
public import proofs.«01_k».proof.Proof.AttnPay
public import proofs.«01_k».proof.Proof.Gen.AttnIdeal.Value
public import proofs.«01_k».proof.Proof.Max
public import Idealize.ShloMosaic.Lib.StableHlo.RunRead

@[expose] public section

set_option maxRecDepth 16384

noncomputable section

namespace Cert.Proof.Attn

open Idealize.ShloMosaic Idealize.SL.Sem Cert.AttnIdeal Cert.AttnIdeal.Gen Idealize.ShloMosaic.TcCoe

/-- The scores of one head. -/
def hostS (q : FVec Ideal S4096x256 .bf16) (k : FVec Ideal S256x256 .bf16) : FVec Ideal S4096x256 .f32 :=
  mulf (Host.dotGeneral dot_S4096x256_S256x256_S4096x256_1_1_0_0_n_n none q k)
    (broadcastInDim S4096x256 ![] bcast_S_S4096x256 (constant S_ .f32 0x3D800000#32))

/-- The exponentials of the scores less the largest of their row. -/
def hostE (s : FVec Ideal S4096x256 .f32) : FVec Ideal S4096x256 .f32 :=
  Host.exp (subf s (broadcastInDim S4096x256 ![0, 1] bcast_S4096x1_S4096x256_0_1 (broadcastInDim S4096x1 ![0] bcast_S4096_S4096x1_0
    (Host.reduce FloatOps.maximumf s (constant S_ .f32 0xFF800000#32) reducesTo_S4096x256_S4096_d1 h_S_))))

/-- The weights of one head. -/
def hostP (e : FVec Ideal S4096x256 .f32) : FVec Ideal S4096x256 .f32 :=
  Host.divf e (broadcastInDim S4096x256 ![0, 1] bcast_S4096x1_S4096x256_0_1 (broadcastInDim S4096x1 ![0] bcast_S4096_S4096x1_0
    (Host.reduceAdd e (constant S_ .f32 0x00000000#32) reducesTo_S4096x256_S4096_d1 h_S_)))

/-- The output of one head. -/
def hostO (w : FVec Ideal S4096x256 .f32) (v : FVec Ideal S256x256 .bf16) : FVec Ideal S4096x256 .bf16 :=
  truncf .bf16 (Host.dotGeneral dot_S4096x256_S256x256_S4096x256_1_0_0_1_n_n none (truncf .bf16 w bitsLt_bf16_f32) v) bitsLt_bf16_f32

/-- The stream entering the attention. -/
def hostX (x0 x1 : FVec Ideal S4096x1024 .f32) (x2 : FVec Ideal S1024x1024 .f32) : FVec Ideal S4096x1024 .f32 :=
  addf x0 (Host.dotGeneral dot_S4096x1024_S1024x1024_S4096x1024_1_0_0_1_n_n none (truncf .bf16 x1 bitsLt_bf16_f32) (truncf .bf16 x2 bitsLt_bf16_f32))

/-- The queries. -/
def hostQ (x : FVec Ideal S4096x1024 .f32) (x3 : FVec Ideal S1024 .f32) (x6 : FVec Ideal S1024x1024 .f32) : FVec Ideal S4096x1024 .bf16 :=
  truncf .bf16 (Host.dotGeneral dot_S4096x1024_S1024x1024_S4096x1024_1_0_0_1_n_n none (truncf .bf16 (mulf (mulf x
    (broadcastInDim S4096x1024 ![0, 1] bcast_S4096x1_S4096x1024_0_1 (Host.rsqrt (addf (Host.divf (broadcastInDim S4096x1 ![0] bcast_S4096_S4096x1_0
      (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (shapeCast S1x1024 x3 shapeCasts_S1024_S1x1024))) bitsLt_bf16_f32)
    (truncf .bf16 x6 bitsLt_bf16_f32)) bitsLt_bf16_f32

/-- The keys and the values. -/
def hostK (x4 : FVec Ideal S256x1024 .f32) (x5 : FVec Ideal S1024 .f32) (x7 : FVec Ideal S1024x2048 .f32) : FVec Ideal S256x2048 .bf16 :=
  truncf .bf16 (Host.dotGeneral dot_S256x1024_S1024x2048_S256x2048_1_0_0_1_n_n none (truncf .bf16 (mulf (mulf x4
    (broadcastInDim S256x1024 ![0, 1] bcast_S256x1_S256x1024_0_1 (Host.rsqrt (addf (Host.divf (broadcastInDim S256x1 ![0] bcast_S256_S256x1_0
      (Host.reduceAdd (mulf x4 x4) (constant S_ .f32 0x00000000#32) reducesTo_S256x1024_S256_d1 h_S_))
      (broadcastInDim S256x1 ![] bcast_S_S256x1 (constant S_ .f32 0x44800000#32)))
      (broadcastInDim S256x1 ![] bcast_S_S256x1 (constant S_ .f32 0x358637BD#32))))))
    (broadcastInDim S256x1024 ![0, 1] bcast_S1x1024_S256x1024_0_1 (shapeCast S1x1024 x5 shapeCasts_S1024_S1x1024))) bitsLt_bf16_f32)
    (truncf .bf16 x7 bitsLt_bf16_f32)) bitsLt_bf16_f32

/-- The weights of head `h`. -/
abbrev headP (h : Fin 4) (q : FVec Ideal S4096x1024 .bf16) (k : FVec Ideal S256x2048 .bf16) : FVec Ideal S4096x256 .f32 :=
  hostP (hostE (match h with
    | 0 => hostS (extractStridedSlice S4096x256 ![0, 0] q slices_S4096x1024_S4096x256_0_0) (extractStridedSlice S256x256 ![0, 0] k slices_S256x2048_S256x256_0_0)
    | 1 => hostS (extractStridedSlice S4096x256 ![0, 256] q slices_S4096x1024_S4096x256_0_256) (extractStridedSlice S256x256 ![0, 256] k slices_S256x2048_S256x256_0_256)
    | 2 => hostS (extractStridedSlice S4096x256 ![0, 512] q slices_S4096x1024_S4096x256_0_512) (extractStridedSlice S256x256 ![0, 512] k slices_S256x2048_S256x256_0_512)
    | 3 => hostS (extractStridedSlice S4096x256 ![0, 768] q slices_S4096x1024_S4096x256_0_768) (extractStridedSlice S256x256 ![0, 768] k slices_S256x2048_S256x256_0_768)))

/-- The output of head `h`. -/
abbrev headO (h : Fin 4) (q : FVec Ideal S4096x1024 .bf16) (k : FVec Ideal S256x2048 .bf16) : FVec Ideal S4096x256 .bf16 :=
  hostO (headP h q k) (match h with
    | 0 => extractStridedSlice S256x256 ![0, 1024] k slices_S256x2048_S256x256_0_1024
    | 1 => extractStridedSlice S256x256 ![0, 1280] k slices_S256x2048_S256x256_0_1280
    | 2 => extractStridedSlice S256x256 ![0, 1536] k slices_S256x2048_S256x256_0_1536
    | 3 => extractStridedSlice S256x256 ![0, 1792] k slices_S256x2048_S256x256_0_1792)

variable (m : (ℓ : Loc nD τ sig) → Buf (Elt Ideal) ℓ) (c : Dev nD)

/-- The stream, the queries and the keys and values of the arguments. -/
abbrev argX : FVec Ideal S4096x1024 .f32 :=
  hostX (m ((c : Thread nD τ).loc main_arg0)) (m ((c : Thread nD τ).loc main_arg1)) (m ((c : Thread nD τ).loc main_arg2))
abbrev argQ : FVec Ideal S4096x1024 .bf16 := hostQ (argX m c) (m ((c : Thread nD τ).loc main_arg3)) (m ((c : Thread nD τ).loc main_arg6))
abbrev argK : FVec Ideal S256x2048 .bf16 :=
  hostK (m ((c : Thread nD τ).loc main_arg4)) (m ((c : Thread nD τ).loc main_arg5)) (m ((c : Thread nD τ).loc main_arg7))

theorem v5 : V m c main_v5 = argX m c := by after_reads_simp; rfl
theorem v22 : V m c main_v22 = argK m c := by after_reads_simp; rfl
theorem v37 : V m c main_v37 = argQ m c := by after_reads_simp; rfl

theorem v52 : V m c main_v52 = headP 0 (argQ m c) (argK m c) := by after_reads_simp; rfl
theorem v55 : V m c main_v55 = headO 0 (argQ m c) (argK m c) := by after_reads_simp; rfl
theorem v70 : V m c main_v70 = headP 1 (argQ m c) (argK m c) := by after_reads_simp; rfl
theorem v73 : V m c main_v73 = headO 1 (argQ m c) (argK m c) := by after_reads_simp; rfl
theorem v88 : V m c main_v88 = headP 2 (argQ m c) (argK m c) := by after_reads_simp; rfl
theorem v91 : V m c main_v91 = headO 2 (argQ m c) (argK m c) := by after_reads_simp; rfl
theorem v106 : V m c main_v106 = headP 3 (argQ m c) (argK m c) := by after_reads_simp; rfl
theorem v109 : V m c main_v109 = headO 3 (argQ m c) (argK m c) := by after_reads_simp; rfl

/-- The operations before the two joins leave these buffers as the whole line does. -/
theorem upto_eq (n : ℕ) (W : List (Ref sig .tc)) {r : Ref sig .tc}
    (hW : ((hostOps0 (F := Ideal)).drop n).map HloOp.writes = W.map fun w => {Proc.devRef (τ := τ) .tc w}) (hr : r ∉ W) :
    StableHlo.upto hostOps0 (fun b => m (c, b)) n (Proc.devRef .tc r) = V m c r := by
  refine (StableHlo.after_unwritten W hW hr _).symm.trans ?_
  rw [StableHlo.upto, ← StableHlo.after_append, List.take_append_drop]

theorem cat4 {α : Type} {s t : Shape} (d : Fin t.rank) {a a' b b' e e' f f' : s.Idx → α} (h : Shape.Concatenates [s, s, s, s] t d)
    (ha : a = a') (hb : b = b') (he : e = e') (hf : f = f') :
    concatenate t d [⟨s, a⟩, ⟨s, b⟩, ⟨s, e⟩, ⟨s, f⟩] h = concatenate t d [⟨s, a'⟩, ⟨s, b'⟩, ⟨s, e'⟩, ⟨s, f'⟩] h := by
  subst ha hb he hf; rfl

theorem v111 : V m c main_v111 = concatenate S4096x1024 1 [⟨S4096x256, headP 0 (argQ m c) (argK m c)⟩, ⟨S4096x256, headP 1 (argQ m c) (argK m c)⟩,
    ⟨S4096x256, headP 2 (argQ m c) (argK m c)⟩, ⟨S4096x256, headP 3 (argQ m c) (argK m c)⟩] concatenates_S4096x256_S4096x256_S4096x256_S4096x256_S4096x1024_d1 := by
  refine (StableHlo.after_last_write [main_v112] (i := 129) rfl rfl (by decide) _).trans ?_
  rw [StableHlo.nary_result]
  exact cat4 _ _
    ((upto_eq m c 129 [main_v111, main_v112] rfl (by decide)).trans (v52 m c))
    ((upto_eq m c 129 [main_v111, main_v112] rfl (by decide)).trans (v70 m c))
    ((upto_eq m c 129 [main_v111, main_v112] rfl (by decide)).trans (v88 m c))
    ((upto_eq m c 129 [main_v111, main_v112] rfl (by decide)).trans (v106 m c))

theorem v110 : V m c main_v110 = concatenate S4096x1024 1 [⟨S4096x256, headO 0 (argQ m c) (argK m c)⟩, ⟨S4096x256, headO 1 (argQ m c) (argK m c)⟩,
    ⟨S4096x256, headO 2 (argQ m c) (argK m c)⟩, ⟨S4096x256, headO 3 (argQ m c) (argK m c)⟩] concatenates_S4096x256_S4096x256_S4096x256_S4096x256_S4096x1024_d1 := by
  refine (StableHlo.after_last_write [main_v111, main_v112] (i := 128) rfl rfl (by decide) _).trans ?_
  rw [StableHlo.nary_result]
  exact cat4 _ _
    ((upto_eq m c 128 [main_v110, main_v111, main_v112] rfl (by decide)).trans (v55 m c))
    ((upto_eq m c 128 [main_v110, main_v111, main_v112] rfl (by decide)).trans (v73 m c))
    ((upto_eq m c 128 [main_v110, main_v111, main_v112] rfl (by decide)).trans (v91 m c))
    ((upto_eq m c 128 [main_v110, main_v111, main_v112] rfl (by decide)).trans (v109 m c))

section one

variable {p : Weights} {X : Fin 4096 → Fin 1024 → ℝ}

theorem is_s {q' : FVec Ideal S4096x256 .bf16} {k : FVec Ideal S256x256 .bf16} (h : Fin 4)
    (hq : Is q' fun a d => q p (X a) (col h d)) (hk : Is k fun m d => ks p h m d) : Is (hostS q' k) fun a m => sc p (X a) h m := by
  intro a m
  unfold hostS sc
  pointwise [hq _ _, hk _ _, lit_16th, EReal.coe_mul, coe_sum]

theorem is_e {s : FVec Ideal S4096x256 .f32} (h : Fin 4) (hs : Is s fun a m => sc p (X a) h m) : Is (hostE s) fun a m => ex p (X a) h m := by
  intro a m
  unfold hostE ex top
  pointwise [hs _ _, neg_inf, fold_max 0, ← EReal.coe_sub, Ideal.exp_coe]

theorem is_p {e : FVec Ideal S4096x256 .f32} (h : Fin 4) (he : Is e fun a m => ex p (X a) h m) : Is (hostP e) fun a m => pr p (X a) h m := by
  intro a m
  have hz := (ex_pos p (X a) h).ne'
  unfold hostP pr
  pointwise [he _ _, ← coe_sum]
  exact div_real _ _ hz

theorem is_o {w : FVec Ideal S4096x256 .f32} {v : FVec Ideal S256x256 .bf16} (h : Fin 4) (hw : Is w fun a m => pr p (X a) h m)
    (hv : Is v fun m d => vs p h m d) : Is (hostO w v) fun a d => ∑ m, pr p (X a) h m * vs p h m d := by
  intro a d
  unfold hostO
  pointwise [hw _ _, hv _ _, EReal.coe_mul, coe_sum]

end one

/-- The inputs as real numbers: the stream and what the mixing adds to it, the norm's gain, the memory with its gain, the projections,
    and the gradient behind the layer. -/
structure Inp where
  x : Fin 4096 → Fin 1024 → ℝ
  y : Fin 4096 → Fin 1024 → ℝ
  wout : Fin 1024 → Fin 1024 → ℝ
  g : Fin 1024 → ℝ
  mem : Fin 256 → Fin 1024 → ℝ
  gm : Fin 1024 → ℝ
  wq : Fin 1024 → Fin 1024 → ℝ
  wkv : Fin 1024 → Fin 2048 → ℝ
  wo : Fin 1024 → Fin 1024 → ℝ
  t : Fin 4096 → Fin 1024 → ℝ

/-- The stream entering the attention. -/
def Inp.X (I : Inp) (a : Fin 4096) (i : Fin 1024) : ℝ := I.x a i + ∑ k, I.y a k * I.wout k i

/-- The weights, with the keys and values of the memory. -/
def Inp.p (I : Inp) : Weights where
  g := I.g
  wq := I.wq
  wo := I.wo
  kv m c := ∑ i, I.mem m i * rinv (I.mem m) * I.gm i * I.wkv i c

/-- The arguments are these real numbers. -/
structure Args (I : Inp) (x0 x1 x9 : Vec Ideal S4096x1024 .f32) (x2 x6 x8 : Vec Ideal S1024x1024 .f32) (x3 x5 : Vec Ideal S1024 .f32)
    (x4 : Vec Ideal S256x1024 .f32) (x7 : Vec Ideal S1024x2048 .f32) : Prop where
  x : Is x0 I.x
  y : Is x1 I.y
  wout : Is x2 I.wout
  g : ∀ i : Fin 1024, x3 (ix1 i) = ((I.g i : ℝ) : EReal)
  mem : Is x4 I.mem
  gm : ∀ i : Fin 1024, x5 (ix1 i) = ((I.gm i : ℝ) : EReal)
  wq : Is x6 I.wq
  wkv : Is x7 I.wkv
  wo : Is x8 I.wo
  t : Is x9 I.t

theorem at1 {n : ℕ} (f : Fin n → ℝ) {i j : Fin n} (h : i.val = j.val) : ((f i : ℝ) : EReal) = ((f j : ℝ) : EReal) := by rw [Fin.ext h]

theorem head_at {α : Type} (f : Fin 4 → S4096x256.Idx → α) (H : Shape.Concatenates [S4096x256, S4096x256, S4096x256, S4096x256] S4096x1024 1) (h : Fin 4) (a : Fin 4096) (d : Fin 256) :
    concatenate S4096x1024 1 [⟨S4096x256, f 0⟩, ⟨S4096x256, f 1⟩, ⟨S4096x256, f 2⟩, ⟨S4096x256, f 3⟩] H (ix2 a (col h d)) = f h (ix2 a d) := by
  match h with
  | 0 => pointwise
  | 1 => pointwise
  | 2 =>
    pointwise
    rw [dif_neg (by omega), dif_neg (by omega), dif_pos (by omega)]
    exact congrArg (fun e => f 2 (ix2 a e)) (Fin.ext (by dsimp only; omega))
  | 3 =>
    pointwise
    rw [dif_neg (by omega), dif_neg (by omega), dif_neg (by omega)]
    exact congrArg (fun e => f 3 (ix2 a e)) (Fin.ext (by dsimp only; omega))

section

variable {I : Inp} {x0 x1 x9 : Vec Ideal S4096x1024 .f32} {x2 x6 x8 : Vec Ideal S1024x1024 .f32} {x3 x5 : Vec Ideal S1024 .f32}
    {x4 : Vec Ideal S256x1024 .f32} {x7 : Vec Ideal S1024x2048 .f32} (A : Args I x0 x1 x9 x2 x6 x8 x3 x5 x4 x7)
include A

theorem is_x : Is (hostX x0 x1 x2) I.X := by
  intro a i
  unfold hostX Inp.X
  pointwise [A.x, A.y, A.wout, coe_sum, EReal.coe_mul, EReal.coe_add]

theorem is_kv : Is (hostK x4 x5 x7) I.p.kv := by
  intro a i
  unfold hostK Inp.p
  pointwise [A.mem, A.gm, A.wkv, rsqrt_row, coe_sum, EReal.coe_mul]

theorem is_q : Is (hostQ (hostX x0 x1 x2) x3 x6) fun a => q I.p (I.X a) := by
  intro a i
  have hx := is_x A
  unfold hostQ q xn
  pointwise [hx _ _, A.g, A.wq, rsqrt_row, coe_sum, EReal.coe_mul]
  rfl

theorem is_head (h : Fin 4) : Is (headP h (hostQ (hostX x0 x1 x2) x3 x6) (hostK x4 x5 x7)) fun a m => pr I.p (I.X a) h m := by
  have hq := is_q A
  have hk := is_kv A
  refine is_p h (is_e h ?_)
  match h with
  | 0 =>
    refine is_s 0 (fun a d => ?_) (fun m d => ?_)
    · pointwise [hq _ _]
      exact at1 _ (by simp)
    · pointwise [hk _ _, ks]
      exact at1 _ (by simp)
  | 1 =>
    refine is_s 1 (fun a d => ?_) (fun m d => ?_)
    · pointwise [hq _ _]
      exact at1 _ rfl
    · pointwise [hk _ _, ks]
      exact at1 _ rfl
  | 2 =>
    refine is_s 2 (fun a d => ?_) (fun m d => ?_)
    · pointwise [hq _ _]
      exact at1 _ rfl
    · pointwise [hk _ _, ks]
      exact at1 _ rfl
  | 3 =>
    refine is_s 3 (fun a d => ?_) (fun m d => ?_)
    · pointwise [hq _ _]
      exact at1 _ rfl
    · pointwise [hk _ _, ks]
      exact at1 _ rfl

theorem is_out (h : Fin 4) : Is (headO h (hostQ (hostX x0 x1 x2) x3 x6) (hostK x4 x5 x7)) fun a d => ∑ m, pr I.p (I.X a) h m * vs I.p h m d := by
  have hk := is_kv A
  refine is_o h (is_head A h) fun m d => ?_
  match h with
  | 0 =>
    pointwise [hk _ _, vs]
    exact at1 _ (by simp)
  | 1 =>
    pointwise [hk _ _, vs]
    exact at1 _ (by simp; omega)
  | 2 =>
    pointwise [hk _ _, vs]
    exact at1 _ (by simp; omega)
  | 3 =>
    pointwise [hk _ _, vs]
    exact at1 _ (by simp; omega)
end

end Cert.Proof.Attn

end
-- ==== Proof.AttnArr.lean ====
/- The kernel of cross attention: what it finds in its windows, and its first result. -/
module

public import proofs.«01_k».proof.Proof.AttnOut
public import proofs.«01_k».proof.Proof.AttnHost

@[expose] public section

set_option maxRecDepth 16384

noncomputable section

namespace Cert.Proof.Attn

open Idealize.ShloMosaic Idealize.SL.Sem Cert.AttnIdeal Cert.AttnIdeal.Gen Idealize.ShloMosaic.TcCoe
open Idealize.ShloMosaic.Pipeline (Dat Cfg Window)

/-- Row `a` of the row block of grid point `t`. -/
abbrev row (t : Fin 8) (a : Fin 512) : Fin 4096 := ⟨512 * t.val + a.val, by omega⟩

/-- The row block of grid point `t`. -/
abbrev rows {k : ℕ} (X : Fin 4096 → Fin k → ℝ) (t : Fin 8) : Fin 512 → Fin k → ℝ := fun a => X (row t a)

variable (m : (ℓ : Loc nD τ sig) → Buf (Elt Ideal) ℓ) (c : Dev nD)

theorem index0 (t : Fin 8) : win0_0.index t 0 = t.val ∧ win0_0.index t 1 = 0 := by
  revert t; decide +kernel

theorem iblk0 (t : Fin 8) (a : Fin 512) (i : Fin 1024) : (iblk m c 0 t : Vec Ideal S512x1024 .f32) (ix2 a i)
    = (V m c main_v5 : Vec Ideal S4096x1024 .f32) (ix2 (row t a) i) := by
  unfold iblk
  rw [View.read_apply]
  exact congrArg (V m c main_v5) (at2 (show win0_0.index t 0 * 512 + 1 * a.val = 512 * t.val + a.val by rw [(index0 t).1]; omega)
    (show win0_0.index t 1 * 1024 + 1 * i.val = i.val by rw [(index0 t).2]; omega))

theorem index1 (t : Fin 8) : win0_1.index t 0 = t.val ∧ win0_1.index t 1 = 0 := by
  revert t; decide +kernel

theorem iblk1 (t : Fin 8) (a : Fin 512) (i : Fin 1024) : (iblk m c 1 t : Vec Ideal S512x1024 .f32) (ix2 a i)
    = (V m c main_arg9 : Vec Ideal S4096x1024 .f32) (ix2 (row t a) i) := by
  unfold iblk
  rw [View.read_apply]
  exact congrArg (V m c main_arg9) (at2 (show win0_1.index t 0 * 512 + 1 * a.val = 512 * t.val + a.val by rw [(index1 t).1]; omega)
    (show win0_1.index t 1 * 1024 + 1 * i.val = i.val by rw [(index1 t).2]; omega))

theorem index2 (t : Fin 8) : win0_2.index t 0 = t.val ∧ win0_2.index t 1 = 0 := by
  revert t; decide +kernel

theorem iblk2 (t : Fin 8) (a : Fin 512) (i : Fin 1024) : (iblk m c 2 t : Vec Ideal S512x1024 .bf16) (ix2 a i)
    = (V m c main_v110 : Vec Ideal S4096x1024 .bf16) (ix2 (row t a) i) := by
  unfold iblk
  rw [View.read_apply]
  exact congrArg (V m c main_v110) (at2 (show win0_2.index t 0 * 512 + 1 * a.val = 512 * t.val + a.val by rw [(index2 t).1]; omega)
    (show win0_2.index t 1 * 1024 + 1 * i.val = i.val by rw [(index2 t).2]; omega))

theorem index3 (t : Fin 8) : win0_3.index t 0 = t.val ∧ win0_3.index t 1 = 0 := by
  revert t; decide +kernel

theorem iblk3 (t : Fin 8) (a : Fin 512) (i : Fin 1024) : (iblk m c 3 t : Vec Ideal S512x1024 .bf16) (ix2 a i)
    = (V m c main_v2 : Vec Ideal S4096x1024 .bf16) (ix2 (row t a) i) := by
  unfold iblk
  rw [View.read_apply]
  exact congrArg (V m c main_v2) (at2 (show win0_3.index t 0 * 512 + 1 * a.val = 512 * t.val + a.val by rw [(index3 t).1]; omega)
    (show win0_3.index t 1 * 1024 + 1 * i.val = i.val by rw [(index3 t).2]; omega))

theorem index4 (t : Fin 8) : win0_4.index t 0 = t.val ∧ win0_4.index t 1 = 0 := by
  revert t; decide +kernel

theorem iblk4 (t : Fin 8) (a : Fin 512) (i : Fin 1024) : (iblk m c 4 t : Vec Ideal S512x1024 .bf16) (ix2 a i)
    = (V m c main_v37 : Vec Ideal S4096x1024 .bf16) (ix2 (row t a) i) := by
  unfold iblk
  rw [View.read_apply]
  exact congrArg (V m c main_v37) (at2 (show win0_4.index t 0 * 512 + 1 * a.val = 512 * t.val + a.val by rw [(index4 t).1]; omega)
    (show win0_4.index t 1 * 1024 + 1 * i.val = i.val by rw [(index4 t).2]; omega))

theorem index5 (t : Fin 8) : win0_5.index t 0 = t.val ∧ win0_5.index t 1 = 0 := by
  revert t; decide +kernel

theorem iblk5 (t : Fin 8) (a : Fin 512) (i : Fin 1024) : (iblk m c 5 t : Vec Ideal S512x1024 .f32) (ix2 a i)
    = (V m c main_v111 : Vec Ideal S4096x1024 .f32) (ix2 (row t a) i) := by
  unfold iblk
  rw [View.read_apply]
  exact congrArg (V m c main_v111) (at2 (show win0_5.index t 0 * 512 + 1 * a.val = 512 * t.val + a.val by rw [(index5 t).1]; omega)
    (show win0_5.index t 1 * 1024 + 1 * i.val = i.val by rw [(index5 t).2]; omega))

theorem iblk6 (t : Fin 8) : iblk m c 6 t = V m c main_v1 :=
  Memref.read_access_unit_zero (Elt Ideal) main_v1
    (funext fun a => (by decide +kernel : ∀ (t : Fin 8) (a : Fin 2), win0_6.index t a * main_v1.ty.shape.size a = 0) t a) _ _

theorem iblk7 (t : Fin 8) : iblk m c 7 t = V m c main_v0 :=
  Memref.read_access_unit_zero (Elt Ideal) main_v0
    (funext fun a => (by decide +kernel : ∀ (t : Fin 8) (a : Fin 2), win0_7.index t a * main_v0.ty.shape.size a = 0) t a) _ _

theorem iblk8 (t : Fin 8) : iblk m c 8 t = V m c main_v22 :=
  Memref.read_access_unit_zero (Elt Ideal) main_v22
    (funext fun a => (by decide +kernel : ∀ (t : Fin 8) (a : Fin 2), win0_8.index t a * main_v22.ty.shape.size a = 0) t a) _ _

theorem iblk9 (t : Fin 8) : iblk m c 9 t = V m c main_v112 :=
  Memref.read_access_unit_zero (Elt Ideal) main_v112
    (funext fun a => (by decide +kernel : ∀ (t : Fin 8) (a : Fin 2), win0_9.index t a * main_v112.ty.shape.size a = 0) t a) _ _

theorem v0 (i j) : (V m c main_v0 : Vec Ideal S1024x1024 .bf16) (ix2 i j) = (m ((c : Thread nD τ).loc main_arg6) : Vec Ideal S1024x1024 .f32) (ix2 i j) := by
  after_reads_simp; rfl
theorem v1 : V m c main_v1 = shapeCast S1x1024 (m ((c : Thread nD τ).loc main_arg3) : FVec Ideal S1024 .f32) shapeCasts_S1024_S1x1024 := by after_reads_simp; rfl
theorem v2 (i j) : (V m c main_v2 : Vec Ideal S4096x1024 .bf16) (ix2 i j) = (m ((c : Thread nD τ).loc main_arg1) : Vec Ideal S4096x1024 .f32) (ix2 i j) := by
  after_reads_simp; rfl
theorem v112 (i j) : (V m c main_v112 : Vec Ideal S1024x1024 .bf16) (ix2 i j) = (m ((c : Thread nD τ).loc main_arg8) : Vec Ideal S1024x1024 .f32) (ix2 i j) := by
  after_reads_simp; rfl

variable {I : Inp} (A : Args I (m ((c : Thread nD τ).loc main_arg0)) (m ((c : Thread nD τ).loc main_arg1)) (m ((c : Thread nD τ).loc main_arg9))
  (m ((c : Thread nD τ).loc main_arg2)) (m ((c : Thread nD τ).loc main_arg6)) (m ((c : Thread nD τ).loc main_arg8)) (m ((c : Thread nD τ).loc main_arg3))
  (m ((c : Thread nD τ).loc main_arg5)) (m ((c : Thread nD τ).loc main_arg4)) (m ((c : Thread nD τ).loc main_arg7)))
include A

omit A in
theorem is_heads {f : Fin 4 → S4096x256.Idx → EReal} {F : Fin 4 → Fin 4096 → Fin 256 → ℝ} (hf : ∀ h, Is (f h) (F h)) (H) :
    Is (concatenate S4096x1024 1 [⟨S4096x256, f 0⟩, ⟨S4096x256, f 1⟩, ⟨S4096x256, f 2⟩, ⟨S4096x256, f 3⟩] H) fun a j => F (hd j) a (pl j) := by
  intro a j
  have e : col (hd j) (pl j) = j := Fin.ext (by dsimp only; omega)
  rw [← hf, ← head_at f H (hd j) a (pl j), e]

omit A in
theorem out_heads (p : Weights) (v : Fin 1024 → ℝ) (j : Fin 1024) : ∑ m, pr p v (hd j) m * vs p (hd j) m (pl j) = o p v j := by
  have e : col (hd j) (pl j) = j := Fin.ext (by dsimp only; omega)
  unfold vs o
  rw [e]

theorem blk (t : Fin 8) : Blk I.p (rows I.X t) (rows I.t t) (rows I.y t) (iblk m c 0 t) (iblk m c 1 t) (iblk m c 2 t) (iblk m c 3 t) (iblk m c 4 t)
    (iblk m c 5 t) (iblk m c 6 t) (iblk m c 7 t) (iblk m c 8 t) (iblk m c 9 t) where
  x a i := (iblk0 m c t a i).trans (by rw [v5]; exact is_x A _ _)
  t a i := (iblk1 m c t a i).trans (by rw [V_main_arg9]; exact A.t _ _)
  o a i := (iblk2 m c t a i).trans (by rw [v110]; exact (is_heads (fun h => is_out A h) _ _ _).trans (congrArg Real.toEReal (out_heads _ _ _)))
  y a i := (iblk3 m c t a i).trans ((v2 m c _ _).trans (A.y _ _))
  q a i := (iblk4 m c t a i).trans (by rw [v37]; exact is_q A _ _)
  pr a i := (iblk5 m c t a i).trans (by rw [v111]; exact is_heads (fun h => is_head A h) _ _ _)
  g a i := by rw [iblk6, v1]; pointwise [A.g]; rfl
  wq a i := by rw [iblk7]; exact (v0 m c _ _).trans (A.wq _ _)
  kv a i := by rw [iblk8, v22]; exact is_kv A _ _
  wo a i := by rw [iblk9]; exact (v112 m c _ _).trans (A.wo _ _)

omit A in
/-- Every row lies in some grid point's row block. -/
theorem row_eq (r : Fin 4096) : ∃ (t : Fin 8) (a : Fin 512), r = row t a :=
  ⟨⟨r.val / 512, by omega⟩, ⟨r.val % 512, by omega⟩, Fin.ext (by dsimp only; omega)⟩

omit A in
theorem index10 (t : Fin 8) : win0_10.index t 0 = t.val ∧ win0_10.index t 1 = 0 := by
  revert t; decide +kernel

theorem final10 : Is ((dats m 0 c).arrAt 10 cfg0.N : Vec Ideal S4096x1024 .f32) (fun r => dx1 I.p (I.X r) (I.t r)) := by
  intro r i
  obtain ⟨t, a, rfl⟩ := row_eq r
  have hb := congrFun (Cert.AttnIdeal.Value.blocks10 m c t (flush0_10 t)) (ix2 a i)
  rw [View.read_apply] at hb
  have hi : ((cfg0.win 10).blk t).view.emb (ix2 a i) = (ix2 (row t a) i : S4096x1024.Idx) :=
    at2 (show win0_10.index t 0 * 512 + 1 * a.val = 512 * t.val + a.val by rw [(index10 t).1]; omega)
      (show win0_10.index t 1 * 1024 + 1 * i.val = i.val by rw [(index10 t).2]; omega)
  rw [← hi]
  refine hb.trans ?_
  by_cases h0 : t.val % 8 = 0
  · rw [Cert.AttnIdeal.Value.flushed10_A m c t h0 (by omega)]
    exact outA10 _ _ _ _ _ _ _ _ _ _ _ _ _ _ _ _ _ _ _ _ _ _ _ _ _ _ _ _ _ _ _ _ _ _ _ _ _ _ _ _ (blk m c A t) _ _ a i
  · by_cases h1 : t.val % 8 = 7
    · rw [Cert.AttnIdeal.Value.flushed10_C m c t h0 h1]
      exact outC10 _ _ _ _ _ _ _ _ _ _ _ _ _ _ _ _ _ _ _ _ _ _ _ _ _ _ _ _ _ _ _ _ _ _ _ _ _ _ _ _ (blk m c A t) _ _ _ _ _ _ _ a i
    · rw [Cert.AttnIdeal.Value.flushed10_B m c t h0 h1]
      exact outB10 _ _ _ _ _ _ _ _ _ _ _ _ _ _ _ _ _ _ _ _ _ _ _ _ _ _ _ _ _ _ _ _ _ _ _ _ _ _ _ _ (blk m c A t) _ _ _ _ _ _ _ a i

end Cert.Proof.Attn

end
-- ==== Proof.AttnAcc.lean ====
/- The kernel of cross attention: the results it sums over all rows. -/
module

public import proofs.«01_k».proof.Proof.AttnArr

@[expose] public section

set_option maxRecDepth 16384

noncomputable section

namespace Cert.Proof.Attn

open Idealize.ShloMosaic Idealize.SL.Sem Cert.AttnIdeal Cert.AttnIdeal.Gen Idealize.ShloMosaic.TcCoe
open Idealize.ShloMosaic.Pipeline (Dat Cfg Window)

variable {I : Inp} (m : (ℓ : Loc nD τ sig) → Buf (Elt Ideal) ℓ) (c : Dev nD)
variable (A : Args I (m ((c : Thread nD τ).loc main_arg0)) (m ((c : Thread nD τ).loc main_arg1)) (m ((c : Thread nD τ).loc main_arg9))
  (m ((c : Thread nD τ).loc main_arg2)) (m ((c : Thread nD τ).loc main_arg6)) (m ((c : Thread nD τ).loc main_arg8)) (m ((c : Thread nD τ).loc main_arg3))
  (m ((c : Thread nD τ).loc main_arg5)) (m ((c : Thread nD τ).loc main_arg4)) (m ((c : Thread nD τ).loc main_arg7)))

theorem upd_zero {R C : ℕ} (Z : Fin R → Fin C → ℝ) (z : Fin R) (q : Fin C) : upd (fun _ => 0) Z (ix2 z q) = ((Z z q : ℝ) : EReal) := zero_add _

include A in
theorem first11 (z : Fin 256) (q : Fin 2048) (t : Fin cfg0.N) (h0 : t.val % 8 = 0) : ((outsAt0 m c t.val t.isLt).2.1 : Vec Ideal S256x2048 .f32) (ix2 z q)
    = ((∑ a, (fun r => dkv I.p (I.X r) (I.t r) z q) (row t a) : ℝ) : EReal) := by
  rw [outsAt0_A m c t h0 (by omega)]
  dsimp only
  exact (congrFun (outA11 _ _ _ _ _ _ _ _ _ _ _ _ _ _ _ _ _ _ _ _ _ _ _ _ _ _ _ _ _ _ _ _ _ _ _ _ _ _ _ _ (blk m c A t) _ _) (ix2 z q)).trans (upd_zero _ z q)

include A in
theorem next11 (z : Fin 256) (q : Fin 2048) (t : Fin cfg0.N) (h0 : ¬t.val % 8 = 0) : ((outsAt0 m c t.val t.isLt).2.1 : Vec Ideal S256x2048 .f32) (ix2 z q)
    = ((outsAt0 m c (t.val - 1) (Nat.lt_of_le_of_lt (Nat.sub_le _ _) t.isLt)).2.1 : Vec Ideal S256x2048 .f32) (ix2 z q)
      + ((∑ a, (fun r => dkv I.p (I.X r) (I.t r) z q) (row t a) : ℝ) : EReal) := by
  by_cases h1 : t.val % 8 = 7
  · rw [outsAt0_C m c t h0 h1]
    dsimp only
    exact (congrFun (outC11 _ _ _ _ _ _ _ _ _ _ _ _ _ _ _ _ _ _ _ _ _ _ _ _ _ _ _ _ _ _ _ _ _ _ _ _ _ _ _ _ (blk m c A t) _ _ _ _ _ _ _) (ix2 z q)).trans rfl
  · rw [outsAt0_B m c t h0 h1]
    dsimp only
    exact (congrFun (outB11 _ _ _ _ _ _ _ _ _ _ _ _ _ _ _ _ _ _ _ _ _ _ _ _ _ _ _ _ _ _ _ _ _ _ _ _ _ _ _ _ (blk m c A t) _ _ _ _ _ _ _) (ix2 z q)).trans rfl

include A in
theorem acc11 (z : Fin 256) (q : Fin 2048) : ((outsAt0 m c 7 (by decide)).2.1 : Vec Ideal S256x2048 .f32) (ix2 z q)
    = ((∑ r, dkv I.p (I.X r) (I.t r) z q : ℝ) : EReal) := by
  refine (acc_sum (N := 8) (fun t => ∑ a, (fun r => dkv I.p (I.X r) (I.t r) z q) (row t a)) (fun n h => ((outsAt0 m c n h).2.1 : Vec Ideal S256x2048 .f32) (ix2 z q))
    (fun h0 => first11 m c A z q ⟨0, h0⟩ rfl) (fun n h1 => next11 m c A z q ⟨n + 1, h1⟩ (by dsimp only; omega)) 7 (by decide)).trans ?_
  rw [sum_blocks 8 512 rfl]

include A in
theorem first12 (z : Fin 1) (q : Fin 1024) (t : Fin cfg0.N) (h0 : t.val % 8 = 0) : ((outsAt0 m c t.val t.isLt).2.2.1 : Vec Ideal S1x1024 .f32) (ix2 z q)
    = ((∑ a, (fun r => dg I.p (I.X r) (I.t r) q) (row t a) : ℝ) : EReal) := by
  rw [outsAt0_A m c t h0 (by omega)]
  dsimp only
  exact outA12 _ _ _ _ _ _ _ _ _ _ _ _ _ _ _ _ _ _ _ _ _ _ _ _ _ _ _ _ _ _ _ _ _ _ _ _ _ _ _ _ (blk m c A t) _ _ z q

include A in
theorem next12 (z : Fin 1) (q : Fin 1024) (t : Fin cfg0.N) (h0 : ¬t.val % 8 = 0) : ((outsAt0 m c t.val t.isLt).2.2.1 : Vec Ideal S1x1024 .f32) (ix2 z q)
    = ((outsAt0 m c (t.val - 1) (Nat.lt_of_le_of_lt (Nat.sub_le _ _) t.isLt)).2.2.1 : Vec Ideal S1x1024 .f32) (ix2 z q)
      + ((∑ a, (fun r => dg I.p (I.X r) (I.t r) q) (row t a) : ℝ) : EReal) := by
  by_cases h1 : t.val % 8 = 7
  · rw [outsAt0_C m c t h0 h1]
    dsimp only
    exact outC12 _ _ _ _ _ _ _ _ _ _ _ _ _ _ _ _ _ _ _ _ _ _ _ _ _ _ _ _ _ _ _ _ _ _ _ _ _ _ _ _ (blk m c A t) _ _ _ _ _ _ _ z q
  · rw [outsAt0_B m c t h0 h1]
    dsimp only
    exact outB12 _ _ _ _ _ _ _ _ _ _ _ _ _ _ _ _ _ _ _ _ _ _ _ _ _ _ _ _ _ _ _ _ _ _ _ _ _ _ _ _ (blk m c A t) _ _ _ _ _ _ _ z q

include A in
theorem acc12 (z : Fin 1) (q : Fin 1024) : ((outsAt0 m c 7 (by decide)).2.2.1 : Vec Ideal S1x1024 .f32) (ix2 z q)
    = ((∑ r, dg I.p (I.X r) (I.t r) q : ℝ) : EReal) := by
  refine (acc_sum (N := 8) (fun t => ∑ a, (fun r => dg I.p (I.X r) (I.t r) q) (row t a)) (fun n h => ((outsAt0 m c n h).2.2.1 : Vec Ideal S1x1024 .f32) (ix2 z q))
    (fun h0 => first12 m c A z q ⟨0, h0⟩ rfl) (fun n h1 => next12 m c A z q ⟨n + 1, h1⟩ (by dsimp only; omega)) 7 (by decide)).trans ?_
  rw [sum_blocks 8 512 rfl]

include A in
theorem firstS0 (z : Fin 1024) (q : Fin 1024) (t : Fin cfg0.N) (h0 : t.val % 8 = 0) : ((outsAt0 m c t.val t.isLt).2.2.2.2.2.2.1 : Vec Ideal S1024x1024 .f32) (ix2 z q)
    = ((∑ a, (fun r => o I.p (I.X r) z * I.t r q) (row t a) : ℝ) : EReal) := by
  rw [outsAt0_A m c t h0 (by omega)]
  dsimp only
  exact soutA0 _ _ _ _ _ _ _ _ _ _ _ _ _ _ _ _ _ _ _ _ _ _ _ _ _ _ _ _ _ _ _ _ _ _ _ _ _ _ _ _ (blk m c A t) _ _ z q

include A in
theorem nextS0 (z : Fin 1024) (q : Fin 1024) (t : Fin cfg0.N) (h0 : ¬t.val % 8 = 0) : ((outsAt0 m c t.val t.isLt).2.2.2.2.2.2.1 : Vec Ideal S1024x1024 .f32) (ix2 z q)
    = ((outsAt0 m c (t.val - 1) (Nat.lt_of_le_of_lt (Nat.sub_le _ _) t.isLt)).2.2.2.2.2.2.1 : Vec Ideal S1024x1024 .f32) (ix2 z q)
      + ((∑ a, (fun r => o I.p (I.X r) z * I.t r q) (row t a) : ℝ) : EReal) := by
  by_cases h1 : t.val % 8 = 7
  · rw [outsAt0_C m c t h0 h1]
    dsimp only
    exact soutC0 _ _ _ _ _ _ _ _ _ _ _ _ _ _ _ _ _ _ _ _ _ _ _ _ _ _ _ _ _ _ _ _ _ _ _ _ _ _ _ _ (blk m c A t) _ _ _ _ _ _ _ z q
  · rw [outsAt0_B m c t h0 h1]
    dsimp only
    exact soutB0 _ _ _ _ _ _ _ _ _ _ _ _ _ _ _ _ _ _ _ _ _ _ _ _ _ _ _ _ _ _ _ _ _ _ _ _ _ _ _ _ (blk m c A t) _ _ _ _ _ _ _ z q

include A in
theorem accS0 (z : Fin 1024) (q : Fin 1024) : ((outsAt0 m c 7 (by decide)).2.2.2.2.2.2.1 : Vec Ideal S1024x1024 .f32) (ix2 z q)
    = ((∑ r, o I.p (I.X r) z * I.t r q : ℝ) : EReal) := by
  refine (acc_sum (N := 8) (fun t => ∑ a, (fun r => o I.p (I.X r) z * I.t r q) (row t a)) (fun n h => ((outsAt0 m c n h).2.2.2.2.2.2.1 : Vec Ideal S1024x1024 .f32) (ix2 z q))
    (fun h0 => firstS0 m c A z q ⟨0, h0⟩ rfl) (fun n h1 => nextS0 m c A z q ⟨n + 1, h1⟩ (by dsimp only; omega)) 7 (by decide)).trans ?_
  rw [sum_blocks 8 512 rfl]

include A in
theorem firstS1 (z : Fin 1024) (q : Fin 1024) (t : Fin cfg0.N) (h0 : t.val % 8 = 0) : ((outsAt0 m c t.val t.isLt).2.2.2.2.2.2.2.1 : Vec Ideal S1024x1024 .f32) (ix2 z q)
    = ((∑ a, (fun r => xn I.p (I.X r) z * dq I.p (I.X r) (I.t r) q) (row t a) : ℝ) : EReal) := by
  rw [outsAt0_A m c t h0 (by omega)]
  dsimp only
  exact (congrFun (soutA1 _ _ _ _ _ _ _ _ _ _ _ _ _ _ _ _ _ _ _ _ _ _ _ _ _ _ _ _ _ _ _ _ _ _ _ _ _ _ _ _ (blk m c A t) _ _) (ix2 z q)).trans (upd_zero _ z q)

include A in
theorem nextS1 (z : Fin 1024) (q : Fin 1024) (t : Fin cfg0.N) (h0 : ¬t.val % 8 = 0) : ((outsAt0 m c t.val t.isLt).2.2.2.2.2.2.2.1 : Vec Ideal S1024x1024 .f32) (ix2 z q)
    = ((outsAt0 m c (t.val - 1) (Nat.lt_of_le_of_lt (Nat.sub_le _ _) t.isLt)).2.2.2.2.2.2.2.1 : Vec Ideal S1024x1024 .f32) (ix2 z q)
      + ((∑ a, (fun r => xn I.p (I.X r) z * dq I.p (I.X r) (I.t r) q) (row t a) : ℝ) : EReal) := by
  by_cases h1 : t.val % 8 = 7
  · rw [outsAt0_C m c t h0 h1]
    dsimp only
    exact (congrFun (soutC1 _ _ _ _ _ _ _ _ _ _ _ _ _ _ _ _ _ _ _ _ _ _ _ _ _ _ _ _ _ _ _ _ _ _ _ _ _ _ _ _ (blk m c A t) _ _ _ _ _ _ _) (ix2 z q)).trans rfl
  · rw [outsAt0_B m c t h0 h1]
    dsimp only
    exact (congrFun (soutB1 _ _ _ _ _ _ _ _ _ _ _ _ _ _ _ _ _ _ _ _ _ _ _ _ _ _ _ _ _ _ _ _ _ _ _ _ _ _ _ _ (blk m c A t) _ _ _ _ _ _ _) (ix2 z q)).trans rfl

include A in
theorem accS1 (z : Fin 1024) (q : Fin 1024) : ((outsAt0 m c 7 (by decide)).2.2.2.2.2.2.2.1 : Vec Ideal S1024x1024 .f32) (ix2 z q)
    = ((∑ r, xn I.p (I.X r) z * dq I.p (I.X r) (I.t r) q : ℝ) : EReal) := by
  refine (acc_sum (N := 8) (fun t => ∑ a, (fun r => xn I.p (I.X r) z * dq I.p (I.X r) (I.t r) q) (row t a)) (fun n h => ((outsAt0 m c n h).2.2.2.2.2.2.2.1 : Vec Ideal S1024x1024 .f32) (ix2 z q))
    (fun h0 => firstS1 m c A z q ⟨0, h0⟩ rfl) (fun n h1 => nextS1 m c A z q ⟨n + 1, h1⟩ (by dsimp only; omega)) 7 (by decide)).trans ?_
  rw [sum_blocks 8 512 rfl]

include A in
theorem firstS2 (z : Fin 1024) (q : Fin 1024) (t : Fin cfg0.N) (h0 : t.val % 8 = 0) : ((outsAt0 m c t.val t.isLt).2.2.2.2.2.2.2.2 : Vec Ideal S1024x1024 .f32) (ix2 z q)
    = ((∑ a, (fun r => I.y r z * dx1 I.p (I.X r) (I.t r) q) (row t a) : ℝ) : EReal) := by
  rw [outsAt0_A m c t h0 (by omega)]
  dsimp only
  exact soutA2 _ _ _ _ _ _ _ _ _ _ _ _ _ _ _ _ _ _ _ _ _ _ _ _ _ _ _ _ _ _ _ _ _ _ _ _ _ _ _ _ (blk m c A t) _ _ z q

include A in
theorem nextS2 (z : Fin 1024) (q : Fin 1024) (t : Fin cfg0.N) (h0 : ¬t.val % 8 = 0) : ((outsAt0 m c t.val t.isLt).2.2.2.2.2.2.2.2 : Vec Ideal S1024x1024 .f32) (ix2 z q)
    = ((outsAt0 m c (t.val - 1) (Nat.lt_of_le_of_lt (Nat.sub_le _ _) t.isLt)).2.2.2.2.2.2.2.2 : Vec Ideal S1024x1024 .f32) (ix2 z q)
      + ((∑ a, (fun r => I.y r z * dx1 I.p (I.X r) (I.t r) q) (row t a) : ℝ) : EReal) := by
  by_cases h1 : t.val % 8 = 7
  · rw [outsAt0_C m c t h0 h1]
    dsimp only
    exact soutC2 _ _ _ _ _ _ _ _ _ _ _ _ _ _ _ _ _ _ _ _ _ _ _ _ _ _ _ _ _ _ _ _ _ _ _ _ _ _ _ _ (blk m c A t) _ _ _ _ _ _ _ z q
  · rw [outsAt0_B m c t h0 h1]
    dsimp only
    exact soutB2 _ _ _ _ _ _ _ _ _ _ _ _ _ _ _ _ _ _ _ _ _ _ _ _ _ _ _ _ _ _ _ _ _ _ _ _ _ _ _ _ (blk m c A t) _ _ _ _ _ _ _ z q

include A in
theorem accS2 (z : Fin 1024) (q : Fin 1024) : ((outsAt0 m c 7 (by decide)).2.2.2.2.2.2.2.2 : Vec Ideal S1024x1024 .f32) (ix2 z q)
    = ((∑ r, I.y r z * dx1 I.p (I.X r) (I.t r) q : ℝ) : EReal) := by
  refine (acc_sum (N := 8) (fun t => ∑ a, (fun r => I.y r z * dx1 I.p (I.X r) (I.t r) q) (row t a)) (fun n h => ((outsAt0 m c n h).2.2.2.2.2.2.2.2 : Vec Ideal S1024x1024 .f32) (ix2 z q))
    (fun h0 => firstS2 m c A z q ⟨0, h0⟩ rfl) (fun n h1 => nextS2 m c A z q ⟨n + 1, h1⟩ (by dsimp only; omega)) 7 (by decide)).trans ?_
  rw [sum_blocks 8 512 rfl]

theorem whole11 (t : Fin 8) : (fun a => win0_11.index t a * main_v113_1.ty.shape.size a) = fun _ => 0 :=
  funext fun a => (by decide +kernel : ∀ (t : Fin 8) (a : Fin 2), win0_11.index t a * main_v113_1.ty.shape.size a = 0) t a

/-- The array holds what the last point leaves. -/
theorem arr11 : (dats m 0 c).arrAt 11 cfg0.N = (outsAt0 m c t0_7.val t0_7.isLt).2.1 := by
  refine (dats m 0 c).arrAt_eq_of_cover 11 _ (fun t ht => ?_) fun i => ⟨t0_7, (flush0_11 _).mpr rfl, ?_⟩
  · have h7 : t = t0_7 := Fin.ext (by have := (flush0_11 t).mp ht; have h8 : t.val < 8 := t.isLt; show t.val = 7; omega)
    subst h7
    rw [Cert.AttnIdeal.Value.flushed11]
    exact (Memref.read_access_unit_zero (Elt Ideal) main_v113_1 (whole11 t0_7) (fun a => by rw [congrFun (whole11 t0_7) a]; simp) _).symm
  · show (i : S256x2048.Idx) ∈ ((View.whole main_v113_1).slice (win0_11.rect t0_7)).set
    rw [View.set_slice_whole, Rect.mem_set_unit]
    intro a
    have h0 : win0_11.index t0_7 a * win0_11.size a = 0 := (by decide +kernel : ∀ a : Fin 2, win0_11.index t0_7 a * win0_11.size a = 0) a
    have h1 : win0_11.xsize (grid0.coords t0_7) a = S256x2048.size a :=
      (by decide +kernel : ∀ a : Fin 2, win0_11.xsize (grid0.coords t0_7) a = S256x2048.size a) a
    exact ⟨h0.le.trans (Nat.zero_le _), (i a).isLt.trans_le ((Nat.le_add_left _ _).trans (Nat.add_le_add_left h1.ge _))⟩

include A in
theorem final11 (z : Fin 256) (q : Fin 2048) : ((dats m 0 c).arrAt 11 cfg0.N : Vec Ideal S256x2048 .f32) (ix2 z q)
    = ((∑ r, dkv I.p (I.X r) (I.t r) z q : ℝ) : EReal) := by
  rw [arr11]
  exact acc11 m c A z q

theorem whole12 (t : Fin 8) : (fun a => win0_12.index t a * main_v113_2.ty.shape.size a) = fun _ => 0 :=
  funext fun a => (by decide +kernel : ∀ (t : Fin 8) (a : Fin 2), win0_12.index t a * main_v113_2.ty.shape.size a = 0) t a

/-- The array holds what the last point leaves. -/
theorem arr12 : (dats m 0 c).arrAt 12 cfg0.N = (outsAt0 m c t0_7.val t0_7.isLt).2.2.1 := by
  refine (dats m 0 c).arrAt_eq_of_cover 12 _ (fun t ht => ?_) fun i => ⟨t0_7, (flush0_12 _).mpr rfl, ?_⟩
  · have h7 : t = t0_7 := Fin.ext (by have := (flush0_12 t).mp ht; have h8 : t.val < 8 := t.isLt; show t.val = 7; omega)
    subst h7
    rw [Cert.AttnIdeal.Value.flushed12]
    exact (Memref.read_access_unit_zero (Elt Ideal) main_v113_2 (whole12 t0_7) (fun a => by rw [congrFun (whole12 t0_7) a]; simp) _).symm
  · show (i : S1x1024.Idx) ∈ ((View.whole main_v113_2).slice (win0_12.rect t0_7)).set
    rw [View.set_slice_whole, Rect.mem_set_unit]
    intro a
    have h0 : win0_12.index t0_7 a * win0_12.size a = 0 := (by decide +kernel : ∀ a : Fin 2, win0_12.index t0_7 a * win0_12.size a = 0) a
    have h1 : win0_12.xsize (grid0.coords t0_7) a = S1x1024.size a :=
      (by decide +kernel : ∀ a : Fin 2, win0_12.xsize (grid0.coords t0_7) a = S1x1024.size a) a
    exact ⟨h0.le.trans (Nat.zero_le _), (i a).isLt.trans_le ((Nat.le_add_left _ _).trans (Nat.add_le_add_left h1.ge _))⟩

include A in
theorem final12 (z : Fin 1) (q : Fin 1024) : ((dats m 0 c).arrAt 12 cfg0.N : Vec Ideal S1x1024 .f32) (ix2 z q)
    = ((∑ r, dg I.p (I.X r) (I.t r) q : ℝ) : EReal) := by
  rw [arr12]
  exact acc12 m c A z q

theorem whole13 (t : Fin 8) : (fun a => win0_13.index t a * main_v113_3.ty.shape.size a) = fun _ => 0 :=
  funext fun a => (by decide +kernel : ∀ (t : Fin 8) (a : Fin 2), win0_13.index t a * main_v113_3.ty.shape.size a = 0) t a

/-- The array holds what the last point leaves. -/
theorem arr13 : (dats m 0 c).arrAt 13 cfg0.N = (outsAt0 m c t0_7.val t0_7.isLt).2.2.2.1 := by
  refine (dats m 0 c).arrAt_eq_of_cover 13 _ (fun t ht => ?_) fun i => ⟨t0_7, (flush0_13 _).mpr rfl, ?_⟩
  · have h7 : t = t0_7 := Fin.ext (by have := (flush0_13 t).mp ht; have h8 : t.val < 8 := t.isLt; show t.val = 7; omega)
    subst h7
    rw [Cert.AttnIdeal.Value.flushed13]
    exact (Memref.read_access_unit_zero (Elt Ideal) main_v113_3 (whole13 t0_7) (fun a => by rw [congrFun (whole13 t0_7) a]; simp) _).symm
  · show (i : S1024x1024.Idx) ∈ ((View.whole main_v113_3).slice (win0_13.rect t0_7)).set
    rw [View.set_slice_whole, Rect.mem_set_unit]
    intro a
    have h0 : win0_13.index t0_7 a * win0_13.size a = 0 := (by decide +kernel : ∀ a : Fin 2, win0_13.index t0_7 a * win0_13.size a = 0) a
    have h1 : win0_13.xsize (grid0.coords t0_7) a = S1024x1024.size a :=
      (by decide +kernel : ∀ a : Fin 2, win0_13.xsize (grid0.coords t0_7) a = S1024x1024.size a) a
    exact ⟨h0.le.trans (Nat.zero_le _), (i a).isLt.trans_le ((Nat.le_add_left _ _).trans (Nat.add_le_add_left h1.ge _))⟩

include A in
/-- The last point writes out what it has summed. -/
theorem last13 (z : Fin 1024) (q : Fin 1024) : ((outsAt0 m c t0_7.val t0_7.isLt).2.2.2.1 : Vec Ideal S1024x1024 .bf16) (ix2 z q)
    = ((outsAt0 m c t0_7.val t0_7.isLt).2.2.2.2.2.2.1 : Vec Ideal S1024x1024 .f32) (ix2 z q) := by
  rw [outsAt0_C m c t0_7 (by decide) rfl]
  dsimp only
  exact (outC13 _ _ _ _ _ _ _ _ _ _ _ _ _ _ _ _ _ _ _ _ _ _ _ _ _ _ _ _ _ _ _ _ _ _ _ _ _ _ _ _ (blk m c A t0_7) _ _ _ _ _ _ _ z q).trans (soutC0 _ _ _ _ _ _ _ _ _ _ _ _ _ _ _ _ _ _ _ _ _ _ _ _ _ _ _ _ _ _ _ _ _ _ _ _ _ _ _ _ (blk m c A t0_7) _ _ _ _ _ _ _ z q).symm

include A in
theorem final13 (z : Fin 1024) (q : Fin 1024) : ((dats m 0 c).arrAt 13 cfg0.N : Vec Ideal S1024x1024 .bf16) (ix2 z q)
    = ((∑ r, o I.p (I.X r) z * I.t r q : ℝ) : EReal) := by
  rw [arr13]
  exact (last13 m c A z q).trans (accS0 m c A z q)

theorem whole14 (t : Fin 8) : (fun a => win0_14.index t a * main_v113_4.ty.shape.size a) = fun _ => 0 :=
  funext fun a => (by decide +kernel : ∀ (t : Fin 8) (a : Fin 2), win0_14.index t a * main_v113_4.ty.shape.size a = 0) t a

/-- The array holds what the last point leaves. -/
theorem arr14 : (dats m 0 c).arrAt 14 cfg0.N = (outsAt0 m c t0_7.val t0_7.isLt).2.2.2.2.1 := by
  refine (dats m 0 c).arrAt_eq_of_cover 14 _ (fun t ht => ?_) fun i => ⟨t0_7, (flush0_14 _).mpr rfl, ?_⟩
  · have h7 : t = t0_7 := Fin.ext (by have := (flush0_14 t).mp ht; have h8 : t.val < 8 := t.isLt; show t.val = 7; omega)
    subst h7
    rw [Cert.AttnIdeal.Value.flushed14]
    exact (Memref.read_access_unit_zero (Elt Ideal) main_v113_4 (whole14 t0_7) (fun a => by rw [congrFun (whole14 t0_7) a]; simp) _).symm
  · show (i : S1024x1024.Idx) ∈ ((View.whole main_v113_4).slice (win0_14.rect t0_7)).set
    rw [View.set_slice_whole, Rect.mem_set_unit]
    intro a
    have h0 : win0_14.index t0_7 a * win0_14.size a = 0 := (by decide +kernel : ∀ a : Fin 2, win0_14.index t0_7 a * win0_14.size a = 0) a
    have h1 : win0_14.xsize (grid0.coords t0_7) a = S1024x1024.size a :=
      (by decide +kernel : ∀ a : Fin 2, win0_14.xsize (grid0.coords t0_7) a = S1024x1024.size a) a
    exact ⟨h0.le.trans (Nat.zero_le _), (i a).isLt.trans_le ((Nat.le_add_left _ _).trans (Nat.add_le_add_left h1.ge _))⟩

include A in
/-- The last point writes out what it has summed. -/
theorem last14 (z : Fin 1024) (q : Fin 1024) : ((outsAt0 m c t0_7.val t0_7.isLt).2.2.2.2.1 : Vec Ideal S1024x1024 .bf16) (ix2 z q)
    = ((outsAt0 m c t0_7.val t0_7.isLt).2.2.2.2.2.2.2.1 : Vec Ideal S1024x1024 .f32) (ix2 z q) := by
  rw [outsAt0_C m c t0_7 (by decide) rfl]
  dsimp only
  exact (outC14 _ _ _ _ _ _ _ _ _ _ _ _ _ _ _ _ _ _ _ _ _ _ _ _ _ _ _ _ _ _ _ _ _ _ _ _ _ _ _ _ (blk m c A t0_7) _ _ _ _ _ _ _ z q).trans (congrFun (soutC1 _ _ _ _ _ _ _ _ _ _ _ _ _ _ _ _ _ _ _ _ _ _ _ _ _ _ _ _ _ _ _ _ _ _ _ _ _ _ _ _ (blk m c A t0_7) _ _ _ _ _ _ _) (ix2 z q)).symm

include A in
theorem final14 (z : Fin 1024) (q : Fin 1024) : ((dats m 0 c).arrAt 14 cfg0.N : Vec Ideal S1024x1024 .bf16) (ix2 z q)
    = ((∑ r, xn I.p (I.X r) z * dq I.p (I.X r) (I.t r) q : ℝ) : EReal) := by
  rw [arr14]
  exact (last14 m c A z q).trans (accS1 m c A z q)

theorem whole15 (t : Fin 8) : (fun a => win0_15.index t a * main_v113_5.ty.shape.size a) = fun _ => 0 :=
  funext fun a => (by decide +kernel : ∀ (t : Fin 8) (a : Fin 2), win0_15.index t a * main_v113_5.ty.shape.size a = 0) t a

/-- The array holds what the last point leaves. -/
theorem arr15 : (dats m 0 c).arrAt 15 cfg0.N = (outsAt0 m c t0_7.val t0_7.isLt).2.2.2.2.2.1 := by
  refine (dats m 0 c).arrAt_eq_of_cover 15 _ (fun t ht => ?_) fun i => ⟨t0_7, (flush0_15 _).mpr rfl, ?_⟩
  · have h7 : t = t0_7 := Fin.ext (by have := (flush0_15 t).mp ht; have h8 : t.val < 8 := t.isLt; show t.val = 7; omega)
    subst h7
    rw [Cert.AttnIdeal.Value.flushed15]
    exact (Memref.read_access_unit_zero (Elt Ideal) main_v113_5 (whole15 t0_7) (fun a => by rw [congrFun (whole15 t0_7) a]; simp) _).symm
  · show (i : S1024x1024.Idx) ∈ ((View.whole main_v113_5).slice (win0_15.rect t0_7)).set
    rw [View.set_slice_whole, Rect.mem_set_unit]
    intro a
    have h0 : win0_15.index t0_7 a * win0_15.size a = 0 := (by decide +kernel : ∀ a : Fin 2, win0_15.index t0_7 a * win0_15.size a = 0) a
    have h1 : win0_15.xsize (grid0.coords t0_7) a = S1024x1024.size a :=
      (by decide +kernel : ∀ a : Fin 2, win0_15.xsize (grid0.coords t0_7) a = S1024x1024.size a) a
    exact ⟨h0.le.trans (Nat.zero_le _), (i a).isLt.trans_le ((Nat.le_add_left _ _).trans (Nat.add_le_add_left h1.ge _))⟩

include A in
/-- The last point writes out what it has summed. -/
theorem last15 (z : Fin 1024) (q : Fin 1024) : ((outsAt0 m c t0_7.val t0_7.isLt).2.2.2.2.2.1 : Vec Ideal S1024x1024 .bf16) (ix2 z q)
    = ((outsAt0 m c t0_7.val t0_7.isLt).2.2.2.2.2.2.2.2 : Vec Ideal S1024x1024 .f32) (ix2 z q) := by
  rw [outsAt0_C m c t0_7 (by decide) rfl]
  dsimp only
  exact (outC15 _ _ _ _ _ _ _ _ _ _ _ _ _ _ _ _ _ _ _ _ _ _ _ _ _ _ _ _ _ _ _ _ _ _ _ _ _ _ _ _ (blk m c A t0_7) _ _ _ _ _ _ _ z q).trans (soutC2 _ _ _ _ _ _ _ _ _ _ _ _ _ _ _ _ _ _ _ _ _ _ _ _ _ _ _ _ _ _ _ _ _ _ _ _ _ _ _ _ (blk m c A t0_7) _ _ _ _ _ _ _ z q).symm

include A in
theorem final15 (z : Fin 1024) (q : Fin 1024) : ((dats m 0 c).arrAt 15 cfg0.N : Vec Ideal S1024x1024 .bf16) (ix2 z q)
    = ((∑ r, I.y r z * dx1 I.p (I.X r) (I.t r) q : ℝ) : EReal) := by
  rw [arr15]
  exact (last15 m c A z q).trans (accS2 m c A z q)

end Cert.Proof.Attn

end
-- ==== Proof.AttnSoft.lean ====
/- The cross attention's differentiated reference up to the softmax and back to its weights, in real numbers. -/
module

public import proofs.«01_k».proof.Proof.AttnHost
public import proofs.«01_k».proof.Proof.Max
public import proofs.«01_k».proof.Proof.Gen.AttnRefIdeal.Read
public import Idealize.ShloMosaic.Lib.Pointwise

@[expose] public section

set_option maxRecDepth 16384

noncomputable section

namespace Cert.Proof.Attn

open Idealize.ShloMosaic Cert.AttnRefIdeal Cert.AttnRefIdeal.Gen Cert.AttnRefIdeal.Read

theorem col_eq (j : Fin 1024) : col (hd j) (pl j) = j := Fin.ext (by dsimp only; omega)

/-- The maximum with minus infinity changes nothing. -/
theorem max_low {i : S4x4096.Idx} (w : FVec Ideal S4x4096 .f32) {a : ℝ} (z : w i = (a : EReal)) :
    (maximumf (F := Ideal) (val_main_v47 (F := Ideal)) w : FVec Ideal S4x4096 .f32) i = (a : EReal) := by
  have e : val_main_v47 (F := Ideal) i = (⊥ : EReal) := neg_inf
  show max (val_main_v47 (F := Ideal) i : EReal) (w i : EReal) = (a : EReal)
  rw [e, z]
  exact max_bot_left _

variable {I : Inp} {y0 y1 y9 : Vec Ideal S4096x1024 .f32} {y2 y6 y8 : Vec Ideal S1024x1024 .f32} {y3 y5 : Vec Ideal S1024 .f32}
  {y4 : Vec Ideal S256x1024 .f32} {y7 : Vec Ideal S1024x2048 .f32} (A : Args I y0 y1 y9 y2 y6 y8 y3 y5 y4 y7)
include A

theorem ref_v1 : Is (val_main_v1 (F := Ideal) y0 y1 y2) I.X := by
  intro r q
  pointwise [val_main_v1, val_main_v0, A.x, A.y, A.wout, Inp.X, EReal.coe_add, coe_sum, EReal.coe_mul]

theorem ref_v14 : Is (val_main_v14 (F := Ideal) y4 y5) (fun m i => I.mem m i * rinv (I.mem m) * I.gm i) := by
  intro r q
  pointwise [val_main_v14, val_main_v11, val_main_v10, val_main_v9, val_main_v8, val_main_v6, val_main_v4, val_main_v3, val_main_v2, val_main_cst,
    val_main_v5, val_main_cst_0, val_main_v7, val_main_cst_1, val_main_v13, val_main_v12, A.mem, A.gm, rsqrt_row, EReal.coe_mul]

theorem ref_v15 : Is (val_main_v15 (F := Ideal) y4 y5 y7) I.p.kv := by
  intro r q
  pointwise [val_main_v15, ref_v14 A, A.wkv, Inp.p, coe_sum, EReal.coe_mul]

theorem ref_v23 : Is (val_main_v23 (F := Ideal) y0 y1 y2) (fun r _ => rinv (I.X r)) := by
  intro r q
  pointwise [val_main_v23, val_main_v22, val_main_v20, val_main_v18, val_main_v17, val_main_v16, val_main_cst_2, val_main_v19, val_main_cst_3,
    val_main_v21, val_main_cst_4, ref_v1 A]
  exact rsqrt_row _

theorem ref_v24 : Is (val_main_v24 (F := Ideal) y0 y1 y2) (fun r _ => rinv (I.X r) * (rinv (I.X r) * rinv (I.X r))) := by
  intro r q
  pointwise [val_main_v24, val_main_v22, val_main_v20, val_main_v18, val_main_v17, val_main_v16, val_main_cst_2, val_main_v19, val_main_cst_3,
    val_main_v21, val_main_cst_4, ref_v23 A, ref_v1 A]
  exact rsqrt_row_div _

theorem ref_v26 : Is (val_main_v26 (F := Ideal) y0 y1 y2) (fun r _ => -1 / 2 * (rinv (I.X r) * (rinv (I.X r) * rinv (I.X r)))) := by
  intro r q
  pointwise [val_main_v26, val_main_v25, val_main_cst_5, ref_v24 A, lit_neg_half, EReal.coe_mul]

theorem ref_v28 : Is (val_main_v28 (F := Ideal) y0 y1 y2) (fun r i => I.X r i * rinv (I.X r)) := by
  intro r q
  pointwise [val_main_v28, val_main_v27, ref_v1 A, ref_v23 A, EReal.coe_mul]

theorem ref_v31 : Is (val_main_v31 (F := Ideal) y0 y1 y2 y3) (fun r => xn I.p (I.X r)) := by
  intro r q
  pointwise [val_main_v31, val_main_v30, val_main_v29, ref_v28 A, A.g, xn, EReal.coe_mul]
  rfl

theorem ref_v32 : Is (val_main_v32 (F := Ideal) y0 y1 y2 y3 y6) (fun r => q I.p (I.X r)) := by
  intro r q
  pointwise [val_main_v32, ref_v31 A, A.wq, Attn.q, coe_sum, EReal.coe_mul]
  rfl

theorem ref_v33 (r : Fin 4096) (h : Fin 4) (d : Fin 256) : val_main_v33 (F := Ideal) y0 y1 y2 y3 y6 (ix3 r h d) = ((q I.p (I.X r) (col h d) : ℝ) :
    EReal) := by
  pointwise [val_main_v33, ref_v32 A]
  exact at1 _ (by dsimp only [col, kc, vc]; omega)

theorem ref_v36 (m : Fin 256) (h : Fin 4) (d : Fin 256) : val_main_v36 (F := Ideal) y4 y5 y7 (ix3 m h d) = ((ks I.p h m d : ℝ) : EReal) := by
  pointwise [val_main_v36, val_main_v34, ref_v15 A, ks]
  exact at1 _ (by dsimp only [col, kc, vc]; omega)

theorem ref_v37 (m : Fin 256) (h : Fin 4) (d : Fin 256) : val_main_v37 (F := Ideal) y4 y5 y7 (ix3 m h d) = ((vs I.p h m d : ℝ) : EReal) := by
  pointwise [val_main_v37, val_main_v35, ref_v15 A, vs]
  exact at1 _ (by dsimp only [col, kc, vc]; omega)

theorem ref_v40 (h : Fin 4) (r : Fin 4096) (m : Fin 256) : val_main_v40 (F := Ideal) y0 y1 y2 y3 y4 y5 y6 y7 (ix3 h r m) = ((sc I.p (I.X r) h m :
    ℝ) : EReal) := by
  pointwise [val_main_v40, val_main_v38, val_main_v39, val_main_cst_6, ref_v33 A, ref_v36 A, sc, lit_16th, coe_sum, EReal.coe_mul]

theorem ref_v41 (h : Fin 4) (r : Fin 4096) : val_main_v41 (F := Ideal) y0 y1 y2 y3 y4 y5 y6 y7 (ix2 h r) = ((top I.p (I.X r) h : ℝ) : EReal) := by
  pointwise [val_main_v41, val_main_cst_7, ref_v40 A, neg_inf, fold_max 0, top]

theorem ref_v48 (h : Fin 4) (r : Fin 4096) : val_main_v48 (F := Ideal) y0 y1 y2 y3 y4 y5 y6 y7 (ix2 h r) = ((top I.p (I.X r) h : ℝ) : EReal) := by
  exact max_low _ (ref_v41 A h r)

theorem ref_v61 (h : Fin 4) (r : Fin 4096) (m : Fin 256) : val_main_v61 (F := Ideal) y0 y1 y2 y3 y4 y5 y6 y7 (ix3 h r m) = ((ex I.p (I.X r) h m :
    ℝ) : EReal) := by
  pointwise [val_main_v61, val_main_v60, val_main_v59, val_main_v58, ref_v40 A, ref_v48 A, ex, ← EReal.coe_sub, Ideal.exp_coe]

theorem ref_v63 (h : Fin 4) (r : Fin 4096) (z : Fin 1) : val_main_v63 (F := Ideal) y0 y1 y2 y3 y4 y5 y6 y7 (ix3 h r z) = (((∑ k, ex I.p (I.X r) h
    k) : ℝ) : EReal) := by
  pointwise [val_main_v63, val_main_v62, val_main_cst_15, ref_v61 A, coe_sum]

theorem ref_v65 (h : Fin 4) (r : Fin 4096) (m : Fin 256) : val_main_v65 (F := Ideal) y0 y1 y2 y3 y4 y5 y6 y7 (ix3 h r m) = ((pr I.p (I.X r) h m :
    ℝ) : EReal) := by
  pointwise [val_main_v65, val_main_v64, ref_v61 A, ref_v63 A]
  exact div_real _ _ (ex_pos I.p (I.X r) h).ne'

theorem ref_v68 (h : Fin 4) (r : Fin 4096) (z : Fin 1) : val_main_v68 (F := Ideal) y0 y1 y2 y3 y4 y5 y6 y7 (ix3 h r z) = ((1 / ((∑ k, ex I.p (I.X
    r) h k) * (∑ k, ex I.p (I.X r) h k)) : ℝ) : EReal) := by
  pointwise [val_main_v68, val_main_v67, val_main_cst_16, val_main_v66, ref_v63 A]
  have hz := ex_pos I.p (I.X r) h
  rw [← EReal.coe_one, ← EReal.coe_mul]
  exact div_real _ _ (by positivity)

theorem ref_v69 (h : Fin 4) (d : Fin 256) (r : Fin 4096) : val_main_v69 (F := Ideal) y0 y1 y2 y3 y4 y5 y6 y7 (ix3 h d r) = ((∑ m, pr I.p (I.X r) h
    m * vs I.p h m d : ℝ) : EReal) := by
  pointwise [val_main_v69, ref_v37 A, ref_v65 A, coe_sum, EReal.coe_mul]
  exact Finset.sum_congr rfl fun _ _ => mul_comm _ _

theorem ref_v71 : Is (val_main_v71 (F := Ideal) y0 y1 y2 y3 y4 y5 y6 y7) (fun r => o I.p (I.X r)) := by
  intro r q
  pointwise [val_main_v71, val_main_v70, ref_v69 A]
  show ((∑ m, pr I.p (I.X r) (hd q) m * I.p.kv m (vc (col (hd q) (pl q))) : ℝ) : EReal) = _
  rw [col_eq]
  rfl

theorem ref_v77 : Is (val_main_v77 (F := Ideal) y0 y1 y2 y3 y4 y5 y6 y7 y9) (fun k j => ∑ r, o I.p (I.X r) k * I.t r j) := by
  intro r q
  pointwise [val_main_v77, val_main_v76, val_main_v75, ref_v71 A, A.t, coe_sum, EReal.coe_mul]
  exact Finset.sum_congr rfl fun _ _ => mul_comm _ _

theorem ref_v78 : Is (val_main_v78 (F := Ideal) y8 y9) (fun r => dout I.p (I.t r)) := by
  intro r q
  pointwise [val_main_v78, val_main_v75, A.t, A.wo, dout, coe_sum, EReal.coe_mul]
  rfl

theorem ref_v80 (h : Fin 4) (d : Fin 256) (r : Fin 4096) : val_main_v80 (F := Ideal) y8 y9 (ix3 h d r) = ((dout I.p (I.t r) (col h d) : ℝ) : EReal)
    := by
  pointwise [val_main_v80, val_main_v79, ref_v78 A]
  exact at1 _ (by dsimp only [col, kc, vc]; omega)

theorem ref_v81 (h : Fin 4) (r : Fin 4096) (m : Fin 256) : val_main_v81 (F := Ideal) y4 y5 y7 y8 y9 (ix3 h r m) = ((dp I.p (I.t r) h m : ℝ) :
    EReal) := by
  pointwise [val_main_v81, ref_v80 A, ref_v37 A, dp, coe_sum, EReal.coe_mul]

theorem ref_v82 (h : Fin 4) (d : Fin 256) (m : Fin 256) : val_main_v82 (F := Ideal) y0 y1 y2 y3 y4 y5 y6 y7 y8 y9 (ix3 h d m) = ((∑ r, dout I.p
    (I.t r) (col h d) * pr I.p (I.X r) h m : ℝ) : EReal) := by
  pointwise [val_main_v82, ref_v80 A, ref_v65 A, coe_sum, EReal.coe_mul]

theorem ref_v86 (h : Fin 4) (r : Fin 4096) (m : Fin 256) : val_main_v86 (F := Ideal) y0 y1 y2 y3 y4 y5 y6 y7 y8 y9 (ix3 h r m) = ((dp I.p (I.t r) h
    m * (1 / ((∑ k, ex I.p (I.X r) h k) * (∑ k, ex I.p (I.X r) h k))) * ex I.p (I.X r) h m : ℝ) : EReal) := by
  pointwise [val_main_v86, val_main_v85, val_main_v84, ref_v81 A, ref_v68 A, ref_v61 A, EReal.coe_mul]

theorem ref_v89 (h : Fin 4) (r : Fin 4096) (z : Fin 1) : val_main_v89 (F := Ideal) y0 y1 y2 y3 y4 y5 y6 y7 y8 y9 (ix3 h r z) = ((-∑ m, dp I.p (I.t
    r) h m * (1 / ((∑ k, ex I.p (I.X r) h k) * (∑ k, ex I.p (I.X r) h k))) * ex I.p (I.X r) h m : ℝ) : EReal) := by
  pointwise [val_main_v89, val_main_v88, val_main_v87, val_main_cst_17, ref_v86 A, coe_sum, EReal.coe_neg]

theorem ref_v91 (h : Fin 4) (r : Fin 4096) (m : Fin 256) : val_main_v91 (F := Ideal) y0 y1 y2 y3 y4 y5 y6 y7 y8 y9 (ix3 h r m) = ((dp I.p (I.t r) h
    m / (∑ k, ex I.p (I.X r) h k) : ℝ) : EReal) := by
  pointwise [val_main_v91, val_main_v90, ref_v81 A, ref_v63 A]
  exact div_real _ _ (ex_pos I.p (I.X r) h).ne'

end Cert.Proof.Attn

end
-- ==== Proof.AttnRef.lean ====
/- The cross attention's differentiated reference from the scores back, in real numbers. -/
module

public import proofs.«01_k».proof.Proof.AttnSoft
public import Idealize.ShloMosaic.Lib.Pointwise

@[expose] public section

set_option maxRecDepth 16384

noncomputable section

namespace Cert.Proof.Attn

open Idealize.ShloMosaic Cert.AttnRefIdeal Cert.AttnRefIdeal.Gen Cert.AttnRefIdeal.Read

/-- The gradient of a score, in the differentiated form. -/
theorem ds_eq (p : Weights) (v t : Fin 1024 → ℝ) (h : Fin 4) (m : Fin 256) :
    (dp p t h m / (∑ k, ex p v h k) + -∑ k, dp p t h k * (1 / ((∑ k, ex p v h k) * (∑ k, ex p v h k))) * ex p v h k) * ex p v h m * (1 / 16) = ds p v t h m := by
  have hz := (ex_pos p v h).ne'
  unfold ds pr
  have e : ∀ k, dp p t h k * (ex p v h k / ∑ k, ex p v h k) = dp p t h k * (1 / ((∑ k, ex p v h k) * (∑ k, ex p v h k))) * ex p v h k * ∑ k, ex p v h k :=
    fun k => by field_simp
  simp only [e, ← Finset.sum_mul]
  field_simp
  ring

variable {I : Inp} {y0 y1 y9 : Vec Ideal S4096x1024 .f32} {y2 y6 y8 : Vec Ideal S1024x1024 .f32} {y3 y5 : Vec Ideal S1024 .f32}
  {y4 : Vec Ideal S256x1024 .f32} {y7 : Vec Ideal S1024x2048 .f32} (A : Args I y0 y1 y9 y2 y6 y8 y3 y5 y4 y7)
include A

theorem ref_v92 (h : Fin 4) (r : Fin 4096) : val_main_v92 (F := Ideal) y0 y1 y2 y3 y4 y5 y6 y7 y8 y9 (ix2 h r) = ((-∑ m, dp I.p (I.t r) h m * (1 /
    ((∑ k, ex I.p (I.X r) h k) * (∑ k, ex I.p (I.X r) h k))) * ex I.p (I.X r) h m : ℝ) : EReal) := by
  pointwise [val_main_v92, val_main_cst_18, ref_v89 A]
  simp only [Finset.univ_unique, Finset.sum_singleton]

theorem ref_v97 (h : Fin 4) (r : Fin 4096) (m : Fin 256) : val_main_v97 (F := Ideal) y0 y1 y2 y3 y4 y5 y6 y7 y8 y9 (ix3 h r m) = ((ds I.p (I.X r)
    (I.t r) h m : ℝ) : EReal) := by
  pointwise [val_main_v97, val_main_v95, val_main_v94, val_main_v93, val_main_v96, val_main_cst_19, ref_v91 A, ref_v92 A, ref_v61 A, lit_16th]
  rw [← ds_eq]
  simp only [EReal.coe_mul, EReal.coe_add]

theorem ref_v98 (h : Fin 4) (m : Fin 256) (d : Fin 256) : val_main_v98 (F := Ideal) y0 y1 y2 y3 y4 y5 y6 y7 y8 y9 (ix3 h m d) = ((∑ r, ds I.p (I.X
    r) (I.t r) h m * q I.p (I.X r) (col h d) : ℝ) : EReal) := by
  pointwise [val_main_v98, ref_v97 A, ref_v33 A, coe_sum, EReal.coe_mul]

theorem ref_v100 (h : Fin 4) (r : Fin 4096) (d : Fin 256) : val_main_v100 (F := Ideal) y0 y1 y2 y3 y4 y5 y6 y7 y8 y9 (ix3 h r d) = ((∑ m, ds I.p
    (I.X r) (I.t r) h m * ks I.p h m d : ℝ) : EReal) := by
  pointwise [val_main_v100, ref_v97 A, ref_v36 A, coe_sum, EReal.coe_mul]

theorem ref_v102 : Is (val_main_v102 (F := Ideal) y0 y1 y2 y3 y4 y5 y6 y7 y8 y9) (fun m j => ∑ r, dout I.p (I.t r) j * pr I.p (I.X r) (hd j) m) := by
  intro r q
  pointwise [val_main_v102, val_main_v83, ref_v82 A]
  show ((∑ s, dout I.p (I.t s) (col (hd q) (pl q)) * pr I.p (I.X s) (hd q) r : ℝ) : EReal) = _
  rw [col_eq]

theorem ref_v103 : Is (val_main_v103 (F := Ideal) y0 y1 y2 y3 y4 y5 y6 y7 y8 y9) (fun m j => ∑ r, ds I.p (I.X r) (I.t r) (hd j) m * q I.p (I.X r)
    j) := by
  intro r q
  pointwise [val_main_v103, val_main_v99, ref_v98 A]
  show ((∑ s, ds I.p (I.X s) (I.t s) (hd q) r * Attn.q I.p (I.X s) (col (hd q) (pl q)) : ℝ) : EReal) = _
  rw [col_eq]

theorem ref_v104 : Is (val_main_v104 (F := Ideal) y0 y1 y2 y3 y4 y5 y6 y7 y8 y9) (fun m k => ∑ r, dkv I.p (I.X r) (I.t r) m k) := by
  intro r q
  pointwise [val_main_v104, ref_v103 A, ref_v102 A]
  by_cases h : q.val < 1024
  · rw [dif_pos h]
    refine congrArg _ (Finset.sum_congr rfl fun s _ => ?_)
    rw [dkv, dif_pos h]
  · rw [dif_neg h]
    refine congrArg _ (Finset.sum_congr rfl fun s _ => ?_)
    rw [dkv, dif_neg h]
    exact mul_comm _ _

theorem ref_v105 : Is (val_main_v105 (F := Ideal) y0 y1 y2 y3 y4 y5 y6 y7 y8 y9) (fun r => dq I.p (I.X r) (I.t r)) := by
  intro r q
  pointwise [val_main_v105, val_main_v101, ref_v100 A]
  show ((∑ m, ds I.p (I.X r) (I.t r) (hd q) m * I.p.kv m (kc (col (hd q) (pl q))) : ℝ) : EReal) = _
  rw [col_eq]
  rfl

theorem ref_v107 : Is (val_main_v107 (F := Ideal) y0 y1 y2 y3 y4 y5 y6 y7 y8 y9) (fun k j => ∑ r, xn I.p (I.X r) k * dq I.p (I.X r) (I.t r) j) := by
  intro r q
  pointwise [val_main_v107, val_main_v106, ref_v105 A, ref_v31 A, coe_sum, EReal.coe_mul]
  exact Finset.sum_congr rfl fun _ _ => mul_comm _ _

theorem ref_v108 : Is (val_main_v108 (F := Ideal) y0 y1 y2 y3 y4 y5 y6 y7 y8 y9) (fun r => dxn I.p (I.X r) (I.t r)) := by
  intro r q
  pointwise [val_main_v108, ref_v105 A, A.wq, dxn, coe_sum, EReal.coe_mul]
  rfl

theorem ref_v132 : Is (val_main_v132 (F := Ideal) y0 y1 y2 y3 y4 y5 y6 y7 y8 y9) (fun _ j => ∑ r, dg I.p (I.X r) (I.t r) j) := by
  intro r q
  pointwise [val_main_v132, val_main_v114, val_main_v111, val_main_v110, val_main_v109, val_main_cst_20, val_main_cst_21, ref_v28 A, ref_v108 A,
    dg, coe_sum, EReal.coe_mul]
  simp only [Finset.univ_unique, Finset.sum_singleton]
  exact Finset.sum_congr rfl fun _ _ => mul_comm _ _

theorem ref_v113 : Is (val_main_v113 (F := Ideal) y0 y1 y2 y3 y4 y5 y6 y7 y8 y9) (fun r j => dxn I.p (I.X r) (I.t r) j * I.p.g j) := by
  intro r q
  pointwise [val_main_v113, val_main_v112, val_main_v29, ref_v108 A, A.g, EReal.coe_mul]
  rfl

theorem ref_v123 : Is (val_main_v123 (F := Ideal) y0 y1 y2 y3 y4 y5 y6 y7 y8 y9) (fun r _ => (∑ j, I.X r j * (dxn I.p (I.X r) (I.t r) j * I.p.g j))
    * (-1 / 2 * (rinv (I.X r) * (rinv (I.X r) * rinv (I.X r)))) / 1024) := by
  intro r q
  pointwise [val_main_v123, val_main_v121, val_main_v117, val_main_v116, val_main_v115, val_main_cst_22, val_main_v122, val_main_cst_23, ref_v1 A,
    ref_v113 A, ref_v26 A]
  simp only [← EReal.coe_mul, ← coe_sum, lit_1024, div_1024]

theorem ref_v129 : Is (val_main_v129 (F := Ideal) y0 y1 y2 y3 y4 y5 y6 y7 y8 y9) (fun r => dx1 I.p (I.X r) (I.t r)) := by
  intro r q
  pointwise [val_main_v129, val_main_v127, val_main_v120, val_main_v74, val_main_v119, val_main_v118, val_main_v126, val_main_v125, val_main_v124,
    val_main_cst_24, val_main_v128, ref_v113 A, ref_v23 A, ref_v1 A, ref_v123 A, A.t]
  rw [dx1, ← rmsback_eq]
  simp only [Finset.univ_unique, Finset.sum_singleton]
  simp only [EReal.coe_add, EReal.coe_mul, add_assoc]

theorem ref_v131 : Is (val_main_v131 (F := Ideal) y0 y1 y2 y3 y4 y5 y6 y7 y8 y9) (fun k j => ∑ r, I.y r k * dx1 I.p (I.X r) (I.t r) j) := by
  intro r q
  pointwise [val_main_v131, val_main_v130, ref_v129 A, A.y, coe_sum, EReal.coe_mul]
  exact Finset.sum_congr rfl fun _ _ => mul_comm _ _

theorem ref_v133 : Is (val_main_v133 (F := Ideal) y0 y1 y2 y3 y4 y5 y6 y7 y9) (fun k j => ∑ r, o I.p (I.X r) k * I.t r j) := by
  intro r q
  pointwise [val_main_v133, ref_v77 A]

theorem ref_v134 : Is (val_main_v134 (F := Ideal) y0 y1 y2 y3 y4 y5 y6 y7 y8 y9) (fun k j => ∑ r, xn I.p (I.X r) k * dq I.p (I.X r) (I.t r) j) := by
  intro r q
  pointwise [val_main_v134, ref_v107 A]

theorem ref_v135 : Is (val_main_v135 (F := Ideal) y0 y1 y2 y3 y4 y5 y6 y7 y8 y9) (fun k j => ∑ r, I.y r k * dx1 I.p (I.X r) (I.t r) j) := by
  intro r q
  pointwise [val_main_v135, ref_v131 A]

end Cert.Proof.Attn

end
-- ==== Proof.Attn.lean ====
/- The cross attention: the kernel's results are those of the differentiated reference. -/
module

public import proofs.«01_k».proof.Defs
public import proofs.«01_k».proof.Proof.AttnAcc
public import proofs.«01_k».proof.Proof.AttnRef
public import proofs.«01_k».proof.Proof.Finite
public import proofs.«01_k».proof.Proof.Gen.Attn.Frame
public import proofs.«01_k».proof.Proof.Gen.AttnRefIdeal.Run

@[expose] public section

set_option maxRecDepth 16384

noncomputable section

namespace Cert.Proof.Attn

open Idealize.ShloMosaic Idealize.SL.Sem

/-- The precondition's shape relations. -/
theorem pre : Cert.Pre_attn_finite.Facts where
  bcast_S_S4096x1024 := by decide
  bcast_S_S1024x1024 := by decide
  bcast_S_S1024 := by decide
  bcast_S_S256x1024 := by decide
  bcast_S_S1024x2048 := by decide

/-- Finite arguments are those of some real numbers. -/
theorem args_of {m} (h : Cert.Pre_AttnIdeal_attn_finite (hPre_attn_finite := pre) m) (c : Dev Cert.AttnIdeal.nD) :
    ∃ I, Args I (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg9))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg6))
      (m ((c.tc : Thread Cert.AttnIdeal.nD Cert.AttnIdeal.τ).loc Cert.AttnIdeal.main_arg8))
      (m ((c.tc : Thread Cert.AttnIdeal.nD Cert.AttnIdeal.τ).loc Cert.AttnIdeal.main_arg3))
      (m ((c.tc : Thread Cert.AttnIdeal.nD Cert.AttnIdeal.τ).loc Cert.AttnIdeal.main_arg5))
      (m ((c.tc : Thread Cert.AttnIdeal.nD Cert.AttnIdeal.τ).loc Cert.AttnIdeal.main_arg4))
      (m ((c.tc : Thread Cert.AttnIdeal.nD Cert.AttnIdeal.τ).loc Cert.AttnIdeal.main_arg7)) := by
  obtain ⟨h0, h1, h2, h3, h4, h5, h6, h7, h8, h9⟩ := h c
  obtain ⟨x, hx⟩ := mat_of (finite_of h0)
  obtain ⟨y, hy⟩ := mat_of (finite_of h1)
  obtain ⟨w, hw⟩ := mat_of (finite_of h2)
  obtain ⟨g, hg⟩ := vec_of (finite_of h3)
  obtain ⟨e, he⟩ := mat_of (finite_of h4)
  obtain ⟨f, hf⟩ := vec_of (finite_of h5)
  obtain ⟨a, ha⟩ := mat_of (finite_of h6)
  obtain ⟨b, hb⟩ := mat_of (finite_of h7)
  obtain ⟨o, ho⟩ := mat_of (finite_of h8)
  obtain ⟨t, ht⟩ := mat_of (finite_of h9)
  exact ⟨⟨x, y, w, g, e, f, a, b, o, t⟩, hx, hy, hw, hg, he, hf, ha, hb, ho, ht⟩

/-- From equal finite arguments the kernel and the reference leave equal results. -/
theorem algebraic : Cert.algebraic_AttnIdeal_AttnRefIdeal_pre_attn_finite (hAttnIdeal := Cert.AttnIdeal.Gen.facts)
    (hAttnRefIdeal := Cert.AttnRefIdeal.Gen.facts) (hPre_attn_finite := pre) := by
  intro m g m' g' hp hag
  refine ⟨_, _, _, _, _, _, Cert.AttnIdeal.Value.run_blocks m g, (θ_run _ _ _).mono (fun r h c => ?_) (Cert.AttnRefIdeal.Value.run m' g')⟩
  obtain ⟨I, A⟩ := args_of hp c
  obtain ⟨a0, a1, a2, a3, a4, a5, a6, a7, a8, a9⟩ := hag c
  have B := A
  rw [← a0, ← a1, ← a2, ← a3, ← a4, ← a5, ← a6, ← a7, ← a8, ← a9] at B
  obtain ⟨r0, r1, r2, r3, r4, r5, hk⟩ := h c
  refine ⟨r0.trans ((Cert.AttnRefIdeal.Read.val_main_v129_eq _ _).trans (same (ref_v129 B) (final10 m c A))),
    r1.trans ((Cert.AttnRefIdeal.Read.val_main_v104_eq _ _).trans (same (ref_v104 B) (final11 m c A))),
    r2.trans ((Cert.AttnRefIdeal.Read.val_main_v132_eq _ _).trans (same (ref_v132 B) (final12 m c A))),
    r3.trans ((Cert.AttnRefIdeal.Read.val_main_v133_eq _ _).trans (same (ref_v133 B) (final13 m c A))),
    r4.trans ((Cert.AttnRefIdeal.Read.val_main_v134_eq _ _).trans (same (ref_v134 B) (final14 m c A))),
    r5.trans ((Cert.AttnRefIdeal.Read.val_main_v135_eq _ _).trans (same (ref_v135 B) (final15 m c A))), hk⟩

end Cert.Proof.Attn

end
-- ==== Proof.AttnFwdRun.lean ====
/- The attention's forward kernel: what its body does at a grid point, whatever the float values are. The first point
   prepares the keys and values, and every point, the first too, then runs the lines which read them. -/
module

public import proofs.«01_k».proof.Proof.Gen.AttnFwdIdeal.Skeleton
public import proofs.«01_k».proof.Proof.Gen.AttnFwdIdeal.Frame
public import Idealize.ShloMosaic.Lib.Pipeline.TableIdle
public import Idealize.ShloMosaic.Lib.Ring
public import Idealize.ShloMosaic.Lib.WordCmp
public import Idealize.ShloMosaic.Lib.Claim

@[expose] public section

set_option maxRecDepth 16384

noncomputable section

namespace Cert.Proof.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFwdIdeal Cert.AttnFwdIdeal.Gen

variable {F : FTy → Type} [FloatOps F]

local notation "𝕄" => MT nD τ sig Unit (Elt F) ℕ (UR sig nD τ) ℕ

/-- The first grid point is the one which prepares the keys and values. -/
theorem cond_iff : ∀ t : Fin cfg0.N, k0_cond1 (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 0)

section body

variable (c : Dev nD) (i : grid0.Coords)
  {arg1 : Memref sig .tc .vmem S512x1024 .f32} (harg1 : arg1.IsWhole)
  {arg2 : Memref sig .tc .vmem S256x1024 .f32} (harg2 : arg2.IsWhole)
  {arg3 : Memref sig .tc .vmem S1x1024 .f32} (harg3 : arg3.IsWhole)
  {arg4 : Memref sig .tc .vmem S1x1024 .f32} (harg4 : arg4.IsWhole)
  {arg5 : Memref sig .tc .vmem S1024x1024 .bf16} (harg5 : arg5.IsWhole)
  {arg6 : Memref sig .tc .vmem S4x1024x512 .bf16} (harg6 : arg6.IsWhole)
  {arg7 : Memref sig .tc .vmem S1024x1024 .bf16} (harg7 : arg7.IsWhole)
  {arg8 : Memref sig .tc .vmem S512x1024 .f32} (harg8 : arg8.IsWhole)
  {arg9 : Memref sig .tc .vmem S512x1024 .bf16} (harg9 : arg9.IsWhole)
  {arg10 : Memref sig .tc .vmem S512x1024 .bf16} (harg10 : arg10.IsWhole)
  {arg11 : Memref sig .tc .vmem S512x1024 .f32} (harg11 : arg11.IsWhole)
  {arg12 : Memref sig .tc .vmem S256x1024 .bf16} (harg12 : arg12.IsWhole)
  {arg13 : Memref sig .tc .vmem S256x2048 .bf16} (harg13 : arg13.IsWhole)

/-- The lines which the first point runs before the others: the normed memory, its keys and its values. -/
def prep : Prog (TpuEff nD τ sig (Elt F) Λ₀ .tc) PUnit := do
  let ⟨v138, v153⟩ : Σ' (v138 : FVec F S256x1024 .bf16), FVec F S256x512 .bf16 ← k0_part1 i arg1 harg1 arg2 harg2 arg3 harg3 arg4 harg4 arg5 harg5 arg6 harg6 arg7 harg7 arg8 harg8 arg9 harg9 arg10 harg10 arg11 harg11 arg12 harg12 arg13 harg13
  let v154 : Vec F S256x512 .bf16 ← Prog.lift (.load arg13 (Rect.unit (s := S256x2048) ![0, 1024] S256x512.size inb_S256x2048_S256x512_0_1024).toLoadRect (View.loadsAt_vmem h_S256x512))
  Prog.lift (.store arg13 (Rect.unit (s := S256x2048) ![0, 1024] S256x512.size inb_S256x2048_S256x512_0_1024) v153 Finset.univ (View.stores_vmem h_S256x512 (harg13.storeExact_slice rfl _ packedbf16_S256x2048_S256x512_0_1024) (fun _ => rfl)) (.inl rfl))
  let v155 : Vec F S1x1024x512 .bf16 ← Prog.lift (.load arg6 (Rect.unit (s := S4x1024x512) ![3, 0, 0] S1x1024x512.size inb_S4x1024x512_S1x1024x512_3_0_0).toLoadRect (View.loadsAt_vmem h_S1x1024x512))
  let v159 : Vec F S256x512 .bf16 ← Prog.lift (.load arg13 (Rect.unit (s := S256x2048) ![0, 1536] S256x512.size inb_S256x2048_S256x512_0_1536).toLoadRect (View.loadsAt_vmem h_S256x512))
  Prog.lift (.store arg13 (Rect.unit (s := S256x2048) ![0, 1536] S256x512.size inb_S256x2048_S256x512_0_1536) (k0_pay8 v138 v155) Finset.univ (View.stores_vmem h_S256x512 (harg13.storeExact_slice rfl _ packedbf16_S256x2048_S256x512_0_1536) (fun _ => rfl)) (.inl rfl))
  pure ⟨⟩

/-- A point whose condition holds runs the preparation, then what a point does whose condition does not hold. -/
theorem body_first {i i' : grid0.Coords} (h : k0_cond1 i = 1#1) (h' : ¬k0_cond1 i' = 1#1) :
    cc0_attn_fwd (F := F) i arg1 harg1 arg2 harg2 arg3 harg3 arg4 harg4 arg5 harg5 arg6 harg6 arg7 harg7 arg8 harg8 arg9 harg9 arg10 harg10 arg11 harg11 arg12 harg12 arg13 harg13
      = (prep i harg1 harg2 harg3 harg4 harg5 harg6 harg7 harg8 harg9 harg10 harg11 harg12 harg13 >>= fun _ => cc0_attn_fwd i' arg1 harg1 arg2 harg2 arg3 harg3 arg4 harg4 arg5 harg5 arg6 harg6 arg7 harg7 arg8 harg8 arg9 harg9 arg10 harg10 arg11 harg11 arg12 harg12 arg13 harg13) := by
  simp only [cc0_attn_fwd_eq_skeleton]
  unfold cc0_attn_fwd_skel
  simp only [k0_part2_eq_skeleton, k0_part3_eq_skeleton, k0_part4_eq_skeleton]
  unfold k0_part2_skel
  rw [dif_pos h, dif_neg h']
  unfold prep
  simp only [bind_assoc, pure_bind]
  rfl

set_option maxHeartbeats 1000000 in
/-- The preparation, from buffers at any contents: the pieces it leaves of the normed memory and of its keys and values. -/
def runPrep (x1 : Vec F S256x1024 .f32) (x3 : Vec F S1x1024 .f32) (x5 : Vec F S4x1024x512 .bf16) :
    Σ' (L11 : List (View.Piece (Elt F) S256x1024 .bf16)), { L12 : List (View.Piece (Elt F) S256x2048 .bf16) //
      ∀ (E : Set ℕ) (K : PUnit → sProp 𝕄),
        iprop(owns (c : Thread nD τ) arg2 fullShare x1 ∗ owns (c : Thread nD τ) arg4 fullShare x3 ∗ owns (c : Thread nD τ) arg6 fullShare x5 ∗ (∃ d, owns (c : Thread nD τ) arg12 fullShare d) ∗ (∃ d, owns (c : Thread nD τ) arg13 fullShare d)
            ∗ (iprop(owns (c : Thread nD τ) arg2 fullShare x1 ∗ owns (c : Thread nD τ) arg4 fullShare x3 ∗ owns (c : Thread nD τ) arg6 fullShare x5 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (prep i harg1 harg2 harg3 harg4 harg5 harg6 harg7 harg8 harg9 harg10 harg11 harg12 harg13) K } := by
  refine ⟨?_, ?_, fun E K => ?run⟩
  case run =>
    unfold prep
    simp only [k0_part1_eq_skeleton]
    unfold owns
    iintro ⟨⟨%f1, %hf1, H1⟩, ⟨%f3, %hf3, H3⟩, ⟨%f5, %hf5, H5⟩, ⟨%d11, %f11, -, H11⟩, ⟨%d12, %f12, -, H12⟩, Hk⟩
    obtain rfl := harg2.eq_unread hf1; obtain rfl := harg4.eq_unread hf3; obtain rfl := harg6.eq_unread hf5
    sl_exec
    sl_step
    iapply Hk
    isplitl [H1]
    · iexists _; isplitr; · ipureintro; exact harg2.read_unread _
      iexact H1
    isplitl [H3]
    · iexists _; isplitr; · ipureintro; exact harg4.read_unread _
      iexact H3
    isplitl [H5]
    · iexists _; isplitr; · ipureintro; exact harg6.read_unread _
      iexact H5
    isplitl [H11]; · iexists _; iexact H11
    iexists _; iexact H12

set_option maxHeartbeats 1000000 in
/-- The lines every point runs, over keys and values already there: the pieces they leave of the four row results. -/
def runRows (hc : ¬k0_cond1 i = 1#1) (x0 : Vec F S512x1024 .f32) (x2 : Vec F S1x1024 .f32) (x4 : Vec F S1024x1024 .bf16) (x6 : Vec F S1024x1024 .bf16) (x12 : Vec F S256x2048 .bf16) :
    Σ' (L7 : List (View.Piece (Elt F) S512x1024 .f32)), Σ' (L8 : List (View.Piece (Elt F) S512x1024 .bf16)), Σ' (L9 : List (View.Piece (Elt F) S512x1024 .bf16)), { L10 : List (View.Piece (Elt F) S512x1024 .f32) //
      ∀ (E : Set ℕ) (K : PUnit → sProp 𝕄),
        iprop(owns (c : Thread nD τ) arg1 fullShare x0 ∗ owns (c : Thread nD τ) arg3 fullShare x2 ∗ owns (c : Thread nD τ) arg5 fullShare x4 ∗ owns (c : Thread nD τ) arg7 fullShare x6 ∗ owns (c : Thread nD τ) arg13 fullShare x12 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg3 fullShare x2 ∗ owns (c : Thread nD τ) arg5 fullShare x4 ∗ owns (c : Thread nD τ) arg7 fullShare x6 ∗ owns (c : Thread nD τ) arg13 fullShare x12 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_attn_fwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_fwd_eq_skeleton]; unfold cc0_attn_fwd_skel
    simp only [k0_part2_eq_skeleton, k0_part3_eq_skeleton, k0_part4_eq_skeleton]
    unfold owns
    iintro ⟨⟨%f0, %hf0, H0⟩, ⟨%f2, %hf2, H2⟩, ⟨%f4, %hf4, H4⟩, ⟨%f6, %hf6, H6⟩, ⟨%f12, %hf12, H12⟩, ⟨%d7, %f7, -, H7⟩, ⟨%d8, %f8, -, H8⟩, ⟨%d9, %f9, -, H9⟩, ⟨%d10, %f10, -, H10⟩, Hk⟩
    obtain rfl := harg1.eq_unread hf0; obtain rfl := harg3.eq_unread hf2; obtain rfl := harg5.eq_unread hf4; obtain rfl := harg7.eq_unread hf6; obtain rfl := harg13.eq_unread hf12
    sl_exec (disch := first | sl_exact hc)
    sl_step
    iapply Hk
    isplitl [H0]
    · iexists _; isplitr; · ipureintro; exact harg1.read_unread _
      iexact H0
    isplitl [H2]
    · iexists _; isplitr; · ipureintro; exact harg3.read_unread _
      iexact H2
    isplitl [H4]
    · iexists _; isplitr; · ipureintro; exact harg5.read_unread _
      iexact H4
    isplitl [H6]
    · iexists _; isplitr; · ipureintro; exact harg7.read_unread _
      iexact H6
    isplitl [H12]
    · iexists _; isplitr; · ipureintro; exact harg13.read_unread _
      iexact H12
    isplitl [H7]; · iexists _; iexact H7
    isplitl [H8]; · iexists _; iexact H8
    isplitl [H9]; · iexists _; iexact H9
    iexists _; iexact H10

end body

end Cert.Proof.AttnFwd

end
-- ==== Proof.AttnFwdFrame.lean ====
/- The attention's forward kernel: the run of the whole program. What the first point prepared stays in its two buffers
   until the last point writes them back. -/
module

public import proofs.«01_k».proof.Proof.AttnFwdRun

@[expose] public section

set_option maxRecDepth 16384

noncomputable section

namespace Cert.Proof.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnFwdIdeal Cert.AttnFwdIdeal.Gen

variable {F : FTy → Type} [FloatOps F]

local notation "𝕄" => MT nD τ sig Unit (Elt F) ℕ (UR sig nD τ) ℕ

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x1024x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S256x2048 .bf16 := win0_12.stage (cfg0.slots t 12)
abbrev hs12 (t : Fin cfg0.N) : (ms12 t).IsWhole := hstage0_12 ((cfg0.slots t 12).cast nbuf0_12)

/-- A point whose condition does not hold. -/
abbrev later : grid0.Coords := grid0.coords t0_1

theorem later_not : ¬k0_cond1 later = 1#1 := fun h => absurd ((cond_iff t0_1).mp h) (by decide)

variable (m : (ℓ : Loc nD τ sig) → Buf (Elt F) ℓ) (ρ : Dev nD → PrngReg)

section data

variable (c : Dev nD) (t : Fin cfg0.N)

/-- The first point's preparation. -/
abbrev prepared := runPrep (F := F) c (grid0.coords t) (hs0 t) (hs1 t) (hs2 t) (hs3 t) (hs4 t) (hs5 t) (hs6 t) (hs7 t) (hs8 t) (hs9 t) (hs10 t) (hs11 t) (hs12 t) (iblk m c 1 t) (iblk m c 3 t) (iblk m c 5 t)

abbrev vo7 : View sig .tc .vmem S512x1024 .f32 := (Memref.whole cc0_stg7_0 : Memref sig .tc .vmem S512x1024 .f32).view
abbrev vo8 : View sig .tc .vmem S512x1024 .bf16 := (Memref.whole cc0_stg8_0 : Memref sig .tc .vmem S512x1024 .bf16).view
abbrev vo9 : View sig .tc .vmem S512x1024 .bf16 := (Memref.whole cc0_stg9_0 : Memref sig .tc .vmem S512x1024 .bf16).view
abbrev vo10 : View sig .tc .vmem S512x1024 .f32 := (Memref.whole cc0_stg10_0 : Memref sig .tc .vmem S512x1024 .f32).view
abbrev vo11 : View sig .tc .vmem S256x1024 .bf16 := (Memref.whole cc0_stg11_0 : Memref sig .tc .vmem S256x1024 .bf16).view
abbrev vo12 : View sig .tc .vmem S256x2048 .bf16 := (Memref.whole cc0_stg12_0 : Memref sig .tc .vmem S256x2048 .bf16).view

/-- The normed memory. -/
def memn : Vec F S256x1024 .bf16 := vo11.read (Elt F) (vo11.writes (Elt F) vo11.junk (prepared m c t0_0).1)

/-- The keys, then the values, of the memory. -/
def kvs : Vec F S256x2048 .bf16 := vo12.read (Elt F) (vo12.writes (Elt F) vo12.junk (prepared m c t0_0).2.1)

/-- A point's rows. -/
abbrev rows := runRows (F := F) c later (hs0 t) (hs1 t) (hs2 t) (hs3 t) (hs4 t) (hs5 t) (hs6 t) (hs7 t) (hs8 t) (hs9 t) (hs10 t) (hs11 t) (hs12 t) later_not (iblk m c 0 t) (iblk m c 2 t) (iblk m c 4 t) (iblk m c 6 t) (kvs m c)

def row7 : Vec F S512x1024 .f32 := vo7.read (Elt F) (vo7.writes (Elt F) vo7.junk (rows m c t).1)
def row8 : Vec F S512x1024 .bf16 := vo8.read (Elt F) (vo8.writes (Elt F) vo8.junk (rows m c t).2.1)
def row9 : Vec F S512x1024 .bf16 := vo9.read (Elt F) (vo9.writes (Elt F) vo9.junk (rows m c t).2.2.1)
def row10 : Vec F S512x1024 .f32 := vo10.read (Elt F) (vo10.writes (Elt F) vo10.junk (rows m c t).2.2.2.1)

theorem cover11 (y : S256x1024.Idx) : ∃ pc ∈ (prepared m c t).1, y ∈ pc.1.set :=
  View.cover_of_tiledL (prepared m c t).1 S256x1024.size (by sl_kernel_rfl) y
theorem cover12 (y : S256x2048.Idx) : ∃ pc ∈ (prepared m c t).2.1, y ∈ pc.1.set :=
  View.cover_of_tiledL (prepared m c t).2.1 S256x512.size (by sl_kernel_rfl) y
theorem cover7 (y : S512x1024.Idx) : ∃ pc ∈ (rows m c t).1, y ∈ pc.1.set :=
  View.cover_of_tiledL (rows m c t).1 S512x1024.size (by sl_kernel_rfl) y
theorem cover8 (y : S512x1024.Idx) : ∃ pc ∈ (rows m c t).2.1, y ∈ pc.1.set :=
  View.cover_of_tiledL (rows m c t).2.1 S512x256.size (by sl_kernel_rfl) y
theorem cover9 (y : S512x1024.Idx) : ∃ pc ∈ (rows m c t).2.2.1, y ∈ pc.1.set :=
  View.cover_of_tiledL (rows m c t).2.2.1 S512x1024.size (by sl_kernel_rfl) y
theorem cover10 (y : S512x1024.Idx) : ∃ pc ∈ (rows m c t).2.2.2.1, y ∈ pc.1.set :=
  View.cover_of_tiledL (rows m c t).2.2.2.1 S512x256.size (by sl_kernel_rfl) y

theorem memn_of (h : t.val = 0) : memn m c = vo11.read (Elt F) (vo11.writes (Elt F) vo11.junk (prepared m c t).1) := by
  obtain rfl : t = t0_0 := Fin.ext h
  rfl
theorem kvs_of (h : t.val = 0) : kvs m c = vo12.read (Elt F) (vo12.writes (Elt F) vo12.junk (prepared m c t).2.1) := by
  obtain rfl : t = t0_0 := Fin.ext h
  rfl

end data

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => row7 m c t
    | ⟨8, _⟩ => row8 m c t
    | ⟨9, _⟩ => row9 m c t
    | ⟨10, _⟩ => row10 m c t
    | ⟨11, _⟩ => memn m c
    | ⟨12, _⟩ => kvs m c
    | ⟨_ + 13, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem phi_eq (c : Dev nD) (t : Fin (cfg0.N + 1)) : (dats m 0 c).Φ t = Pipeline.ΦA spec0 c := by
  dsimp only [dats]

section windows

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = row7 m c t := by dsimp only [dats]
theorem after8 : (dats m 0 c).after 8 t = row8 m c t := by dsimp only [dats]
theorem after9 : (dats m 0 c).after 9 t = row9 m c t := by dsimp only [dats]
theorem after10 : (dats m 0 c).after 10 t = row10 m c t := by dsimp only [dats]
theorem after11 : (dats m 0 c).after 11 t = memn m c := by dsimp only [dats]
theorem after12 : (dats m 0 c).after 12 t = kvs m c := by dsimp only [dats]
theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d

/-- After the first point a buffer the first point filled is not empty again before the end. -/
theorem kept11 : ∀ t : Fin cfg0.N, t.val ≠ 0 → cfg0.fresh 11 t.val = false :=
  (by decide +kernel : ∀ t : Fin grid0.N, t.val ≠ 0 → cfg0.fresh 11 t.val = false)
theorem kept12 : ∀ t : Fin cfg0.N, t.val ≠ 0 → cfg0.fresh 12 t.val = false :=
  (by decide +kernel : ∀ t : Fin grid0.N, t.val ≠ 0 → cfg0.fresh 12 t.val = false)

theorem before11 (h : t.val ≠ 0) (d) : (dats m 0 c).before 11 t d = memn m c :=
  ((dats m 0 c).before_out_traj 11 rfl (fun _ _ => rfl) (fun t _ _ _ => (after11 m c t).trans (after11 m c _).symm) _ t rfl d).trans
    ((if_neg (by rw [kept11 t h]; exact Bool.false_ne_true)).trans (after11 m c _))
theorem before12 (h : t.val ≠ 0) (d) : (dats m 0 c).before 12 t d = kvs m c :=
  ((dats m 0 c).before_out_traj 12 rfl (fun _ _ => rfl) (fun t _ _ _ => (after12 m c t).trans (after12 m c _).symm) _ t rfl d).trans
    ((if_neg (by rw [kept12 t h]; exact Bool.false_ne_true)).trans (after12 m c _))

end windows

/-- A buffer that a point leaves at the stated contents meets what is asked of it, also where the point does not store
    into it, as long as it then found those contents. -/
theorem leave (c : Dev nD) (w : Fin cfg0.W) (t : Fin cfg0.N)
    (h : cfg0.idle w (cfg0.grid.coords t) = true → ∀ d, (dats m 0 c).before w t d = (dats m 0 c).after w t) :
    (owns (c : Thread nD τ) ((cfg0.win w).stage (cfg0.slots t w)) fullShare ((dats m 0 c).after w t) : sProp 𝕄) ⊢ (dats m 0 c).leavesExact w t := by
  cases hi : cfg0.idle w (cfg0.grid.coords t)
  · unfold Dat.leavesExact
    rw [hi]
  · cases hf : (cfg0.win w).flush t
    · rw [(dats m 0 c).leavesExact_idle w t hi hf]
      iintro H
      iexists ((dats m 0 c).after w t)
      rw [h hi]
      iexact H
    · unfold Dat.leavesExact
      rw [hi, hf]

/-- What a point is given, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

/-- A point's rows, from what it found in its other buffers. -/
theorem sound_rows (c : Dev nD) (t : Fin cfg0.N) (P : sProp 𝕄) :
    iprop(P ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
      ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d)
      ∗ owns (c : Thread nD τ) (ms11 t) fullShare (memn m c) ∗ owns (c : Thread nD τ) (ms12 t) fullShare (kvs m c))
    ⊢ wp frame (wpE (defs₀ (F := F)) Variants.none c none) Set.univ (cc0_attn_fwd later (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t)) (fun _ =>
      iprop(P ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
        ∗ owns (c : Thread nD τ) (ms7 t) fullShare (row7 m c t) ∗ owns (c : Thread nD τ) (ms8 t) fullShare (row8 m c t) ∗ owns (c : Thread nD τ) (ms9 t) fullShare (row9 m c t) ∗ owns (c : Thread nD τ) (ms10 t) fullShare (row10 m c t)
        ∗ owns (c : Thread nD τ) (ms11 t) fullShare (memn m c) ∗ owns (c : Thread nD τ) (ms12 t) fullShare (kvs m c))) := by
  unfold row7 row8 row9 row10
  iintro ⟨HΦ, H0, H1, H2, H3, H4, H5, H6, H7, H8, H9, H10, H11, H12⟩
  iapply ((rows m c t).2.2.2.2 Set.univ _)
  isplitl [H0]; · iexact H0
  isplitl [H2]; · iexact H2
  isplitl [H4]; · iexact H4
  isplitl [H6]; · iexact H6
  isplitl [H12]; · iexact H12
  isplitl [H7]; · iexact H7
  isplitl [H8]; · iexact H8
  isplitl [H9]; · iexact H9
  isplitl [H10]; · iexact H10
  iintro ⟨H0, H2, H4, H6, H12, ⟨%e7, H7⟩, ⟨%e8, H8⟩, ⟨%e9, H9⟩, ⟨%e10, H10⟩⟩
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 m c t)
  isplitl [H8]
  · unfold owns; iexists _; isplitr
    swap; · iexact H8
    ipureintro; exact View.read_writes_of_cover _ _ _ _ _ (cover8 m c t)
  isplitl [H9]
  · unfold owns; iexists _; isplitr
    swap; · iexact H9
    ipureintro; exact View.read_writes_of_cover _ _ _ _ _ (cover9 m c t)
  isplitl [H10]
  · unfold owns; iexists _; isplitr
    swap; · iexact H10
    ipureintro; exact View.read_writes_of_cover _ _ _ _ _ (cover10 m c t)
  isplitl [H11]; · iexact H11
  iexact H12

/-- The preparation, from what the first point found. -/
theorem sound_first (c : Dev nD) (t : Fin cfg0.N) (hz : t.val = 0) (P : sProp 𝕄) :
    iprop(P ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
      ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d) ∗ (∃ d, owns (c : Thread nD τ) (ms12 t) fullShare d))
    ⊢ wp frame (wpE (defs₀ (F := F)) Variants.none c none) Set.univ (prep (grid0.coords t) (hs0 t) (hs1 t) (hs2 t) (hs3 t) (hs4 t) (hs5 t) (hs6 t) (hs7 t) (hs8 t) (hs9 t) (hs10 t) (hs11 t) (hs12 t)) (fun _ =>
      iprop(P ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
        ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d)
        ∗ owns (c : Thread nD τ) (ms11 t) fullShare (memn m c) ∗ owns (c : Thread nD τ) (ms12 t) fullShare (kvs m c))) := by
  iintro ⟨HΦ, H0, H1, H2, H3, H4, H5, H6, H7, H8, H9, H10, H11, H12⟩
  iapply ((prepared m c t).2.2 Set.univ _)
  isplitl [H1]; · iexact H1
  isplitl [H3]; · iexact H3
  isplitl [H5]; · iexact H5
  isplitl [H11]; · iexact H11
  isplitl [H12]; · iexact H12
  iintro ⟨H1, H3, H5, ⟨%e11, H11⟩, ⟨%e12, H12⟩⟩
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · rw [memn_of m c t hz]; unfold owns; iexists _; isplitr
    swap; · iexact H11
    ipureintro; exact View.read_writes_of_cover _ _ _ _ _ (cover11 m c t)
  rw [kvs_of m c t hz]; unfold owns; iexists _; isplitr
  swap; · iexact H12
  ipureintro; exact View.read_writes_of_cover _ _ _ _ _ (cover12 m c t)

/-- A point after the first. -/
theorem body_later {i i' : grid0.Coords} (h : ¬k0_cond1 i = 1#1) (h' : ¬k0_cond1 i' = 1#1) {a0} {h0} {a1} {h1} {a2} {h2} {a3} {h3} {a4} {h4} {a5} {h5} {a6} {h6} {a7} {h7} {a8} {h8} {a9} {h9} {a10} {h10} {a11} {h11} {a12} {h12} :
    cc0_attn_fwd (F := F) i a0 h0 a1 h1 a2 h2 a3 h3 a4 h4 a5 h5 a6 h6 a7 h7 a8 h8 a9 h9 a10 h10 a11 h11 a12 h12 = cc0_attn_fwd i' a0 h0 a1 h1 a2 h2 a3 h3 a4 h4 a5 h5 a6 h6 a7 h7 a8 h8 a9 h9 a10 h10 a11 h11 a12 h12 := by
  simp only [cc0_attn_fwd_eq_skeleton]
  unfold cc0_attn_fwd_skel
  simp only [k0_part2_eq_skeleton]
  unfold k0_part2_skel
  rw [dif_neg h, dif_neg h']
  rfl

theorem sound_body (c : Dev nD) (t : Fin cfg0.N) :
    bodyPre m c t ⊢ wp frame (wpE (defs₀ (F := F)) Variants.none c none) Set.univ (bodyAt0 t) (fun _ => bodyPost m c t) := by
  have post : ∀ u : PUnit, (iprop(iprop((dats m 0 c).Φ t.castSucc ∗ (dats m 0 c).owesAt () t.castSucc) ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (row7 m c t) ∗ owns (c : Thread nD τ) (ms8 t) fullShare (row8 m c t) ∗ owns (c : Thread nD τ) (ms9 t) fullShare (row9 m c t) ∗ owns (c : Thread nD τ) (ms10 t) fullShare (row10 m c t) ∗ owns (c : Thread nD τ) (ms11 t) fullShare (memn m c) ∗ owns (c : Thread nD τ) (ms12 t) fullShare (kvs m c)) : sProp 𝕄) ⊢ bodyPost m c t := fun _ => by
    unfold bodyPost
    rw [show (dats m 0 c).owesAt () t.succ = (dats m 0 c).owesAt () t.castSucc from rfl, phi_eq, phi_eq,
      after0, after1, after2, after3, after4, after5, after6, after7, after8, after9, after10, after11, after12]
    exact sep_assoc.1
  unfold bodyPre bodyAt0
  simp only [before0, before1, before2, before3, before4, before5, before6]
  by_cases hz : t.val = 0
  · rw [body_first _ _ _ _ _ _ _ _ _ _ _ _ _ ((cond_iff t).mpr hz) later_not, wp_bind]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((sound_first m c t hz iprop((dats m 0 c).Φ t.castSucc ∗ (dats m 0 c).owesAt () t.castSucc)).trans (wp_mono _ _ _ fun _ => (sound_rows m c t iprop((dats m 0 c).Φ t.castSucc ∗ (dats m 0 c).owesAt () t.castSucc)).trans (wp_mono _ _ _ post)))
    isplitl [HΦ Ho]
    · isplitl [HΦ]; · iexact HΦ
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · simp only [before11 m c t hz, before12 m c t hz]
    rw [body_later (fun h => hz ((cond_iff t).mp h)) later_not]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((sound_rows m c t iprop((dats m 0 c).Φ t.castSucc ∗ (dats m 0 c).owesAt () t.castSucc)).trans (wp_mono _ _ _ post))
    isplitl [HΦ Ho]
    · isplitl [HΦ]; · iexact HΦ
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem idle_pos (t : Fin cfg0.N) (w : Fin cfg0.W) (hw : w = 11 ∨ w = 12) (h : cfg0.idle w (cfg0.grid.coords t) = true) : t.val ≠ 0 := by
  intro hz
  have e := (cond_iff t).mpr hz
  rcases hw with rfl | rfl
  · have h' : (!(k0_cond1 (grid0.coords t) == 1#1)) = true := h
    rw [e] at h'
    exact absurd h' (by decide)
  · have h' : (!(k0_cond1 (grid0.coords t) == 1#1)) = true := h
    rw [e] at h'
    exact absurd h' (by decide)

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine sep_mono .rfl (sep_mono .rfl ?_)
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  exact BIClass.sep_mono (leave m c 11 t fun h d => (before11 m c t (idle_pos t 11 (.inl rfl) h) d).trans (after11 m c t).symm)
    (leave m c 12 t fun h d => (before12 m c t (idle_pos t 12 (.inr rfl) h) d).trans (after12 m c t).symm)

set_option backward.isDefEq.respectTransparency.types false in
/-- Every fair run ends, with every array at what the data says and every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := phi_eq m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Proof.AttnFwd

end
-- ==== Proof.MixFwdRow.lean ====
/- The mixer's forward pass, row by row, over the extended reals: no entry needs to be finite. -/
module

public import Idealize.ShloMosaic.Lib.Pointwise
public import proofs.«01_k».proof.Proof.Arr

@[expose] public section

set_option maxRecDepth 16384

noncomputable section

namespace Cert.Proof.MixFwd

open Idealize.ShloMosaic

/-- A matrix holds the values `X`. -/
abbrev Has {a b : ℕ} (x : Shape.Idx ⟨2, ![a, b]⟩ → EReal) (X : Fin a → Fin b → EReal) : Prop := ∀ (i : Fin a) (j : Fin b), x (ix2 i j) = X i j

/-- The constants, at the bits both programs write. -/
abbrev len : EReal := Ideal.ofBits .f32 0x44800000#32
abbrev wid : EReal := Ideal.ofBits .f32 0x44000000#32
abbrev off : EReal := Ideal.ofBits .f32 0x358637BD#32
abbrev half : EReal := Ideal.ofBits .f32 0x3F000000#32
abbrev gc : EReal := Ideal.ofBits .f32 0x3F4C422A#32
abbrev gk : EReal := Ideal.ofBits .f32 0x3D372713#32

/-- The reciprocal root mean square of a row, and its mean. -/
def inv (c : EReal) {n : ℕ} (f : Fin n → EReal) : EReal := Ideal.rsqrt (Ideal.div (∑ i, f i * f i) c + off)
def mean (f : Fin 512 → EReal) : EReal := Ideal.div (∑ i, f i) wid

/-- Columns of the projection: the two activated halves, the gate's and the product's parts. -/
abbrev fst (j : Fin 512) : Fin 1024 := ⟨j.val, by omega⟩
abbrev snd (j : Fin 512) : Fin 1024 := ⟨512 + j.val, by omega⟩
abbrev act (j : Fin 1024) : Fin 2560 := ⟨j.val, by omega⟩
abbrev cb (j : Fin 512) : Fin 2560 := ⟨1024 + j.val, by omega⟩
abbrev cc (j : Fin 512) : Fin 2560 := ⟨1536 + j.val, by omega⟩
abbrev cv (j : Fin 512) : Fin 2560 := ⟨2048 + j.val, by omega⟩

/-- A row's place in its chunk of 128, the row of that chunk at place `s`, and a column's head. -/
abbrev pos (r : Fin 4096) : Fin 128 := ⟨r.val % 128, by omega⟩
abbrev mate (r : Fin 4096) (s : Fin 128) : Fin 4096 := ⟨128 * (r.val / 128) + s.val, by omega⟩
abbrev hd (j : Fin 512) : Fin 4 := ⟨j.val / 128, by omega⟩

/-- The arguments. -/
structure Args where
  x : Fin 4096 → Fin 1024 → EReal
  g : Fin 1024 → EReal
  w : Fin 1024 → Fin 2560 → EReal
  lng : Fin 512 → EReal
  lnb : Fin 512 → EReal
  ws : Fin 4 → Fin 128 → Fin 128 → EReal
  bs : Fin 4 → Fin 128 → EReal
  cw : Fin 3 → Fin 512 → EReal
  ga : Fin 512 → EReal
  gb : Fin 512 → EReal
  wo : Fin 1024 → Fin 1024 → EReal

variable (p : Args) (r : Fin 4096)

def xn (i : Fin 1024) : EReal := p.x r i * inv len (p.x r) * p.g i
def h (j : Fin 2560) : EReal := ∑ i, xn p r i * p.w i j
def th (j : Fin 1024) : EReal :=
  Ideal.tanh (gc * (h p r (act j) + gk * (h p r (act j) * h p r (act j) * h p r (act j))))
def a (j : Fin 1024) : EReal := half * h p r (act j) * (1 + th p r j)
def u (j : Fin 512) : EReal := a p r (fst j)
def v (j : Fin 512) : EReal := a p r (snd j)
def cen (j : Fin 512) : EReal := v p r j - mean (v p r)
def vn (j : Fin 512) : EReal := cen p r j * inv wid (cen p r) * p.lng j + p.lnb j
/-- The weights of a head, lower triangle. -/
def wm (k : Fin 4) (t s : Fin 128) : EReal := if s.val ≤ t.val then p.ws k t s else 0
def mixed (j : Fin 512) : EReal := (∑ s, wm p (hd j) (pos r) s * vn p (mate r s) j) + p.bs (hd j) (pos r)
def ya (j : Fin 512) : EReal := u p r j * mixed p r j
def na (j : Fin 512) : EReal := ya p r j * inv wid (ya p r) * p.ga j
def z (j : Fin 512) : EReal := h p r (cc j) * h p r (cv j)
/-- The products some rows further up, zero beyond the first. -/
def up (k : ℕ) (j : Fin 512) : EReal := if k ≤ r.val then z p ⟨r.val - k, by omega⟩ j else 0
def yb (j : Fin 512) : EReal := h p r (cb j) * (p.cw 0 j * up p r 2 j + p.cw 1 j * up p r 1 j + p.cw 2 j * z p r j)
def nb (j : Fin 512) : EReal := yb p r j * inv wid (yb p r) * p.gb j
def y (j : Fin 1024) : EReal := if hj : j.val < 512 then na p r ⟨j.val, hj⟩ else nb p r ⟨j.val - 512, by omega⟩
def out (j : Fin 1024) : EReal := p.x r j + ∑ k, y p r k * p.wo k j

/-- The arrays `y0 … y10` hold the arguments. -/
structure Reads (p : Args) (y0 : Vec Ideal ⟨2, ![4096, 1024]⟩ .f32) (y1 : Vec Ideal ⟨1, ![1024]⟩ .f32) (y2 : Vec Ideal ⟨2, ![1024, 2560]⟩ .f32)
    (y3 y4 : Vec Ideal ⟨1, ![512]⟩ .f32) (y5 : Vec Ideal ⟨3, ![4, 128, 128]⟩ .f32) (y6 : Vec Ideal ⟨2, ![4, 128]⟩ .f32) (y7 : Vec Ideal ⟨2, ![3, 512]⟩ .f32)
    (y8 y9 : Vec Ideal ⟨1, ![512]⟩ .f32) (y10 : Vec Ideal ⟨2, ![1024, 1024]⟩ .f32) : Prop where
  x : Has y0 p.x
  g : ∀ i : Fin 1024, y1 (ix1 i) = p.g i
  w : Has y2 p.w
  lng : ∀ i : Fin 512, y3 (ix1 i) = p.lng i
  lnb : ∀ i : Fin 512, y4 (ix1 i) = p.lnb i
  ws : ∀ (k : Fin 4) (t s : Fin 128), y5 (ix3 k t s) = p.ws k t s
  bs : Has y6 p.bs
  cw : Has y7 p.cw
  ga : ∀ i : Fin 512, y8 (ix1 i) = p.ga i
  gb : ∀ i : Fin 512, y9 (ix1 i) = p.gb i
  wo : Has y10 p.wo

theorem at1 {n : ℕ} (f : Fin n → EReal) {i j : Fin n} (h : i.val = j.val) : f i = f j := by rw [Fin.ext h]

/-- The choice by a comparison of two counters below 128. -/
theorem pick (t s : Fin 128) (x y : EReal) :
    Scalar.select (IntOp.cmpi .sge (BitVec.ofNat 32 t.val) (BitVec.ofNat 32 s.val)) x y = if s.val ≤ t.val then x else y := by
  have h : ∀ t s : Fin 128, IntOp.cmpi .sge (BitVec.ofNat 32 t.val) (BitVec.ofNat 32 s.val) = if s.val ≤ t.val then 1#1 else 0#1 := by decide +kernel
  rw [h]
  by_cases h : s.val ≤ t.val
  · rw [if_pos h, if_pos h]; rfl
  · rw [if_neg h, if_neg h]; rfl

/-- The choice by whether a row counter is the number `k`. -/
theorem pick_row (t : Fin 512) (k : ℕ) (hk : k < 512) (x y : EReal) :
    Scalar.select (IntOp.cmpi .eq (BitVec.ofNat 32 t.val) (BitVec.ofNat 32 k)) x y = if t.val = k then x else y := by
  by_cases h : t.val = k
  · rw [if_pos h, h]
    simp [IntOp.cmpi, Scalar.select]
  · have hn : BitVec.ofNat 32 t.val ≠ BitVec.ofNat 32 k := fun e => h (by
      have e2 := congrArg BitVec.toNat e
      rw [BitVec.toNat_ofNat, BitVec.toNat_ofNat, Nat.mod_eq_of_lt (by omega), Nat.mod_eq_of_lt (by omega)] at e2
      exact e2)
    rw [if_neg h]
    rw [Scalar.select, IntOp.cmpi, beq_eq_false_iff_ne.2 hn]
    rfl

end Cert.Proof.MixFwd

end
-- ==== Proof.AttnFwdRow.lean ====
/- The attention's forward pass, row by row, over the extended reals: no entry needs to be finite. -/
module

public import proofs.«01_k».proof.Proof.MixFwdRow

@[expose] public section

set_option maxRecDepth 16384

noncomputable section

namespace Cert.Proof.AttnFwd

open Idealize.ShloMosaic Cert.Proof.MixFwd

/-- The constants, at the bits both programs write. -/
abbrev scale : EReal := Ideal.ofBits .f32 0x3D800000#32
abbrev low : EReal := Ideal.ofBits .f32 0xFF800000#32

/-- The columns of head `k`: of the queries, of the keys, and of the values. -/
abbrev col (k : Fin 4) (d : Fin 256) : Fin 1024 := ⟨256 * k.val + d.val, by omega⟩
abbrev kcol (k : Fin 4) (d : Fin 256) : Fin 2048 := ⟨256 * k.val + d.val, by omega⟩
abbrev vcol (k : Fin 4) (d : Fin 256) : Fin 2048 := ⟨1024 + 256 * k.val + d.val, by omega⟩
abbrev hd (j : Fin 1024) : Fin 4 := ⟨j.val / 256, by omega⟩
abbrev pl (j : Fin 1024) : Fin 256 := ⟨j.val % 256, by omega⟩

/-- The arguments. -/
structure Args where
  x : Fin 4096 → Fin 1024 → EReal
  m : Fin 256 → Fin 1024 → EReal
  g : Fin 1024 → EReal
  gm : Fin 1024 → EReal
  wq : Fin 1024 → Fin 1024 → EReal
  wkv : Fin 1024 → Fin 2048 → EReal
  wo : Fin 1024 → Fin 1024 → EReal

variable (p : Args) (r : Fin 4096)

def xn (i : Fin 1024) : EReal := p.x r i * inv len (p.x r) * p.g i
def q (j : Fin 1024) : EReal := ∑ i, xn p r i * p.wq i j
/-- The normed memory, its keys and values. -/
def mn (s : Fin 256) (i : Fin 1024) : EReal := p.m s i * inv len (p.m s) * p.gm i
def kv (s : Fin 256) (j : Fin 2048) : EReal := ∑ i, mn p s i * p.wkv i j
/-- The scores of a head, the largest of them, and their softmax. -/
def sc (k : Fin 4) (s : Fin 256) : EReal := (∑ d, q p r (col k d) * kv p s (kcol k d)) * scale
def top (k : Fin 4) : EReal := Finset.univ.fold max low fun s => sc p r k s
def ex (k : Fin 4) (s : Fin 256) : EReal := Ideal.exp (sc p r k s - top p r k)
def pr (k : Fin 4) (s : Fin 256) : EReal := Ideal.div (ex p r k s) (∑ s, ex p r k s)
def at_ (k : Fin 4) (d : Fin 256) : EReal := ∑ s, pr p r k s * kv p s (vcol k d)
/-- The same by columns. -/
def prs (j : Fin 1024) : EReal := pr p r (hd j) (pl j)
def o (j : Fin 1024) : EReal := at_ p r (hd j) (pl j)
def out (j : Fin 1024) : EReal := p.x r j + ∑ i, o p r i * p.wo i j

/-- The arrays `y0 … y6` hold the arguments. -/
structure Reads (p : Args) (y0 : Vec Ideal ⟨2, ![4096, 1024]⟩ .f32) (y1 : Vec Ideal ⟨2, ![256, 1024]⟩ .f32) (y2 y3 : Vec Ideal ⟨1, ![1024]⟩ .f32)
    (y4 : Vec Ideal ⟨2, ![1024, 1024]⟩ .f32) (y5 : Vec Ideal ⟨2, ![1024, 2048]⟩ .f32) (y6 : Vec Ideal ⟨2, ![1024, 1024]⟩ .f32) : Prop where
  x : Has y0 p.x
  m : Has y1 p.m
  g : ∀ i : Fin 1024, y2 (ix1 i) = p.g i
  gm : ∀ i : Fin 1024, y3 (ix1 i) = p.gm i
  wq : Has y4 p.wq
  wkv : Has y5 p.wkv
  wo : Has y6 p.wo

end Cert.Proof.AttnFwd

end
-- ==== Proof.AttnFwdPay.lean ====
/- The attention's forward kernel: its stages on one block of rows. -/
module

public import proofs.«01_k».proof.Proof.Gen.AttnFwdIdeal.Skeleton
public import proofs.«01_k».proof.Proof.AttnFwdRow
public import Idealize.ShloMosaic.Lib.Claim
public import Idealize.ShloMosaic.Lib.Tactic.CleanTypes

@[expose] public section

set_option maxRecDepth 16384

noncomputable section

namespace Cert.Proof.AttnFwd

open Idealize.ShloMosaic Idealize.SL.Sem Cert.AttnFwdIdeal Cert.AttnFwdIdeal.Gen Idealize.ShloMosaic.TcCoe
open Cert.Proof.MixFwd (Has inv len off at1)

/-- Row `a` of the block `b` of 512 rows, and a column of the quarter `k` of the keys and values. -/
abbrev rw5 (b : Fin 8) (a : Fin 512) : Fin 4096 := ⟨512 * b.val + a.val, by omega⟩
abbrev quarter (k : Fin 4) (j : Fin 512) : Fin 2048 := ⟨512 * k.val + j.val, by omega⟩

variable {p : Args} {b : Fin 8} {k : Fin 4}
variable {x : Vec Ideal S512x1024 .f32} {y : Vec Ideal S256x1024 .f32} {g : Vec Ideal S1x1024 .f32} {w : Vec Ideal S1024x1024 .bf16} {w' : Vec Ideal S1x1024x512 .bf16}
  {kk vv : Vec Ideal S256x256 .bf16} {qq : Vec Ideal S512x256 .bf16}

theorem pay4 (hy : Has y p.m) (hg : Has g fun _ => p.gm) : Has (k0_pay4 (F := Ideal) y g) (mn p) := by
  intro s j
  unfold k0_pay4
  pointwise [hy, hg]
  rfl

theorem pay8 {n : FVec Ideal S256x1024 .bf16} (hn : Has n (mn p)) (hw : ∀ (i : Fin 1024) (j : Fin 512), w' (ix3 0 i j) = p.wkv i (quarter k j)) :
    Has (k0_pay8 (F := Ideal) n w') (fun s j => kv p s (quarter k j)) := by
  intro s j
  unfold k0_pay8
  pointwise [hn, hw]
  rfl

theorem pay5_eq : k0_pay5 (F := Ideal) y g w' = k0_pay8 (F := Ideal) (k0_pay4 (F := Ideal) y g) w' := rfl
theorem pay6_eq : k0_pay6 (F := Ideal) y g w' = k0_pay8 (F := Ideal) (k0_pay4 (F := Ideal) y g) w' := rfl
theorem pay7_eq : k0_pay7 (F := Ideal) y g w' = k0_pay8 (F := Ideal) (k0_pay4 (F := Ideal) y g) w' := rfl

theorem pay9 (hx : Has x fun r => p.x (rw5 b r)) (hg : Has g fun _ => p.g) (hw : Has w p.wq) : Has (k0_pay9 (F := Ideal) x g w) (fun r => q p (rw5 b r)) := by
  intro r j
  unfold k0_pay9
  pointwise [hx, hg, hw]
  rfl

section head

variable (hk : Has kk fun s d => kv p s (kcol k d)) (hq : Has qq fun r d => q p (rw5 b r) (col k d))
include hk hq

theorem pay11 : Has (k0_pay11 (F := Ideal) kk qq) (fun r s => sc p (rw5 b r) k s) := by
  intro r s
  unfold k0_pay11
  pointwise [hk, hq]
  rfl

theorem pay12 (r : Fin 512) : k0_pay12 (F := Ideal) kk qq (ix1 r) = top p (rw5 b r) k := by
  have hs := pay11 hk hq
  unfold k0_pay12
  pointwise [hs]
  rfl

theorem pay13 : Has (k0_pay13 (F := Ideal) (k0_pay11 (F := Ideal) kk qq) (k0_pay12 (F := Ideal) kk qq)) (fun r s => pr p (rw5 b r) k s) := by
  intro r s
  have hs := pay11 hk hq
  have ht := pay12 hk hq
  unfold k0_pay13
  pointwise [hs, ht]
  rfl

theorem pay14 (hv : Has vv fun s d => kv p s (vcol k d)) :
    Has (k0_pay14 (F := Ideal) (k0_pay10 (F := Ideal) vv) (k0_pay11 (F := Ideal) kk qq) (k0_pay12 (F := Ideal) kk qq)) (fun r d => at_ p (rw5 b r) k d) := by
  intro r d
  have hs := pay13 hk hq
  unfold k0_pay14 k0_pay10
  pointwise [hs, hv]
  rfl

end head

theorem pay15_eq : k0_pay15 (F := Ideal) kk qq = k0_pay13 (F := Ideal) (k0_pay11 (F := Ideal) kk qq) (k0_pay12 (F := Ideal) kk qq) := rfl
theorem pay17_eq : k0_pay17 (F := Ideal) kk qq = k0_pay13 (F := Ideal) (k0_pay11 (F := Ideal) kk qq) (k0_pay12 (F := Ideal) kk qq) := rfl
theorem pay1_eq : k0_pay1 (F := Ideal) (k0_pay20 (F := Ideal) kk qq) (k0_pay21 (F := Ideal) kk qq) = k0_pay13 (F := Ideal) (k0_pay11 (F := Ideal) kk qq) (k0_pay12 (F := Ideal) kk qq) := rfl
theorem pay16_eq : k0_pay16 (F := Ideal) kk vv qq = k0_pay14 (F := Ideal) (k0_pay10 (F := Ideal) vv) (k0_pay11 (F := Ideal) kk qq) (k0_pay12 (F := Ideal) kk qq) := rfl
theorem pay18_eq : k0_pay18 (F := Ideal) kk vv qq = k0_pay14 (F := Ideal) (k0_pay10 (F := Ideal) vv) (k0_pay11 (F := Ideal) kk qq) (k0_pay12 (F := Ideal) kk qq) := rfl
theorem pay2_eq : k0_pay2 (F := Ideal) (k0_pay19 (F := Ideal) vv) (k0_pay20 (F := Ideal) kk qq) (k0_pay21 (F := Ideal) kk qq)
    = k0_pay14 (F := Ideal) (k0_pay10 (F := Ideal) vv) (k0_pay11 (F := Ideal) kk qq) (k0_pay12 (F := Ideal) kk qq) := rfl

theorem pay3 {u : Vec Ideal S512x1024 .bf16} (hx : Has x fun r => p.x (rw5 b r)) (hu : Has u fun r => o p (rw5 b r)) (hw : Has w p.wo) :
    Has (k0_pay3 (F := Ideal) x u w) (fun r => out p (rw5 b r)) := by
  intro r j
  unfold k0_pay3
  pointwise [hx, hu, hw]
  rfl

end Cert.Proof.AttnFwd

end
-- ==== Proof.MixFwdPay.lean ====
/- The mixer's forward kernel: its stages on one block of rows. -/
module

public import proofs.«01_k».proof.Proof.Gen.MixFwdIdeal.Skeleton
public import proofs.«01_k».proof.Proof.MixFwdRow
public import Idealize.ShloMosaic.Lib.Claim
public import Idealize.ShloMosaic.Lib.Tactic.CleanTypes

@[expose] public section

set_option maxRecDepth 16384

noncomputable section

namespace Cert.Proof.MixFwd

open Idealize.ShloMosaic Idealize.SL.Sem Cert.MixFwdIdeal Cert.MixFwdIdeal.Gen Idealize.ShloMosaic.TcCoe

/-- Row `a` of the block `b` of 512 rows, the rows of the block's chunk `c`, a column of head `k`, and one of the quarter `k` of the projection. -/
abbrev rw5 (b : Fin 8) (a : Fin 512) : Fin 4096 := ⟨512 * b.val + a.val, by omega⟩
abbrev rc (c : Fin 4) (s : Fin 128) : Fin 512 := ⟨128 * c.val + s.val, by omega⟩
abbrev col (k : Fin 4) (d : Fin 128) : Fin 512 := ⟨128 * k.val + d.val, by omega⟩
abbrev quarter (k : Fin 4) (j : Fin 640) : Fin 2560 := ⟨640 * k.val + j.val, by omega⟩

variable {p : Args} {b : Fin 8}
variable {x hh : Vec Ideal S512x1024 .f32} {g : Vec Ideal S1x1024 .f32} {w : Vec Ideal S1x1024x640 .bf16}

theorem pay5 (hx : Has x fun r => p.x (rw5 b r)) (hg : Has g fun _ => p.g) : Has (k0_pay5 (F := Ideal) x g) (fun r => xn p (rw5 b r)) := by
  intro r j
  unfold k0_pay5
  pointwise [hx, hg]
  rfl

theorem pay8 {n : FVec Ideal S512x1024 .bf16} {k : Fin 4} (hn : Has n fun r => xn p (rw5 b r))
    (hw : ∀ (i : Fin 1024) (j : Fin 640), w (ix3 0 i j) = p.w i (quarter k j)) : Has (k0_pay8 (F := Ideal) n w) (fun r j => h p (rw5 b r) (quarter k j)) := by
  intro r j
  unfold k0_pay8
  pointwise [hn, hw]
  rfl

theorem pay6_eq : k0_pay6 (F := Ideal) x g w = k0_pay8 (F := Ideal) (k0_pay5 (F := Ideal) x g) w := rfl
theorem pay7_eq : k0_pay7 (F := Ideal) x g w = k0_pay8 (F := Ideal) (k0_pay5 (F := Ideal) x g) w := rfl
theorem pay9_eq {n : FVec Ideal S512x1024 .bf16} : k0_pay9 (F := Ideal) n w = k0_pay8 (F := Ideal) n w := rfl

section act

variable (hh' : Has hh fun r j => h p (rw5 b r) (act j))
include hh'

theorem pay11 : Has (k0_pay11 (F := Ideal) hh) (fun r => th p (rw5 b r)) := by
  intro r j
  unfold k0_pay11 k0_pay10
  pointwise [hh']
  rfl

theorem pay12 : Has (k0_pay12 (F := Ideal) hh) (fun r => a p (rw5 b r)) := by
  intro r j
  have ht := pay11 hh'
  unfold k0_pay12 k0_pay10
  pointwise [hh', ht]
  rfl

theorem pay13 : Has (k0_pay13 (F := Ideal) hh) (fun r => u p (rw5 b r)) := by
  intro r j
  have ha := pay12 hh'
  unfold k0_pay13
  pointwise [ha]
  rfl

theorem pay14 : Has (k0_pay14 (F := Ideal) hh) (fun r => v p (rw5 b r)) := by
  intro r j
  have ha := pay12 hh'
  unfold k0_pay14
  pointwise [ha]
  exact at1 _ rfl

theorem pay17 : Has (k0_pay17 (F := Ideal) hh) (fun r _ => mean (v p (rw5 b r))) := by
  intro r j
  have hv := pay14 hh'
  unfold k0_pay17
  pointwise [hv]
  rfl

theorem pay18 {lg lb : Vec Ideal S1x512 .f32} (hg : Has lg fun _ => p.lng) (hb : Has lb fun _ => p.lnb) :
    Has (k0_pay18 (F := Ideal) (k0_pay14 (F := Ideal) hh) (k0_pay15 (F := Ideal) lg) (k0_pay16 (F := Ideal) lb) (k0_pay17 (F := Ideal) hh)) (fun r => vn p (rw5 b r)) := by
  intro r j
  have hv := pay14 hh'
  have hm := pay17 hh'
  unfold k0_pay18 k0_pay15 k0_pay16
  pointwise [hv, hm, hg, hb]
  rfl

end act

/-- The weights of one head, lower triangle. -/
theorem pay19 {q : Vec Ideal S1x128x128 .f32} {k : Fin 4} (hq : ∀ t s : Fin 128, q (ix3 0 t s) = p.ws k t s) : Has (k0_pay19 (F := Ideal) q) (wm p k) := by
  intro t s
  unfold k0_pay19
  pointwise [hq, pick, wm]

theorem pay20_eq : k0_pay20 (F := Ideal) = k0_pay19 (F := Ideal) := rfl
theorem pay21_eq : k0_pay21 (F := Ideal) = k0_pay19 (F := Ideal) := rfl
theorem pay23_eq (q : Vec Ideal S1x128x128 .f32) : k0_pay23 (F := Ideal) (k0_pay22 (F := Ideal) q) = k0_pay19 (F := Ideal) q := rfl

/-- One head of one chunk: its weights by the normed values, and the biases. -/
def piece {o o' : ℕ} (hs : S512x512.Slices ![o, o'] S128x128) (w : FVec Ideal S128x128 .bf16) (n : FVec Ideal S512x512 .bf16) (c : Vec Ideal S128x1 .f32) :
    FVec Ideal S128x128 .f32 :=
  addf (matmul (F := Ideal) dot_S128x128_S128x128_S128x128_1_0_0_1_n_n none w (extractStridedSlice S128x128 ![o, o'] n hs : FVec Ideal S128x128 .bf16)
    (constant S128x128 .f32 0x00000000#32)) (broadcastTo S128x128 (shapeCast S128x1 c shapeCasts_S128x1_S128x1 : FVec Ideal S128x1 .f32) broadcasts_S128x1_S128x128)

theorem piece_is {o o' : ℕ} (hs : S512x512.Slices ![o, o'] S128x128) {w : FVec Ideal S128x128 .bf16} {n : FVec Ideal S512x512 .bf16} {c : Vec Ideal S128x1 .f32}
    {k e : Fin 4} (ho : o = 128 * e.val) (ho' : o' = 128 * k.val) (hw : Has w (wm p k)) (hn : Has n fun r => vn p (rw5 b r)) (hc : Has c fun t _ => p.bs k t) :
    Has (piece hs w n c) (fun t d => mixed p (rw5 b (rc e t)) (col k d)) := by
  subst ho ho'
  intro t d
  unfold piece
  pointwise [hw, hn, hc]
  have hk : hd (col k d) = k := Fin.ext (by dsimp only; omega)
  have ht : pos (rw5 b (rc e t)) = t := Fin.ext (by dsimp only; omega)
  rw [mixed, hk, ht]
  refine congrArg₂ _ (Finset.sum_congr rfl fun s _ => congrArg _ ?_) rfl
  exact congrArg₂ (vn p) (Fin.ext (by dsimp only; omega)) (Fin.ext rfl)

variable {ua ma qb qc qv : Vec Ideal S512x512 .f32} {ga gb c0 c1 c2 : Vec Ideal S1x512 .f32} {zp : Vec Ideal S8x512 .f32}

theorem pay43 (hu : Has ua fun r => u p (rw5 b r)) (hm : Has ma fun r => mixed p (rw5 b r)) (hg : Has ga fun _ => p.ga) :
    Has (k0_pay43 (F := Ideal) ua ma ga) (fun r => na p (rw5 b r)) := by
  intro r j
  unfold k0_pay43
  pointwise [hu, hm, hg]
  rfl

theorem pay45 (hc : Has qc fun r j => h p (rw5 b r) (cc j)) (hv : Has qv fun r j => h p (rw5 b r) (cv j)) :
    Has (k0_pay45 (F := Ideal) qc qv) (fun r => z p (rw5 b r)) := by
  intro r j
  unfold k0_pay45
  pointwise [hc, hv]
  rfl

/-- The last eight products in front of a block, zero in front of the first. -/
abbrev before (p : Args) (b : Fin 8) (e : Fin 8) (j : Fin 512) : EReal := up p (rw5 b 0) (8 - e.val) j

theorem roll1 (r : Fin 512) (j : Fin 512) : (if r.val = 0 then before p b 7 j else z p (rw5 b ⟨(r.val + 512 - 1) % 512, by omega⟩) j) = up p (rw5 b r) 1 j := by
  by_cases h : r.val = 0
  · rw [if_pos h, before, show r = 0 from Fin.ext h]; rfl
  · rw [if_neg h, up, if_pos (by dsimp only; omega)]
    exact congrArg (z p · j) (Fin.ext (by dsimp only; omega))

theorem roll2 (r : Fin 512) (j : Fin 512) :
    (if r.val = 0 then before p b 6 j else if r.val = 1 then before p b 7 j else z p (rw5 b ⟨(r.val + 512 - 2) % 512, by omega⟩) j) = up p (rw5 b r) 2 j := by
  by_cases h : r.val = 0
  · rw [if_pos h, before, show r = 0 from Fin.ext h]; rfl
  · rw [if_neg h]
    by_cases h1 : r.val = 1
    · rw [if_pos h1, before, show r = 1 from Fin.ext h1, up, up]
      by_cases hb : b.val = 0
      · rw [if_neg (by dsimp only; omega), if_neg (by dsimp only; omega)]
      · rw [if_pos (by dsimp only; omega), if_pos (by dsimp only; omega)]
        exact congrArg (z p · j) (Fin.ext (by dsimp only; omega))
    · rw [if_neg h1, up, if_pos (by dsimp only; omega)]
      exact congrArg (z p · j) (Fin.ext (by dsimp only; omega))

section gate

variable (hb : Has qb fun r j => h p (rw5 b r) (cb j)) (hz : Has (k0_pay45 (F := Ideal) qc qv) fun r => z p (rw5 b r)) (hp : Has zp (before p b))
  (h0 : Has c0 fun _ => p.cw 0) (h1 : Has c1 fun _ => p.cw 1) (h2 : Has c2 fun _ => p.cw 2)
include hb hz hp h0 h1 h2

theorem pay46 : Has (k0_pay46 (F := Ideal) (k0_pay44 (F := Ideal) qb) qc qv zp c0 c1 c2) (fun r => yb p (rw5 b r)) := by
  intro r j
  unfold k0_pay46 k0_pay44
  pointwise [hb, hz, hp, h0, h1, h2]
  have s0 := pick_row r 0 (by omega)
  have s1 := pick_row r 1 (by omega)
  simp only [s0, s1]
  rw [yb, ← roll1, ← roll2]

theorem pay48 (r : Fin 512) : k0_pay48 (F := Ideal) (k0_pay44 (F := Ideal) qb) qc qv zp c0 c1 c2 (ix1 r) = ∑ i, yb p (rw5 b r) i * yb p (rw5 b r) i := by
  have hy := pay46 hb hz hp h0 h1 h2
  unfold k0_pay48
  pointwise [hy]

theorem pay2 {na' : FVec Ideal S512x512 .f32} (ha : Has na' fun r => na p (rw5 b r)) (hg : Has gb fun _ => p.gb) :
    Has (k0_pay2 (F := Ideal) na' (k0_pay46 (F := Ideal) (k0_pay44 (F := Ideal) qb) qc qv zp c0 c1 c2) (k0_pay47 (F := Ideal) gb)
      (k0_pay48 (F := Ideal) (k0_pay44 (F := Ideal) qb) qc qv zp c0 c1 c2)) (fun r => y p (rw5 b r)) := by
  intro r j
  have hy := pay46 hb hz hp h0 h1 h2
  have hq := pay48 hb hz hp h0 h1 h2
  unfold k0_pay2 k0_pay47
  pointwise [hy, hq, hg, ha]
  by_cases hj : j.val < 512
  · rw [dif_pos hj, y, dif_pos hj]
  · rw [dif_neg hj, y, dif_neg hj]
    rfl

theorem pay3 {na' : FVec Ideal S512x512 .f32} {wo : Vec Ideal S1024x1024 .bf16} (hx : Has x fun r => p.x (rw5 b r)) (ha : Has na' fun r => na p (rw5 b r))
    (hg : Has gb fun _ => p.gb) (hw : Has wo p.wo) :
    Has (k0_pay3 (F := Ideal) x na' (k0_pay46 (F := Ideal) (k0_pay44 (F := Ideal) qb) qc qv zp c0 c1 c2) (k0_pay47 (F := Ideal) gb)
      (k0_pay48 (F := Ideal) (k0_pay44 (F := Ideal) qb) qc qv zp c0 c1 c2) wo) (fun r => out p (rw5 b r)) := by
  intro r j
  have hy := pay2 hb hz hp h0 h1 h2 ha hg
  unfold k0_pay3
  pointwise [hy, hx, hw]
  rfl

end gate

/-- What a block leaves for the next one. -/
theorem pay1 {zz : FVec Ideal S512x512 .f32} (hz : Has zz fun r => z p (rw5 b r)) (hb : b.val + 1 < 8) : Has (k0_pay1 (F := Ideal) zz) (before p ⟨b.val + 1, hb⟩) := by
  intro e j
  unfold k0_pay1
  pointwise [hz]
  show _ = up p (rw5 _ 0) (8 - e.val) j
  rw [up, if_pos (by dsimp only; omega)]
  exact congrArg (z p · j) (Fin.ext (by dsimp only; omega))

theorem pay4 : Has (k0_pay4 (F := Ideal)) (before p 0) := by
  intro e j
  unfold k0_pay4
  pointwise
  show _ = up p (rw5 0 0) (8 - e.val) j
  rw [up, if_neg (by dsimp only; omega)]

end Cert.Proof.MixFwd

end
-- ==== Proof.MixFwdOut.lean ====
/- The mixer's forward kernel: what one grid point leaves in the staging buffers. -/
module

public import proofs.«01_k».proof.Proof.MixFwdPay
public import proofs.«01_k».proof.Proof.Gen.MixFwdIdeal.Frame

@[expose] public section

set_option maxRecDepth 16384

noncomputable section

namespace Cert.Proof.MixFwd

open Idealize.ShloMosaic Idealize.SL.Sem Cert.MixFwdIdeal Cert.MixFwdIdeal.Gen Idealize.ShloMosaic.TcCoe
open Idealize.ShloMosaic.Pipeline (Dat Cfg Window)

variable {p : Args} {b : Fin 8}

theorem hz : (![0, 0] : Fin 2 → Nat) = fun _ => 0 := funext fun a => by fin_cases a <;> rfl

theorem emb_idx {s : Shape} (r : Rect s) (x : r.shape.Idx) : r.emb x = r.idx x := rfl

/-- A block of an array. -/
abbrev arr {a b : ℕ} (Y : Fin a → Fin b → EReal) : Shape.Idx ⟨2, ![a, b]⟩ → EReal := fun y => Y (y 0) (y 1)

/-- What one grid point's input blocks hold. -/
structure Blk (p : Args) (b : Fin 8) (x0 : Vec Ideal S512x1024 .f32) (x1 : Vec Ideal S1x1024 .f32) (x2 : Vec Ideal S4x1024x640 .bf16) (x3 x4 : Vec Ideal S1x512 .f32)
    (x5 : Vec Ideal S4x128x128 .f32) (x6 : Vec Ideal S128x128 .f32) (x7 : Vec Ideal S3x512 .f32) (x8 x9 : Vec Ideal S1x512 .f32) (x10 : Vec Ideal S1024x1024 .bf16) : Prop where
  x : Has x0 fun r => p.x (rw5 b r)
  g : Has x1 fun _ => p.g
  w : ∀ (k : Fin 4) (i : Fin 1024) (j : Fin 640), x2 (ix3 k i j) = p.w i (quarter k j)
  lng : Has x3 fun _ => p.lng
  lnb : Has x4 fun _ => p.lnb
  ws : ∀ (k : Fin 4) (t s : Fin 128), x5 (ix3 k t s) = p.ws k t s
  bs : ∀ (k : Fin 4) (t : Fin 128), x6 (ix2 t ⟨k.val, by omega⟩) = p.bs k t
  cw : Has x7 p.cw
  ga : Has x8 fun _ => p.ga
  gb : Has x9 fun _ => p.gb
  wo : Has x10 p.wo

section reads

variable {sg : RefSig} {R C n n' o o' : ℕ} {e : EltTy}

/-- Place `(i, j)` of the block from row `o` and column `o'` on. -/
theorem rect_idx (ho : o + n ≤ R) (ho' : o' + n' ≤ C) (hh) (i : Fin n) (j : Fin n') :
    (Rect.unit (s := ⟨2, ![R, C]⟩) ![o, o'] (Shape.size ⟨2, ![n, n']⟩) hh).idx (ix2 i j) = ix2 ⟨o + i.val, by omega⟩ ⟨o' + j.val, by omega⟩ := by
  funext a
  fin_cases a <;> refine Fin.ext ?_
  · show o + 1 * i.val = o + i.val
    omega
  · show o' + 1 * j.val = o' + j.val
    omega

/-- A block, read from a buffer that holds `x`. -/
theorem read_at (ho : o + n ≤ R) (ho' : o' + n' ≤ C) {a : Memref sg .tc .vmem ⟨2, ![R, C]⟩ e} (h : a.IsWhole) (x : Vec Ideal ⟨2, ![R, C]⟩ e) (hh) (i : Fin n) (j : Fin n') :
    View.readAt (Elt Ideal) a.view (Rect.unit (s := ⟨2, ![R, C]⟩) ![o, o'] (Shape.size ⟨2, ![n, n']⟩) hh).toLoadRect (h.unread x) (ix2 i j)
      = x (ix2 ⟨o + i.val, by omega⟩ ⟨o' + j.val, by omega⟩) := by
  rw [View.readAt_eq_ld, h.read_unread]
  exact congrArg x (rect_idx ho ho' hh i j)

theorem read_whole {a : Memref sg .tc .vmem ⟨2, ![R, C]⟩ e} (h : a.IsWhole) (x : Vec Ideal ⟨2, ![R, C]⟩ e) (hh) :
    View.readAt (Elt Ideal) a.view (Rect.unit ![0, 0] (Shape.size ⟨2, ![R, C]⟩) hh).toLoadRect (h.unread x) = x := by
  rw [View.readAt_eq_ld, h.read_unread, View.ld_unit_zero hz]

/-- One layer of a stack of matrices. -/
theorem read_layer {K o : ℕ} (ho : o + 1 ≤ K) {a : Memref sg .tc .vmem ⟨3, ![K, R, C]⟩ e} (h : a.IsWhole) (x : Vec Ideal ⟨3, ![K, R, C]⟩ e) (hh) (i : Fin R) (j : Fin C) :
    View.readAt (Elt Ideal) a.view (Rect.unit (s := ⟨3, ![K, R, C]⟩) ![o, 0, 0] (Shape.size ⟨3, ![1, R, C]⟩) hh).toLoadRect (h.unread x) (ix3 (0 : Fin 1) i j)
      = x (ix3 ⟨o, by omega⟩ i j) := by
  rw [View.readAt_eq_ld, h.read_unread]
  refine congrArg x (funext fun a => ?_)
  fin_cases a <;> refine Fin.ext ?_
  · show o + 1 * 0 = o
    omega
  · show 0 + 1 * i.val = i.val
    omega
  · show 0 + 1 * j.val = j.val
    omega

end reads

/-- What one grid point reads. -/
structure In (p : Args) (b : Fin 8) (rx : Vec Ideal S512x1024 .f32) (rg : Vec Ideal S1x1024 .f32) (w0 w1 w2 w3 : Vec Ideal S1x1024x640 .bf16) (lg lb : Vec Ideal S1x512 .f32)
    (u0 u1 u2 u3 : Vec Ideal S1x128x128 .f32) (c0 c1 c2 c3 : Vec Ideal S128x1 .f32) (k0 k1 k2 ga gb : Vec Ideal S1x512 .f32) (wo : Vec Ideal S1024x1024 .bf16) : Prop where
  x : Has rx fun r => p.x (rw5 b r)
  g : Has rg fun _ => p.g
  w0 : ∀ (i : Fin 1024) (j : Fin 640), w0 (ix3 0 i j) = p.w i (quarter 0 j)
  w1 : ∀ (i : Fin 1024) (j : Fin 640), w1 (ix3 0 i j) = p.w i (quarter 1 j)
  w2 : ∀ (i : Fin 1024) (j : Fin 640), w2 (ix3 0 i j) = p.w i (quarter 2 j)
  w3 : ∀ (i : Fin 1024) (j : Fin 640), w3 (ix3 0 i j) = p.w i (quarter 3 j)
  lng : Has lg fun _ => p.lng
  lnb : Has lb fun _ => p.lnb
  u0 : ∀ t s : Fin 128, u0 (ix3 0 t s) = p.ws 0 t s
  u1 : ∀ t s : Fin 128, u1 (ix3 0 t s) = p.ws 1 t s
  u2 : ∀ t s : Fin 128, u2 (ix3 0 t s) = p.ws 2 t s
  u3 : ∀ t s : Fin 128, u3 (ix3 0 t s) = p.ws 3 t s
  c0 : Has c0 fun t _ => p.bs 0 t
  c1 : Has c1 fun t _ => p.bs 1 t
  c2 : Has c2 fun t _ => p.bs 2 t
  c3 : Has c3 fun t _ => p.bs 3 t
  k0 : Has k0 fun _ => p.cw 0
  k1 : Has k1 fun _ => p.cw 1
  k2 : Has k2 fun _ => p.cw 2
  ga : Has ga fun _ => p.ga
  gb : Has gb fun _ => p.gb
  wo : Has wo p.wo

/-- The stores of the projection, last first. -/
abbrev hL (rx : Vec Ideal S512x1024 .f32) (rg : Vec Ideal S1x1024 .f32) (w0 w1 w2 w3 : Vec Ideal S1x1024x640 .bf16) : List (View.Piece (Elt Ideal) S512x2560 .f32) :=
  [⟨Rect.unit (s := S512x2560) ![0, 1920] S512x640.size inb_S512x2560_S512x640_0_1920, k0_pay9 (F := Ideal) (k0_pay5 (F := Ideal) rx rg) w3⟩,
   ⟨Rect.unit (s := S512x2560) ![0, 1280] S512x640.size inb_S512x2560_S512x640_0_1280, k0_pay8 (F := Ideal) (k0_pay5 (F := Ideal) rx rg) w2⟩,
   ⟨Rect.unit (s := S512x2560) ![0, 640] S512x640.size inb_S512x2560_S512x640_0_640, k0_pay7 (F := Ideal) rx rg w1⟩,
   ⟨Rect.unit (s := S512x2560) ![0, 0] S512x640.size inb_S512x2560_S512x640_0_0, k0_pay6 (F := Ideal) rx rg w0⟩]

/-- The stores of the mixed values, last first. -/
abbrev mL (n : FVec Ideal S512x512 .bf16) (u0 u1 u2 u3 : Vec Ideal S1x128x128 .f32) (c0 c1 c2 c3 : Vec Ideal S128x1 .f32) : List (View.Piece (Elt Ideal) S512x512 .f32) :=
  [⟨Rect.unit (s := S512x512) ![384, 384] S128x128.size inb_S512x512_S128x128_384_384, k0_pay42 (F := Ideal) n (k0_pay23 (F := Ideal) (k0_pay22 (F := Ideal) u3)) c3⟩,
   ⟨Rect.unit (s := S512x512) ![384, 256] S128x128.size inb_S512x512_S128x128_384_256, k0_pay41 (F := Ideal) n (k0_pay21 (F := Ideal) u2) c2⟩,
   ⟨Rect.unit (s := S512x512) ![384, 128] S128x128.size inb_S512x512_S128x128_384_128, k0_pay40 (F := Ideal) n (k0_pay20 (F := Ideal) u1) c1⟩,
   ⟨Rect.unit (s := S512x512) ![384, 0] S128x128.size inb_S512x512_S128x128_384_0, k0_pay39 (F := Ideal) n (k0_pay19 (F := Ideal) u0) c0⟩,
   ⟨Rect.unit (s := S512x512) ![256, 384] S128x128.size inb_S512x512_S128x128_256_384, k0_pay38 (F := Ideal) n (k0_pay23 (F := Ideal) (k0_pay22 (F := Ideal) u3)) c3⟩,
   ⟨Rect.unit (s := S512x512) ![256, 256] S128x128.size inb_S512x512_S128x128_256_256, k0_pay37 (F := Ideal) n (k0_pay21 (F := Ideal) u2) c2⟩,
   ⟨Rect.unit (s := S512x512) ![256, 128] S128x128.size inb_S512x512_S128x128_256_128, k0_pay36 (F := Ideal) (k0_pay20 (F := Ideal) u1) (k0_pay35 (F := Ideal) n) (constant S128x128 .f32 0x00000000#32) c1⟩,
   ⟨Rect.unit (s := S512x512) ![256, 0] S128x128.size inb_S512x512_S128x128_256_0, k0_pay34 (F := Ideal) n (k0_pay19 (F := Ideal) u0) c0⟩,
   ⟨Rect.unit (s := S512x512) ![128, 384] S128x128.size inb_S512x512_S128x128_128_384, k0_pay33 (F := Ideal) n (k0_pay23 (F := Ideal) (k0_pay22 (F := Ideal) u3)) c3⟩,
   ⟨Rect.unit (s := S512x512) ![128, 256] S128x128.size inb_S512x512_S128x128_128_256, k0_pay32 (F := Ideal) n (k0_pay21 (F := Ideal) u2) c2⟩,
   ⟨Rect.unit (s := S512x512) ![128, 128] S128x128.size inb_S512x512_S128x128_128_128, k0_pay31 (F := Ideal) n (k0_pay20 (F := Ideal) u1) c1⟩,
   ⟨Rect.unit (s := S512x512) ![128, 0] S128x128.size inb_S512x512_S128x128_128_0, k0_pay30 (F := Ideal) (k0_pay28 (F := Ideal) n (k0_pay19 (F := Ideal) u0)) (k0_pay29 (F := Ideal) c0)⟩,
   ⟨Rect.unit (s := S512x512) ![0, 384] S128x128.size inb_S512x512_S128x128_0_384, k0_pay27 (F := Ideal) n (k0_pay22 (F := Ideal) u3) c3⟩,
   ⟨Rect.unit (s := S512x512) ![0, 256] S128x128.size inb_S512x512_S128x128_0_256, k0_pay26 (F := Ideal) n (k0_pay21 (F := Ideal) u2) c2⟩,
   ⟨Rect.unit (s := S512x512) ![0, 128] S128x128.size inb_S512x512_S128x128_0_128, k0_pay25 (F := Ideal) n (k0_pay20 (F := Ideal) u1) c1⟩,
   ⟨Rect.unit (s := S512x512) ![0, 0] S128x128.size inb_S512x512_S128x128_0_0, k0_pay24 (F := Ideal) n (k0_pay19 (F := Ideal) u0) c0⟩]

theorem h_cover (rx : Vec Ideal S512x1024 .f32) (rg : Vec Ideal S1x1024 .f32) (w0 w1 w2 w3 : Vec Ideal S1x1024x640 .bf16) (y : S512x2560.Idx) :
    ∃ q ∈ hL rx rg w0 w1 w2 w3, y ∈ q.1.set := View.cover_of_tiledL (hL rx rg w0 w1 w2 w3) S512x640.size (by sl_kernel_rfl) y

theorem m_cover (n : FVec Ideal S512x512 .bf16) (u0 u1 u2 u3 : Vec Ideal S1x128x128 .f32) (c0 c1 c2 c3 : Vec Ideal S128x1 .f32) (y : S512x512.Idx) :
    ∃ q ∈ mL n u0 u1 u2 u3 c0 c1 c2 c3, y ∈ q.1.set := View.cover_of_tiledL (mL n u0 u1 u2 u3 c0 c1 c2 c3) S128x128.size (by sl_kernel_rfl) y

theorem h_piece {k : Fin 4} {o : ℕ} (ho : o = 640 * k.val) (hh) {f : FVec Ideal S512x640 .f32} (hf : Has f fun r j => h p (rw5 b r) (quarter k j)) (x : Shape.Idx S512x640) :
    f x = arr (fun r => h p (rw5 b r)) ((Rect.unit (s := S512x2560) ![0, o] S512x640.size hh).emb x) := by
  subst ho
  idx_vars x
  rw [emb_idx]
  refine (hf _ _).trans ?_
  rw [show (Rect.unit (s := S512x2560) ![0, 640 * k.val] S512x640.size hh).idx (ix2 x0 x1) = _ from rect_idx (n := 512) (n' := 640) (by omega) (by omega) hh x0 x1]
  exact congrArg (fun r => h p (rw5 b r) _) (Fin.ext (Nat.zero_add _).symm)

theorem m_piece {k e : Fin 4} {o o' : ℕ} (ho : o = 128 * e.val) (ho' : o' = 128 * k.val) (hh) {f : FVec Ideal S128x128 .f32}
    (hf : Has f fun t d => mixed p (rw5 b (rc e t)) (col k d)) (x : Shape.Idx S128x128) :
    f x = arr (fun r => mixed p (rw5 b r)) ((Rect.unit (s := S512x512) ![o, o'] S128x128.size hh).emb x) := by
  subst ho ho'
  idx_vars x
  rw [emb_idx]
  refine (hf _ _).trans ?_
  rw [show (Rect.unit (s := S512x512) ![128 * e.val, 128 * k.val] S128x128.size hh).idx (ix2 x0 x1) = _ from rect_idx (n := 128) (n' := 128) (by omega) (by omega) hh x0 x1]
  rfl

/-- The columns that are activated, the gate's, and the two parts of the product. -/
abbrev lo (hL : List (View.Piece (Elt Ideal) S512x2560 .f32)) (v : View sig .tc .vmem S512x2560 .f32) : Vec Ideal S512x1024 .f32 :=
  v.readCov hL (Rect.unit (s := S512x2560) ![0, 0] S512x1024.size inb_S512x2560_S512x1024_0_0).toLoadRect
abbrev qb (hL : List (View.Piece (Elt Ideal) S512x2560 .f32)) (v : View sig .tc .vmem S512x2560 .f32) : Vec Ideal S512x512 .f32 :=
  v.readCov hL (Rect.unit (s := S512x2560) ![0, 1024] S512x512.size inb_S512x2560_S512x512_0_1024).toLoadRect
abbrev qc (hL : List (View.Piece (Elt Ideal) S512x2560 .f32)) (v : View sig .tc .vmem S512x2560 .f32) : Vec Ideal S512x512 .f32 :=
  v.readCov hL (Rect.unit (s := S512x2560) ![0, 1536] S512x512.size inb_S512x2560_S512x512_0_1536).toLoadRect
abbrev qv (hL : List (View.Piece (Elt Ideal) S512x2560 .f32)) (v : View sig .tc .vmem S512x2560 .f32) : Vec Ideal S512x512 .f32 :=
  v.readCov hL (Rect.unit (s := S512x2560) ![0, 2048] S512x512.size inb_S512x2560_S512x512_0_2048).toLoadRect

/-- The normed values, from the activated columns. -/
abbrev nv (h : Vec Ideal S512x1024 .f32) (lg lb : Vec Ideal S1x512 .f32) : FVec Ideal S512x512 .bf16 :=
  k0_pay18 (F := Ideal) (k0_pay14 (F := Ideal) h) (k0_pay15 (F := Ideal) lg) (k0_pay16 (F := Ideal) lb) (k0_pay17 (F := Ideal) h)

section values

variable {rx : Vec Ideal S512x1024 .f32} {rg : Vec Ideal S1x1024 .f32} {w0 w1 w2 w3 : Vec Ideal S1x1024x640 .bf16} {lg lb : Vec Ideal S1x512 .f32}
    {u0 u1 u2 u3 : Vec Ideal S1x128x128 .f32} {c0 c1 c2 c3 : Vec Ideal S128x1 .f32} {k0 k1 k2 ga gb : Vec Ideal S1x512 .f32} {wo : Vec Ideal S1024x1024 .bf16}
    (I : In p b rx rg w0 w1 w2 w3 lg lb u0 u1 u2 u3 c0 c1 c2 c3 k0 k1 k2 ga gb wo)
include I

theorem canon_h (i : Fin 512) (j : Fin 2560) : View.canon (hL rx rg w0 w1 w2 w3) (ix2 i j) = h p (rw5 b i) j := by
  refine View.canon_apply_of_pieces (Val := Elt Ideal) (arr fun r => h p (rw5 b r)) _ ?_ (ix2 i j) (h_cover rx rg w0 w1 w2 w3 _)
  have hn := pay5 I.x I.g
  simp only [List.forall_mem_cons, List.not_mem_nil, false_imp_iff, implies_true, and_true]
  exact ⟨h_piece (k := 3) rfl _ (pay8 hn I.w3), h_piece (k := 2) rfl _ (pay8 hn I.w2), h_piece (k := 1) rfl _ (pay8 hn I.w1), h_piece (k := 0) rfl _ (pay8 hn I.w0)⟩

/-- Some columns of the projection, read back. -/
theorem h_cols {n o : ℕ} (ho : o + n ≤ 2560) (v : View sig .tc .vmem S512x2560 .f32) (hh) (i : Fin 512) (j : Fin n) :
    v.readCov (hL rx rg w0 w1 w2 w3) (Rect.unit (s := S512x2560) ![0, o] (Shape.size ⟨2, ![512, n]⟩) hh).toLoadRect (ix2 i j) = h p (rw5 b i) ⟨o + j.val, by omega⟩ := by
  rw [View.readCov_eq_canon_ld (Val := Elt Ideal) _ _ _ (h_cover rx rg w0 w1 w2 w3)]
  refine (congrArg (View.canon (hL rx rg w0 w1 w2 w3)) (rect_idx (R := 512) (C := 2560) (n := 512) (n' := n) (by omega) ho hh i j)).trans ((canon_h I _ _).trans ?_)
  exact congrArg (fun r => h p (rw5 b r) _) (Fin.ext (Nat.zero_add _))

/-- The mixed values, read back. -/
theorem canon_m {n : FVec Ideal S512x512 .bf16} (hn : Has n fun r => vn p (rw5 b r)) (i j : Fin 512) : View.canon (mL n u0 u1 u2 u3 c0 c1 c2 c3) (ix2 i j) = mixed p (rw5 b i) j := by
  refine View.canon_apply_of_pieces (Val := Elt Ideal) (arr fun r => mixed p (rw5 b r)) _ ?_ (ix2 i j) (m_cover n u0 u1 u2 u3 c0 c1 c2 c3 _)
  have q0 := pay19 I.u0
  have q1 := pay19 I.u1
  have q2 := pay19 I.u2
  have q3 := pay19 I.u3
  simp only [List.forall_mem_cons, List.not_mem_nil, false_imp_iff, implies_true, and_true]
  exact ⟨m_piece (k := 3) (e := 3) rfl rfl _ (piece_is (k := 3) (e := 3) facts.slices_S512x512_o384_384_S128x128 rfl rfl q3 hn I.c3),
    m_piece (k := 2) (e := 3) rfl rfl _ (piece_is (k := 2) (e := 3) facts.slices_S512x512_o384_256_S128x128 rfl rfl q2 hn I.c2),
    m_piece (k := 1) (e := 3) rfl rfl _ (piece_is (k := 1) (e := 3) facts.slices_S512x512_o384_128_S128x128 rfl rfl q1 hn I.c1),
    m_piece (k := 0) (e := 3) rfl rfl _ (piece_is (k := 0) (e := 3) facts.slices_S512x512_o384_0_S128x128 rfl rfl q0 hn I.c0),
    m_piece (k := 3) (e := 2) rfl rfl _ (piece_is (k := 3) (e := 2) facts.slices_S512x512_o256_384_S128x128 rfl rfl q3 hn I.c3),
    m_piece (k := 2) (e := 2) rfl rfl _ (piece_is (k := 2) (e := 2) facts.slices_S512x512_o256_256_S128x128 rfl rfl q2 hn I.c2),
    m_piece (k := 1) (e := 2) rfl rfl _ (piece_is (k := 1) (e := 2) facts.slices_S512x512_o256_128_S128x128 rfl rfl q1 hn I.c1),
    m_piece (k := 0) (e := 2) rfl rfl _ (piece_is (k := 0) (e := 2) facts.slices_S512x512_o256_0_S128x128 rfl rfl q0 hn I.c0),
    m_piece (k := 3) (e := 1) rfl rfl _ (piece_is (k := 3) (e := 1) facts.slices_S512x512_o128_384_S128x128 rfl rfl q3 hn I.c3),
    m_piece (k := 2) (e := 1) rfl rfl _ (piece_is (k := 2) (e := 1) facts.slices_S512x512_o128_256_S128x128 rfl rfl q2 hn I.c2),
    m_piece (k := 1) (e := 1) rfl rfl _ (piece_is (k := 1) (e := 1) facts.slices_S512x512_o128_128_S128x128 rfl rfl q1 hn I.c1),
    m_piece (k := 0) (e := 1) rfl rfl _ (piece_is (k := 0) (e := 1) facts.slices_S512x512_o128_0_S128x128 rfl rfl q0 hn I.c0),
    m_piece (k := 3) (e := 0) rfl rfl _ (piece_is (k := 3) (e := 0) facts.slices_S512x512_o0_384_S128x128 rfl rfl q3 hn I.c3),
    m_piece (k := 2) (e := 0) rfl rfl _ (piece_is (k := 2) (e := 0) facts.slices_S512x512_o0_256_S128x128 rfl rfl q2 hn I.c2),
    m_piece (k := 1) (e := 0) rfl rfl _ (piece_is (k := 1) (e := 0) facts.slices_S512x512_o0_128_S128x128 rfl rfl q1 hn I.c1),
    m_piece (k := 0) (e := 0) rfl rfl _ (piece_is (k := 0) (e := 0) facts.slices_S512x512_o0_0_S128x128 rfl rfl q0 hn I.c0)⟩

theorem m_all {n : FVec Ideal S512x512 .bf16} (hn : Has n fun r => vn p (rw5 b r)) (v : View sig .tc .vmem S512x512 .f32) (hh) :
    Has (v.readCov (mL n u0 u1 u2 u3 c0 c1 c2 c3) (Rect.unit (s := S512x512) ![0, 0] S512x512.size hh).toLoadRect) fun r => mixed p (rw5 b r) := by
  intro i j
  rw [View.readCov_eq_canon_ld (Val := Elt Ideal) _ _ _ (m_cover n u0 u1 u2 u3 c0 c1 c2 c3), View.ld_unit_zero (S := S512x512) hz]
  exact canon_m I hn i j

variable (v : View sig .tc .vmem S512x2560 .f32)

theorem lo_is : Has (lo (hL rx rg w0 w1 w2 w3) v) fun r j => h p (rw5 b r) (act j) :=
  fun i j => (h_cols I (n := 1024) (by omega) v _ i j).trans (at1 _ (Nat.zero_add _))
theorem nv_is : Has (nv (lo (hL rx rg w0 w1 w2 w3) v) lg lb) fun r => vn p (rw5 b r) := pay18 (lo_is I v) I.lng I.lnb
theorem na_is (v' : View sig .tc .vmem S512x512 .f32) : Has (k0_pay43 (F := Ideal) (k0_pay13 (F := Ideal) (lo (hL rx rg w0 w1 w2 w3) v))
    (v'.readCov (mL (nv (lo (hL rx rg w0 w1 w2 w3) v) lg lb) u0 u1 u2 u3 c0 c1 c2 c3) (Rect.unit (s := S512x512) ![0, 0] S512x512.size inb_S512x512_S512x512_0_0).toLoadRect) ga)
    fun r => na p (rw5 b r) := pay43 (pay13 (lo_is I v)) (m_all I (nv_is I v) v' _) I.ga
theorem z_is : Has (k0_pay45 (F := Ideal) (qc (hL rx rg w0 w1 w2 w3) v) (qv (hL rx rg w0 w1 w2 w3) v)) fun r => z p (rw5 b r) :=
  pay45 (fun i j => h_cols I (n := 512) (by omega) v _ i j) (fun i j => h_cols I (n := 512) (by omega) v _ i j)

variable (v' : View sig .tc .vmem S512x512 .f32) {zp : Vec Ideal S8x512 .f32} (hp : Has zp (before p b))
include hp

theorem y_is : Has (k0_pay2 (F := Ideal) (k0_pay43 (F := Ideal) (k0_pay13 (F := Ideal) (lo (hL rx rg w0 w1 w2 w3) v))
    (v'.readCov (mL (nv (lo (hL rx rg w0 w1 w2 w3) v) lg lb) u0 u1 u2 u3 c0 c1 c2 c3) (Rect.unit (s := S512x512) ![0, 0] S512x512.size inb_S512x512_S512x512_0_0).toLoadRect) ga)
    (k0_pay46 (F := Ideal) (k0_pay44 (F := Ideal) (qb (hL rx rg w0 w1 w2 w3) v)) (qc (hL rx rg w0 w1 w2 w3) v) (qv (hL rx rg w0 w1 w2 w3) v) zp k0 k1 k2) (k0_pay47 (F := Ideal) gb)
    (k0_pay48 (F := Ideal) (k0_pay44 (F := Ideal) (qb (hL rx rg w0 w1 w2 w3) v)) (qc (hL rx rg w0 w1 w2 w3) v) (qv (hL rx rg w0 w1 w2 w3) v) zp k0 k1 k2))
    fun r => y p (rw5 b r) :=
  pay2 (fun i j => h_cols I (n := 512) (by omega) v _ i j) (z_is I v) hp I.k0 I.k1 I.k2 (na_is I v v') I.gb

theorem out_is : Has (k0_pay3 (F := Ideal) rx (k0_pay43 (F := Ideal) (k0_pay13 (F := Ideal) (lo (hL rx rg w0 w1 w2 w3) v))
    (v'.readCov (mL (nv (lo (hL rx rg w0 w1 w2 w3) v) lg lb) u0 u1 u2 u3 c0 c1 c2 c3) (Rect.unit (s := S512x512) ![0, 0] S512x512.size inb_S512x512_S512x512_0_0).toLoadRect) ga)
    (k0_pay46 (F := Ideal) (k0_pay44 (F := Ideal) (qb (hL rx rg w0 w1 w2 w3) v)) (qc (hL rx rg w0 w1 w2 w3) v) (qv (hL rx rg w0 w1 w2 w3) v) zp k0 k1 k2) (k0_pay47 (F := Ideal) gb)
    (k0_pay48 (F := Ideal) (k0_pay44 (F := Ideal) (qb (hL rx rg w0 w1 w2 w3) v)) (qc (hL rx rg w0 w1 w2 w3) v) (qv (hL rx rg w0 w1 w2 w3) v) zp k0 k1 k2) wo)
    fun r => out p (rw5 b r) :=
  pay3 (fun i j => h_cols I (n := 512) (by omega) v _ i j) (z_is I v) hp I.k0 I.k1 I.k2 I.x (na_is I v v') I.gb I.wo

end values

variable (c : Dev nD) (i : grid0.Coords)
  (a1 : Memref sig .tc .vmem S512x1024 .f32) (h1 : a1.IsWhole)
  (a2 : Memref sig .tc .vmem S1x1024 .f32) (h2 : a2.IsWhole)
  (a3 : Memref sig .tc .vmem S4x1024x640 .bf16) (h3 : a3.IsWhole)
  (a4 : Memref sig .tc .vmem S1x512 .f32) (h4 : a4.IsWhole)
  (a5 : Memref sig .tc .vmem S1x512 .f32) (h5 : a5.IsWhole)
  (a6 : Memref sig .tc .vmem S4x128x128 .f32) (h6 : a6.IsWhole)
  (a7 : Memref sig .tc .vmem S128x128 .f32) (h7 : a7.IsWhole)
  (a8 : Memref sig .tc .vmem S3x512 .f32) (h8 : a8.IsWhole)
  (a9 : Memref sig .tc .vmem S1x512 .f32) (h9 : a9.IsWhole)
  (a10 : Memref sig .tc .vmem S1x512 .f32) (h10 : a10.IsWhole)
  (a11 : Memref sig .tc .vmem S1024x1024 .bf16) (h11 : a11.IsWhole)
  (a12 : Memref sig .tc .vmem S512x2560 .f32) (h12 : a12.IsWhole)
  (a13 : Memref sig .tc .vmem S512x1024 .f32) (h13 : a13.IsWhole)
  (a14 : Memref sig .tc .vmem S512x1024 .bf16) (h14 : a14.IsWhole)
  (a15 : Memref sig .tc .vmem S512x1024 .bf16) (h15 : a15.IsWhole)
  (a16 : Memref sig .tc .vmem S512x512 .f32) (h16 : a16.IsWhole)
  (a17 : Memref sig .tc .vmem S512x1024 .f32) (h17 : a17.IsWhole)
  (a18 : Memref sig .tc .vmem S8x512 .f32) (h18 : a18.IsWhole)
  {x0 : Vec Ideal S512x1024 .f32} {x1 : Vec Ideal S1x1024 .f32} {x2 : Vec Ideal S4x1024x640 .bf16} {x3 : Vec Ideal S1x512 .f32} {x4 : Vec Ideal S1x512 .f32} {x5 : Vec Ideal S4x128x128 .f32} {x6 : Vec Ideal S128x128 .f32} {x7 : Vec Ideal S3x512 .f32} {x8 : Vec Ideal S1x512 .f32} {x9 : Vec Ideal S1x512 .f32} {x10 : Vec Ideal S1024x1024 .bf16}

variable (H : Blk p b x0 x1 x2 x3 x4 x5 x6 x7 x8 x9 x10)
include H

theorem ins : In p b
    (View.readAt (Elt Ideal) a1.view (Rect.unit (s := S512x1024) ![0, 0] S512x1024.size inb_S512x1024_S512x1024_0_0).toLoadRect (h1.unread x0))
    (View.readAt (Elt Ideal) a2.view (Rect.unit (s := S1x1024) ![0, 0] S1x1024.size inb_S1x1024_S1x1024_0_0).toLoadRect (h2.unread x1))
    (View.readAt (Elt Ideal) a3.view (Rect.unit (s := S4x1024x640) ![0, 0, 0] S1x1024x640.size inb_S4x1024x640_S1x1024x640_0_0_0).toLoadRect (h3.unread x2))
    (View.readAt (Elt Ideal) a3.view (Rect.unit (s := S4x1024x640) ![1, 0, 0] S1x1024x640.size inb_S4x1024x640_S1x1024x640_1_0_0).toLoadRect (h3.unread x2))
    (View.readAt (Elt Ideal) a3.view (Rect.unit (s := S4x1024x640) ![2, 0, 0] S1x1024x640.size inb_S4x1024x640_S1x1024x640_2_0_0).toLoadRect (h3.unread x2))
    (View.readAt (Elt Ideal) a3.view (Rect.unit (s := S4x1024x640) ![3, 0, 0] S1x1024x640.size inb_S4x1024x640_S1x1024x640_3_0_0).toLoadRect (h3.unread x2))
    (View.readAt (Elt Ideal) a4.view (Rect.unit (s := S1x512) ![0, 0] S1x512.size inb_S1x512_S1x512_0_0).toLoadRect (h4.unread x3))
    (View.readAt (Elt Ideal) a5.view (Rect.unit (s := S1x512) ![0, 0] S1x512.size inb_S1x512_S1x512_0_0).toLoadRect (h5.unread x4))
    (View.readAt (Elt Ideal) a6.view (Rect.unit (s := S4x128x128) ![0, 0, 0] S1x128x128.size inb_S4x128x128_S1x128x128_0_0_0).toLoadRect (h6.unread x5))
    (View.readAt (Elt Ideal) a6.view (Rect.unit (s := S4x128x128) ![1, 0, 0] S1x128x128.size inb_S4x128x128_S1x128x128_1_0_0).toLoadRect (h6.unread x5))
    (View.readAt (Elt Ideal) a6.view (Rect.unit (s := S4x128x128) ![2, 0, 0] S1x128x128.size inb_S4x128x128_S1x128x128_2_0_0).toLoadRect (h6.unread x5))
    (View.readAt (Elt Ideal) a6.view (Rect.unit (s := S4x128x128) ![3, 0, 0] S1x128x128.size inb_S4x128x128_S1x128x128_3_0_0).toLoadRect (h6.unread x5))
    (View.readAt (Elt Ideal) a7.view (Rect.unit (s := S128x128) ![0, 0] S128x1.size inb_S128x128_S128x1_0_0).toLoadRect (h7.unread x6))
    (View.readAt (Elt Ideal) a7.view (Rect.unit (s := S128x128) ![0, 1] S128x1.size inb_S128x128_S128x1_0_1).toLoadRect (h7.unread x6))
    (View.readAt (Elt Ideal) a7.view (Rect.unit (s := S128x128) ![0, 2] S128x1.size inb_S128x128_S128x1_0_2).toLoadRect (h7.unread x6))
    (View.readAt (Elt Ideal) a7.view (Rect.unit (s := S128x128) ![0, 3] S128x1.size inb_S128x128_S128x1_0_3).toLoadRect (h7.unread x6))
    (View.readAt (Elt Ideal) a8.view (Rect.unit (s := S3x512) ![0, 0] S1x512.size inb_S3x512_S1x512_0_0).toLoadRect (h8.unread x7))
    (View.readAt (Elt Ideal) a8.view (Rect.unit (s := S3x512) ![1, 0] S1x512.size inb_S3x512_S1x512_1_0).toLoadRect (h8.unread x7))
    (View.readAt (Elt Ideal) a8.view (Rect.unit (s := S3x512) ![2, 0] S1x512.size inb_S3x512_S1x512_2_0).toLoadRect (h8.unread x7))
    (View.readAt (Elt Ideal) a9.view (Rect.unit (s := S1x512) ![0, 0] S1x512.size inb_S1x512_S1x512_0_0).toLoadRect (h9.unread x8))
    (View.readAt (Elt Ideal) a10.view (Rect.unit (s := S1x512) ![0, 0] S1x512.size inb_S1x512_S1x512_0_0).toLoadRect (h10.unread x9))
    (View.readAt (Elt Ideal) a11.view (Rect.unit (s := S1024x1024) ![0, 0] S1024x1024.size inb_S1024x1024_S1024x1024_0_0).toLoadRect (h11.unread x10)) where
  x := by rw [read_whole]; exact H.x
  g := by rw [read_whole]; exact H.g
  w0 := fun i j => (read_layer (R := 1024) (C := 640) (by omega) h3 x2 _ i j).trans (H.w 0 i j)
  w1 := fun i j => (read_layer (R := 1024) (C := 640) (by omega) h3 x2 _ i j).trans (H.w 1 i j)
  w2 := fun i j => (read_layer (R := 1024) (C := 640) (by omega) h3 x2 _ i j).trans (H.w 2 i j)
  w3 := fun i j => (read_layer (R := 1024) (C := 640) (by omega) h3 x2 _ i j).trans (H.w 3 i j)
  lng := by rw [read_whole]; exact H.lng
  lnb := by rw [read_whole]; exact H.lnb
  u0 := fun t s => (read_layer (R := 128) (C := 128) (by omega) h6 x5 _ t s).trans (H.ws 0 t s)
  u1 := fun t s => (read_layer (R := 128) (C := 128) (by omega) h6 x5 _ t s).trans (H.ws 1 t s)
  u2 := fun t s => (read_layer (R := 128) (C := 128) (by omega) h6 x5 _ t s).trans (H.ws 2 t s)
  u3 := fun t s => (read_layer (R := 128) (C := 128) (by omega) h6 x5 _ t s).trans (H.ws 3 t s)
  c0 := fun t z => (read_at (R := 128) (C := 128) (n := 128) (n' := 1) (by omega) (by omega) h7 x6 _ t z).trans ((congrArg x6 (congrArg₂ ix2 (Fin.ext (Nat.zero_add _)) (Fin.ext (by dsimp only; omega)))).trans (H.bs 0 t))
  c1 := fun t z => (read_at (R := 128) (C := 128) (n := 128) (n' := 1) (by omega) (by omega) h7 x6 _ t z).trans ((congrArg x6 (congrArg₂ ix2 (Fin.ext (Nat.zero_add _)) (Fin.ext (by dsimp only; omega)))).trans (H.bs 1 t))
  c2 := fun t z => (read_at (R := 128) (C := 128) (n := 128) (n' := 1) (by omega) (by omega) h7 x6 _ t z).trans ((congrArg x6 (congrArg₂ ix2 (Fin.ext (Nat.zero_add _)) (Fin.ext (by dsimp only; omega)))).trans (H.bs 2 t))
  c3 := fun t z => (read_at (R := 128) (C := 128) (n := 128) (n' := 1) (by omega) (by omega) h7 x6 _ t z).trans ((congrArg x6 (congrArg₂ ix2 (Fin.ext (Nat.zero_add _)) (Fin.ext (by dsimp only; omega)))).trans (H.bs 3 t))
  k0 := fun z j => (read_at (R := 3) (C := 512) (n := 1) (n' := 512) (by omega) (by omega) h8 x7 _ z j).trans ((congrArg x7 (congrArg₂ ix2 (Fin.ext (by dsimp only; omega)) (Fin.ext (Nat.zero_add _)))).trans (H.cw 0 j))
  k1 := fun z j => (read_at (R := 3) (C := 512) (n := 1) (n' := 512) (by omega) (by omega) h8 x7 _ z j).trans ((congrArg x7 (congrArg₂ ix2 (Fin.ext (by dsimp only; omega)) (Fin.ext (Nat.zero_add _)))).trans (H.cw 1 j))
  k2 := fun z j => (read_at (R := 3) (C := 512) (n := 1) (n' := 512) (by omega) (by omega) h8 x7 _ z j).trans ((congrArg x7 (congrArg₂ ix2 (Fin.ext (by dsimp only; omega)) (Fin.ext (Nat.zero_add _)))).trans (H.cw 2 j))
  ga := by rw [read_whole]; exact H.ga
  gb := by rw [read_whole]; exact H.gb
  wo := by rw [read_whole]; exact H.wo

theorem outA11 (hc : cond0_0 i) : Has (out0_A_11 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10) (fun r => h p (rw5 b r)) := by
  intro r j
  unfold out0_A_11
  rw [View.read_writes_eq_canon _ _ _ (fun y => by apply cover0_A_11)]
  unfold kernelRun0_A
  dsimp only
  sl_unfold_words
  exact canon_h (ins a1 h1 a2 h2 a3 h3 a4 h4 a5 h5 a6 h6 a7 h7 a8 h8 a9 h9 a10 h10 a11 h11 H) r j

theorem outA15 (hc : cond0_0 i) : Has (out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10) (fun r => mixed p (rw5 b r)) := by
  intro r j
  unfold out0_A_15
  rw [View.read_writes_eq_canon _ _ _ (fun y => by apply cover0_A_15)]
  unfold kernelRun0_A
  dsimp only
  sl_unfold_words
  exact canon_m (ins a1 h1 a2 h2 a3 h3 a4 h4 a5 h5 a6 h6 a7 h7 a8 h8 a9 h9 a10 h10 a11 h11 H) (nv_is (ins a1 h1 a2 h2 a3 h3 a4 h4 a5 h5 a6 h6 a7 h7 a8 h8 a9 h9 a10 h10 a11 h11 H) a12.view) r j

theorem outA14 (hc : cond0_0 i) : Has (out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10) (fun r => xn p (rw5 b r)) := by
  unfold out0_A_14
  rw [View.read_writes_eq_canon _ _ _ (fun y => by apply cover0_A_14)]
  unfold kernelRun0_A
  dsimp only
  sl_unfold_words
  rw [View.canon_unit_zero hz]
  exact pay5 (ins a1 h1 a2 h2 a3 h3 a4 h4 a5 h5 a6 h6 a7 h7 a8 h8 a9 h9 a10 h10 a11 h11 H).x (ins a1 h1 a2 h2 a3 h3 a4 h4 a5 h5 a6 h6 a7 h7 a8 h8 a9 h9 a10 h10 a11 h11 H).g

theorem outA16 (hc : cond0_0 i) : Has (out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10) (fun r => th p (rw5 b r)) := by
  unfold out0_A_16
  rw [View.read_writes_eq_canon _ _ _ (fun y => by apply cover0_A_16)]
  unfold kernelRun0_A
  dsimp only
  sl_unfold_words
  rw [View.canon_unit_zero hz]
  exact pay11 (lo_is (ins a1 h1 a2 h2 a3 h3 a4 h4 a5 h5 a6 h6 a7 h7 a8 h8 a9 h9 a10 h10 a11 h11 H) a12.view)

theorem outA13 (hc : cond0_0 i) (hb : b = 0) : Has (out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10) (fun r => y p (rw5 b r)) := by
  unfold out0_A_13
  rw [View.read_writes_eq_canon _ _ _ (fun y => by apply cover0_A_13)]
  unfold kernelRun0_A
  dsimp only
  sl_unfold_words
  rw [View.canon_unit_zero hz]
  rw [View.readCov_unit_zero (S := S8x512) _ hz]
  exact y_is (ins a1 h1 a2 h2 a3 h3 a4 h4 a5 h5 a6 h6 a7 h7 a8 h8 a9 h9 a10 h10 a11 h11 H) a12.view a16.view (by subst hb; exact pay4)

theorem outA12 (hc : cond0_0 i) (hb : b = 0) : Has (out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10) (fun r => out p (rw5 b r)) := by
  unfold out0_A_12
  rw [View.read_writes_eq_canon _ _ _ (fun y => by apply cover0_A_12)]
  unfold kernelRun0_A
  dsimp only
  sl_unfold_words
  rw [View.canon_unit_zero hz]
  rw [View.readCov_unit_zero (S := S8x512) _ hz]
  exact out_is (ins a1 h1 a2 h2 a3 h3 a4 h4 a5 h5 a6 h6 a7 h7 a8 h8 a9 h9 a10 h10 a11 h11 H) a12.view a16.view (by subst hb; exact pay4)

theorem soutA (hc : cond0_0 i) (hb : b.val + 1 < 8) : Has (sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10) (before p ⟨b.val + 1, hb⟩) := by
  unfold sout0_A_0
  rw [View.read_writes_eq_canon _ _ _ (fun y => by apply scover0_A_0)]
  unfold kernelRun0_A
  dsimp only
  sl_unfold_words
  rw [View.canon_cons_unit_zero (S := S8x512) hz]
  exact pay1 (z_is (ins a1 h1 a2 h2 a3 h3 a4 h4 a5 h5 a6 h6 a7 h7 a8 h8 a9 h9 a10 h10 a11 h11 H) a12.view) hb

theorem outB11 (hc : ¬cond0_0 i) (xs0 : Vec Ideal S8x512 .f32) : Has (out0_B_11 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 xs0) (fun r => h p (rw5 b r)) := by
  intro r j
  unfold out0_B_11
  rw [View.read_writes_eq_canon _ _ _ (fun y => by apply cover0_B_11)]
  unfold kernelRun0_B
  dsimp only
  sl_unfold_words
  exact canon_h (ins a1 h1 a2 h2 a3 h3 a4 h4 a5 h5 a6 h6 a7 h7 a8 h8 a9 h9 a10 h10 a11 h11 H) r j

theorem outB15 (hc : ¬cond0_0 i) (xs0 : Vec Ideal S8x512 .f32) : Has (out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 xs0) (fun r => mixed p (rw5 b r)) := by
  intro r j
  unfold out0_B_15
  rw [View.read_writes_eq_canon _ _ _ (fun y => by apply cover0_B_15)]
  unfold kernelRun0_B
  dsimp only
  sl_unfold_words
  exact canon_m (ins a1 h1 a2 h2 a3 h3 a4 h4 a5 h5 a6 h6 a7 h7 a8 h8 a9 h9 a10 h10 a11 h11 H) (nv_is (ins a1 h1 a2 h2 a3 h3 a4 h4 a5 h5 a6 h6 a7 h7 a8 h8 a9 h9 a10 h10 a11 h11 H) a12.view) r j

theorem outB14 (hc : ¬cond0_0 i) (xs0 : Vec Ideal S8x512 .f32) : Has (out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 xs0) (fun r => xn p (rw5 b r)) := by
  unfold out0_B_14
  rw [View.read_writes_eq_canon _ _ _ (fun y => by apply cover0_B_14)]
  unfold kernelRun0_B
  dsimp only
  sl_unfold_words
  rw [View.canon_unit_zero hz]
  exact pay5 (ins a1 h1 a2 h2 a3 h3 a4 h4 a5 h5 a6 h6 a7 h7 a8 h8 a9 h9 a10 h10 a11 h11 H).x (ins a1 h1 a2 h2 a3 h3 a4 h4 a5 h5 a6 h6 a7 h7 a8 h8 a9 h9 a10 h10 a11 h11 H).g

theorem outB16 (hc : ¬cond0_0 i) (xs0 : Vec Ideal S8x512 .f32) : Has (out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 xs0) (fun r => th p (rw5 b r)) := by
  unfold out0_B_16
  rw [View.read_writes_eq_canon _ _ _ (fun y => by apply cover0_B_16)]
  unfold kernelRun0_B
  dsimp only
  sl_unfold_words
  rw [View.canon_unit_zero hz]
  exact pay11 (lo_is (ins a1 h1 a2 h2 a3 h3 a4 h4 a5 h5 a6 h6 a7 h7 a8 h8 a9 h9 a10 h10 a11 h11 H) a12.view)

theorem outB13 (hc : ¬cond0_0 i) (xs0 : Vec Ideal S8x512 .f32) (hp : Has xs0 (before p b)) : Has (out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 xs0) (fun r => y p (rw5 b r)) := by
  unfold out0_B_13
  rw [View.read_writes_eq_canon _ _ _ (fun y => by apply cover0_B_13)]
  unfold kernelRun0_B
  dsimp only
  sl_unfold_words
  rw [View.canon_unit_zero hz]
  rw [read_whole h18]
  exact y_is (ins a1 h1 a2 h2 a3 h3 a4 h4 a5 h5 a6 h6 a7 h7 a8 h8 a9 h9 a10 h10 a11 h11 H) a12.view a16.view hp

theorem outB12 (hc : ¬cond0_0 i) (xs0 : Vec Ideal S8x512 .f32) (hp : Has xs0 (before p b)) : Has (out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 xs0) (fun r => out p (rw5 b r)) := by
  unfold out0_B_12
  rw [View.read_writes_eq_canon _ _ _ (fun y => by apply cover0_B_12)]
  unfold kernelRun0_B
  dsimp only
  sl_unfold_words
  rw [View.canon_unit_zero hz]
  rw [read_whole h18]
  exact out_is (ins a1 h1 a2 h2 a3 h3 a4 h4 a5 h5 a6 h6 a7 h7 a8 h8 a9 h9 a10 h10 a11 h11 H) a12.view a16.view hp

theorem soutB (hc : ¬cond0_0 i) (xs0 : Vec Ideal S8x512 .f32) (hb : b.val + 1 < 8) : Has (sout0_B_0 (F := Ideal) c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 xs0) (before p ⟨b.val + 1, hb⟩) := by
  unfold sout0_B_0
  rw [View.read_writes_eq_canon _ _ _ (fun y => by apply scover0_B_0)]
  unfold kernelRun0_B
  dsimp only
  sl_unfold_words
  rw [View.canon_unit_zero hz]
  exact pay1 (z_is (ins a1 h1 a2 h2 a3 h3 a4 h4 a5 h5 a6 h6 a7 h7 a8 h8 a9 h9 a10 h10 a11 h11 H) a12.view) hb

end Cert.Proof.MixFwd

end
-- ==== Proof.AttnFwdOut.lean ====
/- The attention's forward kernel: what the preparation and each point leave in the staging buffers. -/
module

public import proofs.«01_k».proof.Proof.AttnFwdFrame
public import proofs.«01_k».proof.Proof.AttnFwdPay
public import proofs.«01_k».proof.Proof.MixFwdOut

@[expose] public section

set_option maxRecDepth 16384

noncomputable section

namespace Cert.Proof.AttnFwd

open Idealize.ShloMosaic Idealize.SL.Sem Cert.AttnFwdIdeal Cert.AttnFwdIdeal.Gen Idealize.ShloMosaic.TcCoe
open Idealize.ShloMosaic.Pipeline (Dat Cfg Window)
open Cert.Proof.MixFwd (Has inv len off at1 hz emb_idx arr rect_idx read_at read_whole read_layer)

variable {p : Args} {b : Fin 8}

/-- What one grid point's input blocks hold. -/
structure Blk (p : Args) (b : Fin 8) (x0 : Vec Ideal S512x1024 .f32) (x1 : Vec Ideal S256x1024 .f32) (x2 x3 : Vec Ideal S1x1024 .f32)
    (x4 : Vec Ideal S1024x1024 .bf16) (x5 : Vec Ideal S4x1024x512 .bf16) (x6 : Vec Ideal S1024x1024 .bf16) : Prop where
  x : Has x0 fun r => p.x (rw5 b r)
  m : Has x1 p.m
  g : Has x2 fun _ => p.g
  gm : Has x3 fun _ => p.gm
  wq : Has x4 p.wq
  wkv : ∀ (k : Fin 4) (i : Fin 1024) (j : Fin 512), x5 (ix3 k i j) = p.wkv i (quarter k j)
  wo : Has x6 p.wo

/-- The stores of the keys and values, last first. -/
abbrev kvL (n : FVec Ideal S256x1024 .bf16) (w0 w1 w2 w3 : Vec Ideal S1x1024x512 .bf16) : List (View.Piece (Elt Ideal) S256x2048 .bf16) :=
  [⟨Rect.unit (s := S256x2048) ![0, 1536] S256x512.size inb_S256x2048_S256x512_0_1536, k0_pay8 (F := Ideal) n w3⟩,
   ⟨Rect.unit (s := S256x2048) ![0, 1024] S256x512.size inb_S256x2048_S256x512_0_1024, k0_pay8 (F := Ideal) n w2⟩,
   ⟨Rect.unit (s := S256x2048) ![0, 512] S256x512.size inb_S256x2048_S256x512_0_512, k0_pay8 (F := Ideal) n w1⟩,
   ⟨Rect.unit (s := S256x2048) ![0, 0] S256x512.size inb_S256x2048_S256x512_0_0, k0_pay8 (F := Ideal) n w0⟩]

/-- Four stores of a block of rows, a head each, last first. -/
abbrev headL {e : EltTy} (f0 f1 f2 f3 : Vec Ideal S512x256 e) : List (View.Piece (Elt Ideal) S512x1024 e) :=
  [⟨Rect.unit (s := S512x1024) ![0, 768] S512x256.size inb_S512x1024_S512x256_0_768, f3⟩,
   ⟨Rect.unit (s := S512x1024) ![0, 512] S512x256.size inb_S512x1024_S512x256_0_512, f2⟩,
   ⟨Rect.unit (s := S512x1024) ![0, 256] S512x256.size inb_S512x1024_S512x256_0_256, f1⟩,
   ⟨Rect.unit (s := S512x1024) ![0, 0] S512x256.size inb_S512x1024_S512x256_0_0, f0⟩]

theorem kv_cover (n : FVec Ideal S256x1024 .bf16) (w0 w1 w2 w3 : Vec Ideal S1x1024x512 .bf16) (y : S256x2048.Idx) :
    ∃ q ∈ kvL n w0 w1 w2 w3, y ∈ q.1.set := View.cover_of_tiledL (kvL n w0 w1 w2 w3) S256x512.size (by sl_kernel_rfl) y

theorem head_cover {e : EltTy} (f0 f1 f2 f3 : Vec Ideal S512x256 e) (y : S512x1024.Idx) :
    ∃ q ∈ headL f0 f1 f2 f3, y ∈ q.1.set := View.cover_of_tiledL (headL f0 f1 f2 f3) S512x256.size (by sl_kernel_rfl) y

theorem kv_piece {k : Fin 4} {o : ℕ} (ho : o = 512 * k.val) (hh) {f : FVec Ideal S256x512 .bf16} (hf : Has f fun s j => kv p s (quarter k j)) (x : Shape.Idx S256x512) :
    f x = arr (kv p) ((Rect.unit (s := S256x2048) ![0, o] S256x512.size hh).emb x) := by
  subst ho
  idx_vars x
  rw [emb_idx]
  refine (hf _ _).trans ?_
  rw [show (Rect.unit (s := S256x2048) ![0, 512 * k.val] S256x512.size hh).idx (ix2 x0 x1) = _ from rect_idx (n := 256) (n' := 512) (by omega) (by omega) hh x0 x1]
  exact congrArg (fun s => kv p s _) (Fin.ext (Nat.zero_add _).symm)

theorem head_piece {X : Fin 512 → Fin 1024 → EReal} {k : Fin 4} {o : ℕ} (ho : o = 256 * k.val) (hh) {f : Shape.Idx S512x256 → EReal} (hf : Has f fun r d => X r (col k d)) (x : Shape.Idx S512x256) :
    f x = arr X ((Rect.unit (s := S512x1024) ![0, o] S512x256.size hh).emb x) := by
  subst ho
  idx_vars x
  rw [emb_idx]
  refine (hf _ _).trans ?_
  rw [show (Rect.unit (s := S512x1024) ![0, 256 * k.val] S512x256.size hh).idx (ix2 x0 x1) = _ from rect_idx (n := 512) (n' := 256) (by omega) (by omega) hh x0 x1]
  exact congrArg (fun r => X r _) (Fin.ext (Nat.zero_add _).symm)

theorem kv_canon {n : FVec Ideal S256x1024 .bf16} {w0 w1 w2 w3 : Vec Ideal S1x1024x512 .bf16} (hn : Has n (mn p))
    (h0 : ∀ (i : Fin 1024) (j : Fin 512), w0 (ix3 0 i j) = p.wkv i (quarter 0 j)) (h1 : ∀ (i : Fin 1024) (j : Fin 512), w1 (ix3 0 i j) = p.wkv i (quarter 1 j))
    (h2 : ∀ (i : Fin 1024) (j : Fin 512), w2 (ix3 0 i j) = p.wkv i (quarter 2 j)) (h3 : ∀ (i : Fin 1024) (j : Fin 512), w3 (ix3 0 i j) = p.wkv i (quarter 3 j)) :
    Has (View.canon (kvL n w0 w1 w2 w3)) (kv p) := by
  intro i j
  refine View.canon_apply_of_pieces (Val := Elt Ideal) (arr (kv p)) _ ?_ (ix2 i j) (kv_cover n w0 w1 w2 w3 _)
  simp only [List.forall_mem_cons, List.not_mem_nil, false_imp_iff, implies_true, and_true]
  exact ⟨kv_piece (k := 3) rfl _ (pay8 hn h3), kv_piece (k := 2) rfl _ (pay8 hn h2), kv_piece (k := 1) rfl _ (pay8 hn h1), kv_piece (k := 0) rfl _ (pay8 hn h0)⟩

theorem hd_col (k : Fin 4) (d : Fin 256) : hd (col k d) = k := Fin.ext (by dsimp only; omega)
theorem pl_col (k : Fin 4) (d : Fin 256) : pl (col k d) = d := Fin.ext (by dsimp only; omega)
theorem o_col (r : Fin 4096) (k : Fin 4) (d : Fin 256) : o p r (col k d) = at_ p r k d := by
  unfold o
  rw [hd_col, pl_col]
theorem prs_col (r : Fin 4096) (k : Fin 4) (d : Fin 256) : prs p r (col k d) = pr p r k d := by
  unfold prs
  rw [hd_col, pl_col]

section head

variable {X : Fin 512 → Fin 1024 → EReal}

theorem head_canon_b {f0 f1 f2 f3 : FVec Ideal S512x256 .bf16} (h0 : Has f0 fun r d => X r (col 0 d)) (h1 : Has f1 fun r d => X r (col 1 d)) (h2 : Has f2 fun r d => X r (col 2 d))
    (h3 : Has f3 fun r d => X r (col 3 d)) : Has (View.canon (headL (e := .bf16) f0 f1 f2 f3)) X := by
  intro i j
  refine View.canon_apply_of_pieces (Val := Elt Ideal) (arr X) _ ?_ (ix2 i j) (head_cover (e := .bf16) f0 f1 f2 f3 _)
  simp only [List.forall_mem_cons, List.not_mem_nil, false_imp_iff, implies_true, and_true]
  exact ⟨head_piece (k := 3) rfl _ h3, head_piece (k := 2) rfl _ h2, head_piece (k := 1) rfl _ h1, head_piece (k := 0) rfl _ h0⟩

theorem head_canon_f {f0 f1 f2 f3 : FVec Ideal S512x256 .f32} (h0 : Has f0 fun r d => X r (col 0 d)) (h1 : Has f1 fun r d => X r (col 1 d)) (h2 : Has f2 fun r d => X r (col 2 d))
    (h3 : Has f3 fun r d => X r (col 3 d)) : Has (View.canon (headL (e := .f32) f0 f1 f2 f3)) X := by
  intro i j
  refine View.canon_apply_of_pieces (Val := Elt Ideal) (arr X) _ ?_ (ix2 i j) (head_cover (e := .f32) f0 f1 f2 f3 _)
  simp only [List.forall_mem_cons, List.not_mem_nil, false_imp_iff, implies_true, and_true]
  exact ⟨head_piece (k := 3) rfl _ h3, head_piece (k := 2) rfl _ h2, head_piece (k := 1) rfl _ h1, head_piece (k := 0) rfl _ h0⟩

end head

/-- The store of the queries. -/
abbrev qL (f : FVec Ideal S512x1024 .bf16) : List (View.Piece (Elt Ideal) S512x1024 .bf16) := [⟨Rect.unit (s := S512x1024) ![0, 0] S512x1024.size inb_S512x1024_S512x1024_0_0, f⟩]

theorem q_cover (f : FVec Ideal S512x1024 .bf16) (y : S512x1024.Idx) : ∃ pc ∈ qL f, y ∈ pc.1.set :=
  View.cover_of_tiledL (qL f) S512x1024.size (by sl_kernel_rfl) y

/-- The queries of a head, read back. -/
theorem q_read {f : FVec Ideal S512x1024 .bf16} (hf : Has f fun r => q p (rw5 b r)) {k : Fin 4} {o : ℕ} (ho : o = 256 * k.val) (v : View sig .tc .vmem S512x1024 .bf16) (hh) :
    Has (v.readCov (qL f) (Rect.unit (s := S512x1024) ![0, o] S512x256.size hh).toLoadRect)
      (fun r d => q p (rw5 b r) (col k d)) := by
  subst ho
  intro r d
  rw [View.readCov_eq_canon_ld (Val := Elt Ideal) _ _ _ (q_cover f),
    View.canon_unit_zero hz]
  refine (congrArg f (rect_idx (R := 512) (C := 1024) (n := 512) (n' := 256) (by omega) (by omega) hh r d)).trans ((hf _ _).trans ?_)
  exact congrArg (fun r => q p (rw5 b r) _) (Fin.ext (Nat.zero_add _))

/-- The keys of a head, then its values, read from the buffer that holds them. -/
theorem k_read {x : Vec Ideal S256x2048 .bf16} (hx : Has x (kv p)) {k : Fin 4} {o : ℕ} (ho : o = 256 * k.val) {a : Memref sig .tc .vmem S256x2048 .bf16} (h : a.IsWhole) (hh) :
    Has (View.readAt (Elt Ideal) a.view (Rect.unit (s := S256x2048) ![0, o] S256x256.size hh).toLoadRect (h.unread x)) (fun s d => kv p s (kcol k d)) := by
  subst ho
  intro s d
  refine (read_at (R := 256) (C := 2048) (n := 256) (n' := 256) (by omega) (by omega) h x hh s d).trans ((hx _ _).trans ?_)
  exact congrArg (fun s => kv p s _) (Fin.ext (Nat.zero_add _))

theorem v_read {x : Vec Ideal S256x2048 .bf16} (hx : Has x (kv p)) {k : Fin 4} {o : ℕ} (ho : o = 1024 + 256 * k.val) {a : Memref sig .tc .vmem S256x2048 .bf16} (h : a.IsWhole) (hh) :
    Has (View.readAt (Elt Ideal) a.view (Rect.unit (s := S256x2048) ![0, o] S256x256.size hh).toLoadRect (h.unread x)) (fun s d => kv p s (vcol k d)) := by
  subst ho
  intro s d
  refine (read_at (R := 256) (C := 2048) (n := 256) (n' := 256) (by omega) (by omega) h x hh s d).trans ((hx _ _).trans ?_)
  exact congrArg (fun s => kv p s _) (Fin.ext (Nat.zero_add _))

/-- What the lines of head `k` read. -/
structure HeadIn (p : Args) (b : Fin 8) (h : Fin 4) (kk vv : Vec Ideal S256x256 .bf16) (qq : Vec Ideal S512x256 .bf16) : Prop where
  k : Has kk fun s d => kv p s (kcol h d)
  v : Has vv fun s d => kv p s (vcol h d)
  q : Has qq fun r d => q p (rw5 b r) (col h d)

theorem headIn {x : Vec Ideal S256x2048 .bf16} (hx : Has x (kv p)) {f : FVec Ideal S512x1024 .bf16} (hf : Has f fun r => q p (rw5 b r)) (k : Fin 4) {o o' : ℕ} (ho : o = 256 * k.val)
    (ho' : o' = 1024 + 256 * k.val) {a : Memref sig .tc .vmem S256x2048 .bf16} (h : a.IsWhole) (v : View sig .tc .vmem S512x1024 .bf16) (hh hh' hq) :
    HeadIn p b k (View.readAt (Elt Ideal) a.view (Rect.unit (s := S256x2048) ![0, o] S256x256.size hh).toLoadRect (h.unread x))
      (View.readAt (Elt Ideal) a.view (Rect.unit (s := S256x2048) ![0, o'] S256x256.size hh').toLoadRect (h.unread x))
      (v.readCov (qL f) (Rect.unit (s := S512x1024) ![0, o] S512x256.size hq).toLoadRect) :=
  ⟨k_read hx ho h hh, v_read hx ho' h hh', q_read hf ho v hq⟩

section heads

variable {k0 k1 k2 k3 v0 v1 v2 v3 : Vec Ideal S256x256 .bf16} {q0 q1 q2 q3 : Vec Ideal S512x256 .bf16}
  (I0 : HeadIn p b 0 k0 v0 q0) (I1 : HeadIn p b 1 k1 v1 q1) (I2 : HeadIn p b 2 k2 v2 q2) (I3 : HeadIn p b 3 k3 v3 q3)
include I0 I1 I2 I3

theorem p_canon : Has (View.canon (headL (e := .f32) (k0_pay13 (F := Ideal) (k0_pay11 (F := Ideal) k0 q0) (k0_pay12 (F := Ideal) k0 q0)) (k0_pay15 (F := Ideal) k1 q1) (k0_pay17 (F := Ideal) k2 q2)
    (k0_pay1 (F := Ideal) (k0_pay20 (F := Ideal) k3 q3) (k0_pay21 (F := Ideal) k3 q3)))) (fun r => prs p (rw5 b r)) := by
  rw [pay15_eq, pay17_eq, pay1_eq]
  exact head_canon_f (fun r d => (pay13 I0.k I0.q r d).trans (prs_col _ _ _).symm) (fun r d => (pay13 I1.k I1.q r d).trans (prs_col _ _ _).symm)
    (fun r d => (pay13 I2.k I2.q r d).trans (prs_col _ _ _).symm) (fun r d => (pay13 I3.k I3.q r d).trans (prs_col _ _ _).symm)

theorem o_canon : Has (View.canon (headL (e := .bf16) (k0_pay14 (F := Ideal) (k0_pay10 (F := Ideal) v0) (k0_pay11 (F := Ideal) k0 q0) (k0_pay12 (F := Ideal) k0 q0)) (k0_pay16 (F := Ideal) k1 v1 q1)
    (k0_pay18 (F := Ideal) k2 v2 q2) (k0_pay2 (F := Ideal) (k0_pay19 (F := Ideal) v3) (k0_pay20 (F := Ideal) k3 q3) (k0_pay21 (F := Ideal) k3 q3)))) (fun r => o p (rw5 b r)) := by
  rw [pay16_eq, pay18_eq, pay2_eq]
  exact head_canon_b (fun r d => (pay14 I0.k I0.q I0.v r d).trans (o_col _ _ _).symm) (fun r d => (pay14 I1.k I1.q I1.v r d).trans (o_col _ _ _).symm)
    (fun r d => (pay14 I2.k I2.q I2.v r d).trans (o_col _ _ _).symm) (fun r d => (pay14 I3.k I3.q I3.v r d).trans (o_col _ _ _).symm)

theorem o_read (v : View sig .tc .vmem S512x1024 .bf16) (hh) : Has (v.readCov (Val := Elt Ideal) (headL (e := .bf16) (k0_pay14 (F := Ideal) (k0_pay10 (F := Ideal) v0) (k0_pay11 (F := Ideal) k0 q0) (k0_pay12 (F := Ideal) k0 q0)) (k0_pay16 (F := Ideal) k1 v1 q1)
    (k0_pay18 (F := Ideal) k2 v2 q2) (k0_pay2 (F := Ideal) (k0_pay19 (F := Ideal) v3) (k0_pay20 (F := Ideal) k3 q3) (k0_pay21 (F := Ideal) k3 q3)))
    (Rect.unit (s := S512x1024) ![0, 0] S512x1024.size hh).toLoadRect) (fun r => o p (rw5 b r)) := by
  rw [View.readCov_eq_canon_ld (Val := Elt Ideal) _ _ _ (head_cover (e := .bf16) _ _ _ _), View.ld_unit_zero (S := S512x1024) hz]
  exact o_canon I0 I1 I2 I3

end heads

variable (m : (ℓ : Loc nD τ sig) → Buf (Elt Ideal) ℓ) (c : Dev nD)
  (H : ∀ t : Fin 8, Blk p t (iblk m c 0 t) (iblk m c 1 t) (iblk m c 2 t) (iblk m c 3 t) (iblk m c 4 t) (iblk m c 5 t) (iblk m c 6 t))
include H

theorem memn_is : Has (memn m c) (mn p) := by
  unfold memn
  rw [View.read_writes_eq_canon _ _ _ (cover11 m c t0_0)]
  unfold prepared runPrep
  dsimp only
  sl_unfold_words
  rw [View.canon_unit_zero hz, read_whole, read_whole]
  exact pay4 (H t0_0).m (H t0_0).gm

theorem kvs_is : Has (kvs m c) (kv p) := by
  unfold kvs
  rw [View.read_writes_eq_canon _ _ _ (cover12 m c t0_0)]
  unfold prepared runPrep
  dsimp only
  sl_unfold_words
  rw [read_whole, read_whole]
  exact kv_canon (pay4 (H t0_0).m (H t0_0).gm) (fun i j => (read_layer (R := 1024) (C := 512) (by omega) _ _ _ i j).trans ((H t0_0).wkv 0 i j))
    (fun i j => (read_layer (R := 1024) (C := 512) (by omega) _ _ _ i j).trans ((H t0_0).wkv 1 i j))
    (fun i j => (read_layer (R := 1024) (C := 512) (by omega) _ _ _ i j).trans ((H t0_0).wkv 2 i j))
    (fun i j => (read_layer (R := 1024) (C := 512) (by omega) _ _ _ i j).trans ((H t0_0).wkv 3 i j))

variable (t : Fin 8)

theorem row9_is : Has (row9 m c t) (fun r => q p (rw5 t r)) := by
  unfold row9
  rw [View.read_writes_eq_canon _ _ _ (cover9 m c t)]
  unfold rows runRows
  dsimp only
  sl_unfold_words
  rw [View.canon_unit_zero hz, read_whole, read_whole, read_whole]
  exact pay9 (H t).x (H t).g (H t).wq

theorem q_is : Has (k0_pay9 (F := Ideal)
    (View.readAt (Elt Ideal) (ms0 t).view (Rect.unit (s := S512x1024) ![0, 0] S512x1024.size inb_S512x1024_S512x1024_0_0).toLoadRect ((hs0 t).unread (iblk m c 0 t)))
    (View.readAt (Elt Ideal) (ms2 t).view (Rect.unit (s := S1x1024) ![0, 0] S1x1024.size inb_S1x1024_S1x1024_0_0).toLoadRect ((hs2 t).unread (iblk m c 2 t)))
    (View.readAt (Elt Ideal) (ms4 t).view (Rect.unit (s := S1024x1024) ![0, 0] S1024x1024.size inb_S1024x1024_S1024x1024_0_0).toLoadRect ((hs4 t).unread (iblk m c 4 t))))
    (fun r => q p (rw5 t r)) := by
  rw [read_whole, read_whole, read_whole]
  exact pay9 (H t).x (H t).g (H t).wq

theorem row10_is : Has (row10 m c t) (fun r => prs p (rw5 t r)) := by
  have hk := kvs_is m c H
  have hq := q_is m c H t
  unfold row10
  rw [View.read_writes_eq_canon _ _ _ (cover10 m c t)]
  unfold rows runRows
  dsimp only
  sl_unfold_words
  exact p_canon (headIn hk hq 0 rfl rfl _ _ _ inb_S256x2048_S256x256_0_1024 _) (headIn hk hq 1 rfl rfl _ _ _ inb_S256x2048_S256x256_0_1280 _) (headIn hk hq 2 rfl rfl _ _ _ inb_S256x2048_S256x256_0_1536 _) (headIn hk hq 3 rfl rfl _ _ _ inb_S256x2048_S256x256_0_1792 _)

theorem row8_is : Has (row8 m c t) (fun r => o p (rw5 t r)) := by
  have hk := kvs_is m c H
  have hq := q_is m c H t
  unfold row8
  rw [View.read_writes_eq_canon _ _ _ (cover8 m c t)]
  unfold rows runRows
  dsimp only
  sl_unfold_words
  exact o_canon (headIn hk hq 0 rfl rfl _ _ _ _ _) (headIn hk hq 1 rfl rfl _ _ _ _ _) (headIn hk hq 2 rfl rfl _ _ _ _ _) (headIn hk hq 3 rfl rfl _ _ _ _ _)

theorem row7_is : Has (row7 m c t) (fun r => out p (rw5 t r)) := by
  have hk := kvs_is m c H
  have hq := q_is m c H t
  unfold row7
  rw [View.read_writes_eq_canon _ _ _ (cover7 m c t)]
  unfold rows runRows
  dsimp only
  sl_unfold_words
  rw [View.canon_unit_zero hz]
  refine pay3 (b := t) (by rw [read_whole]; exact (H t).x) ?_ (by rw [read_whole]; exact (H t).wo)
  exact o_read (headIn hk hq 0 rfl rfl _ _ _ _ _) (headIn hk hq 1 rfl rfl _ _ _ _ _) (headIn hk hq 2 rfl rfl _ _ _ _ _) (headIn hk hq 3 rfl rfl _ _ _ _ _) _ _

end Cert.Proof.AttnFwd

end
-- ==== Proof.AttnFwdArr.lean ====
/- The attention's forward kernel: its whole result arrays. -/
module

public import proofs.«01_k».proof.Proof.AttnFwdOut
public import Idealize.ShloMosaic.Lib.Pipeline.Value

@[expose] public section

set_option maxRecDepth 16384

noncomputable section

namespace Cert.Proof.AttnFwd

open Idealize.ShloMosaic Idealize.SL.Sem Cert.AttnFwdIdeal Cert.AttnFwdIdeal.Gen Idealize.ShloMosaic.TcCoe
open Idealize.ShloMosaic.Pipeline (Dat Cfg Window)
open Cert.Proof.MixFwd (Has inv len off at1)

variable {p : Args} (m : (ℓ : Loc nD τ sig) → Buf (Elt Ideal) ℓ) (c : Dev nD)

theorem index0 (t : Fin 8) : win0_0.index t 0 = t.val ∧ win0_0.index t 1 = 0 := by
  revert t; decide +kernel

theorem iblk0 (t : Fin 8) (a : Fin 512) (i : Fin 1024) : (iblk m c 0 t : Vec Ideal S512x1024 .f32) (ix2 a i)
    = (m ((c : Thread nD τ).loc main_arg0) : Vec Ideal S4096x1024 .f32) (ix2 (rw5 t a) i) := by
  unfold iblk
  rw [View.read_apply, ← V_main_arg0 m c]
  exact congrArg (V m c main_arg0) (at2 (show win0_0.index t 0 * 512 + 1 * a.val = 512 * t.val + a.val by rw [(index0 t).1]; omega)
    (show win0_0.index t 1 * 1024 + 1 * i.val = i.val by rw [(index0 t).2]; omega))

theorem iblk1 (t : Fin 8) : iblk m c 1 t = V m c main_arg1 :=
  Memref.read_access_unit_zero (Elt Ideal) main_arg1
    (funext fun a => (by decide +kernel : ∀ (t : Fin 8) (a : Fin 2), win0_1.index t a * main_arg1.ty.shape.size a = 0) t a) _ _

theorem iblk2 (t : Fin 8) : iblk m c 2 t = V m c main_v0 :=
  Memref.read_access_unit_zero (Elt Ideal) main_v0
    (funext fun a => (by decide +kernel : ∀ (t : Fin 8) (a : Fin 2), win0_2.index t a * main_v0.ty.shape.size a = 0) t a) _ _

theorem iblk3 (t : Fin 8) : iblk m c 3 t = V m c main_v1 :=
  Memref.read_access_unit_zero (Elt Ideal) main_v1
    (funext fun a => (by decide +kernel : ∀ (t : Fin 8) (a : Fin 2), win0_3.index t a * main_v1.ty.shape.size a = 0) t a) _ _

theorem iblk4 (t : Fin 8) : iblk m c 4 t = V m c main_v2 :=
  Memref.read_access_unit_zero (Elt Ideal) main_v2
    (funext fun a => (by decide +kernel : ∀ (t : Fin 8) (a : Fin 2), win0_4.index t a * main_v2.ty.shape.size a = 0) t a) _ _

theorem iblk5 (t : Fin 8) : iblk m c 5 t = V m c main_v5 :=
  Memref.read_access_unit_zero (Elt Ideal) main_v5
    (funext fun a => (by decide +kernel : ∀ (t : Fin 8) (a : Fin 3), win0_5.index t a * main_v5.ty.shape.size a = 0) t a) _ _

theorem iblk6 (t : Fin 8) : iblk m c 6 t = V m c main_v6 :=
  Memref.read_access_unit_zero (Elt Ideal) main_v6
    (funext fun a => (by decide +kernel : ∀ (t : Fin 8) (a : Fin 2), win0_6.index t a * main_v6.ty.shape.size a = 0) t a) _ _

theorem v_0 (x : Vec Ideal S1024 .f32) (h : m ((c : Thread nD τ).loc main_arg2) = x) (i : Fin 1) (j : Fin 1024) :
    (V m c main_v0 : Vec Ideal S1x1024 .f32) (ix2 i j) = x (ix1 j) := by
  subst h
  simp only [V, hostOps0]
  entry_read
  clean_types
  pointwise

theorem v_1 (x : Vec Ideal S1024 .f32) (h : m ((c : Thread nD τ).loc main_arg3) = x) (i : Fin 1) (j : Fin 1024) :
    (V m c main_v1 : Vec Ideal S1x1024 .f32) (ix2 i j) = x (ix1 j) := by
  subst h
  simp only [V, hostOps0]
  entry_read
  clean_types
  pointwise

theorem v_2 (x : Vec Ideal S1024x1024 .f32) (h : m ((c : Thread nD τ).loc main_arg4) = x) (i j : Fin 1024) :
    (V m c main_v2 : Vec Ideal S1024x1024 .bf16) (ix2 i j) = x (ix2 i j) := by
  subst h
  simp only [V, hostOps0]
  entry_read
  clean_types
  pointwise

theorem v_6 (x : Vec Ideal S1024x1024 .f32) (h : m ((c : Thread nD τ).loc main_arg6) = x) (i j : Fin 1024) :
    (V m c main_v6 : Vec Ideal S1024x1024 .bf16) (ix2 i j) = x (ix2 i j) := by
  subst h
  simp only [V, hostOps0]
  entry_read
  clean_types
  pointwise

theorem v_5 (x : Vec Ideal S1024x2048 .f32) (h : m ((c : Thread nD τ).loc main_arg5) = x) (k : Fin 4) (i : Fin 1024) (q : Fin 512) :
    (V m c main_v5 : Vec Ideal S4x1024x512 .bf16) (ix3 k i q) = x (ix2 i (quarter k q)) := by
  subst h
  simp only [V, hostOps0]
  entry_read
  clean_types
  pointwise
  exact congrArg (fun j : Fin 2048 => (m (c, Proc.tc.devRef main_arg5) : Vec Ideal S1024x2048 .f32) (ix2 i j)) (Fin.ext (by dsimp only [quarter]; omega))

variable (A : Reads p (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
include A

theorem blk (t : Fin 8) : Blk p t (iblk m c 0 t) (iblk m c 1 t) (iblk m c 2 t) (iblk m c 3 t) (iblk m c 4 t) (iblk m c 5 t) (iblk m c 6 t) where
  x a i := (iblk0 m c t a i).trans (A.x _ _)
  m a i := by rw [iblk1, V_main_arg1]; exact A.m a i
  g a i := by rw [iblk2]; exact (v_0 m c _ rfl a i).trans (A.g i)
  gm a i := by rw [iblk3]; exact (v_1 m c _ rfl a i).trans (A.gm i)
  wq i j := by rw [iblk4]; exact (v_2 m c _ rfl i j).trans (A.wq i j)
  wkv k i q := by rw [iblk5]; exact (v_5 m c _ rfl k i q).trans (A.wkv _ _)
  wo i j := by rw [iblk6]; exact (v_6 m c _ rfl i j).trans (A.wo i j)

omit A in
/-- Every row lies in some grid point's row block. -/
theorem row_eq (r : Fin 4096) : ∃ (t : Fin 8) (a : Fin 512), r = rw5 t a :=
  ⟨⟨r.val / 512, by omega⟩, ⟨r.val % 512, by omega⟩, Fin.ext (by dsimp only; omega)⟩

omit A in
theorem index7 (t : Fin 8) : win0_7.index t 0 = t.val ∧ win0_7.index t 1 = 0 := by
  revert t; decide +kernel

omit A in
/-- Two points do not write the same rows of this result. -/
theorem disjoint7 (t t' : Fin cfg0.N) (_ : (cfg0.win 7).flush t = true) (_ : (cfg0.win 7).flush t' = true) (hne : t ≠ t') :
    Disjoint ((cfg0.win 7).blk t).view.set ((cfg0.win 7).blk t').view.set :=
  (cfg0.win 7).disjoint_blk fun h => hne (Fin.ext ((index7 t).1.symm.trans ((congrFun h 0).trans (index7 t').1)))

omit A in
theorem flushed7 (t : Fin cfg0.N) : (dats m 0 c).flushed 7 t = (cfg0.win 7).cut (grid0.coords t) (row7 m c t) := by
  show (cfg0.win 7).cut (grid0.coords t) ((dats m 0 c).after 7 t) = _
  rw [after7]

omit A in
theorem blocks7 (t : Fin cfg0.N) : ((cfg0.win 7).blk t).view.read (Elt Ideal) ((dats m 0 c).arrAt 7 cfg0.N) = (cfg0.win 7).cut (grid0.coords t) (row7 m c t) :=
  ((dats m 0 c).read_blk_arrAt_eq_flushed 7 disjoint7 cfg0.N t t.isLt (flush0_7 t)).trans (flushed7 m c t)

theorem final7 : Has ((dats m 0 c).arrAt 7 cfg0.N : Vec Ideal S4096x1024 .f32) (out p) := by
  intro r i
  obtain ⟨t, a, rfl⟩ := row_eq r
  have hb := congrFun (blocks7 m c t) (ix2 a i)
  rw [View.read_apply] at hb
  have hi : ((cfg0.win 7).blk t).view.emb (ix2 a i) = (ix2 (rw5 t a) i : S4096x1024.Idx) :=
    at2 (show win0_7.index t 0 * 512 + 1 * a.val = 512 * t.val + a.val by rw [(index7 t).1]; omega)
      (show win0_7.index t 1 * 1024 + 1 * i.val = i.val by rw [(index7 t).2]; omega)
  rw [← hi]
  exact hb.trans (row7_is m c (blk m c A) t a i)

omit A in
theorem index8 (t : Fin 8) : win0_8.index t 0 = t.val ∧ win0_8.index t 1 = 0 := by
  revert t; decide +kernel

omit A in
/-- Two points do not write the same rows of this result. -/
theorem disjoint8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun h => hne (Fin.ext ((index8 t).1.symm.trans ((congrFun h 0).trans (index8 t').1)))

omit A in
theorem flushed8 (t : Fin cfg0.N) : (dats m 0 c).flushed 8 t = (cfg0.win 8).cut (grid0.coords t) (row8 m c t) := by
  show (cfg0.win 8).cut (grid0.coords t) ((dats m 0 c).after 8 t) = _
  rw [after8]

omit A in
theorem blocks8 (t : Fin cfg0.N) : ((cfg0.win 8).blk t).view.read (Elt Ideal) ((dats m 0 c).arrAt 8 cfg0.N) = (cfg0.win 8).cut (grid0.coords t) (row8 m c t) :=
  ((dats m 0 c).read_blk_arrAt_eq_flushed 8 disjoint8 cfg0.N t t.isLt (flush0_8 t)).trans (flushed8 m c t)

theorem final8 : Has ((dats m 0 c).arrAt 8 cfg0.N : Vec Ideal S4096x1024 .bf16) (o p) := by
  intro r i
  obtain ⟨t, a, rfl⟩ := row_eq r
  have hb := congrFun (blocks8 m c t) (ix2 a i)
  rw [View.read_apply] at hb
  have hi : ((cfg0.win 8).blk t).view.emb (ix2 a i) = (ix2 (rw5 t a) i : S4096x1024.Idx) :=
    at2 (show win0_8.index t 0 * 512 + 1 * a.val = 512 * t.val + a.val by rw [(index8 t).1]; omega)
      (show win0_8.index t 1 * 1024 + 1 * i.val = i.val by rw [(index8 t).2]; omega)
  rw [← hi]
  exact hb.trans (row8_is m c (blk m c A) t a i)

omit A in
theorem index9 (t : Fin 8) : win0_9.index t 0 = t.val ∧ win0_9.index t 1 = 0 := by
  revert t; decide +kernel

omit A in
/-- Two points do not write the same rows of this result. -/
theorem disjoint9 (t t' : Fin cfg0.N) (_ : (cfg0.win 9).flush t = true) (_ : (cfg0.win 9).flush t' = true) (hne : t ≠ t') :
    Disjoint ((cfg0.win 9).blk t).view.set ((cfg0.win 9).blk t').view.set :=
  (cfg0.win 9).disjoint_blk fun h => hne (Fin.ext ((index9 t).1.symm.trans ((congrFun h 0).trans (index9 t').1)))

omit A in
theorem flushed9 (t : Fin cfg0.N) : (dats m 0 c).flushed 9 t = (cfg0.win 9).cut (grid0.coords t) (row9 m c t) := by
  show (cfg0.win 9).cut (grid0.coords t) ((dats m 0 c).after 9 t) = _
  rw [after9]

omit A in
theorem blocks9 (t : Fin cfg0.N) : ((cfg0.win 9).blk t).view.read (Elt Ideal) ((dats m 0 c).arrAt 9 cfg0.N) = (cfg0.win 9).cut (grid0.coords t) (row9 m c t) :=
  ((dats m 0 c).read_blk_arrAt_eq_flushed 9 disjoint9 cfg0.N t t.isLt (flush0_9 t)).trans (flushed9 m c t)

theorem final9 : Has ((dats m 0 c).arrAt 9 cfg0.N : Vec Ideal S4096x1024 .bf16) (q p) := by
  intro r i
  obtain ⟨t, a, rfl⟩ := row_eq r
  have hb := congrFun (blocks9 m c t) (ix2 a i)
  rw [View.read_apply] at hb
  have hi : ((cfg0.win 9).blk t).view.emb (ix2 a i) = (ix2 (rw5 t a) i : S4096x1024.Idx) :=
    at2 (show win0_9.index t 0 * 512 + 1 * a.val = 512 * t.val + a.val by rw [(index9 t).1]; omega)
      (show win0_9.index t 1 * 1024 + 1 * i.val = i.val by rw [(index9 t).2]; omega)
  rw [← hi]
  exact hb.trans (row9_is m c (blk m c A) t a i)

omit A in
theorem index10 (t : Fin 8) : win0_10.index t 0 = t.val ∧ win0_10.index t 1 = 0 := by
  revert t; decide +kernel

omit A in
/-- Two points do not write the same rows of this result. -/
theorem disjoint10 (t t' : Fin cfg0.N) (_ : (cfg0.win 10).flush t = true) (_ : (cfg0.win 10).flush t' = true) (hne : t ≠ t') :
    Disjoint ((cfg0.win 10).blk t).view.set ((cfg0.win 10).blk t').view.set :=
  (cfg0.win 10).disjoint_blk fun h => hne (Fin.ext ((index10 t).1.symm.trans ((congrFun h 0).trans (index10 t').1)))

omit A in
theorem flushed10 (t : Fin cfg0.N) : (dats m 0 c).flushed 10 t = (cfg0.win 10).cut (grid0.coords t) (row10 m c t) := by
  show (cfg0.win 10).cut (grid0.coords t) ((dats m 0 c).after 10 t) = _
  rw [after10]

omit A in
theorem blocks10 (t : Fin cfg0.N) : ((cfg0.win 10).blk t).view.read (Elt Ideal) ((dats m 0 c).arrAt 10 cfg0.N) = (cfg0.win 10).cut (grid0.coords t) (row10 m c t) :=
  ((dats m 0 c).read_blk_arrAt_eq_flushed 10 disjoint10 cfg0.N t t.isLt (flush0_10 t)).trans (flushed10 m c t)

theorem final10 : Has ((dats m 0 c).arrAt 10 cfg0.N : Vec Ideal S4096x1024 .f32) (prs p) := by
  intro r i
  obtain ⟨t, a, rfl⟩ := row_eq r
  have hb := congrFun (blocks10 m c t) (ix2 a i)
  rw [View.read_apply] at hb
  have hi : ((cfg0.win 10).blk t).view.emb (ix2 a i) = (ix2 (rw5 t a) i : S4096x1024.Idx) :=
    at2 (show win0_10.index t 0 * 512 + 1 * a.val = 512 * t.val + a.val by rw [(index10 t).1]; omega)
      (show win0_10.index t 1 * 1024 + 1 * i.val = i.val by rw [(index10 t).2]; omega)
  rw [← hi]
  exact hb.trans (row10_is m c (blk m c A) t a i)

omit A in
/-- Only the last point writes this result back, and all of it. -/
theorem index11 (t : Fin 8) : win0_11.index t 0 = 0 ∧ win0_11.index t 1 = 0 := by
  revert t; decide +kernel

omit A in
theorem disjoint11 (t t' : Fin cfg0.N) (h : (cfg0.win 11).flush t = true) (h' : (cfg0.win 11).flush t' = true) (hne : t ≠ t') :
    Disjoint ((cfg0.win 11).blk t).view.set ((cfg0.win 11).blk t').view.set := by
  have e := (flush0_11 t).mp h
  have e' := (flush0_11 t').mp h'
  have l : t.val < 8 := t.isLt
  have l' : t'.val < 8 := t'.isLt
  exact absurd (Fin.ext (by omega)) hne

omit A in
theorem flushed11 (t : Fin cfg0.N) : (dats m 0 c).flushed 11 t = (cfg0.win 11).cut (grid0.coords t) (memn m c) := by
  show (cfg0.win 11).cut (grid0.coords t) ((dats m 0 c).after 11 t) = _
  rw [after11]

omit A in
theorem blocks11 (t : Fin cfg0.N) (ht : t.val % 8 = 7) :
    ((cfg0.win 11).blk t).view.read (Elt Ideal) ((dats m 0 c).arrAt 11 cfg0.N) = (cfg0.win 11).cut (grid0.coords t) (memn m c) :=
  ((dats m 0 c).read_blk_arrAt_eq_flushed 11 disjoint11 cfg0.N t t.isLt ((flush0_11 t).mpr ht)).trans (flushed11 m c t)

theorem final11 : Has ((dats m 0 c).arrAt 11 cfg0.N : Vec Ideal S256x1024 .bf16) (mn p) := by
  intro s i
  have hb := congrFun (blocks11 m c (7 : Fin 8) rfl) (ix2 s i)
  rw [View.read_apply] at hb
  have hi : ((cfg0.win 11).blk (7 : Fin 8)).view.emb (ix2 s i) = (ix2 s i : S256x1024.Idx) :=
    at2 (show win0_11.index (7 : Fin 8) 0 * 256 + 1 * s.val = s.val by rw [(index11 7).1]; omega)
      (show win0_11.index (7 : Fin 8) 1 * 1024 + 1 * i.val = i.val by rw [(index11 7).2]; omega)
  rw [← hi]
  exact hb.trans (memn_is m c (blk m c A) s i)

omit A in
/-- Only the last point writes this result back, and all of it. -/
theorem index12 (t : Fin 8) : win0_12.index t 0 = 0 ∧ win0_12.index t 1 = 0 := by
  revert t; decide +kernel

omit A in
theorem disjoint12 (t t' : Fin cfg0.N) (h : (cfg0.win 12).flush t = true) (h' : (cfg0.win 12).flush t' = true) (hne : t ≠ t') :
    Disjoint ((cfg0.win 12).blk t).view.set ((cfg0.win 12).blk t').view.set := by
  have e := (flush0_12 t).mp h
  have e' := (flush0_12 t').mp h'
  have l : t.val < 8 := t.isLt
  have l' : t'.val < 8 := t'.isLt
  exact absurd (Fin.ext (by omega)) hne

omit A in
theorem flushed12 (t : Fin cfg0.N) : (dats m 0 c).flushed 12 t = (cfg0.win 12).cut (grid0.coords t) (kvs m c) := by
  show (cfg0.win 12).cut (grid0.coords t) ((dats m 0 c).after 12 t) = _
  rw [after12]

omit A in
theorem blocks12 (t : Fin cfg0.N) (ht : t.val % 8 = 7) :
    ((cfg0.win 12).blk t).view.read (Elt Ideal) ((dats m 0 c).arrAt 12 cfg0.N) = (cfg0.win 12).cut (grid0.coords t) (kvs m c) :=
  ((dats m 0 c).read_blk_arrAt_eq_flushed 12 disjoint12 cfg0.N t t.isLt ((flush0_12 t).mpr ht)).trans (flushed12 m c t)

theorem final12 : Has ((dats m 0 c).arrAt 12 cfg0.N : Vec Ideal S256x2048 .bf16) (kv p) := by
  intro s i
  have hb := congrFun (blocks12 m c (7 : Fin 8) rfl) (ix2 s i)
  rw [View.read_apply] at hb
  have hi : ((cfg0.win 12).blk (7 : Fin 8)).view.emb (ix2 s i) = (ix2 s i : S256x2048.Idx) :=
    at2 (show win0_12.index (7 : Fin 8) 0 * 256 + 1 * s.val = s.val by rw [(index12 7).1]; omega)
      (show win0_12.index (7 : Fin 8) 1 * 2048 + 1 * i.val = i.val by rw [(index12 7).2]; omega)
  rw [← hi]
  exact hb.trans (kvs_is m c (blk m c A) s i)

end Cert.Proof.AttnFwd

end
-- ==== Proof.MixFwdRef.lean ====
/- The mixer's reference, row by row. -/
module

public import proofs.«01_k».proof.Proof.MixFwdRow
public import proofs.«01_k».proof.Proof.Gen.MixFwdRefIdeal.Read
public import Idealize.ShloMosaic.Lib.Pointwise

@[expose] public section

set_option maxRecDepth 16384

noncomputable section

namespace Cert.Proof.MixFwd

open Idealize.ShloMosaic Cert.MixFwdRefIdeal Cert.MixFwdRefIdeal.Gen Cert.MixFwdRefIdeal.Read

theorem at2' {n k : ℕ} (f : Fin n → Fin k → EReal) {i i' : Fin n} {j j' : Fin k} (hi : i.val = i'.val) (hj : j.val = j'.val) : f i j = f i' j' := by
  rw [Fin.ext hi, Fin.ext hj]

variable {p : Args} {x0 : Vec Ideal S4096x1024 .f32} {x1 : Vec Ideal S1024 .f32} {x2 : Vec Ideal S1024x2560 .f32} {x3 x4 x8 x9 : Vec Ideal S512 .f32}
  {x5 : Vec Ideal S4x128x128 .f32} {x6 : Vec Ideal S4x128 .f32} {x7 : Vec Ideal S3x512 .f32} {x10 : Vec Ideal S1024x1024 .f32}
  (A : Reads p x0 x1 x2 x3 x4 x5 x6 x7 x8 x9 x10)
include A

theorem ref_v7 : Has (val_main_v7 (F := Ideal) x0) (fun r _ => inv len (p.x r)) := by
  intro r q
  pointwise [val_main_v7, val_main_v6, val_main_v4, val_main_v2, val_main_v1, val_main_v0, val_main_cst, val_main_v3, val_main_cst_0, val_main_v5,
    val_main_cst_1, A.x, inv]
  all_goals rfl

theorem ref_v12 : Has (val_main_v12 (F := Ideal) x0 x1) (xn p) := by
  intro r q
  pointwise [val_main_v12, val_main_v9, val_main_v8, val_main_v11, val_main_v10, ref_v7 A, A.x, A.g, xn]

theorem ref_v13 : Has (val_main_v13 (F := Ideal) x0 x1 x2) (MixFwd.h p) := by
  intro r q
  pointwise [val_main_v13, ref_v12 A, A.w, MixFwd.h]

theorem ref_v14 : Has (val_main_v14 (F := Ideal) x0 x1 x2) (fun r j => MixFwd.h p r (act j)) := by
  intro r q
  pointwise [val_main_v14, ref_v13 A]
  all_goals rfl

theorem ref_v22 : Has (val_main_v22 (F := Ideal) x0 x1 x2) (th p) := by
  intro r q
  pointwise [val_main_v22, val_main_v21, val_main_v20, val_main_cst_3, val_main_v19, val_main_v18, val_main_v17, val_main_cst_2, val_main_v16,
    val_main_v15, ref_v14 A, th]
  all_goals rfl

theorem ref_v27 : Has (val_main_v27 (F := Ideal) x0 x1 x2) (a p) := by
  intro r q
  pointwise [val_main_v27, val_main_v24, val_main_v23, val_main_cst_4, val_main_v26, val_main_v25, val_main_cst_5, ref_v14 A, ref_v22 A, a]
  all_goals rfl

theorem ref_v28 : Has (val_main_v28 (F := Ideal) x0 x1 x2) (u p) := by
  intro r q
  pointwise [val_main_v28, ref_v27 A, u]
  all_goals rfl

theorem ref_v29 : Has (val_main_v29 (F := Ideal) x0 x1 x2) (v p) := by
  intro r q
  pointwise [val_main_v29, ref_v27 A, v]
  all_goals exact at1 _ (by dsimp only [snd])

theorem ref_v33 : Has (val_main_v33 (F := Ideal) x0 x1 x2) (fun r _ => mean (v p r)) := by
  intro r q
  pointwise [val_main_v33, val_main_v31, val_main_v30, val_main_cst_6, val_main_v32, val_main_cst_7, ref_v29 A, mean]
  all_goals rfl

theorem ref_v35 : Has (val_main_v35 (F := Ideal) x0 x1 x2) (cen p) := by
  intro r q
  pointwise [val_main_v35, val_main_v34, ref_v29 A, ref_v33 A, cen]
  all_goals rfl

theorem ref_v42 : Has (val_main_v42 (F := Ideal) x0 x1 x2) (cen p) := by
  intro r q
  pointwise [val_main_v42, val_main_v41, ref_v29 A, ref_v33 A, cen]
  all_goals rfl

theorem ref_v45 : Has (val_main_v45 (F := Ideal) x0 x1 x2) (fun r _ => inv wid (cen p r)) := by
  intro r q
  pointwise [val_main_v45, val_main_v44, val_main_v40, val_main_v38, val_main_v37, val_main_v36, val_main_cst_8, val_main_v39, val_main_cst_9,
    val_main_v43, val_main_cst_10, ref_v35 A, inv]
  all_goals rfl

theorem ref_v53 : Has (val_main_v53 (F := Ideal) x0 x1 x2 x3 x4) (vn p) := by
  intro r q
  pointwise [val_main_v53, val_main_v50, val_main_v47, val_main_v46, val_main_v49, val_main_v48, val_main_v52, val_main_v51, ref_v42 A, ref_v45 A,
    A.lng, A.lnb, vn]
  all_goals rfl

theorem ref_v59 (k : Fin 4) (t s : Fin 128) : val_main_v59 (F := Ideal) x5 (ix3 k t s) = wm p k t s := by
  pointwise [val_main_v59, val_main_v58, val_main_v57, val_main_v56, val_main_call0_v4, val_main_call0_v2, val_main_call0_v0, val_main_call0_v1,
    val_main_call0_c, val_main_call0_v3, val_main_v55, val_main_cst_11, val_main_call0_v5, val_main_call0_cst, A.ws, wm]
  rw [show IntOp.addi (BitVec.ofNat 32 t.val) 0#32 = BitVec.ofNat 32 t.val from BitVec.add_zero _]
  exact pick t s _ _

theorem ref_v66 : Has (val_main_v66 (F := Ideal) x0 x1 x2 x3 x4 x5 x6) (mixed p) := by
  intro r q
  pointwise [val_main_v66, val_main_v65, val_main_v61, val_main_v60, val_main_v54, val_main_v64, val_main_v63, val_main_v62, ref_v53 A, ref_v59 A,
    A.bs]
  rw [mixed]
  refine congrArg₂ (fun x y : EReal => x + y) (Finset.sum_congr rfl fun s _ => (mul_comm _ _).trans ?_) rfl
  exact congrArg₂ (fun x y : EReal => x * y) rfl (at2' _ (by dsimp only [mate]; omega) (by dsimp only))

theorem ref_v67 : Has (val_main_v67 (F := Ideal) x0 x1 x2 x3 x4 x5 x6) (ya p) := by
  intro r q
  pointwise [val_main_v67, ref_v28 A, ref_v66 A, ya]
  all_goals rfl

theorem ref_v75 : Has (val_main_v75 (F := Ideal) x0 x1 x2 x3 x4 x5 x6) (fun r _ => inv wid (ya p r)) := by
  intro r q
  pointwise [val_main_v75, val_main_v74, val_main_v72, val_main_v70, val_main_v69, val_main_v68, val_main_cst_12, val_main_v71, val_main_cst_13,
    val_main_v73, val_main_cst_14, ref_v67 A, inv]
  all_goals rfl

theorem ref_v80 : Has (val_main_v80 (F := Ideal) x0 x1 x2 x3 x4 x5 x6 x8) (na p) := by
  intro r q
  pointwise [val_main_v80, val_main_v77, val_main_v76, val_main_v79, val_main_v78, ref_v67 A, ref_v75 A, A.ga, na]
  all_goals rfl

theorem ref_v82 : Has (val_main_v82 (F := Ideal) x0 x1 x2) (fun r j => MixFwd.h p r (cb j)) := by
  intro r q
  pointwise [val_main_v82, val_main_v81, ref_v13 A]
  all_goals exact at1 _ (by dsimp only [cb])

theorem ref_v83 : Has (val_main_v83 (F := Ideal) x0 x1 x2) (fun r j => MixFwd.h p r (cc j)) := by
  intro r q
  pointwise [val_main_v83, val_main_v81, ref_v13 A]
  exact at1 _ (by dsimp only [cc]; omega)

theorem ref_v84 : Has (val_main_v84 (F := Ideal) x0 x1 x2) (fun r j => MixFwd.h p r (cv j)) := by
  intro r q
  pointwise [val_main_v84, val_main_v81, ref_v13 A]
  exact at1 _ (by dsimp only [cv]; omega)

theorem ref_v85 : Has (val_main_v85 (F := Ideal) x0 x1 x2) (z p) := by
  intro r q
  pointwise [val_main_v85, ref_v83 A, ref_v84 A, z]
  all_goals rfl

theorem ref_v90 : Has (val_main_v90 (F := Ideal) x0 x1 x2) (fun r j => up p r 2 j) := by
  intro r q
  pointwise [val_main_v90, val_main_v87, val_main_v86, val_main_cst_15, ref_v85 A, up]
  by_cases h : r.val < 2
  · exact (dif_pos h).trans (if_neg (by omega)).symm
  · exact (dif_neg h).trans ((at2' _ (show r.val - 2 = r.val - 2 by omega) rfl).trans (if_pos (by omega)).symm)

theorem ref_v96 : Has (val_main_v96 (F := Ideal) x0 x1 x2) (fun r j => up p r 1 j) := by
  intro r q
  pointwise [val_main_v96, val_main_v87, val_main_v86, val_main_cst_15, ref_v85 A, up]
  by_cases h : 1 + r.val < 2
  · exact (dif_pos h).trans (if_neg (by omega)).symm
  · exact (dif_neg h).trans ((at2' _ (show 1 + r.val - 2 = r.val - 1 by omega) rfl).trans (if_pos (by omega)).symm)

theorem ref_v103 : Has (val_main_v103 (F := Ideal) x0 x1 x2) (z p) := by
  intro r q
  pointwise [val_main_v103, val_main_v87, val_main_v86, val_main_cst_15, ref_v85 A]
  all_goals rfl

theorem ref_v108 : Has (val_main_v108 (F := Ideal) x0 x1 x2 x7) (yb p) := by
  intro r q
  pointwise [val_main_v108, val_main_v107, val_main_v100, val_main_v93, val_main_v92, val_main_v91, val_main_v89, val_main_v88, val_main_v99,
    val_main_v98, val_main_v97, val_main_v95, val_main_v94, val_main_v106, val_main_v105, val_main_v104, val_main_v102, val_main_v101, ref_v82 A,
    ref_v90 A, ref_v96 A, ref_v103 A, A.cw, yb]
  all_goals rfl

theorem ref_v116 : Has (val_main_v116 (F := Ideal) x0 x1 x2 x7) (fun r _ => inv wid (yb p r)) := by
  intro r q
  pointwise [val_main_v116, val_main_v115, val_main_v113, val_main_v111, val_main_v110, val_main_v109, val_main_cst_16, val_main_v112,
    val_main_cst_17, val_main_v114, val_main_cst_18, ref_v108 A, inv]
  all_goals rfl

theorem ref_v121 : Has (val_main_v121 (F := Ideal) x0 x1 x2 x7 x9) (nb p) := by
  intro r q
  pointwise [val_main_v121, val_main_v118, val_main_v117, val_main_v120, val_main_v119, ref_v108 A, ref_v116 A, A.gb, nb]
  all_goals rfl

theorem ref_v122 : Has (val_main_v122 (F := Ideal) x0 x1 x2 x3 x4 x5 x6 x7 x8 x9) (y p) := by
  intro r q
  pointwise [val_main_v122, ref_v80 A, ref_v121 A, y]
  all_goals rfl

theorem ref_v124 : Has (val_main_v124 (F := Ideal) x0 x1 x2 x3 x4 x5 x6 x7 x8 x9 x10) (out p) := by
  intro r q
  pointwise [val_main_v124, val_main_v123, ref_v122 A, A.x, A.wo, out]
  all_goals rfl

theorem ref_v125 : Has (val_main_v125 (F := Ideal) x0 x1 x2 x3 x4 x5 x6 x7 x8 x9) (y p) := by
  intro r q
  pointwise [val_main_v125, ref_v122 A]
  all_goals rfl

theorem ref_v126 : Has (val_main_v126 (F := Ideal) x0 x1) (xn p) := by
  intro r q
  pointwise [val_main_v126, ref_v12 A]
  all_goals rfl

end Cert.Proof.MixFwd

end
-- ==== Proof.AttnFwdRef.lean ====
/- The attention's forward reference, row by row. -/
module

public import proofs.«01_k».proof.Proof.AttnFwdRow
public import proofs.«01_k».proof.Proof.Gen.AttnFwdRefIdeal.Read
public import proofs.«01_k».proof.Proof.MixFwdRef
public import proofs.«01_k».proof.Proof.Max
public import Idealize.ShloMosaic.Lib.Pointwise

@[expose] public section

set_option maxRecDepth 16384

noncomputable section

namespace Cert.Proof.AttnFwd

open Idealize.ShloMosaic Cert.AttnFwdRefIdeal Cert.AttnFwdRefIdeal.Gen Cert.AttnFwdRefIdeal.Read
open Cert.Proof.MixFwd (Has inv len off at1 at2')

/-- The maximum with minus infinity changes nothing. -/
theorem max_low {i : S4x4096.Idx} (w : FVec Ideal S4x4096 .f32) {a : EReal} (z : w i = a) :
    (maximumf (F := Ideal) (val_main_v37 (F := Ideal)) w : FVec Ideal S4x4096 .f32) i = a := by
  have e : val_main_v37 (F := Ideal) i = (⊥ : EReal) := neg_inf
  show max (val_main_v37 (F := Ideal) i : EReal) (w i : EReal) = a
  rw [e, z]
  exact max_bot_left _

variable {p : Args} {x0 : Vec Ideal S4096x1024 .f32} {x1 : Vec Ideal S256x1024 .f32} {x2 x3 : Vec Ideal S1024 .f32} {x4 x6 : Vec Ideal S1024x1024 .f32}
  {x5 : Vec Ideal S1024x2048 .f32} (A : Reads p x0 x1 x2 x3 x4 x5 x6)
include A

theorem ref_v7 : Has (val_main_v7 (F := Ideal) x0) (fun r _ => inv len (p.x r)) := by
  intro r j
  pointwise [val_main_v7, val_main_v6, val_main_v4, val_main_v2, val_main_v1, val_main_v0, val_main_cst, val_main_v3, val_main_cst_0, val_main_v5,
    val_main_cst_1, A.x, MixFwd.inv]
  all_goals rfl

theorem ref_v12 : Has (val_main_v12 (F := Ideal) x0 x2) (xn p) := by
  intro r j
  pointwise [val_main_v12, val_main_v9, val_main_v8, val_main_v11, val_main_v10, ref_v7 A, A.x, A.g, xn]

theorem ref_v13 : Has (val_main_v13 (F := Ideal) x0 x2 x4) (q p) := by
  intro r j
  pointwise [val_main_v13, ref_v12 A, A.wq, q]

theorem ref_v21 : Has (val_main_v21 (F := Ideal) x1) (fun r _ => inv len (p.m r)) := by
  intro r j
  pointwise [val_main_v21, val_main_v20, val_main_v18, val_main_v16, val_main_v15, val_main_v14, val_main_cst_2, val_main_v17, val_main_cst_3,
    val_main_v19, val_main_cst_4, A.m, MixFwd.inv]
  all_goals rfl

theorem ref_v26 : Has (val_main_v26 (F := Ideal) x1 x3) (mn p) := by
  intro r j
  pointwise [val_main_v26, val_main_v23, val_main_v22, val_main_v25, val_main_v24, ref_v21 A, A.m, A.gm, mn]

theorem ref_v27 : Has (val_main_v27 (F := Ideal) x1 x3 x5) (kv p) := by
  intro r j
  pointwise [val_main_v27, ref_v26 A, A.wkv, kv]

theorem ref_v30 (s : Fin 256) (k : Fin 4) (d : Fin 256) : val_main_v30 (F := Ideal) x1 x3 x5 (ix3 s k d) = kv p s (kcol k d) := by
  pointwise [val_main_v30, val_main_v28, ref_v27 A]
  all_goals exact at2' _ rfl (by dsimp only [kcol]; omega)

theorem ref_v31 (s : Fin 256) (k : Fin 4) (d : Fin 256) : val_main_v31 (F := Ideal) x1 x3 x5 (ix3 s k d) = kv p s (vcol k d) := by
  pointwise [val_main_v31, val_main_v29, ref_v27 A]
  all_goals exact at2' _ rfl (by dsimp only [vcol]; omega)

theorem ref_v32 (r : Fin 4096) (k : Fin 4) (d : Fin 256) : val_main_v32 (F := Ideal) x0 x2 x4 (ix3 r k d) = q p r (col k d) := by
  pointwise [val_main_v32, ref_v13 A]
  all_goals exact at2' _ rfl (by dsimp only [col]; omega)

theorem ref_v35 (k : Fin 4) (r : Fin 4096) (s : Fin 256) : val_main_v35 (F := Ideal) x0 x1 x2 x3 x4 x5 (ix3 k r s) = sc p r k s := by
  pointwise [val_main_v35, val_main_v33, val_main_v34, val_main_cst_5, ref_v32 A, ref_v30 A, sc]
  all_goals rfl

theorem ref_v36 (k : Fin 4) (r : Fin 4096) : val_main_v36 (F := Ideal) x0 x1 x2 x3 x4 x5 (ix2 k r) = top p r k := by
  pointwise [val_main_v36, val_main_cst_6, ref_v35 A, top]
  all_goals rfl

theorem ref_v38 (k : Fin 4) (r : Fin 4096) : val_main_v38 (F := Ideal) x0 x1 x2 x3 x4 x5 (ix2 k r) = top p r k := by
  exact max_low _ (ref_v36 A k r)

theorem ref_v42 (k : Fin 4) (r : Fin 4096) (s : Fin 256) : val_main_v42 (F := Ideal) x0 x1 x2 x3 x4 x5 (ix3 k r s) = ex p r k s := by
  pointwise [val_main_v42, val_main_v41, val_main_v40, val_main_v39, ref_v35 A, ref_v38 A, ex]
  all_goals rfl

theorem ref_v46 (k : Fin 4) (r : Fin 4096) (s : Fin 256) : val_main_v46 (F := Ideal) x0 x1 x2 x3 x4 x5 (ix3 k r s) = pr p r k s := by
  pointwise [val_main_v46, val_main_v45, val_main_v44, val_main_v43, val_main_cst_8, ref_v42 A, pr]
  all_goals rfl

theorem ref_v47 (k : Fin 4) (d : Fin 256) (r : Fin 4096) : val_main_v47 (F := Ideal) x0 x1 x2 x3 x4 x5 (ix3 k d r) = at_ p r k d := by
  pointwise [val_main_v47, ref_v31 A, ref_v46 A]
  rw [at_]
  exact Finset.sum_congr rfl fun _ _ => mul_comm _ _

theorem ref_v49 : Has (val_main_v49 (F := Ideal) x0 x1 x2 x3 x4 x5) (o p) := by
  intro r j
  pointwise [val_main_v49, val_main_v48, ref_v47 A]
  rw [o]
  all_goals rfl

theorem ref_v51 : Has (val_main_v51 (F := Ideal) x0 x1 x2 x3 x4 x5) (prs p) := by
  intro r j
  pointwise [val_main_v51, val_main_v50, ref_v46 A]
  rw [prs]
  all_goals rfl

theorem ref_v53 : Has (val_main_v53 (F := Ideal) x0 x1 x2 x3 x4 x5 x6) (out p) := by
  intro r j
  pointwise [val_main_v53, val_main_v52, ref_v49 A, A.x, A.wo, out]
  all_goals rfl

theorem ref_v54 : Has (val_main_v54 (F := Ideal) x0 x1 x2 x3 x4 x5) (o p) := by
  intro r j
  pointwise [val_main_v54, ref_v49 A]
  all_goals rfl

theorem ref_v55 : Has (val_main_v55 (F := Ideal) x0 x2 x4) (q p) := by
  intro r j
  pointwise [val_main_v55, ref_v13 A]
  all_goals rfl

theorem ref_v56 : Has (val_main_v56 (F := Ideal) x1 x3) (mn p) := by
  intro r j
  pointwise [val_main_v56, ref_v26 A]
  all_goals rfl

theorem ref_v57 : Has (val_main_v57 (F := Ideal) x1 x3 x5) (kv p) := by
  intro r j
  pointwise [val_main_v57, ref_v27 A]
  all_goals rfl

end Cert.Proof.AttnFwd

end
-- ==== Proof.MixFwdArr.lean ====
/- The mixer's forward kernel: its whole result arrays. -/
module

public import proofs.«01_k».proof.Proof.MixFwdOut
public import proofs.«01_k».proof.Proof.Gen.MixFwdIdeal.Value

@[expose] public section

set_option maxRecDepth 16384

noncomputable section

namespace Cert.Proof.MixFwd

open Idealize.ShloMosaic Idealize.SL.Sem Cert.MixFwdIdeal Cert.MixFwdIdeal.Gen Idealize.ShloMosaic.TcCoe
open Idealize.ShloMosaic.Pipeline (Dat Cfg Window)

variable {p : Args} (m : (ℓ : Loc nD τ sig) → Buf (Elt Ideal) ℓ) (c : Dev nD)

theorem index0 (t : Fin 8) : win0_0.index t 0 = t.val ∧ win0_0.index t 1 = 0 := by
  revert t; decide +kernel

theorem iblk0 (t : Fin 8) (a : Fin 512) (i : Fin 1024) : (iblk m c 0 t : Vec Ideal S512x1024 .f32) (ix2 a i)
    = (m ((c : Thread nD τ).loc main_arg0) : Vec Ideal S4096x1024 .f32) (ix2 (rw5 t a) i) := by
  unfold iblk
  rw [View.read_apply, ← V_main_arg0 m c]
  exact congrArg (V m c main_arg0) (at2 (show win0_0.index t 0 * 512 + 1 * a.val = 512 * t.val + a.val by rw [(index0 t).1]; omega)
    (show win0_0.index t 1 * 1024 + 1 * i.val = i.val by rw [(index0 t).2]; omega))

theorem iblk1 (t : Fin 8) : iblk m c 1 t = V m c main_v2 :=
  Memref.read_access_unit_zero (Elt Ideal) main_v2
    (funext fun a => (by decide +kernel : ∀ (t : Fin 8) (a : Fin 2), win0_1.index t a * main_v2.ty.shape.size a = 0) t a) _ _

theorem iblk2 (t : Fin 8) : iblk m c 2 t = V m c main_v5 :=
  Memref.read_access_unit_zero (Elt Ideal) main_v5
    (funext fun a => (by decide +kernel : ∀ (t : Fin 8) (a : Fin 3), win0_2.index t a * main_v5.ty.shape.size a = 0) t a) _ _

theorem iblk3 (t : Fin 8) : iblk m c 3 t = V m c main_v6 :=
  Memref.read_access_unit_zero (Elt Ideal) main_v6
    (funext fun a => (by decide +kernel : ∀ (t : Fin 8) (a : Fin 2), win0_3.index t a * main_v6.ty.shape.size a = 0) t a) _ _

theorem iblk4 (t : Fin 8) : iblk m c 4 t = V m c main_v7 :=
  Memref.read_access_unit_zero (Elt Ideal) main_v7
    (funext fun a => (by decide +kernel : ∀ (t : Fin 8) (a : Fin 2), win0_4.index t a * main_v7.ty.shape.size a = 0) t a) _ _

theorem iblk5 (t : Fin 8) : iblk m c 5 t = V m c main_arg5 :=
  Memref.read_access_unit_zero (Elt Ideal) main_arg5
    (funext fun a => (by decide +kernel : ∀ (t : Fin 8) (a : Fin 3), win0_5.index t a * main_arg5.ty.shape.size a = 0) t a) _ _

theorem iblk6 (t : Fin 8) : iblk m c 6 t = V m c main_v1 :=
  Memref.read_access_unit_zero (Elt Ideal) main_v1
    (funext fun a => (by decide +kernel : ∀ (t : Fin 8) (a : Fin 2), win0_6.index t a * main_v1.ty.shape.size a = 0) t a) _ _

theorem iblk7 (t : Fin 8) : iblk m c 7 t = V m c main_arg7 :=
  Memref.read_access_unit_zero (Elt Ideal) main_arg7
    (funext fun a => (by decide +kernel : ∀ (t : Fin 8) (a : Fin 2), win0_7.index t a * main_arg7.ty.shape.size a = 0) t a) _ _

theorem iblk8 (t : Fin 8) : iblk m c 8 t = V m c main_v8 :=
  Memref.read_access_unit_zero (Elt Ideal) main_v8
    (funext fun a => (by decide +kernel : ∀ (t : Fin 8) (a : Fin 2), win0_8.index t a * main_v8.ty.shape.size a = 0) t a) _ _

theorem iblk9 (t : Fin 8) : iblk m c 9 t = V m c main_v9 :=
  Memref.read_access_unit_zero (Elt Ideal) main_v9
    (funext fun a => (by decide +kernel : ∀ (t : Fin 8) (a : Fin 2), win0_9.index t a * main_v9.ty.shape.size a = 0) t a) _ _

theorem iblk10 (t : Fin 8) : iblk m c 10 t = V m c main_v10 :=
  Memref.read_access_unit_zero (Elt Ideal) main_v10
    (funext fun a => (by decide +kernel : ∀ (t : Fin 8) (a : Fin 2), win0_10.index t a * main_v10.ty.shape.size a = 0) t a) _ _

theorem v_2 (x : Vec Ideal S1024 .f32) (h : m ((c : Thread nD τ).loc main_arg1) = x) (i : Fin 1) (j : Fin 1024) :
    (V m c main_v2 : Vec Ideal S1x1024 .f32) (ix2 i j) = x (ix1 j) := by
  subst h
  simp only [V, hostOps0, hostOps0_1, hostOps0_2, List.flatten_cons, List.flatten_nil, List.cons_append, List.nil_append, List.append_nil]
  entry_read
  clean_types
  pointwise

theorem v_6 (x : Vec Ideal S512 .f32) (h : m ((c : Thread nD τ).loc main_arg3) = x) (i : Fin 1) (j : Fin 512) :
    (V m c main_v6 : Vec Ideal S1x512 .f32) (ix2 i j) = x (ix1 j) := by
  subst h
  simp only [V, hostOps0, hostOps0_1, hostOps0_2, List.flatten_cons, List.flatten_nil, List.cons_append, List.nil_append, List.append_nil]
  entry_read
  clean_types
  pointwise

theorem v_7 (x : Vec Ideal S512 .f32) (h : m ((c : Thread nD τ).loc main_arg4) = x) (i : Fin 1) (j : Fin 512) :
    (V m c main_v7 : Vec Ideal S1x512 .f32) (ix2 i j) = x (ix1 j) := by
  subst h
  simp only [V, hostOps0, hostOps0_1, hostOps0_2, List.flatten_cons, List.flatten_nil, List.cons_append, List.nil_append, List.append_nil]
  entry_read
  clean_types
  pointwise

theorem v_8 (x : Vec Ideal S512 .f32) (h : m ((c : Thread nD τ).loc main_arg8) = x) (i : Fin 1) (j : Fin 512) :
    (V m c main_v8 : Vec Ideal S1x512 .f32) (ix2 i j) = x (ix1 j) := by
  subst h
  simp only [V, hostOps0, hostOps0_1, hostOps0_2, List.flatten_cons, List.flatten_nil, List.cons_append, List.nil_append, List.append_nil]
  entry_read
  clean_types
  pointwise

theorem v_9 (x : Vec Ideal S512 .f32) (h : m ((c : Thread nD τ).loc main_arg9) = x) (i : Fin 1) (j : Fin 512) :
    (V m c main_v9 : Vec Ideal S1x512 .f32) (ix2 i j) = x (ix1 j) := by
  subst h
  simp only [V, hostOps0, hostOps0_1, hostOps0_2, List.flatten_cons, List.flatten_nil, List.cons_append, List.nil_append, List.append_nil]
  entry_read
  clean_types
  pointwise

theorem v_w (x : Vec Ideal S1024x2560 .f32) (h : m ((c : Thread nD τ).loc main_arg2) = x) (k : Fin 4) (i : Fin 1024) (q : Fin 640) :
    (V m c main_v5 : Vec Ideal S4x1024x640 .bf16) (ix3 k i q) = x (ix2 i (quarter k q)) := by
  subst h
  simp only [V, hostOps0, hostOps0_1, hostOps0_2, List.flatten_cons, List.flatten_nil, List.cons_append, List.nil_append, List.append_nil]
  entry_read
  clean_types
  pointwise
  exact congrArg (fun j : Fin 2560 => (m (c, Proc.tc.devRef main_arg2) : Vec Ideal S1024x2560 .f32) (ix2 i j)) (Fin.ext (by dsimp only [quarter]; omega))

theorem v_wo (x : Vec Ideal S1024x1024 .f32) (h : m ((c : Thread nD τ).loc main_arg10) = x) (i j : Fin 1024) :
    (V m c main_v10 : Vec Ideal S1024x1024 .bf16) (ix2 i j) = x (ix2 i j) := by
  subst h
  simp only [V, hostOps0, hostOps0_1, hostOps0_2, List.flatten_cons, List.flatten_nil, List.cons_append, List.nil_append, List.append_nil]
  entry_read
  clean_types
  pointwise

theorem v_bs (x : Vec Ideal S4x128 .f32) (h : m ((c : Thread nD τ).loc main_arg6) = x) (k : Fin 4) (t : Fin 128) :
    (V m c main_v1 : Vec Ideal S128x128 .f32) (ix2 t ⟨k.val, by omega⟩) = x (ix2 k t) := by
  subst h
  simp only [V, hostOps0, hostOps0_1, hostOps0_2, List.flatten_cons, List.flatten_nil, List.cons_append, List.nil_append, List.append_nil]
  entry_read
  clean_types
  show pad S128x128 ![0, 0] ![0, 124] ![0, 0] (transpose S128x4 [1, 0] (m (c, Proc.tc.devRef main_arg6) : Vec Ideal S4x128 .f32) transposes_S4x128_S128x4_1_0)
    (sitofp (F := Ideal) FTy.f32 (constantI S_ 32 0#32)) pads_S128x4_S128x128_000_01240 h_S_ (ix2 t ⟨k.val, by omega⟩) = _
  pointwise

variable (A : Reads p (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
include A

theorem blk (t : Fin 8) : Blk p t (iblk m c 0 t) (iblk m c 1 t) (iblk m c 2 t) (iblk m c 3 t) (iblk m c 4 t) (iblk m c 5 t) (iblk m c 6 t) (iblk m c 7 t) (iblk m c 8 t) (iblk m c 9 t) (iblk m c 10 t) where
  x a i := (iblk0 m c t a i).trans (A.x _ _)
  g a i := by rw [iblk1]; exact (v_2 m c _ rfl a i).trans (A.g i)
  w k i q := by rw [iblk2]; exact (v_w m c _ rfl k i q).trans (A.w _ _)
  lng a i := by rw [iblk3]; exact (v_6 m c _ rfl a i).trans (A.lng i)
  lnb a i := by rw [iblk4]; exact (v_7 m c _ rfl a i).trans (A.lnb i)
  ws k t s := by rw [iblk5, V_main_arg5]; exact A.ws k t s
  bs k t := by rw [iblk6]; exact (v_bs m c _ rfl k t).trans (A.bs k t)
  cw i j := by rw [iblk7, V_main_arg7]; exact A.cw i j
  ga a i := by rw [iblk8]; exact (v_8 m c _ rfl a i).trans (A.ga i)
  gb a i := by rw [iblk9]; exact (v_9 m c _ rfl a i).trans (A.gb i)
  wo i j := by rw [iblk10]; exact (v_wo m c _ rfl i j).trans (A.wo i j)

/-- The products a grid point hands on. -/
theorem at_z (t : Fin 8) (hb : t.val + 1 < 8) : Has ((outsAt0 m c t.val t.isLt).2.2.2.2.2.2 : Vec Ideal S8x512 .f32) (before p ⟨t.val + 1, hb⟩) := by
  by_cases h0 : t.val % 8 = 0
  · rw [outsAt0_A m c t h0]
    dsimp only
    exact soutA _ _ _ _ _ _ _ _ _ _ _ _ _ _ _ _ _ _ _ _ _ _ _ _ _ _ _ _ _ _ _ _ _ _ _ _ _ _ (blk m c A t) _ hb
  · rw [outsAt0_B m c t h0]
    dsimp only
    exact soutB _ _ _ _ _ _ _ _ _ _ _ _ _ _ _ _ _ _ _ _ _ _ _ _ _ _ _ _ _ _ _ _ _ _ _ _ _ _ (blk m c A t) _ _ hb

theorem at_prev (t : Fin 8) (h0 : ¬t.val % 8 = 0) : Has ((outsAt0 m c (t.val - 1) (Nat.lt_of_le_of_lt (Nat.sub_le _ _) t.isLt)).2.2.2.2.2.2 : Vec Ideal S8x512 .f32) (before p t) := by
  have hz := at_z m c A ⟨t.val - 1, by omega⟩ (by dsimp only; omega)
  have e : (⟨t.val - 1 + 1, by omega⟩ : Fin 8) = t := Fin.ext (by dsimp only; omega)
  rw [← e]
  exact hz

theorem at_h (t : Fin 8) : Has ((outsAt0 m c t.val t.isLt).1 : Vec Ideal S512x2560 .f32) (fun r => h p (rw5 t r)) := by
  by_cases h0 : t.val % 8 = 0
  · rw [outsAt0_A m c t h0]
    dsimp only
    exact outA11 _ _ _ _ _ _ _ _ _ _ _ _ _ _ _ _ _ _ _ _ _ _ _ _ _ _ _ _ _ _ _ _ _ _ _ _ _ _ (blk m c A t) _
  · rw [outsAt0_B m c t h0]
    dsimp only
    exact outB11 _ _ _ _ _ _ _ _ _ _ _ _ _ _ _ _ _ _ _ _ _ _ _ _ _ _ _ _ _ _ _ _ _ _ _ _ _ _ (blk m c A t) _ _

theorem at_out (t : Fin 8) : Has ((outsAt0 m c t.val t.isLt).2.1 : Vec Ideal S512x1024 .f32) (fun r => out p (rw5 t r)) := by
  by_cases h0 : t.val % 8 = 0
  · rw [outsAt0_A m c t h0]
    dsimp only
    exact outA12 _ _ _ _ _ _ _ _ _ _ _ _ _ _ _ _ _ _ _ _ _ _ _ _ _ _ _ _ _ _ _ _ _ _ _ _ _ _ (blk m c A t) _ (Fin.ext (by omega))
  · rw [outsAt0_B m c t h0]
    dsimp only
    exact outB12 _ _ _ _ _ _ _ _ _ _ _ _ _ _ _ _ _ _ _ _ _ _ _ _ _ _ _ _ _ _ _ _ _ _ _ _ _ _ (blk m c A t) _ _ (at_prev m c A t h0)

theorem at_y (t : Fin 8) : Has ((outsAt0 m c t.val t.isLt).2.2.1 : Vec Ideal S512x1024 .bf16) (fun r => y p (rw5 t r)) := by
  by_cases h0 : t.val % 8 = 0
  · rw [outsAt0_A m c t h0]
    dsimp only
    exact outA13 _ _ _ _ _ _ _ _ _ _ _ _ _ _ _ _ _ _ _ _ _ _ _ _ _ _ _ _ _ _ _ _ _ _ _ _ _ _ (blk m c A t) _ (Fin.ext (by omega))
  · rw [outsAt0_B m c t h0]
    dsimp only
    exact outB13 _ _ _ _ _ _ _ _ _ _ _ _ _ _ _ _ _ _ _ _ _ _ _ _ _ _ _ _ _ _ _ _ _ _ _ _ _ _ (blk m c A t) _ _ (at_prev m c A t h0)

theorem at_xn (t : Fin 8) : Has ((outsAt0 m c t.val t.isLt).2.2.2.1 : Vec Ideal S512x1024 .bf16) (fun r => xn p (rw5 t r)) := by
  by_cases h0 : t.val % 8 = 0
  · rw [outsAt0_A m c t h0]
    dsimp only
    exact outA14 _ _ _ _ _ _ _ _ _ _ _ _ _ _ _ _ _ _ _ _ _ _ _ _ _ _ _ _ _ _ _ _ _ _ _ _ _ _ (blk m c A t) _
  · rw [outsAt0_B m c t h0]
    dsimp only
    exact outB14 _ _ _ _ _ _ _ _ _ _ _ _ _ _ _ _ _ _ _ _ _ _ _ _ _ _ _ _ _ _ _ _ _ _ _ _ _ _ (blk m c A t) _ _

theorem at_mixed (t : Fin 8) : Has ((outsAt0 m c t.val t.isLt).2.2.2.2.1 : Vec Ideal S512x512 .f32) (fun r => mixed p (rw5 t r)) := by
  by_cases h0 : t.val % 8 = 0
  · rw [outsAt0_A m c t h0]
    dsimp only
    exact outA15 _ _ _ _ _ _ _ _ _ _ _ _ _ _ _ _ _ _ _ _ _ _ _ _ _ _ _ _ _ _ _ _ _ _ _ _ _ _ (blk m c A t) _
  · rw [outsAt0_B m c t h0]
    dsimp only
    exact outB15 _ _ _ _ _ _ _ _ _ _ _ _ _ _ _ _ _ _ _ _ _ _ _ _ _ _ _ _ _ _ _ _ _ _ _ _ _ _ (blk m c A t) _ _

theorem at_th (t : Fin 8) : Has ((outsAt0 m c t.val t.isLt).2.2.2.2.2.1 : Vec Ideal S512x1024 .f32) (fun r => th p (rw5 t r)) := by
  by_cases h0 : t.val % 8 = 0
  · rw [outsAt0_A m c t h0]
    dsimp only
    exact outA16 _ _ _ _ _ _ _ _ _ _ _ _ _ _ _ _ _ _ _ _ _ _ _ _ _ _ _ _ _ _ _ _ _ _ _ _ _ _ (blk m c A t) _
  · rw [outsAt0_B m c t h0]
    dsimp only
    exact outB16 _ _ _ _ _ _ _ _ _ _ _ _ _ _ _ _ _ _ _ _ _ _ _ _ _ _ _ _ _ _ _ _ _ _ _ _ _ _ (blk m c A t) _ _

omit A in
/-- Every row lies in some grid point's row block. -/
theorem row_eq (r : Fin 4096) : ∃ (t : Fin 8) (a : Fin 512), r = rw5 t a :=
  ⟨⟨r.val / 512, by omega⟩, ⟨r.val % 512, by omega⟩, Fin.ext (by dsimp only; omega)⟩

omit A in
theorem index11 (t : Fin 8) : win0_11.index t 0 = t.val ∧ win0_11.index t 1 = 0 := by
  revert t; decide +kernel

theorem final11 : Has ((dats m 0 c).arrAt 11 cfg0.N : Vec Ideal S4096x2560 .f32) (h p) := by
  intro r i
  obtain ⟨t, a, rfl⟩ := row_eq r
  have hb := congrFun (Cert.MixFwdIdeal.Value.blocks11 m c t (flush0_11 t)) (ix2 a i)
  rw [View.read_apply] at hb
  have hi : ((cfg0.win 11).blk t).view.emb (ix2 a i) = (ix2 (rw5 t a) i : S4096x2560.Idx) :=
    at2 (show win0_11.index t 0 * 512 + 1 * a.val = 512 * t.val + a.val by rw [(index11 t).1]; omega)
      (show win0_11.index t 1 * 2560 + 1 * i.val = i.val by rw [(index11 t).2]; omega)
  rw [← hi]
  refine hb.trans ((congrFun (Cert.MixFwdIdeal.Value.flushed11 m c t) (ix2 a i)).trans ?_)
  exact at_h m c A t a i

omit A in
theorem index12 (t : Fin 8) : win0_12.index t 0 = t.val ∧ win0_12.index t 1 = 0 := by
  revert t; decide +kernel

theorem final12 : Has ((dats m 0 c).arrAt 12 cfg0.N : Vec Ideal S4096x1024 .f32) (out p) := by
  intro r i
  obtain ⟨t, a, rfl⟩ := row_eq r
  have hb := congrFun (Cert.MixFwdIdeal.Value.blocks12 m c t (flush0_12 t)) (ix2 a i)
  rw [View.read_apply] at hb
  have hi : ((cfg0.win 12).blk t).view.emb (ix2 a i) = (ix2 (rw5 t a) i : S4096x1024.Idx) :=
    at2 (show win0_12.index t 0 * 512 + 1 * a.val = 512 * t.val + a.val by rw [(index12 t).1]; omega)
      (show win0_12.index t 1 * 1024 + 1 * i.val = i.val by rw [(index12 t).2]; omega)
  rw [← hi]
  refine hb.trans ((congrFun (Cert.MixFwdIdeal.Value.flushed12 m c t) (ix2 a i)).trans ?_)
  exact at_out m c A t a i

omit A in
theorem index13 (t : Fin 8) : win0_13.index t 0 = t.val ∧ win0_13.index t 1 = 0 := by
  revert t; decide +kernel

theorem final13 : Has ((dats m 0 c).arrAt 13 cfg0.N : Vec Ideal S4096x1024 .bf16) (y p) := by
  intro r i
  obtain ⟨t, a, rfl⟩ := row_eq r
  have hb := congrFun (Cert.MixFwdIdeal.Value.blocks13 m c t (flush0_13 t)) (ix2 a i)
  rw [View.read_apply] at hb
  have hi : ((cfg0.win 13).blk t).view.emb (ix2 a i) = (ix2 (rw5 t a) i : S4096x1024.Idx) :=
    at2 (show win0_13.index t 0 * 512 + 1 * a.val = 512 * t.val + a.val by rw [(index13 t).1]; omega)
      (show win0_13.index t 1 * 1024 + 1 * i.val = i.val by rw [(index13 t).2]; omega)
  rw [← hi]
  refine hb.trans ((congrFun (Cert.MixFwdIdeal.Value.flushed13 m c t) (ix2 a i)).trans ?_)
  exact at_y m c A t a i

omit A in
theorem index14 (t : Fin 8) : win0_14.index t 0 = t.val ∧ win0_14.index t 1 = 0 := by
  revert t; decide +kernel

theorem final14 : Has ((dats m 0 c).arrAt 14 cfg0.N : Vec Ideal S4096x1024 .bf16) (xn p) := by
  intro r i
  obtain ⟨t, a, rfl⟩ := row_eq r
  have hb := congrFun (Cert.MixFwdIdeal.Value.blocks14 m c t (flush0_14 t)) (ix2 a i)
  rw [View.read_apply] at hb
  have hi : ((cfg0.win 14).blk t).view.emb (ix2 a i) = (ix2 (rw5 t a) i : S4096x1024.Idx) :=
    at2 (show win0_14.index t 0 * 512 + 1 * a.val = 512 * t.val + a.val by rw [(index14 t).1]; omega)
      (show win0_14.index t 1 * 1024 + 1 * i.val = i.val by rw [(index14 t).2]; omega)
  rw [← hi]
  refine hb.trans ((congrFun (Cert.MixFwdIdeal.Value.flushed14 m c t) (ix2 a i)).trans ?_)
  exact at_xn m c A t a i

omit A in
theorem index15 (t : Fin 8) : win0_15.index t 0 = t.val ∧ win0_15.index t 1 = 0 := by
  revert t; decide +kernel

theorem final15 : Has ((dats m 0 c).arrAt 15 cfg0.N : Vec Ideal S4096x512 .f32) (mixed p) := by
  intro r i
  obtain ⟨t, a, rfl⟩ := row_eq r
  have hb := congrFun (Cert.MixFwdIdeal.Value.blocks15 m c t (flush0_15 t)) (ix2 a i)
  rw [View.read_apply] at hb
  have hi : ((cfg0.win 15).blk t).view.emb (ix2 a i) = (ix2 (rw5 t a) i : S4096x512.Idx) :=
    at2 (show win0_15.index t 0 * 512 + 1 * a.val = 512 * t.val + a.val by rw [(index15 t).1]; omega)
      (show win0_15.index t 1 * 512 + 1 * i.val = i.val by rw [(index15 t).2]; omega)
  rw [← hi]
  refine hb.trans ((congrFun (Cert.MixFwdIdeal.Value.flushed15 m c t) (ix2 a i)).trans ?_)
  exact at_mixed m c A t a i

omit A in
theorem index16 (t : Fin 8) : win0_16.index t 0 = t.val ∧ win0_16.index t 1 = 0 := by
  revert t; decide +kernel

theorem final16 : Has ((dats m 0 c).arrAt 16 cfg0.N : Vec Ideal S4096x1024 .f32) (th p) := by
  intro r i
  obtain ⟨t, a, rfl⟩ := row_eq r
  have hb := congrFun (Cert.MixFwdIdeal.Value.blocks16 m c t (flush0_16 t)) (ix2 a i)
  rw [View.read_apply] at hb
  have hi : ((cfg0.win 16).blk t).view.emb (ix2 a i) = (ix2 (rw5 t a) i : S4096x1024.Idx) :=
    at2 (show win0_16.index t 0 * 512 + 1 * a.val = 512 * t.val + a.val by rw [(index16 t).1]; omega)
      (show win0_16.index t 1 * 1024 + 1 * i.val = i.val by rw [(index16 t).2]; omega)
  rw [← hi]
  refine hb.trans ((congrFun (Cert.MixFwdIdeal.Value.flushed16 m c t) (ix2 a i)).trans ?_)
  exact at_th m c A t a i

end Cert.Proof.MixFwd

end
-- ==== Proof.MixFwd.lean ====
/- The mixer's forward pass: the kernel's results are the reference's. -/
module

public import proofs.«01_k».proof.Defs
public import proofs.«01_k».proof.Proof.MixFwdArr
public import proofs.«01_k».proof.Proof.MixFwdRef
public import proofs.«01_k».proof.Proof.Gen.MixFwd.Frame
public import proofs.«01_k».proof.Proof.Gen.MixFwdRefIdeal.Run

@[expose] public section

set_option maxRecDepth 16384

noncomputable section

namespace Cert.Proof.MixFwd

open Idealize.ShloMosaic Idealize.SL.Sem

/-- Two matrices that hold the same values are one. -/
theorem eq_of_has {a b : ℕ} {x y : Shape.Idx ⟨2, ![a, b]⟩ → EReal} {X : Fin a → Fin b → EReal} (hx : Has x X) (hy : Has y X) : x = y := by
  funext i
  rw [eq_ix2 i]
  exact (hx _ _).trans (hy _ _).symm

/-- Any arrays hold some arguments. -/
theorem reads_some (y0 : Vec Ideal ⟨2, ![4096, 1024]⟩ .f32) (y1 : Vec Ideal ⟨1, ![1024]⟩ .f32) (y2 : Vec Ideal ⟨2, ![1024, 2560]⟩ .f32)
    (y3 y4 : Vec Ideal ⟨1, ![512]⟩ .f32) (y5 : Vec Ideal ⟨3, ![4, 128, 128]⟩ .f32) (y6 : Vec Ideal ⟨2, ![4, 128]⟩ .f32) (y7 : Vec Ideal ⟨2, ![3, 512]⟩ .f32)
    (y8 y9 : Vec Ideal ⟨1, ![512]⟩ .f32) (y10 : Vec Ideal ⟨2, ![1024, 1024]⟩ .f32) : ∃ p, Reads p y0 y1 y2 y3 y4 y5 y6 y7 y8 y9 y10 :=
  ⟨⟨fun i j => y0 (ix2 i j), fun i => y1 (ix1 i), fun i j => y2 (ix2 i j), fun i => y3 (ix1 i), fun i => y4 (ix1 i), fun k t s => y5 (ix3 k t s),
      fun i j => y6 (ix2 i j), fun i j => y7 (ix2 i j), fun i => y8 (ix1 i), fun i => y9 (ix1 i), fun i j => y10 (ix2 i j)⟩,
    fun _ _ => rfl, fun _ => rfl, fun _ _ => rfl, fun _ => rfl, fun _ => rfl, fun _ _ _ => rfl, fun _ _ => rfl, fun _ _ => rfl, fun _ => rfl, fun _ => rfl, fun _ _ => rfl⟩

/-- From equal arguments the kernel and the reference leave equal results. -/
theorem algebraic : Cert.algebraic_MixFwdIdeal_MixFwdRefIdeal (hMixFwdIdeal := Cert.MixFwdIdeal.Gen.facts)
    (hMixFwdRefIdeal := Cert.MixFwdRefIdeal.Gen.facts) := by
  intro m g m' g' _ hag
  refine ⟨_, _, _, _, _, _, Cert.MixFwdIdeal.Value.run_blocks m g, (θ_run _ _ _).mono (fun r h c => ?_) (Cert.MixFwdRefIdeal.Value.run m' g')⟩
  obtain ⟨a0, a1, a2, a3, a4, a5, a6, a7, a8, a9, a10⟩ := hag c
  obtain ⟨p, A⟩ := reads_some
    (m ((c.tc : Thread Cert.MixFwdIdeal.nD Cert.MixFwdIdeal.τ).loc Cert.MixFwdIdeal.main_arg0))
    (m ((c.tc : Thread Cert.MixFwdIdeal.nD Cert.MixFwdIdeal.τ).loc Cert.MixFwdIdeal.main_arg1))
    (m ((c.tc : Thread Cert.MixFwdIdeal.nD Cert.MixFwdIdeal.τ).loc Cert.MixFwdIdeal.main_arg2))
    (m ((c.tc : Thread Cert.MixFwdIdeal.nD Cert.MixFwdIdeal.τ).loc Cert.MixFwdIdeal.main_arg3))
    (m ((c.tc : Thread Cert.MixFwdIdeal.nD Cert.MixFwdIdeal.τ).loc Cert.MixFwdIdeal.main_arg4))
    (m ((c.tc : Thread Cert.MixFwdIdeal.nD Cert.MixFwdIdeal.τ).loc Cert.MixFwdIdeal.main_arg5))
    (m ((c.tc : Thread Cert.MixFwdIdeal.nD Cert.MixFwdIdeal.τ).loc Cert.MixFwdIdeal.main_arg6))
    (m ((c.tc : Thread Cert.MixFwdIdeal.nD Cert.MixFwdIdeal.τ).loc Cert.MixFwdIdeal.main_arg7))
    (m ((c.tc : Thread Cert.MixFwdIdeal.nD Cert.MixFwdIdeal.τ).loc Cert.MixFwdIdeal.main_arg8))
    (m ((c.tc : Thread Cert.MixFwdIdeal.nD Cert.MixFwdIdeal.τ).loc Cert.MixFwdIdeal.main_arg9))
    (m ((c.tc : Thread Cert.MixFwdIdeal.nD Cert.MixFwdIdeal.τ).loc Cert.MixFwdIdeal.main_arg10))
  have B := A
  rw [← a0, ← a1, ← a2, ← a3, ← a4, ← a5, ← a6, ← a7, ← a8, ← a9, ← a10] at B
  obtain ⟨r0, r1, r2, r3, r4, r5, hk⟩ := h c
  exact ⟨r0.trans ((Cert.MixFwdRefIdeal.Read.val_main_v13_eq _).trans (eq_of_has (ref_v13 B) (final11 m c A))),
    r1.trans ((Cert.MixFwdRefIdeal.Read.val_main_v124_eq _).trans (eq_of_has (ref_v124 B) (final12 m c A))),
    r2.trans ((Cert.MixFwdRefIdeal.Read.val_main_v125_eq _).trans (eq_of_has (ref_v125 B) (final13 m c A))),
    r3.trans ((Cert.MixFwdRefIdeal.Read.val_main_v126_eq _).trans (eq_of_has (ref_v126 B) (final14 m c A))),
    r4.trans ((Cert.MixFwdRefIdeal.Read.val_main_v66_eq _).trans (eq_of_has (ref_v66 B) (final15 m c A))),
    r5.trans ((Cert.MixFwdRefIdeal.Read.val_main_v22_eq _).trans (eq_of_has (ref_v22 B) (final16 m c A))), hk⟩

end Cert.Proof.MixFwd

end
-- ==== Proof.AttnFwd.lean ====
/- The attention's forward pass: the frames of its program, and that the kernel's results are the reference's. -/
module

public import proofs.«01_k».proof.Defs
public import proofs.«01_k».proof.Proof.AttnFwdArr
public import proofs.«01_k».proof.Proof.AttnFwdRef
public import proofs.«01_k».proof.Proof.MixFwd
public import proofs.«01_k».proof.Proof.Gen.AttnFwd.Launch
public import proofs.«01_k».proof.Proof.Gen.AttnFwdRefIdeal.Run

@[expose] public section

set_option maxRecDepth 16384

noncomputable section

namespace Cert.Proof.AttnFwd

open Idealize.ShloMosaic Idealize.SL.Sem
open Cert.Proof.MixFwd (eq_of_has)

/-- The idealized program's frame, at the machine's own numbers. -/
def atBits : Prop := ∀ (m : (ℓ : Loc Cert.AttnFwdIdeal.nD Cert.AttnFwdIdeal.τ Cert.AttnFwdIdeal.sig) → Buf (Elt Bits) ℓ) (g : Dev Cert.AttnFwdIdeal.nD → PrngReg), True →
    θ_run (Cert.AttnFwdIdeal.defs (F := Bits)) (onTc (τ := Cert.AttnFwdIdeal.τ) (Cert.AttnFwdIdeal.main (F := Bits))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
      ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
      ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6))
      ∧ r.2.sem = fun _ => 0)

/-- The two programs are the same text, so the two frames are the same claim. -/
theorem same : quiescent_AttnFwd (hAttnFwd := Cert.AttnFwd.Gen.facts) = atBits := by sl_kernel_rfl

theorem quiescent : quiescent_AttnFwd (hAttnFwd := Cert.AttnFwd.Gen.facts) := same.mpr fun m ρ _ => frame (F := Bits) m ρ

theorem quiescent_ideal : quiescent_AttnFwdIdeal (hAttnFwdIdeal := Cert.AttnFwdIdeal.Gen.facts) := fun m ρ _ => frame (F := Ideal) m ρ

section arrays

open Cert.AttnFwdIdeal Cert.AttnFwdIdeal.Gen

/-- The run, with every result array named. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7_0) = (dats m 0 c).arrAt 7 cfg0.N
      ∧ r.2.mem ((c.tc : Thread nD τ).loc main_v7_1) = (dats m 0 c).arrAt 8 cfg0.N
      ∧ r.2.mem ((c.tc : Thread nD τ).loc main_v7_2) = (dats m 0 c).arrAt 9 cfg0.N
      ∧ r.2.mem ((c.tc : Thread nD τ).loc main_v7_3) = (dats m 0 c).arrAt 10 cfg0.N
      ∧ r.2.mem ((c.tc : Thread nD τ).loc main_v7_4) = (dats m 0 c).arrAt 11 cfg0.N
      ∧ r.2.mem ((c.tc : Thread nD τ).loc main_v7_5) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 7, (h.1 c).1 8, (h.1 c).1 9, (h.1 c).1 10, (h.1 c).1 11, (h.1 c).1 12, h.2.1 c⟩)
    (θ_run_and (run_main m ρ) (frame m ρ))

end arrays

/-- Any arrays hold some arguments. -/
theorem reads_some (y0 : Vec Ideal ⟨2, ![4096, 1024]⟩ .f32) (y1 : Vec Ideal ⟨2, ![256, 1024]⟩ .f32) (y2 y3 : Vec Ideal ⟨1, ![1024]⟩ .f32)
    (y4 : Vec Ideal ⟨2, ![1024, 1024]⟩ .f32) (y5 : Vec Ideal ⟨2, ![1024, 2048]⟩ .f32) (y6 : Vec Ideal ⟨2, ![1024, 1024]⟩ .f32) : ∃ p, Reads p y0 y1 y2 y3 y4 y5 y6 :=
  ⟨⟨fun i j => y0 (ix2 i j), fun i j => y1 (ix2 i j), fun i => y2 (ix1 i), fun i => y3 (ix1 i), fun i j => y4 (ix2 i j), fun i j => y5 (ix2 i j), fun i j => y6 (ix2 i j)⟩,
    fun _ _ => rfl, fun _ _ => rfl, fun _ => rfl, fun _ => rfl, fun _ _ => rfl, fun _ _ => rfl, fun _ _ => rfl⟩

/-- From equal arguments the kernel and the reference leave equal results. -/
theorem algebraic : Cert.algebraic_AttnFwdIdeal_AttnFwdRefIdeal (hAttnFwdIdeal := Cert.AttnFwdIdeal.Gen.facts)
    (hAttnFwdRefIdeal := Cert.AttnFwdRefIdeal.Gen.facts) := by
  intro m g m' g' _ hag
  refine ⟨_, _, _, _, _, _, run_arrays m g, (θ_run _ _ _).mono (fun r h c => ?_) (Cert.AttnFwdRefIdeal.Value.run m' g')⟩
  obtain ⟨a0, a1, a2, a3, a4, a5, a6⟩ := hag c
  obtain ⟨p, A⟩ := reads_some
    (m ((c.tc : Thread Cert.AttnFwdIdeal.nD Cert.AttnFwdIdeal.τ).loc Cert.AttnFwdIdeal.main_arg0))
    (m ((c.tc : Thread Cert.AttnFwdIdeal.nD Cert.AttnFwdIdeal.τ).loc Cert.AttnFwdIdeal.main_arg1))
    (m ((c.tc : Thread Cert.AttnFwdIdeal.nD Cert.AttnFwdIdeal.τ).loc Cert.AttnFwdIdeal.main_arg2))
    (m ((c.tc : Thread Cert.AttnFwdIdeal.nD Cert.AttnFwdIdeal.τ).loc Cert.AttnFwdIdeal.main_arg3))
    (m ((c.tc : Thread Cert.AttnFwdIdeal.nD Cert.AttnFwdIdeal.τ).loc Cert.AttnFwdIdeal.main_arg4))
    (m ((c.tc : Thread Cert.AttnFwdIdeal.nD Cert.AttnFwdIdeal.τ).loc Cert.AttnFwdIdeal.main_arg5))
    (m ((c.tc : Thread Cert.AttnFwdIdeal.nD Cert.AttnFwdIdeal.τ).loc Cert.AttnFwdIdeal.main_arg6))
  have B := A
  rw [← a0, ← a1, ← a2, ← a3, ← a4, ← a5, ← a6] at B
  obtain ⟨r0, r1, r2, r3, r4, r5, hk⟩ := h c
  exact ⟨r0.trans ((Cert.AttnFwdRefIdeal.Read.val_main_v53_eq _ _).trans (eq_of_has (ref_v53 B) (final7 m c A))),
    r1.trans ((Cert.AttnFwdRefIdeal.Read.val_main_v54_eq _ _).trans (eq_of_has (ref_v54 B) (final8 m c A))),
    r2.trans ((Cert.AttnFwdRefIdeal.Read.val_main_v55_eq _ _ _).trans (eq_of_has (ref_v55 B) (final9 m c A))),
    r3.trans ((Cert.AttnFwdRefIdeal.Read.val_main_v51_eq _ _).trans (eq_of_has (ref_v51 B) (final10 m c A))),
    r4.trans ((Cert.AttnFwdRefIdeal.Read.val_main_v56_eq _ _).trans (eq_of_has (ref_v56 B) (final11 m c A))),
    r5.trans ((Cert.AttnFwdRefIdeal.Read.val_main_v57_eq _ _ _).trans (eq_of_has (ref_v57 B) (final12 m c A))), hk⟩

end Cert.Proof.AttnFwd

end
-- ==== Proof.lean ====
/- The proof of the claims: each pair of programs has its own module. -/
module

public import proofs.«01_k».proof.Defs
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import Idealize.ShloMosaic.Adequacy
public import Idealize.ShloMosaic.Init
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.KvIdeal.Value
public import proofs.«01_k».proof.Proof.Gen.KvRefIdeal.Run
public import proofs.«01_k».proof.Proof.Kv
public import proofs.«01_k».proof.Proof.Ffn
public import proofs.«01_k».proof.Proof.Attn
public import proofs.«01_k».proof.Proof.AttnFwd
public import proofs.«01_k».proof.Proof.MixFwd
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.Gen.AttnFwdRefIdeal.Read

@[expose] public section

noncomputable section

namespace Cert.Proof

open Idealize.ShloMosaic Idealize.SL.Sem Cert.Kv

theorem claim : Cert.Claim :=
  have kvRef := fun m ρ => (θ_run _ _ _).mono (fun r h => ⟨fun c => (h c).2.2, sem_eq_zero_of_no_sems (by decide) r.2⟩) (Cert.KvRefIdeal.Value.run m ρ)
  have ffnRef := fun m ρ => (θ_run _ _ _).mono (fun r h => ⟨fun c => (h c).2.2.2.2.2.2.2.2, sem_eq_zero_of_no_sems (by decide) r.2⟩) (Cert.FfnRefIdeal.Value.run m ρ)
  have attnRef := fun m ρ => (θ_run _ _ _).mono (fun r h => ⟨fun c => (h c).2.2.2.2.2.2, sem_eq_zero_of_no_sems (by decide) r.2⟩) (Cert.AttnRefIdeal.Value.run m ρ)
  have mixRef := fun m ρ => (θ_run _ _ _).mono (fun r h => ⟨fun c => (h c).2.2.2.2.2.2, sem_eq_zero_of_no_sems (by decide) r.2⟩) (Cert.MixFwdRefIdeal.Value.run m ρ)
  have attnFwdRef := fun m ρ => (θ_run _ _ _).mono (fun r h => ⟨fun c => (h c).2.2.2.2.2.2, sem_eq_zero_of_no_sems (by decide) r.2⟩) (Cert.AttnFwdRefIdeal.Value.run m ρ)
  ⟨Cert.Kv.Gen.facts, Cert.KvIdeal.Gen.facts, Cert.KvRefIdeal.Gen.facts, Cert.Ffn.Gen.facts, Cert.FfnIdeal.Gen.facts, Cert.FfnRefIdeal.Gen.facts,
    Cert.Attn.Gen.facts, Cert.AttnIdeal.Gen.facts, Cert.AttnRefIdeal.Gen.facts, Cert.MixFwd.Gen.facts, Cert.MixFwdIdeal.Gen.facts, Cert.MixFwdRefIdeal.Gen.facts,
    Cert.AttnFwd.Gen.facts, Cert.AttnFwdIdeal.Gen.facts, Cert.AttnFwdRefIdeal.Gen.facts,
    Ffn.pre, Attn.pre,
    fun m ρ _ => Cert.Kv.Gen.frame m ρ, fun m ρ _ => Cert.KvIdeal.Gen.frame m ρ, fun m ρ _ => kvRef m ρ,
    fun m ρ _ => Cert.Ffn.Gen.frame m ρ, fun m ρ _ => Cert.FfnIdeal.Gen.frame m ρ, fun m ρ _ => Cert.FfnIdeal.Gen.frame m ρ,
    fun m ρ _ => ffnRef m ρ, fun m ρ _ => ffnRef m ρ,
    fun m ρ _ => Cert.Attn.Gen.frame m ρ, fun m ρ _ => Cert.AttnIdeal.Gen.frame m ρ, fun m ρ _ => Cert.AttnIdeal.Gen.frame m ρ,
    fun m ρ _ => attnRef m ρ, fun m ρ _ => attnRef m ρ,
    fun m ρ _ => Cert.MixFwd.Gen.frame m ρ, fun m ρ _ => Cert.MixFwdIdeal.Gen.frame m ρ, fun m ρ _ => mixRef m ρ,
    AttnFwd.quiescent, AttnFwd.quiescent_ideal, fun m ρ _ => attnFwdRef m ρ,
    trivial, Kv.algebraic, trivial, Ffn.algebraic, trivial, Attn.algebraic,
    trivial, MixFwd.algebraic, trivial, AttnFwd.algebraic⟩

end Cert.Proof

end
